-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16384x1 : Shape := ⟨3, ![4, 16384, 1]⟩
abbrev S4x16384x76 : Shape := ⟨3, ![4, 16384, 76]⟩
abbrev S4x16384x3 : Shape := ⟨3, ![4, 16384, 3]⟩
abbrev S65536x76 : Shape := ⟨2, ![65536, 76]⟩
abbrev S76x65536 : Shape := ⟨2, ![76, 65536]⟩
abbrev S76x8x8192 : Shape := ⟨3, ![76, 8, 8192]⟩
abbrev S65536x3 : Shape := ⟨2, ![65536, 3]⟩
abbrev S3x65536 : Shape := ⟨2, ![3, 65536]⟩
abbrev S3x8x8192 : Shape := ⟨3, ![3, 8, 8192]⟩
abbrev S12x8x8192 : Shape := ⟨3, ![12, 8, 8192]⟩
abbrev S76x8x2048 : Shape := ⟨3, ![76, 8, 2048]⟩
abbrev S3x8x2048 : Shape := ⟨3, ![3, 8, 2048]⟩
abbrev S12x8x2048 : Shape := ⟨3, ![12, 8, 2048]⟩
abbrev S1x8x2048 : Shape := ⟨3, ![1, 8, 2048]⟩
abbrev S8x2048 : Shape := ⟨2, ![8, 2048]⟩
abbrev S12x4x16384 : Shape := ⟨3, ![12, 4, 16384]⟩
abbrev S4x16384 : Shape := ⟨2, ![4, 16384]⟩
abbrev S4x512x8 : Shape := ⟨3, ![4, 512, 8]⟩
abbrev S1x4x16384 : Shape := ⟨3, ![1, 4, 16384]⟩
abbrev S4 : Shape := ⟨1, ![4]⟩
abbrev S4x1 : Shape := ⟨2, ![4, 1]⟩
abbrev S4x1x1 : Shape := ⟨3, ![4, 1, 1]⟩
abbrev S4x512x7 : Shape := ⟨3, ![4, 512, 7]⟩
abbrev S4x512x1 : Shape := ⟨3, ![4, 512, 1]⟩

abbrev nBuf : Space → Nat
  | .hbm => 16
  | .vmem => 10
  | .smem => 0
  | _ => 0

abbrev bufTy : (tb : Table) → Fin (tcTables nBuf tb) → BufTy
  | .hbm, ⟨0, _⟩ => ⟨S4x16384x1, .f32⟩
  | .hbm, ⟨1, _⟩ => ⟨S4x16384x76, .f32⟩
  | .hbm, ⟨2, _⟩ => ⟨S4x16384x3, .f32⟩
  | .hbm, ⟨3, _⟩ => ⟨S65536x76, .f32⟩
  | .hbm, ⟨4, _⟩ => ⟨S76x65536, .f32⟩
  | .hbm, ⟨5, _⟩ => ⟨S76x8x8192, .f32⟩
  | .hbm, ⟨6, _⟩ => ⟨S65536x3, .f32⟩
  | .hbm, ⟨7, _⟩ => ⟨S3x65536, .f32⟩
  | .hbm, ⟨8, _⟩ => ⟨S3x8x8192, .f32⟩
  | .hbm, ⟨9, _⟩ => ⟨S12x8x8192, .f32⟩
  | .hbm, ⟨10, _⟩ => ⟨S12x4x16384, .f32⟩
  | .hbm, ⟨11, _⟩ => ⟨S4x16384, .f32⟩
  | .hbm, ⟨12, _⟩ => ⟨S4x512x8, .f32⟩
  | .hbm, ⟨13, _⟩ => ⟨S4x512x8, .f32⟩
  | .hbm, ⟨14, _⟩ => ⟨S4x512x7, .f32⟩
  | .hbm, ⟨15, _⟩ => ⟨S4x512x1, .f32⟩
  | .local _ .vmem, ⟨0, _⟩ => ⟨S76x8x2048, .f32⟩
  | .local _ .vmem, ⟨1, _⟩ => ⟨S76x8x2048, .f32⟩
  | .local _ .vmem, ⟨2, _⟩ => ⟨S3x8x2048, .f32⟩
  | .local _ .vmem, ⟨3, _⟩ => ⟨S3x8x2048, .f32⟩
  | .local _ .vmem, ⟨4, _⟩ => ⟨S12x8x2048, .f32⟩
  | .local _ .vmem, ⟨5, _⟩ => ⟨S12x8x2048, .f32⟩
  | .local _ .vmem, ⟨6, _⟩ => ⟨S12x4x16384, .f32⟩
  | .local _ .vmem, ⟨7, _⟩ => ⟨S4x16384, .f32⟩
  | .local _ .vmem, ⟨8, _⟩ => ⟨S4x512x8, .f32⟩
  | .local _ .vmem, ⟨9, _⟩ => ⟨S4x512x8, .f32⟩
  | _, _ => ⟨S4x16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S76x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c512_i32 : BitVec 32 := 512#32
  let v28 : BitVec 32 := Scalar.addi c0_i32 c512_i32
  let c1_i32 : BitVec 32 := 1#32
  ⟨c0_i32, v28, c1_i32⟩
def k1_off1 (k1_t1 : Fin k1_t1_loop.trips) : Fin 3 → Nat :=
  let c0_43 : Index := 0#32
  let c0_i32 : BitVec 32 := 0#32
  let c1_i32 : BitVec 32 := 1#32
  let arg4 : BitVec 32 := Scf.iv c0_i32 c1_i32 k1_t1
  let v104 : Index := Scalar.indexCast arg4
  let c0_44 : Index := 0#32
  ![0, v104.toNat, 0]
def k1_off2 (k1_t1 : Fin k1_t1_loop.trips) : Fin 3 → Nat :=
  let c0_46 : Index := 0#32
  let c0_i32 : BitVec 32 := 0#32
  let c1_i32 : BitVec 32 := 1#32
  let arg4 : BitVec 32 := Scf.iv c0_i32 c1_i32 k1_t1
  let v111 : Index := Scalar.indexCast arg4
  let c1_47 : Index := 1#32
  ![0, v111.toNat, 1]
def k1_off3 (k1_t1 : Fin k1_t1_loop.trips) : Fin 3 → Nat :=
  let c0_49 : Index := 0#32
  let c0_i32 : BitVec 32 := 0#32
  let c1_i32 : BitVec 32 := 1#32
  let arg4 : BitVec 32 := Scf.iv c0_i32 c1_i32 k1_t1
  let v118 : Index := Scalar.indexCast arg4
  let c2_50 : Index := 2#32
  ![0, v118.toNat, 2]
def k1_off4 (k1_t1 : Fin k1_t1_loop.trips) : Fin 3 → Nat :=
  let c0_52 : Index := 0#32
  let c0_i32 : BitVec 32 := 0#32
  let c1_i32 : BitVec 32 := 1#32
  let arg4 : BitVec 32 := Scf.iv c0_i32 c1_i32 k1_t1
  let v125 : Index := Scalar.indexCast arg4
  let c3_53 : Index := 3#32
  ![0, v125.toNat, 3]
def k1_off5 (k1_t1 : Fin k1_t1_loop.trips) : Fin 3 → Nat :=
  let c0_55 : Index := 0#32
  let c0_i32 : BitVec 32 := 0#32
  let c1_i32 : BitVec 32 := 1#32
  let arg4 : BitVec 32 := Scf.iv c0_i32 c1_i32 k1_t1
  let v132 : Index := Scalar.indexCast arg4
  let c4_56 : Index := 4#32
  ![0, v132.toNat, 4]
def k1_off6 (k1_t1 : Fin k1_t1_loop.trips) : Fin 3 → Nat :=
  let c0_58 : Index := 0#32
  let c0_i32 : BitVec 32 := 0#32
  let c1_i32 : BitVec 32 := 1#32
  let arg4 : BitVec 32 := Scf.iv c0_i32 c1_i32 k1_t1
  let v139 : Index := Scalar.indexCast arg4
  let c5_59 : Index := 5#32
  ![0, v139.toNat, 5]
def k1_off7 (k1_t1 : Fin k1_t1_loop.trips) : Fin 3 → Nat :=
  let c0_61 : Index := 0#32
  let c0_i32 : BitVec 32 := 0#32
  let c1_i32 : BitVec 32 := 1#32
  let arg4 : BitVec 32 := Scf.iv c0_i32 c1_i32 k1_t1
  let v146 : Index := Scalar.indexCast arg4
  let c6_62 : Index := 6#32
  ![0, v146.toNat, 6]
abbrev stage1_0 : Fin 1 → Memref sig .tc .vmem S12x4x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x512x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x512x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S4x16384x1 : Shape := ⟨3, ![4, 16384, 1]⟩
abbrev S4x16384x76 : Shape := ⟨3, ![4, 16384, 76]⟩
abbrev S4x16384x3 : Shape := ⟨3, ![4, 16384, 3]⟩
abbrev S3 : Shape := ⟨1, ![3]⟩
abbrev S65536x3 : Shape := ⟨2, ![65536, 3]⟩
abbrev S65536x76 : Shape := ⟨2, ![65536, 76]⟩
abbrev S65536x12 : Shape := ⟨2, ![65536, 12]⟩
abbrev S_ : Shape := ⟨0, ![]⟩
abbrev S65536 : Shape := ⟨1, ![65536]⟩
abbrev S65536x1 : Shape := ⟨2, ![65536, 1]⟩
abbrev S65536x1x1 : Shape := ⟨3, ![65536, 1, 1]⟩
abbrev S1x3 : Shape := ⟨2, ![1, 3]⟩
abbrev S65536x7 : Shape := ⟨2, ![65536, 7]⟩
abbrev S4x16384x7 : Shape := ⟨3, ![4, 16384, 7]⟩
abbrev S4x16384 : Shape := ⟨2, ![4, 16384]⟩
abbrev S512x4 : Shape := ⟨2, ![512, 4]⟩
abbrev S4 : Shape := ⟨1, ![4]⟩
abbrev S4x1 : Shape := ⟨2, ![4, 1]⟩
abbrev S4x1x1 : Shape := ⟨3, ![4, 1, 1]⟩
abbrev S4x2 : Shape := ⟨2, ![4, 2]⟩
abbrev S1x4 : Shape := ⟨2, ![1, 4]⟩
abbrev S4x512 : Shape := ⟨2, ![4, 512]⟩
abbrev S4x512x1 : Shape := ⟨3, ![4, 512, 1]⟩
abbrev S4x512x7 : Shape := ⟨3, ![4, 512, 7]⟩

abbrev nBuf : Space → Nat
  | .hbm => 353
  | .vmem => 0
  | .smem => 0
  | _ => 0

abbrev hbmTy0_0 (i : Nat) : BufTy := match i % 128 with
  | 0 => ⟨S4x16384x1, .f32⟩
  | 1 => ⟨S4x16384x76, .f32⟩
  | 2 => ⟨S4x16384x3, .f32⟩
  | 3 => ⟨S3, .f32⟩
  | 4 => ⟨S65536x3, .f32⟩
  | 5 => ⟨S65536x76, .f32⟩
  | 6 => ⟨S65536x12, .f32⟩
  | 7 => ⟨S65536x12, .i32⟩
  | 8 => ⟨S_, .f32⟩
  | 9 => ⟨S_, .i32⟩
  | 10 => ⟨S65536, .f32⟩
  | 11 => ⟨S65536, .i32⟩
  | 12 => ⟨S65536x12, .f32⟩
  | 13 => ⟨S65536x12, .i32⟩
  | 14 => ⟨S_, .f32⟩
  | 15 => ⟨S_, .i32⟩
  | 16 => ⟨S65536, .f32⟩
  | 17 => ⟨S65536, .i32⟩
  | 18 => ⟨S65536, .f32⟩
  | 19 => ⟨S_, .f32⟩
  | 20 => ⟨S65536, .f32⟩
  | 21 => ⟨S65536, .f32⟩
  | 22 => ⟨S_, .f32⟩
  | 23 => ⟨S65536, .f32⟩
  | 24 => ⟨S65536, .f32⟩
  | 25 => ⟨S_, .f32⟩
  | 26 => ⟨S65536, .f32⟩
  | 27 => ⟨S65536, .f32⟩
  | 28 => ⟨S65536, .f32⟩
  | 29 => ⟨S_, .f32⟩
  | 30 => ⟨S65536, .f32⟩
  | 31 => ⟨S65536, .f32⟩
  | 32 => ⟨S_, .f32⟩
  | 33 => ⟨S65536, .f32⟩
  | 34 => ⟨S65536, .f32⟩
  | 35 => ⟨S_, .f32⟩
  | 36 => ⟨S65536, .f32⟩
  | 37 => ⟨S65536, .f32⟩
  | 38 => ⟨S65536x12, .f32⟩
  | 39 => ⟨S65536x1, .i32⟩
  | 40 => ⟨S_, .i32⟩
  | 41 => ⟨S65536x1, .i32⟩
  | 42 => ⟨S65536x1, .i1⟩
  | 43 => ⟨S_, .i32⟩
  | 44 => ⟨S65536x1, .i32⟩
  | 45 => ⟨S65536x1, .i32⟩
  | 46 => ⟨S65536x1, .i32⟩
  | 47 => ⟨S65536x1x1, .i32⟩
  | 48 => ⟨S65536x1, .f32⟩
  | 49 => ⟨S65536, .f32⟩
  | 50 => ⟨S65536x12, .f32⟩
  | 51 => ⟨S65536x1, .i32⟩
  | 52 => ⟨S_, .i32⟩
  | 53 => ⟨S65536x1, .i32⟩
  | 54 => ⟨S65536x1, .i1⟩
  | 55 => ⟨S_, .i32⟩
  | 56 => ⟨S65536x1, .i32⟩
  | 57 => ⟨S65536x1, .i32⟩
  | 58 => ⟨S65536x1, .i32⟩
  | 59 => ⟨S65536x1x1, .i32⟩
  | 60 => ⟨S65536x1, .f32⟩
  | 61 => ⟨S65536, .f32⟩
  | 62 => ⟨S_, .f32⟩
  | 63 => ⟨S65536, .f32⟩
  | 64 => ⟨S65536, .f32⟩
  | 65 => ⟨S65536, .f32⟩
  | 66 => ⟨S_, .f32⟩
  | 67 => ⟨S65536, .f32⟩
  | 68 => ⟨S65536, .f32⟩
  | 69 => ⟨S65536, .f32⟩
  | 70 => ⟨S65536x1, .f32⟩
  | 71 => ⟨S65536, .f32⟩
  | 72 => ⟨S65536x1, .f32⟩
  | 73 => ⟨S65536, .f32⟩
  | 74 => ⟨S65536, .f32⟩
  | 75 => ⟨S65536x12, .f32⟩
  | 76 => ⟨S65536x12, .i32⟩
  | 77 => ⟨S_, .f32⟩
  | 78 => ⟨S_, .i32⟩
  | 79 => ⟨S65536, .f32⟩
  | 80 => ⟨S65536, .i32⟩
  | 81 => ⟨S65536x12, .f32⟩
  | 82 => ⟨S65536x1, .i32⟩
  | 83 => ⟨S_, .i32⟩
  | 84 => ⟨S65536x1, .i32⟩
  | 85 => ⟨S65536x1, .i1⟩
  | 86 => ⟨S_, .i32⟩
  | 87 => ⟨S65536x1, .i32⟩
  | 88 => ⟨S65536x1, .i32⟩
  | 89 => ⟨S65536x1, .i32⟩
  | 90 => ⟨S65536x1x1, .i32⟩
  | 91 => ⟨S65536x1, .f32⟩
  | 92 => ⟨S65536, .f32⟩
  | 93 => ⟨S_, .f32⟩
  | 94 => ⟨S65536, .f32⟩
  | 95 => ⟨S65536, .f32⟩
  | 96 => ⟨S65536, .f32⟩
  | 97 => ⟨S_, .f32⟩
  | 98 => ⟨S65536, .f32⟩
  | 99 => ⟨S65536, .f32⟩
  | 100 => ⟨S65536, .f32⟩
  | 101 => ⟨S_, .f32⟩
  | 102 => ⟨S_, .f32⟩
  | 103 => ⟨S65536, .f32⟩
  | 104 => ⟨S65536, .f32⟩
  | 105 => ⟨S_, .f32⟩
  | 106 => ⟨S65536, .f32⟩
  | 107 => ⟨S65536, .i1⟩
  | 108 => ⟨S_, .f32⟩
  | 109 => ⟨S65536, .f32⟩
  | 110 => ⟨S65536, .i1⟩
  | 111 => ⟨S_, .f32⟩
  | 112 => ⟨S_, .i1⟩
  | 113 => ⟨S65536, .i1⟩
  | 114 => ⟨S65536, .i1⟩
  | 115 => ⟨S65536, .i1⟩
  | 116 => ⟨S65536, .f32⟩
  | 117 => ⟨S65536, .f32⟩
  | 118 => ⟨S65536, .f32⟩
  | 119 => ⟨S_, .f32⟩
  | 120 => ⟨S65536, .f32⟩
  | 121 => ⟨S65536, .i1⟩
  | 122 => ⟨S_, .f32⟩
  | 123 => ⟨S65536, .f32⟩
  | 124 => ⟨S65536, .f32⟩
  | 125 => ⟨S65536, .f32⟩
  | 126 => ⟨S65536x3, .f32⟩
  | 127 => ⟨S1x3, .f32⟩
  | _ => ⟨S4x16384x1, .f32⟩

abbrev hbmTy0_1 (i : Nat) : BufTy := match i % 128 with
  | 0 => ⟨S65536x3, .f32⟩
  | 1 => ⟨S65536x3, .f32⟩
  | 2 => ⟨S1x3, .f32⟩
  | 3 => ⟨S65536x3, .f32⟩
  | 4 => ⟨S65536x3, .f32⟩
  | 5 => ⟨S65536x1, .f32⟩
  | 6 => ⟨S65536x1, .f32⟩
  | 7 => ⟨S65536x1, .f32⟩
  | 8 => ⟨S65536x1, .f32⟩
  | 9 => ⟨S65536x1, .f32⟩
  | 10 => ⟨S65536x1, .f32⟩
  | 11 => ⟨S65536x1, .f32⟩
  | 12 => ⟨S65536x1, .f32⟩
  | 13 => ⟨S65536x7, .f32⟩
  | 14 => ⟨S4x16384x7, .f32⟩
  | 15 => ⟨S4x16384x1, .f32⟩
  | 16 => ⟨S4x16384, .f32⟩
  | 17 => ⟨S4x16384x1, .f32⟩
  | 18 => ⟨S4x16384, .f32⟩
  | 19 => ⟨S4x16384x1, .f32⟩
  | 20 => ⟨S4x16384, .f32⟩
  | 21 => ⟨S4x16384x1, .f32⟩
  | 22 => ⟨S4x16384, .f32⟩
  | 23 => ⟨S_, .f32⟩
  | 24 => ⟨S4x16384, .f32⟩
  | 25 => ⟨S4x16384, .f32⟩
  | 26 => ⟨S4x16384, .f32⟩
  | 27 => ⟨S_, .f32⟩
  | 28 => ⟨S4x16384, .f32⟩
  | 29 => ⟨S4x16384, .f32⟩
  | 30 => ⟨S4x16384, .f32⟩
  | 31 => ⟨S_, .f32⟩
  | 32 => ⟨S4x16384, .f32⟩
  | 33 => ⟨S4x16384, .f32⟩
  | 34 => ⟨S4x16384, .f32⟩
  | 35 => ⟨S_, .f32⟩
  | 36 => ⟨S4x16384, .f32⟩
  | 37 => ⟨S4x16384, .f32⟩
  | 38 => ⟨S4x16384, .f32⟩
  | 39 => ⟨S4x16384, .f32⟩
  | 40 => ⟨S4x16384, .f32⟩
  | 41 => ⟨S_, .f32⟩
  | 42 => ⟨S4x16384, .f32⟩
  | 43 => ⟨S4x16384, .f32⟩
  | 44 => ⟨S4x16384, .f32⟩
  | 45 => ⟨S_, .f32⟩
  | 46 => ⟨S4x16384, .f32⟩
  | 47 => ⟨S4x16384, .f32⟩
  | 48 => ⟨S4x16384, .f32⟩
  | 49 => ⟨S_, .i1⟩
  | 50 => ⟨S4x16384, .i1⟩
  | 51 => ⟨S_, .i32⟩
  | 52 => ⟨S512x4, .i32⟩
  | 53 => ⟨S_, .i1⟩
  | 54 => ⟨S512x4, .i1⟩
  | 55 => ⟨S_, .i32⟩
  | 56 => ⟨S4x16384, .f32⟩
  | 57 => ⟨S4x16384, .f32⟩
  | 58 => ⟨S4x16384, .f32⟩
  | 59 => ⟨S4x16384, .f32⟩
  | 60 => ⟨S4x16384, .f32⟩
  | 61 => ⟨S4x16384, .f32⟩
  | 62 => ⟨S_, .i32⟩
  | 63 => ⟨S4x16384, .i1⟩
  | 64 => ⟨S512x4, .i32⟩
  | 65 => ⟨S512x4, .i1⟩
  | 66 => ⟨S_, .i32⟩
  | 67 => ⟨S_, .i1⟩
  | 68 => ⟨S_, .f32⟩
  | 69 => ⟨S_, .f32⟩
  | 70 => ⟨S4x16384, .f32⟩
  | 71 => ⟨S4x16384, .f32⟩
  | 72 => ⟨S4x16384, .i32⟩
  | 73 => ⟨S_, .f32⟩
  | 74 => ⟨S_, .i32⟩
  | 75 => ⟨S4, .f32⟩
  | 76 => ⟨S4, .i32⟩
  | 77 => ⟨S4x1, .i32⟩
  | 78 => ⟨S_, .i32⟩
  | 79 => ⟨S4x1, .i32⟩
  | 80 => ⟨S4x1, .i1⟩
  | 81 => ⟨S_, .i32⟩
  | 82 => ⟨S4x1, .i32⟩
  | 83 => ⟨S4x1, .i32⟩
  | 84 => ⟨S4x1, .i32⟩
  | 85 => ⟨S4x1x1, .i32⟩
  | 86 => ⟨S4x1, .f32⟩
  | 87 => ⟨S_, .f32⟩
  | 88 => ⟨S4x1, .f32⟩
  | 89 => ⟨S4x1, .i1⟩
  | 90 => ⟨S4x1, .i32⟩
  | 91 => ⟨S_, .i32⟩
  | 92 => ⟨S4x1, .i32⟩
  | 93 => ⟨S4x1, .i1⟩
  | 94 => ⟨S_, .i32⟩
  | 95 => ⟨S4x1, .i32⟩
  | 96 => ⟨S4x1, .i32⟩
  | 97 => ⟨S4x1, .i32⟩
  | 98 => ⟨S4x1x1, .i32⟩
  | 99 => ⟨S4x1, .f32⟩
  | 100 => ⟨S4x16384, .f32⟩
  | 101 => ⟨S4x16384, .f32⟩
  | 102 => ⟨S4x1, .i32⟩
  | 103 => ⟨S_, .i32⟩
  | 104 => ⟨S4x1, .i32⟩
  | 105 => ⟨S4x1, .i1⟩
  | 106 => ⟨S_, .i32⟩
  | 107 => ⟨S4x1, .i32⟩
  | 108 => ⟨S4x1, .i32⟩
  | 109 => ⟨S4x1, .i32⟩
  | 110 => ⟨S4x1x1, .i32⟩
  | 111 => ⟨S4x1, .f32⟩
  | 112 => ⟨S4x16384, .f32⟩
  | 113 => ⟨S4x16384, .f32⟩
  | 114 => ⟨S4x1, .i32⟩
  | 115 => ⟨S_, .i32⟩
  | 116 => ⟨S4x1, .i32⟩
  | 117 => ⟨S4x1, .i1⟩
  | 118 => ⟨S_, .i32⟩
  | 119 => ⟨S4x1, .i32⟩
  | 120 => ⟨S4x1, .i32⟩
  | 121 => ⟨S4x1, .i32⟩
  | 122 => ⟨S4x1x1, .i32⟩
  | 123 => ⟨S4x1, .f32⟩
  | 124 => ⟨S4x16384, .f32⟩
  | 125 => ⟨S4x16384, .f32⟩
  | 126 => ⟨S4x1, .i32⟩
  | 127 => ⟨S_, .i32⟩
  | _ => ⟨S4x16384x1, .f32⟩

abbrev hbmTy0_2 (i : Nat) : BufTy := match i % 128 with
  | 0 => ⟨S4x1, .i32⟩
  | 1 => ⟨S4x1, .i1⟩
  | 2 => ⟨S_, .i32⟩
  | 3 => ⟨S4x1, .i32⟩
  | 4 => ⟨S4x1, .i32⟩
  | 5 => ⟨S4x1, .i32⟩
  | 6 => ⟨S4x1x1, .i32⟩
  | 7 => ⟨S4x1, .f32⟩
  | 8 => ⟨S4x16384, .f32⟩
  | 9 => ⟨S4x16384, .f32⟩
  | 10 => ⟨S4x16384, .f32⟩
  | 11 => ⟨S_, .f32⟩
  | 12 => ⟨S4x16384, .f32⟩
  | 13 => ⟨S4x16384, .f32⟩
  | 14 => ⟨S4x16384, .f32⟩
  | 15 => ⟨S_, .f32⟩
  | 16 => ⟨S4x16384, .f32⟩
  | 17 => ⟨S4x16384, .f32⟩
  | 18 => ⟨S4x16384, .f32⟩
  | 19 => ⟨S4x1, .i32⟩
  | 20 => ⟨S_, .i32⟩
  | 21 => ⟨S4x1, .i32⟩
  | 22 => ⟨S4x1, .i1⟩
  | 23 => ⟨S_, .i32⟩
  | 24 => ⟨S4x1, .i32⟩
  | 25 => ⟨S4x1, .i32⟩
  | 26 => ⟨S4x1, .i32⟩
  | 27 => ⟨S4x1x1, .i32⟩
  | 28 => ⟨S4x1, .f32⟩
  | 29 => ⟨S4x16384, .f32⟩
  | 30 => ⟨S4x16384, .f32⟩
  | 31 => ⟨S4x16384, .f32⟩
  | 32 => ⟨S_, .f32⟩
  | 33 => ⟨S4x16384, .f32⟩
  | 34 => ⟨S4x16384, .f32⟩
  | 35 => ⟨S4x16384, .f32⟩
  | 36 => ⟨S_, .f32⟩
  | 37 => ⟨S4x16384, .f32⟩
  | 38 => ⟨S4x16384, .i1⟩
  | 39 => ⟨S4x16384, .i1⟩
  | 40 => ⟨S4, .i32⟩
  | 41 => ⟨S_, .i32⟩
  | 42 => ⟨S4, .i32⟩
  | 43 => ⟨S4, .i1⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i1⟩
  | 51 => ⟨S_, .i32⟩
  | 52 => ⟨S4, .i32⟩
  | 53 => ⟨S4, .i32⟩
  | 54 => ⟨S4, .i32⟩
  | 55 => ⟨S4x1, .i32⟩
  | 56 => ⟨S4x1, .i32⟩
  | 57 => ⟨S4x2, .i32⟩
  | 58 => ⟨S_, .i1⟩
  | 59 => ⟨S4, .i1⟩
  | 60 => ⟨S4x16384, .i1⟩
  | 61 => ⟨S4x16384, .i1⟩
  | 62 => ⟨S4x16384, .i1⟩
  | 63 => ⟨S4, .i1⟩
  | 64 => ⟨S1x4, .i32⟩
  | 65 => ⟨S_, .i32⟩
  | 66 => ⟨S512x4, .i32⟩
  | 67 => ⟨S1x4, .i1⟩
  | 68 => ⟨S_, .i32⟩
  | 69 => ⟨S512x4, .i1⟩
  | 70 => ⟨S_, .i32⟩
  | 71 => ⟨S_, .i32⟩
  | 72 => ⟨S4x512, .i32⟩
  | 73 => ⟨S4x512, .i1⟩
  | 74 => ⟨S4x512, .f32⟩
  | 75 => ⟨S4x512x1, .f32⟩
  | 76 => ⟨S4x512x1, .i32⟩
  | 77 => ⟨S_, .i32⟩
  | 78 => ⟨S4x512x1, .i32⟩
  | 79 => ⟨S4x512x1, .i1⟩
  | 80 => ⟨S_, .i32⟩
  | 81 => ⟨S4x512x1, .i32⟩
  | 82 => ⟨S4x512x1, .i32⟩
  | 83 => ⟨S4x512x1, .i32⟩
  | 84 => ⟨S4x512x7, .f32⟩
  | 85 => ⟨S4x512x7, .f32⟩
  | 86 => ⟨S4x512x7, .f32⟩
  | 87 => ⟨S4x512x1, .i32⟩
  | 88 => ⟨S_, .i32⟩
  | 89 => ⟨S4x512x1, .i32⟩
  | 90 => ⟨S4x512x1, .i1⟩
  | 91 => ⟨S_, .i32⟩
  | 92 => ⟨S4x512x1, .i32⟩
  | 93 => ⟨S4x512x1, .i32⟩
  | 94 => ⟨S4x512x1, .i32⟩
  | 95 => ⟨S4x512x1, .f32⟩
  | 96 => ⟨S4x512x1, .f32⟩
  | _ => ⟨S4x16384x1, .f32⟩

abbrev hbmTy (i : Nat) : BufTy := match i / 128 with
  | 0 => hbmTy0_0 i
  | 1 => hbmTy0_1 i
  | 2 => hbmTy0_2 i
  | _ => ⟨S4x16384x1, .f32⟩

abbrev bufTy : (tb : Table) → Fin (tcTables nBuf tb) → BufTy
  | .hbm, ⟨i, _⟩ => hbmTy i
  | _, _ => ⟨S4x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_c : Ref sig .tc := ⟨.hbm, 15, rfl⟩
abbrev main_call1_v1_0 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_v26 : Ref sig .tc := ⟨.hbm, 60, rfl⟩
abbrev main_v27 : Ref sig .tc := ⟨.hbm, 61, rfl⟩
abbrev main_cst_6 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_7 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_call4_v0 : Ref sig .tc := ⟨.hbm, 76, rfl⟩
abbrev main_call4_cst : Ref sig .tc := ⟨.hbm, 77, rfl⟩
abbrev main_call4_c : Ref sig .tc := ⟨.hbm, 78, rfl⟩
abbrev main_call4_v1_0 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_v43 : Ref sig .tc := ⟨.hbm, 91, rfl⟩
abbrev main_v44 : Ref sig .tc := ⟨.hbm, 92, rfl⟩
abbrev main_cst_8 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_9 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_10 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_call6_cst : Ref sig .tc := ⟨.hbm, 105, rfl⟩
abbrev main_call6_v3 : Ref sig .tc := ⟨.hbm, 106, rfl⟩
abbrev main_call6_v4 : Ref sig .tc := ⟨.hbm, 107, rfl⟩
abbrev main_call6_cst_0 : Ref sig .tc := ⟨.hbm, 108, rfl⟩
abbrev main_call6_v5 : Ref sig .tc := ⟨.hbm, 109, rfl⟩
abbrev main_call6_v6 : Ref sig .tc := ⟨.hbm, 110, rfl⟩
abbrev main_call6_cst_1 : Ref sig .tc := ⟨.hbm, 111, rfl⟩
abbrev main_call6_v7 : Ref sig .tc := ⟨.hbm, 112, rfl⟩
abbrev main_call6_v8 : Ref sig .tc := ⟨.hbm, 113, rfl⟩
abbrev main_call6_v9 : Ref sig .tc := ⟨.hbm, 114, rfl⟩
abbrev main_call6_v10 : Ref sig .tc := ⟨.hbm, 115, rfl⟩
abbrev main_call6_v11 : Ref sig .tc := ⟨.hbm, 116, rfl⟩
abbrev main_call6_v12 : Ref sig .tc := ⟨.hbm, 117, rfl⟩
abbrev main_v51 : Ref sig .tc := ⟨.hbm, 118, rfl⟩
abbrev main_cst_11 : Ref sig .tc := ⟨.hbm, 119, rfl⟩
abbrev main_v52 : Ref sig .tc := ⟨.hbm, 120, rfl⟩
abbrev main_v53 : Ref sig .tc := ⟨.hbm, 121, rfl⟩
abbrev main_cst_12 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_13 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_14 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_15 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_cst_16 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_cst_17 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_cst_18 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_c : Ref sig .tc := ⟨.hbm, 177, rfl⟩
abbrev main_v102 : Ref sig .tc := ⟨.hbm, 178, rfl⟩
abbrev main_c_19 : Ref sig .tc := ⟨.hbm, 179, rfl⟩
abbrev main_v103 : Ref sig .tc := ⟨.hbm, 180, rfl⟩
abbrev main_c_20 : Ref sig .tc := ⟨.hbm, 181, rfl⟩
abbrev main_v104 : Ref sig .tc := ⟨.hbm, 182, rfl⟩
abbrev main_c_21 : Ref sig .tc := ⟨.hbm, 183, rfl⟩
abbrev main_v105_0 : Ref sig .tc := ⟨.hbm, 184, rfl⟩
abbrev main_v105_1 : Ref sig .tc := ⟨.hbm, 185, rfl⟩
abbrev main_v105_2 : Ref sig .tc := ⟨.hbm, 186, rfl⟩
abbrev main_v105_3 : Ref sig .tc := ⟨.hbm, 187, rfl⟩
abbrev main_v105_4 : Ref sig .tc := ⟨.hbm, 188, rfl⟩
abbrev main_v105_5 : Ref sig .tc := ⟨.hbm, 189, rfl⟩
abbrev main_v105_6 : Ref sig .tc := ⟨.hbm, 190, rfl⟩
abbrev main_v105_7 : Ref sig .tc := ⟨.hbm, 191, rfl⟩
abbrev main_v105_8 : Ref sig .tc := ⟨.hbm, 192, rfl⟩
abbrev main_v105_9 : Ref sig .tc := ⟨.hbm, 193, rfl⟩
abbrev main_while0c_c_31 : Ref sig .tc := ⟨.hbm, 194, rfl⟩
abbrev main_while0c_v117 : Ref sig .tc := ⟨.hbm, 195, rfl⟩
abbrev main_while0b_cst_31 : Ref sig .tc := ⟨.hbm, 196, rfl⟩
abbrev main_while0b_call8_v0 : Ref sig .tc := ⟨.hbm, 197, rfl⟩
abbrev main_while0b_call8_v1 : Ref sig .tc := ⟨.hbm, 198, rfl⟩
abbrev main_while0b_v117 : Ref sig .tc := ⟨.hbm, 199, rfl⟩
abbrev main_while0b_call9_v0 : Ref sig .tc := ⟨.hbm, 200, rfl⟩
abbrev main_while0b_call9_cst : Ref sig .tc := ⟨.hbm, 201, rfl⟩
abbrev main_while0b_call9_c : Ref sig .tc := ⟨.hbm, 202, rfl⟩
abbrev main_while0b_call9_v1_0 : Ref sig .tc := ⟨.hbm, 203, rfl⟩
abbrev main_while0b_v118 : Ref sig .tc := ⟨.hbm, 204, rfl⟩
abbrev main_while0b_v119 : Ref sig .tc := ⟨.hbm, 205, rfl⟩
abbrev main_while0b_call10_c : Ref sig .tc := ⟨.hbm, 206, rfl⟩
abbrev main_while0b_call10_v0 : Ref sig .tc := ⟨.hbm, 207, rfl⟩
abbrev main_while0b_call10_v1 : Ref sig .tc := ⟨.hbm, 208, rfl⟩
abbrev main_while0b_call10_c_0 : Ref sig .tc := ⟨.hbm, 209, rfl⟩
abbrev main_while0b_call10_v2 : Ref sig .tc := ⟨.hbm, 210, rfl⟩
abbrev main_while0b_call10_v3 : Ref sig .tc := ⟨.hbm, 211, rfl⟩
abbrev main_while0b_call10_v4 : Ref sig .tc := ⟨.hbm, 212, rfl⟩
abbrev main_while0b_call10_v5 : Ref sig .tc := ⟨.hbm, 213, rfl⟩
abbrev main_while0b_v120 : Ref sig .tc := ⟨.hbm, 214, rfl⟩
abbrev main_while0b_cst_32 : Ref sig .tc := ⟨.hbm, 215, rfl⟩
abbrev main_while0b_v121 : Ref sig .tc := ⟨.hbm, 216, rfl⟩
abbrev main_while0b_v122 : Ref sig .tc := ⟨.hbm, 217, rfl⟩
abbrev main_while0b_v123 : Ref sig .tc := ⟨.hbm, 218, rfl⟩
abbrev main_while0b_call11_c : Ref sig .tc := ⟨.hbm, 219, rfl⟩
abbrev main_while0b_call11_v0 : Ref sig .tc := ⟨.hbm, 220, rfl⟩
abbrev main_while0b_call11_v1 : Ref sig .tc := ⟨.hbm, 221, rfl⟩
abbrev main_while0b_call11_c_0 : Ref sig .tc := ⟨.hbm, 222, rfl⟩
abbrev main_while0b_call11_v2 : Ref sig .tc := ⟨.hbm, 223, rfl⟩
abbrev main_while0b_call11_v3 : Ref sig .tc := ⟨.hbm, 224, rfl⟩
abbrev main_while0b_call11_v4 : Ref sig .tc := ⟨.hbm, 225, rfl⟩
abbrev main_while0b_call11_v5 : Ref sig .tc := ⟨.hbm, 226, rfl⟩
abbrev main_while0b_v124 : Ref sig .tc := ⟨.hbm, 227, rfl⟩
abbrev main_while0b_v125 : Ref sig .tc := ⟨.hbm, 228, rfl⟩
abbrev main_while0b_v126 : Ref sig .tc := ⟨.hbm, 229, rfl⟩
abbrev main_while0b_v127 : Ref sig .tc := ⟨.hbm, 230, rfl⟩
abbrev main_while0b_call12_c : Ref sig .tc := ⟨.hbm, 231, rfl⟩
abbrev main_while0b_call12_v0 : Ref sig .tc := ⟨.hbm, 232, rfl⟩
abbrev main_while0b_call12_v1 : Ref sig .tc := ⟨.hbm, 233, rfl⟩
abbrev main_while0b_call12_c_0 : Ref sig .tc := ⟨.hbm, 234, rfl⟩
abbrev main_while0b_call12_v2 : Ref sig .tc := ⟨.hbm, 235, rfl⟩
abbrev main_while0b_call12_v3 : Ref sig .tc := ⟨.hbm, 236, rfl⟩
abbrev main_while0b_call12_v4 : Ref sig .tc := ⟨.hbm, 237, rfl⟩
abbrev main_while0b_call12_v5 : Ref sig .tc := ⟨.hbm, 238, rfl⟩
abbrev main_while0b_v128 : Ref sig .tc := ⟨.hbm, 239, rfl⟩
abbrev main_while0b_v129 : Ref sig .tc := ⟨.hbm, 240, rfl⟩
abbrev main_while0b_v130 : Ref sig .tc := ⟨.hbm, 241, rfl⟩
abbrev main_while0b_v131 : Ref sig .tc := ⟨.hbm, 242, rfl⟩
abbrev main_while0b_call13_c : Ref sig .tc := ⟨.hbm, 243, rfl⟩
abbrev main_while0b_call13_v0 : Ref sig .tc := ⟨.hbm, 244, rfl⟩
abbrev main_while0b_call13_v1 : Ref sig .tc := ⟨.hbm, 245, rfl⟩
abbrev main_while0b_call13_c_0 : Ref sig .tc := ⟨.hbm, 246, rfl⟩
abbrev main_while0b_call13_v2 : Ref sig .tc := ⟨.hbm, 247, rfl⟩
abbrev main_while0b_call13_v3 : Ref sig .tc := ⟨.hbm, 248, rfl⟩
abbrev main_while0b_call13_v4 : Ref sig .tc := ⟨.hbm, 249, rfl⟩
abbrev main_while0b_call13_v5 : Ref sig .tc := ⟨.hbm, 250, rfl⟩
abbrev main_while0b_v132 : Ref sig .tc := ⟨.hbm, 251, rfl⟩
abbrev main_while0b_v133 : Ref sig .tc := ⟨.hbm, 252, rfl⟩
abbrev main_while0b_v134 : Ref sig .tc := ⟨.hbm, 253, rfl⟩
abbrev main_while0b_v135 : Ref sig .tc := ⟨.hbm, 254, rfl⟩
abbrev main_while0b_call14_c : Ref sig .tc := ⟨.hbm, 255, rfl⟩
abbrev main_while0b_call14_v0 : Ref sig .tc := ⟨.hbm, 256, rfl⟩
abbrev main_while0b_call14_v1 : Ref sig .tc := ⟨.hbm, 257, rfl⟩
abbrev main_while0b_call14_c_0 : Ref sig .tc := ⟨.hbm, 258, rfl⟩
abbrev main_while0b_call14_v2 : Ref sig .tc := ⟨.hbm, 259, rfl⟩
abbrev main_while0b_call14_v3 : Ref sig .tc := ⟨.hbm, 260, rfl⟩
abbrev main_while0b_call14_v4 : Ref sig .tc := ⟨.hbm, 261, rfl⟩
abbrev main_while0b_call14_v5 : Ref sig .tc := ⟨.hbm, 262, rfl⟩
abbrev main_while0b_v136 : Ref sig .tc := ⟨.hbm, 263, rfl⟩
abbrev main_while0b_v137 : Ref sig .tc := ⟨.hbm, 264, rfl⟩
abbrev main_while0b_v138 : Ref sig .tc := ⟨.hbm, 265, rfl⟩
abbrev main_while0b_v139 : Ref sig .tc := ⟨.hbm, 266, rfl⟩
abbrev main_while0b_cst_33 : Ref sig .tc := ⟨.hbm, 267, rfl⟩
abbrev main_while0b_v140 : Ref sig .tc := ⟨.hbm, 268, rfl⟩
abbrev main_while0b_v141 : Ref sig .tc := ⟨.hbm, 269, rfl⟩
abbrev main_while0b_v142 : Ref sig .tc := ⟨.hbm, 270, rfl⟩
abbrev main_while0b_cst_34 : Ref sig .tc := ⟨.hbm, 271, rfl⟩
abbrev main_while0b_v143 : Ref sig .tc := ⟨.hbm, 272, rfl⟩
abbrev main_while0b_v144 : Ref sig .tc := ⟨.hbm, 273, rfl⟩
abbrev main_while0b_v145 : Ref sig .tc := ⟨.hbm, 274, rfl⟩
abbrev main_while0b_v146 : Ref sig .tc := ⟨.hbm, 275, rfl⟩
abbrev main_while0b_call15_c : Ref sig .tc := ⟨.hbm, 276, rfl⟩
abbrev main_while0b_call15_v0 : Ref sig .tc := ⟨.hbm, 277, rfl⟩
abbrev main_while0b_call15_v1 : Ref sig .tc := ⟨.hbm, 278, rfl⟩
abbrev main_while0b_call15_c_0 : Ref sig .tc := ⟨.hbm, 279, rfl⟩
abbrev main_while0b_call15_v2 : Ref sig .tc := ⟨.hbm, 280, rfl⟩
abbrev main_while0b_call15_v3 : Ref sig .tc := ⟨.hbm, 281, rfl⟩
abbrev main_while0b_call15_v4 : Ref sig .tc := ⟨.hbm, 282, rfl⟩
abbrev main_while0b_call15_v5 : Ref sig .tc := ⟨.hbm, 283, rfl⟩
abbrev main_while0b_v147 : Ref sig .tc := ⟨.hbm, 284, rfl⟩
abbrev main_while0b_v148 : Ref sig .tc := ⟨.hbm, 285, rfl⟩
abbrev main_while0b_v149 : Ref sig .tc := ⟨.hbm, 286, rfl⟩
abbrev main_while0b_v150 : Ref sig .tc := ⟨.hbm, 287, rfl⟩
abbrev main_while0b_cst_35 : Ref sig .tc := ⟨.hbm, 288, rfl⟩
abbrev main_while0b_v151 : Ref sig .tc := ⟨.hbm, 289, rfl⟩
abbrev main_while0b_v152 : Ref sig .tc := ⟨.hbm, 290, rfl⟩
abbrev main_while0b_v153 : Ref sig .tc := ⟨.hbm, 291, rfl⟩
abbrev main_while0b_cst_36 : Ref sig .tc := ⟨.hbm, 292, rfl⟩
abbrev main_while0b_v154 : Ref sig .tc := ⟨.hbm, 293, rfl⟩
abbrev main_while0b_v155 : Ref sig .tc := ⟨.hbm, 294, rfl⟩
abbrev main_while0b_v156 : Ref sig .tc := ⟨.hbm, 295, rfl⟩
abbrev main_while0b_v157 : Ref sig .tc := ⟨.hbm, 296, rfl⟩
abbrev main_while0b_c_37 : Ref sig .tc := ⟨.hbm, 297, rfl⟩
abbrev main_while0b_v158 : Ref sig .tc := ⟨.hbm, 298, rfl⟩
abbrev main_while0b_v159 : Ref sig .tc := ⟨.hbm, 299, rfl⟩
abbrev main_while0b_c_38 : Ref sig .tc := ⟨.hbm, 300, rfl⟩
abbrev main_while0b_v160 : Ref sig .tc := ⟨.hbm, 301, rfl⟩
abbrev main_while0b_v161 : Ref sig .tc := ⟨.hbm, 302, rfl⟩
abbrev main_while0b_v162 : Ref sig .tc := ⟨.hbm, 303, rfl⟩
abbrev main_while0b_c_39 : Ref sig .tc := ⟨.hbm, 304, rfl⟩
abbrev main_while0b_v163 : Ref sig .tc := ⟨.hbm, 305, rfl⟩
abbrev main_while0b_v164 : Ref sig .tc := ⟨.hbm, 306, rfl⟩
abbrev main_while0b_c_40 : Ref sig .tc := ⟨.hbm, 307, rfl⟩
abbrev main_while0b_v165 : Ref sig .tc := ⟨.hbm, 308, rfl⟩
abbrev main_while0b_v166 : Ref sig .tc := ⟨.hbm, 309, rfl⟩
abbrev main_while0b_v167 : Ref sig .tc := ⟨.hbm, 310, rfl⟩
abbrev main_while0b_v168 : Ref sig .tc := ⟨.hbm, 311, rfl⟩
abbrev main_while0b_v169 : Ref sig .tc := ⟨.hbm, 312, rfl⟩
abbrev main_while0b_v170 : Ref sig .tc := ⟨.hbm, 313, rfl⟩
abbrev main_while0b_c_41 : Ref sig .tc := ⟨.hbm, 314, rfl⟩
abbrev main_while0b_v171 : Ref sig .tc := ⟨.hbm, 315, rfl⟩
abbrev main_while0b_v172 : Ref sig .tc := ⟨.hbm, 316, rfl⟩
abbrev main_while0b_call16_v0 : Ref sig .tc := ⟨.hbm, 317, rfl⟩
abbrev main_while0b_v173 : Ref sig .tc := ⟨.hbm, 318, rfl⟩
abbrev main_while0b_v174 : Ref sig .tc := ⟨.hbm, 319, rfl⟩
abbrev main_while0b_call17_v0 : Ref sig .tc := ⟨.hbm, 320, rfl⟩
abbrev main_while0b_call17_c : Ref sig .tc := ⟨.hbm, 321, rfl⟩
abbrev main_while0b_v175 : Ref sig .tc := ⟨.hbm, 322, rfl⟩
abbrev main_while0b_call18_v0 : Ref sig .tc := ⟨.hbm, 323, rfl⟩
abbrev main_while0b_call18_c : Ref sig .tc := ⟨.hbm, 324, rfl⟩
abbrev main_while0b_v176 : Ref sig .tc := ⟨.hbm, 325, rfl⟩
abbrev main_while0b_c_42 : Ref sig .tc := ⟨.hbm, 326, rfl⟩
abbrev main_while0b_v177 : Ref sig .tc := ⟨.hbm, 327, rfl⟩
abbrev main_v106 : Ref sig .tc := ⟨.hbm, 328, rfl⟩
abbrev main_v107 : Ref sig .tc := ⟨.hbm, 329, rfl⟩
abbrev main_v108 : Ref sig .tc := ⟨.hbm, 330, rfl⟩
abbrev main_v109 : Ref sig .tc := ⟨.hbm, 331, rfl⟩
abbrev main_v110 : Ref sig .tc := ⟨.hbm, 332, rfl⟩
abbrev main_call19_c : Ref sig .tc := ⟨.hbm, 333, rfl⟩
abbrev main_call19_v0 : Ref sig .tc := ⟨.hbm, 334, rfl⟩
abbrev main_call19_v1 : Ref sig .tc := ⟨.hbm, 335, rfl⟩
abbrev main_call19_c_0 : Ref sig .tc := ⟨.hbm, 336, rfl⟩
abbrev main_call19_v2 : Ref sig .tc := ⟨.hbm, 337, rfl⟩
abbrev main_call19_v3 : Ref sig .tc := ⟨.hbm, 338, rfl⟩
abbrev main_call19_v4 : Ref sig .tc := ⟨.hbm, 339, rfl⟩
abbrev main_v111 : Ref sig .tc := ⟨.hbm, 340, rfl⟩
abbrev main_v112 : Ref sig .tc := ⟨.hbm, 341, rfl⟩
abbrev main_v113 : Ref sig .tc := ⟨.hbm, 342, rfl⟩
abbrev main_v114 : Ref sig .tc := ⟨.hbm, 343, rfl⟩
abbrev main_call20_c : Ref sig .tc := ⟨.hbm, 344, rfl⟩
abbrev main_call20_v0 : Ref sig .tc := ⟨.hbm, 345, rfl⟩
abbrev main_call20_v1 : Ref sig .tc := ⟨.hbm, 346, rfl⟩
abbrev main_call20_c_0 : Ref sig .tc := ⟨.hbm, 347, rfl⟩
abbrev main_call20_v2 : Ref sig .tc := ⟨.hbm, 348, rfl⟩
abbrev main_call20_v3 : Ref sig .tc := ⟨.hbm, 349, rfl⟩
abbrev main_call20_v4 : Ref sig .tc := ⟨.hbm, 350, rfl⟩
abbrev main_v115 : Ref sig .tc := ⟨.hbm, 351, rfl⟩
abbrev main_v116 : Ref sig .tc := ⟨.hbm, 352, rfl⟩

abbrev nD : Nat := 1
abbrev τ : Topo := Topo.v7x

variable {F : FTy → Type} [FloatOps F]

abbrev main_while0_count : Scf.Loop 32 := ⟨0#32, 512#32, 1#32⟩
-- ==== Proof.KTrip.lean ====
module

public import proofs.«01_k».proof.Proof.Gen.KernelIdeal.Regions
public import proofs.«01_k».proof.Proof.Gen.KernelIdeal.Loops
public import Idealize.ShloMosaic.Lib.Pipeline.FrameBody
public import Idealize.ShloMosaic.Lib.WritesUnit
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## One round of the suppression loop, written out -/

section Trip

variable (𝒱 : Variants) (c : Dev nD) (bd : Option 𝒱.V)
  (arg0 : Memref sig .tc .vmem S12x4x16384 .f32) (harg0 : arg0.IsWhole) (arg1 : Memref sig .tc .vmem S4x16384 .f32) (harg1 : arg1.IsWhole)
  (arg2 : Memref sig .tc .vmem S4x512x8 .f32) (harg2 : arg2.IsWhole) (arg3 : Memref sig .tc .vmem S4x512x8 .f32) (harg3 : arg3.IsWhole)
  (v24 : Vec F S1x4x16384 .f32) (v26 : IVec S4x16384 32) (a b d : F .f32)

/-- Whether a round finds a box left, per row: one or zero. -/
def rValid (s : FVec F S4x16384 .f32) (acc : FVec F S4x16384 .f32) : FVec F S4x1 .f32 := k1_pay9 s a b d acc
/-- The box a round picks, as a row of zeros with a one. -/
def rPick (s : FVec F S4x16384 .f32) (acc : FVec F S4x16384 .f32) : FVec F S4x16384 .f32 := k1_pay10 s v26 a b d acc
/-- The suppression marks after a round. -/
def rNext (s v3 v5 v7 v9 v11 : FVec F S4x16384 .f32) (acc : FVec F S4x16384 .f32) : FVec F S4x16384 .f32 :=
  k1_pay14 v11 b d acc (rValid a b d s acc) (rPick v26 a b d s acc) (k1_pay11 s v11 v26 a b d acc) (k1_pay12 s v3 v7 v26 a b d acc) (k1_pay13 s v5 v9 v26 a b d acc)

set_option maxHeartbeats 2000000 in
/-- The marks a round hands on. -/
theorem trip_next (v1 v3 v5 v7 v9 v11 v13 v15 v17 v19 v21 v23 : FVec F S4x16384 .f32) (k : Fin k1_t1_loop.trips) (acc : FVec F S4x16384 .f32) :
    (trip_k1_t1 (F := F) 𝒱 c bd arg0 harg0 arg1 harg1 arg2 harg2 arg3 harg3 v1 v3 v5 v7 v9 v11 v13 v15 v17 v19 v21 v23 v24 v26 a b d k).1 acc = rNext v26 a b d v1 v3 v5 v7 v9 v11 acc := by
  unfold trip_k1_t1; rfl

set_option maxHeartbeats 2000000 in
/-- The cells of the box block a round writes, last first. -/
theorem trip_box (v1 v3 v5 v7 v9 v11 v13 v15 v17 v19 v21 v23 : FVec F S4x16384 .f32) (k : Fin k1_t1_loop.trips) (acc : FVec F S4x16384 .f32) :
    (trip_k1_t1 (F := F) 𝒱 c bd arg0 harg0 arg1 harg1 arg2 harg2 arg3 harg3 v1 v3 v5 v7 v9 v11 v13 v15 v17 v19 v21 v23 v24 v26 a b d k).2.1 acc =
      [⟨Rect.unit (s := S4x512x8) (k1_off7 k) S4x1x1.size (k1_off7_inb k), k1_pay5 v24 (rValid a b d v1 acc) (rPick v26 a b d v1 acc)⟩,
       ⟨Rect.unit (s := S4x512x8) (k1_off6 k) S4x1x1.size (k1_off6_inb k), k1_pay4 v23 (rValid a b d v1 acc) (rPick v26 a b d v1 acc)⟩,
       ⟨Rect.unit (s := S4x512x8) (k1_off5 k) S4x1x1.size (k1_off5_inb k), k1_pay3 v21 (rValid a b d v1 acc) (rPick v26 a b d v1 acc)⟩,
       ⟨Rect.unit (s := S4x512x8) (k1_off4 k) S4x1x1.size (k1_off4_inb k), k1_pay2 (rValid a b d v1 acc) (k1_pay18 v19 (rPick v26 a b d v1 acc))⟩,
       ⟨Rect.unit (s := S4x512x8) (k1_off3 k) S4x1x1.size (k1_off3_inb k), k1_pay17 v17 (rValid a b d v1 acc) (rPick v26 a b d v1 acc)⟩,
       ⟨Rect.unit (s := S4x512x8) (k1_off2 k) S4x1x1.size (k1_off2_inb k), k1_pay16 v15 (rValid a b d v1 acc) (rPick v26 a b d v1 acc)⟩,
       ⟨Rect.unit (s := S4x512x8) (k1_off1 k) S4x1x1.size (k1_off1_inb k), k1_pay15 v13 (rValid a b d v1 acc) (rPick v26 a b d v1 acc)⟩] := by
  unfold trip_k1_t1; rfl

set_option maxHeartbeats 2000000 in
/-- The cells of the score block a round writes. -/
theorem trip_score (v1 v3 v5 v7 v9 v11 v13 v15 v17 v19 v21 v23 : FVec F S4x16384 .f32) (k : Fin k1_t1_loop.trips) (acc : FVec F S4x16384 .f32) :
    (trip_k1_t1 (F := F) 𝒱 c bd arg0 harg0 arg1 harg1 arg2 harg2 arg3 harg3 v1 v3 v5 v7 v9 v11 v13 v15 v17 v19 v21 v23 v24 v26 a b d k).2.2.1 acc =
      [⟨Rect.unit (s := S4x512x8) (k1_off1 k) S4x1x1.size (k1_off1_inb k), k1_pay6 v1 (rValid a b d v1 acc) (rPick v26 a b d v1 acc)⟩] := by
  unfold trip_k1_t1; rfl

end Trip

end Cert.KernelIdeal.Hand

end
-- ==== Proof.KNms.lean ====
module

public import proofs.«01_k».proof.Proof.KTrip
public import Idealize.ShloMosaic.Lib.ValueIdxCore
public import proofs.«01_k».proof.Proof.Gen.KernelIdeal.Loops
public import Idealize.ShloMosaic.Lib.Pipeline.FrameBody
public import Idealize.ShloMosaic.Lib.WritesUnit
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix3)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The suppression launch's block contents -/

/-- Reading the cell the newest piece writes. -/
theorem cell_hit (V : View sig .tc .vmem S4x512x8 .f32) (f : BufTy.Contents (Elt F) V.ty) (b : Fin 4) (u : Fin 512) (q : Fin 8)
    (off : Fin 3 → ℕ) (t k : ℕ) (w : FVec F S4x1x1 .f32) (L : List (View.Piece (Elt F) S4x512x8 .f32)) (inb : ∀ a, off a + S4x1x1.size a ≤ S4x512x8.size a)
    (ho : off = ![0, t, k]) (ht : u.val = t) (hk : q.val = k) :
    V.read (Elt F) (V.writes (Elt F) f ((⟨Rect.unit (s := S4x512x8) off S4x1x1.size inb, w⟩ : View.Piece (Elt F) S4x512x8 .f32) :: L)) (ix3 b u q) = w (ix3 b 0 0) :=
  View.read_writes_cons_unit_of_mem V f inb w L (ix3 b u q) (ix3 b 0 0) ho fun a => by
    match a with
    | ⟨0, _⟩ => exact (Nat.zero_add _).symm
    | ⟨1, _⟩ => exact ht
    | ⟨2, _⟩ => exact hk

/-- Reading a cell the newest piece does not write. -/
theorem cell_miss (V : View sig .tc .vmem S4x512x8 .f32) (f : BufTy.Contents (Elt F) V.ty) (b : Fin 4) (u : Fin 512) (q : Fin 8)
    (off : Fin 3 → ℕ) (t k : ℕ) (w : FVec F S4x1x1 .f32) (L : List (View.Piece (Elt F) S4x512x8 .f32)) (inb : ∀ a, off a + S4x1x1.size a ≤ S4x512x8.size a)
    (ho : off = ![0, t, k]) (h : u.val ≠ t ∨ q.val ≠ k) :
    V.read (Elt F) (V.writes (Elt F) f ((⟨Rect.unit (s := S4x512x8) off S4x1x1.size inb, w⟩ : View.Piece (Elt F) S4x512x8 .f32) :: L)) (ix3 b u q)
      = V.read (Elt F) (V.writes (Elt F) f L) (ix3 b u q) := by
  rcases h with h | h
  · exact View.read_writes_cons_unit_of_not_mem V f inb w L (ix3 b u q) ho 1 (by
      change u.val < t ∨ t + 1 ≤ u.val; omega)
  · exact View.read_writes_cons_unit_of_not_mem V f inb w L (ix3 b u q) ho 2 (by
      change q.val < k ∨ k + 1 ≤ q.val; omega)

section Vals

variable (x0 : Vec F S12x4x16384 .f32) (x1 : Vec F S4x16384 .f32)

/-- The scores. -/
def nS : FVec F S4x16384 .f32 := k1_pay19 (View.ld x1 (Rect.unit (s := S4x16384) ![0, 0] S4x16384.size inb_S4x16384_S4x16384_0_0))
/-- Channel 7 of the decoded boxes. -/
def nA7 : FVec F S4x16384 .f32 := k1_pay20 (View.ld x0 (Rect.unit (s := S12x4x16384) ![7, 0, 0] S1x4x16384.size inb_S12x4x16384_S1x4x16384_7_0_0))
/-- Channel 8 of the decoded boxes. -/
def nA8 : FVec F S4x16384 .f32 := k1_pay21 (View.ld x0 (Rect.unit (s := S12x4x16384) ![8, 0, 0] S1x4x16384.size inb_S12x4x16384_S1x4x16384_8_0_0))
/-- Channel 9 of the decoded boxes. -/
def nA9 : FVec F S4x16384 .f32 := k1_pay22 (View.ld x0 (Rect.unit (s := S12x4x16384) ![9, 0, 0] S1x4x16384.size inb_S12x4x16384_S1x4x16384_9_0_0))
/-- Channel 10 of the decoded boxes. -/
def nA10 : FVec F S4x16384 .f32 := k1_pay23 (View.ld x0 (Rect.unit (s := S12x4x16384) ![10, 0, 0] S1x4x16384.size inb_S12x4x16384_S1x4x16384_10_0_0))
/-- Channel 11 of the decoded boxes. -/
def nA11 : FVec F S4x16384 .f32 := k1_pay24 (View.ld x0 (Rect.unit (s := S12x4x16384) ![11, 0, 0] S1x4x16384.size inb_S12x4x16384_S1x4x16384_11_0_0))
/-- Channel 0 of the decoded boxes. -/
def nA0 : FVec F S4x16384 .f32 := k1_pay25 (View.ld x0 (Rect.unit (s := S12x4x16384) ![0, 0, 0] S1x4x16384.size inb_S12x4x16384_S1x4x16384_0_0_0))
/-- Channel 1 of the decoded boxes. -/
def nA1 : FVec F S4x16384 .f32 := k1_pay26 (View.ld x0 (Rect.unit (s := S12x4x16384) ![1, 0, 0] S1x4x16384.size inb_S12x4x16384_S1x4x16384_1_0_0))
/-- Channel 2 of the decoded boxes. -/
def nA2 : FVec F S4x16384 .f32 := k1_pay27 (View.ld x0 (Rect.unit (s := S12x4x16384) ![2, 0, 0] S1x4x16384.size inb_S12x4x16384_S1x4x16384_2_0_0))
/-- Channel 3 of the decoded boxes. -/
def nA3 : FVec F S4x16384 .f32 := k1_pay28 (View.ld x0 (Rect.unit (s := S12x4x16384) ![3, 0, 0] S1x4x16384.size inb_S12x4x16384_S1x4x16384_3_0_0))
/-- Channel 4 of the decoded boxes. -/
def nA4 : FVec F S4x16384 .f32 := k1_pay29 (View.ld x0 (Rect.unit (s := S12x4x16384) ![4, 0, 0] S1x4x16384.size inb_S12x4x16384_S1x4x16384_4_0_0))
/-- Channel 5 of the decoded boxes. -/
def nA5 : FVec F S4x16384 .f32 := k1_pay30 (View.ld x0 (Rect.unit (s := S12x4x16384) ![5, 0, 0] S1x4x16384.size inb_S12x4x16384_S1x4x16384_5_0_0))
/-- Channel 6 of the decoded boxes, as loaded. -/
def nA6 : Vec F S1x4x16384 .f32 := View.ld x0 (Rect.unit (s := S12x4x16384) ![6, 0, 0] S1x4x16384.size inb_S12x4x16384_S1x4x16384_6_0_0)
/-- The positions along the row. -/
def nI : IVec S4x16384 32 := iota .tc S4x16384 32 [1] iota_S4x16384_d1_w32
/-- Minus infinity, one and zero as the kernel writes them. -/
def nNeg : F .f32 := Scalar.ofBits .f32 0xFF800000#32
@[inherit_doc nNeg] def nOne : F .f32 := Scalar.ofBits .f32 0x3F800000#32
@[inherit_doc nNeg] def nZero : F .f32 := Scalar.ofBits .f32 0x00000000#32

/-- The suppression marks before round `t`. -/
def nSup : ℕ → FVec F S4x16384 .f32
  | 0 => k1_pay1 (F := F)
  | t + 1 => rNext nI nNeg nOne nZero (nS x1) (nA7 x0) (nA8 x0) (nA9 x0) (nA10 x0) (nA11 x0) (nSup t)

/-- Round `t`'s flag and pick. -/
def nValid (t : ℕ) : FVec F S4x1 .f32 := rValid nNeg nOne nZero (nS x1) (nSup x0 x1 t)
@[inherit_doc nValid] def nPick (t : ℕ) : FVec F S4x16384 .f32 := rPick nI nNeg nOne nZero (nS x1) (nSup x0 x1 t)

/-- What round `t` writes into column `ch` of the box block. -/
def nBox (t : ℕ) : Fin 7 → FVec F S4x1x1 .f32
  | ⟨0, _⟩ => k1_pay15 (nA0 x0) (nValid x0 x1 t) (nPick x0 x1 t)
  | ⟨1, _⟩ => k1_pay16 (nA1 x0) (nValid x0 x1 t) (nPick x0 x1 t)
  | ⟨2, _⟩ => k1_pay17 (nA2 x0) (nValid x0 x1 t) (nPick x0 x1 t)
  | ⟨3, _⟩ => k1_pay2 (nValid x0 x1 t) (k1_pay18 (nA3 x0) (nPick x0 x1 t))
  | ⟨4, _⟩ => k1_pay3 (nA4 x0) (nValid x0 x1 t) (nPick x0 x1 t)
  | ⟨5, _⟩ => k1_pay4 (nA5 x0) (nValid x0 x1 t) (nPick x0 x1 t)
  | ⟨6, _⟩ => k1_pay5 (nA6 x0) (nValid x0 x1 t) (nPick x0 x1 t)
/-- What round `t` writes into the score block's first column. -/
def nScore (t : ℕ) : FVec F S4x1x1 .f32 := k1_pay6 (nS x1) (nValid x0 x1 t) (nPick x0 x1 t)

/-- The first seven columns of the box block hold what the rounds wrote. -/
def BoxRows (X : Vec F S4x512x8 .f32) : Prop :=
  ∀ (b : Fin 4) (t : Fin 512) (ch : Fin 7), X (ix3 b t (ch.castLE (by decide))) = nBox x0 x1 t.val ch (ix3 b 0 0)
/-- The first column of the score block holds what the rounds wrote. -/
def ScoreRows (X : Vec F S4x512x8 .f32) : Prop :=
  ∀ (b : Fin 4) (t : Fin 512), X (ix3 b t 0) = nScore x0 x1 t.val (ix3 b 0 0)

/-- The launch makes 512 rounds. -/
theorem trips_eq : k1_t1_loop.trips = 512 := by rfl

variable (c : Dev nD)
  (arg0 : Memref sig .tc .vmem S12x4x16384 .f32) (harg0 : arg0.IsWhole) (arg1 : Memref sig .tc .vmem S4x16384 .f32) (harg1 : arg1.IsWhole)
  (arg2 : Memref sig .tc .vmem S4x512x8 .f32) (harg2 : arg2.IsWhole) (arg3 : Memref sig .tc .vmem S4x512x8 .f32) (harg3 : arg3.IsWhole)

/-- The loop's state before round `t`, at the loaded blocks. -/
abbrev nSt (t : ℕ) := st_k1_t1 (F := F) Variants.none c none arg0 harg0 arg1 harg1 arg2 harg2 arg3 harg3
  (nS x1) (nA7 x0) (nA8 x0) (nA9 x0) (nA10 x0) (nA11 x0) (nA0 x0) (nA1 x0) (nA2 x0) (nA3 x0) (nA4 x0) (nA5 x0) (nA6 x0)
  nI nNeg nOne nZero (k1_pay1 (F := F)) t

/-- The marks the loop carries are the ones written out. -/
theorem nSt_sup (t : ℕ) (ht : t ≤ 512) : (nSt x0 x1 c arg0 harg0 arg1 harg1 arg2 harg2 arg3 harg3 t).1 = nSup x0 x1 t := by
  induction t with
  | zero => rfl
  | succ t ih =>
    have h := st_k1_t1_succ (F := F) Variants.none c none arg0 harg0 arg1 harg1 arg2 harg2 arg3 harg3
      (nS x1) (nA7 x0) (nA8 x0) (nA9 x0) (nA10 x0) (nA11 x0) (nA0 x0) (nA1 x0) (nA2 x0) (nA3 x0) (nA4 x0) (nA5 x0) (nA6 x0)
      nI nNeg nOne nZero (k1_pay1 (F := F)) ⟨t, by rw [trips_eq]; omega⟩
    rw [nSt, h]
    dsimp only [tripR_k1_t1]
    rw [trip_next, ih (by omega)]
    rfl

/-- After `t` rounds the box block's rows below `t` hold what the rounds wrote, whatever it held before. -/
theorem nSt_box (f : BufTy.Contents (Elt F) arg2.view.ty) (t : ℕ) (ht : t ≤ 512) (b : Fin 4) (u : Fin 512) (hu : u.val < t) (ch : Fin 7) :
    arg2.view.read (Elt F) (arg2.view.writes (Elt F) f (nSt x0 x1 c arg0 harg0 arg1 harg1 arg2 harg2 arg3 harg3 t).2.1) (ix3 b u (ch.castLE (by decide)))
      = nBox x0 x1 u.val ch (ix3 b 0 0) := by
  induction t with
  | zero => omega
  | succ t ih =>
    have h := st_k1_t1_succ (F := F) Variants.none c none arg0 harg0 arg1 harg1 arg2 harg2 arg3 harg3
      (nS x1) (nA7 x0) (nA8 x0) (nA9 x0) (nA10 x0) (nA11 x0) (nA0 x0) (nA1 x0) (nA2 x0) (nA3 x0) (nA4 x0) (nA5 x0) (nA6 x0)
      nI nNeg nOne nZero (k1_pay1 (F := F)) ⟨t, by rw [trips_eq]; omega⟩
    rw [nSt, h]
    dsimp only [tripL_k1_t1]
    rw [trip_box, nSt_sup x0 x1 c arg0 harg0 arg1 harg1 arg2 harg2 arg3 harg3 t (by omega)]
    simp only [List.cons_append, List.nil_append]
    by_cases hut : u.val = t
    · obtain ⟨k, hk⟩ := ch
      subst hut
      have : k = 0 ∨ k = 1 ∨ k = 2 ∨ k = 3 ∨ k = 4 ∨ k = 5 ∨ k = 6 := by omega
      rcases this with rfl | rfl | rfl | rfl | rfl | rfl | rfl
      · rw [cell_miss _ _ _ _ _ _ _ _ _ _ _ (k1_off7_eq _) (.inr (show (0 : ℕ) ≠ 6 by decide)), cell_miss _ _ _ _ _ _ _ _ _ _ _ (k1_off6_eq _) (.inr (show (0 : ℕ) ≠ 5 by decide)), cell_miss _ _ _ _ _ _ _ _ _ _ _ (k1_off5_eq _) (.inr (show (0 : ℕ) ≠ 4 by decide)), cell_miss _ _ _ _ _ _ _ _ _ _ _ (k1_off4_eq _) (.inr (show (0 : ℕ) ≠ 3 by decide)), cell_miss _ _ _ _ _ _ _ _ _ _ _ (k1_off3_eq _) (.inr (show (0 : ℕ) ≠ 2 by decide)), cell_miss _ _ _ _ _ _ _ _ _ _ _ (k1_off2_eq _) (.inr (show (0 : ℕ) ≠ 1 by decide))]
        exact cell_hit _ _ b u _ _ _ _ _ _ _ (k1_off1_eq _) rfl rfl
      · rw [cell_miss _ _ _ _ _ _ _ _ _ _ _ (k1_off7_eq _) (.inr (show (1 : ℕ) ≠ 6 by decide)), cell_miss _ _ _ _ _ _ _ _ _ _ _ (k1_off6_eq _) (.inr (show (1 : ℕ) ≠ 5 by decide)), cell_miss _ _ _ _ _ _ _ _ _ _ _ (k1_off5_eq _) (.inr (show (1 : ℕ) ≠ 4 by decide)), cell_miss _ _ _ _ _ _ _ _ _ _ _ (k1_off4_eq _) (.inr (show (1 : ℕ) ≠ 3 by decide)), cell_miss _ _ _ _ _ _ _ _ _ _ _ (k1_off3_eq _) (.inr (show (1 : ℕ) ≠ 2 by decide))]
        exact cell_hit _ _ b u _ _ _ _ _ _ _ (k1_off2_eq _) rfl rfl
      · rw [cell_miss _ _ _ _ _ _ _ _ _ _ _ (k1_off7_eq _) (.inr (show (2 : ℕ) ≠ 6 by decide)), cell_miss _ _ _ _ _ _ _ _ _ _ _ (k1_off6_eq _) (.inr (show (2 : ℕ) ≠ 5 by decide)), cell_miss _ _ _ _ _ _ _ _ _ _ _ (k1_off5_eq _) (.inr (show (2 : ℕ) ≠ 4 by decide)), cell_miss _ _ _ _ _ _ _ _ _ _ _ (k1_off4_eq _) (.inr (show (2 : ℕ) ≠ 3 by decide))]
        exact cell_hit _ _ b u _ _ _ _ _ _ _ (k1_off3_eq _) rfl rfl
      · rw [cell_miss _ _ _ _ _ _ _ _ _ _ _ (k1_off7_eq _) (.inr (show (3 : ℕ) ≠ 6 by decide)), cell_miss _ _ _ _ _ _ _ _ _ _ _ (k1_off6_eq _) (.inr (show (3 : ℕ) ≠ 5 by decide)), cell_miss _ _ _ _ _ _ _ _ _ _ _ (k1_off5_eq _) (.inr (show (3 : ℕ) ≠ 4 by decide))]
        exact cell_hit _ _ b u _ _ _ _ _ _ _ (k1_off4_eq _) rfl rfl
      · rw [cell_miss _ _ _ _ _ _ _ _ _ _ _ (k1_off7_eq _) (.inr (show (4 : ℕ) ≠ 6 by decide)), cell_miss _ _ _ _ _ _ _ _ _ _ _ (k1_off6_eq _) (.inr (show (4 : ℕ) ≠ 5 by decide))]
        exact cell_hit _ _ b u _ _ _ _ _ _ _ (k1_off5_eq _) rfl rfl
      · rw [cell_miss _ _ _ _ _ _ _ _ _ _ _ (k1_off7_eq _) (.inr (show (5 : ℕ) ≠ 6 by decide))]
        exact cell_hit _ _ b u _ _ _ _ _ _ _ (k1_off6_eq _) rfl rfl
      · exact cell_hit _ _ b u _ _ _ _ _ _ _ (k1_off7_eq _) rfl rfl
    · rw [cell_miss _ _ _ _ _ _ _ _ _ _ _ (k1_off7_eq _) (.inl hut), cell_miss _ _ _ _ _ _ _ _ _ _ _ (k1_off6_eq _) (.inl hut), cell_miss _ _ _ _ _ _ _ _ _ _ _ (k1_off5_eq _) (.inl hut), cell_miss _ _ _ _ _ _ _ _ _ _ _ (k1_off4_eq _) (.inl hut), cell_miss _ _ _ _ _ _ _ _ _ _ _ (k1_off3_eq _) (.inl hut), cell_miss _ _ _ _ _ _ _ _ _ _ _ (k1_off2_eq _) (.inl hut), cell_miss _ _ _ _ _ _ _ _ _ _ _ (k1_off1_eq _) (.inl hut)]
      exact ih (by omega) (by omega)

/-- After `t` rounds the score block's rows below `t` hold what the rounds wrote, whatever it held before. -/
theorem nSt_score (f : BufTy.Contents (Elt F) arg3.view.ty) (t : ℕ) (ht : t ≤ 512) (b : Fin 4) (u : Fin 512) (hu : u.val < t) :
    arg3.view.read (Elt F) (arg3.view.writes (Elt F) f (nSt x0 x1 c arg0 harg0 arg1 harg1 arg2 harg2 arg3 harg3 t).2.2) (ix3 b u 0)
      = nScore x0 x1 u.val (ix3 b 0 0) := by
  induction t with
  | zero => omega
  | succ t ih =>
    have h := st_k1_t1_succ (F := F) Variants.none c none arg0 harg0 arg1 harg1 arg2 harg2 arg3 harg3
      (nS x1) (nA7 x0) (nA8 x0) (nA9 x0) (nA10 x0) (nA11 x0) (nA0 x0) (nA1 x0) (nA2 x0) (nA3 x0) (nA4 x0) (nA5 x0) (nA6 x0)
      nI nNeg nOne nZero (k1_pay1 (F := F)) ⟨t, by rw [trips_eq]; omega⟩
    rw [nSt, h]
    dsimp only [tripL_k1_t1]
    rw [trip_score, nSt_sup x0 x1 c arg0 harg0 arg1 harg1 arg2 harg2 arg3 harg3 t (by omega)]
    simp only [List.cons_append, List.nil_append]
    by_cases hut : u.val = t
    · subst hut
      exact cell_hit _ _ _ _ _ _ _ _ _ _ _ (k1_off1_eq _) rfl rfl
    · rw [cell_miss _ _ _ _ _ _ _ _ _ _ _ (k1_off1_eq _) (.inl hut)]
      exact ih (by omega) (by omega)

set_option maxHeartbeats 4000000 in
/-- The suppression kernel on whole blocks: the inputs' at `x0` and `x1`, the outputs' at anything. It ends with the
    inputs' as they were and the outputs' holding the rounds' rows. -/
theorem nms_triple (E : Set ℕ) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ (∃ d, ⌜BoxRows x0 x1 d⌝ ∗ owns (c : Thread nD τ) arg2 fullShare d) ∗ (∃ d, ⌜ScoreRows x0 x1 d⌝ ∗ owns (c : Thread nD τ) arg3 fullShare d)) -∗ K ⟨⟩))
      ⊢ wp frame (wpE (defs₀ (F := F)) Variants.none c none) E (cc1__nms_kernel arg0 harg0 arg1 harg1 arg2 harg2 arg3 harg3) K := by
  simp only [cc1__nms_kernel_eq_skeleton]; unfold cc1__nms_kernel_skel
  simp only [k1_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr; swap
    · iexists _; isplitr; swap; · iexact H2
      ipureintro; rfl
    ipureintro
    intro b t ch
    exact nSt_box _ _ c arg0 harg0 arg1 harg1 arg2 harg2 arg3 harg3 f2 512 (Nat.le_refl _) b t t.isLt ch
  iexists _; isplitr; swap
  · iexists _; isplitr; swap; · iexact H3
    ipureintro; rfl
  ipureintro
  intro b t
  exact nSt_score _ _ c arg0 harg0 arg1 harg1 arg2 harg2 arg3 harg3 f3 512 (Nat.le_refl _) b t t.isLt

end Vals

end Cert.KernelIdeal.Hand

end
-- ==== Proof.KDec.lean ====
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The decode launch -/

/-- A slab the decode kernel reads or writes. -/
abbrev r0_0 : Rect S76x8x2048 := Rect.unit (s := S76x8x2048) ![0, 0, 0] S1x8x2048.size inb_S76x8x2048_S1x8x2048_0_0_0
@[inherit_doc r0_0] abbrev r0_1 : Rect S76x8x2048 := Rect.unit (s := S76x8x2048) ![1, 0, 0] S1x8x2048.size inb_S76x8x2048_S1x8x2048_1_0_0
@[inherit_doc r0_0] abbrev r0_2 : Rect S76x8x2048 := Rect.unit (s := S76x8x2048) ![2, 0, 0] S1x8x2048.size inb_S76x8x2048_S1x8x2048_2_0_0
@[inherit_doc r0_0] abbrev r0_3 : Rect S76x8x2048 := Rect.unit (s := S76x8x2048) ![3, 0, 0] S1x8x2048.size inb_S76x8x2048_S1x8x2048_3_0_0
@[inherit_doc r0_0] abbrev r0_4 : Rect S76x8x2048 := Rect.unit (s := S76x8x2048) ![4, 0, 0] S1x8x2048.size inb_S76x8x2048_S1x8x2048_4_0_0
@[inherit_doc r0_0] abbrev r0_5 : Rect S76x8x2048 := Rect.unit (s := S76x8x2048) ![5, 0, 0] S1x8x2048.size inb_S76x8x2048_S1x8x2048_5_0_0
@[inherit_doc r0_0] abbrev r0_6 : Rect S76x8x2048 := Rect.unit (s := S76x8x2048) ![6, 0, 0] S1x8x2048.size inb_S76x8x2048_S1x8x2048_6_0_0
@[inherit_doc r0_0] abbrev r0_7 : Rect S76x8x2048 := Rect.unit (s := S76x8x2048) ![7, 0, 0] S1x8x2048.size inb_S76x8x2048_S1x8x2048_7_0_0
@[inherit_doc r0_0] abbrev r0_8 : Rect S76x8x2048 := Rect.unit (s := S76x8x2048) ![8, 0, 0] S1x8x2048.size inb_S76x8x2048_S1x8x2048_8_0_0
@[inherit_doc r0_0] abbrev r0_9 : Rect S76x8x2048 := Rect.unit (s := S76x8x2048) ![9, 0, 0] S1x8x2048.size inb_S76x8x2048_S1x8x2048_9_0_0
@[inherit_doc r0_0] abbrev r0_10 : Rect S76x8x2048 := Rect.unit (s := S76x8x2048) ![10, 0, 0] S1x8x2048.size inb_S76x8x2048_S1x8x2048_10_0_0
@[inherit_doc r0_0] abbrev r0_11 : Rect S76x8x2048 := Rect.unit (s := S76x8x2048) ![11, 0, 0] S1x8x2048.size inb_S76x8x2048_S1x8x2048_11_0_0
@[inherit_doc r0_0] abbrev r0_12 : Rect S76x8x2048 := Rect.unit (s := S76x8x2048) ![12, 0, 0] S1x8x2048.size inb_S76x8x2048_S1x8x2048_12_0_0
@[inherit_doc r0_0] abbrev r0_13 : Rect S76x8x2048 := Rect.unit (s := S76x8x2048) ![13, 0, 0] S1x8x2048.size inb_S76x8x2048_S1x8x2048_13_0_0
@[inherit_doc r0_0] abbrev r0_14 : Rect S76x8x2048 := Rect.unit (s := S76x8x2048) ![14, 0, 0] S1x8x2048.size inb_S76x8x2048_S1x8x2048_14_0_0
@[inherit_doc r0_0] abbrev r0_15 : Rect S76x8x2048 := Rect.unit (s := S76x8x2048) ![15, 0, 0] S1x8x2048.size inb_S76x8x2048_S1x8x2048_15_0_0
@[inherit_doc r0_0] abbrev r0_16 : Rect S76x8x2048 := Rect.unit (s := S76x8x2048) ![16, 0, 0] S1x8x2048.size inb_S76x8x2048_S1x8x2048_16_0_0
@[inherit_doc r0_0] abbrev r0_17 : Rect S76x8x2048 := Rect.unit (s := S76x8x2048) ![17, 0, 0] S1x8x2048.size inb_S76x8x2048_S1x8x2048_17_0_0
@[inherit_doc r0_0] abbrev r0_18 : Rect S76x8x2048 := Rect.unit (s := S76x8x2048) ![18, 0, 0] S1x8x2048.size inb_S76x8x2048_S1x8x2048_18_0_0
@[inherit_doc r0_0] abbrev r0_19 : Rect S76x8x2048 := Rect.unit (s := S76x8x2048) ![19, 0, 0] S1x8x2048.size inb_S76x8x2048_S1x8x2048_19_0_0
@[inherit_doc r0_0] abbrev r0_20 : Rect S76x8x2048 := Rect.unit (s := S76x8x2048) ![20, 0, 0] S1x8x2048.size inb_S76x8x2048_S1x8x2048_20_0_0
@[inherit_doc r0_0] abbrev r0_21 : Rect S76x8x2048 := Rect.unit (s := S76x8x2048) ![21, 0, 0] S1x8x2048.size inb_S76x8x2048_S1x8x2048_21_0_0
@[inherit_doc r0_0] abbrev r0_22 : Rect S76x8x2048 := Rect.unit (s := S76x8x2048) ![22, 0, 0] S1x8x2048.size inb_S76x8x2048_S1x8x2048_22_0_0
@[inherit_doc r0_0] abbrev r0_23 : Rect S76x8x2048 := Rect.unit (s := S76x8x2048) ![23, 0, 0] S1x8x2048.size inb_S76x8x2048_S1x8x2048_23_0_0
@[inherit_doc r0_0] abbrev r0_24 : Rect S76x8x2048 := Rect.unit (s := S76x8x2048) ![24, 0, 0] S1x8x2048.size inb_S76x8x2048_S1x8x2048_24_0_0
@[inherit_doc r0_0] abbrev r0_25 : Rect S76x8x2048 := Rect.unit (s := S76x8x2048) ![25, 0, 0] S1x8x2048.size inb_S76x8x2048_S1x8x2048_25_0_0
@[inherit_doc r0_0] abbrev r0_26 : Rect S76x8x2048 := Rect.unit (s := S76x8x2048) ![26, 0, 0] S1x8x2048.size inb_S76x8x2048_S1x8x2048_26_0_0
@[inherit_doc r0_0] abbrev r0_27 : Rect S76x8x2048 := Rect.unit (s := S76x8x2048) ![27, 0, 0] S1x8x2048.size inb_S76x8x2048_S1x8x2048_27_0_0
@[inherit_doc r0_0] abbrev r0_28 : Rect S76x8x2048 := Rect.unit (s := S76x8x2048) ![28, 0, 0] S1x8x2048.size inb_S76x8x2048_S1x8x2048_28_0_0
@[inherit_doc r0_0] abbrev r0_29 : Rect S76x8x2048 := Rect.unit (s := S76x8x2048) ![29, 0, 0] S1x8x2048.size inb_S76x8x2048_S1x8x2048_29_0_0
@[inherit_doc r0_0] abbrev r0_30 : Rect S76x8x2048 := Rect.unit (s := S76x8x2048) ![30, 0, 0] S1x8x2048.size inb_S76x8x2048_S1x8x2048_30_0_0
@[inherit_doc r0_0] abbrev r0_31 : Rect S76x8x2048 := Rect.unit (s := S76x8x2048) ![31, 0, 0] S1x8x2048.size inb_S76x8x2048_S1x8x2048_31_0_0
@[inherit_doc r0_0] abbrev r0_32 : Rect S76x8x2048 := Rect.unit (s := S76x8x2048) ![32, 0, 0] S1x8x2048.size inb_S76x8x2048_S1x8x2048_32_0_0
@[inherit_doc r0_0] abbrev r0_33 : Rect S76x8x2048 := Rect.unit (s := S76x8x2048) ![33, 0, 0] S1x8x2048.size inb_S76x8x2048_S1x8x2048_33_0_0
@[inherit_doc r0_0] abbrev r0_34 : Rect S76x8x2048 := Rect.unit (s := S76x8x2048) ![34, 0, 0] S1x8x2048.size inb_S76x8x2048_S1x8x2048_34_0_0
@[inherit_doc r0_0] abbrev r0_35 : Rect S76x8x2048 := Rect.unit (s := S76x8x2048) ![35, 0, 0] S1x8x2048.size inb_S76x8x2048_S1x8x2048_35_0_0
@[inherit_doc r0_0] abbrev r0_36 : Rect S76x8x2048 := Rect.unit (s := S76x8x2048) ![36, 0, 0] S1x8x2048.size inb_S76x8x2048_S1x8x2048_36_0_0
@[inherit_doc r0_0] abbrev r0_37 : Rect S76x8x2048 := Rect.unit (s := S76x8x2048) ![37, 0, 0] S1x8x2048.size inb_S76x8x2048_S1x8x2048_37_0_0
@[inherit_doc r0_0] abbrev r0_38 : Rect S76x8x2048 := Rect.unit (s := S76x8x2048) ![38, 0, 0] S1x8x2048.size inb_S76x8x2048_S1x8x2048_38_0_0
@[inherit_doc r0_0] abbrev r0_39 : Rect S76x8x2048 := Rect.unit (s := S76x8x2048) ![39, 0, 0] S1x8x2048.size inb_S76x8x2048_S1x8x2048_39_0_0
@[inherit_doc r0_0] abbrev r0_40 : Rect S76x8x2048 := Rect.unit (s := S76x8x2048) ![40, 0, 0] S1x8x2048.size inb_S76x8x2048_S1x8x2048_40_0_0
@[inherit_doc r0_0] abbrev r0_41 : Rect S76x8x2048 := Rect.unit (s := S76x8x2048) ![41, 0, 0] S1x8x2048.size inb_S76x8x2048_S1x8x2048_41_0_0
@[inherit_doc r0_0] abbrev r0_42 : Rect S76x8x2048 := Rect.unit (s := S76x8x2048) ![42, 0, 0] S1x8x2048.size inb_S76x8x2048_S1x8x2048_42_0_0
@[inherit_doc r0_0] abbrev r0_43 : Rect S76x8x2048 := Rect.unit (s := S76x8x2048) ![43, 0, 0] S1x8x2048.size inb_S76x8x2048_S1x8x2048_43_0_0
@[inherit_doc r0_0] abbrev r0_44 : Rect S76x8x2048 := Rect.unit (s := S76x8x2048) ![44, 0, 0] S1x8x2048.size inb_S76x8x2048_S1x8x2048_44_0_0
@[inherit_doc r0_0] abbrev r0_45 : Rect S76x8x2048 := Rect.unit (s := S76x8x2048) ![45, 0, 0] S1x8x2048.size inb_S76x8x2048_S1x8x2048_45_0_0
@[inherit_doc r0_0] abbrev r0_46 : Rect S76x8x2048 := Rect.unit (s := S76x8x2048) ![46, 0, 0] S1x8x2048.size inb_S76x8x2048_S1x8x2048_46_0_0
@[inherit_doc r0_0] abbrev r0_47 : Rect S76x8x2048 := Rect.unit (s := S76x8x2048) ![47, 0, 0] S1x8x2048.size inb_S76x8x2048_S1x8x2048_47_0_0
@[inherit_doc r0_0] abbrev r0_48 : Rect S3x8x2048 := Rect.unit (s := S3x8x2048) ![0, 0, 0] S1x8x2048.size inb_S3x8x2048_S1x8x2048_0_0_0
@[inherit_doc r0_0] abbrev r0_49 : Rect S3x8x2048 := Rect.unit (s := S3x8x2048) ![2, 0, 0] S1x8x2048.size inb_S3x8x2048_S1x8x2048_2_0_0
@[inherit_doc r0_0] abbrev r0_50 : Rect S3x8x2048 := Rect.unit (s := S3x8x2048) ![1, 0, 0] S1x8x2048.size inb_S3x8x2048_S1x8x2048_1_0_0
@[inherit_doc r0_0] abbrev r0_51 : Rect S76x8x2048 := Rect.unit (s := S76x8x2048) ![48, 0, 0] S1x8x2048.size inb_S76x8x2048_S1x8x2048_48_0_0
@[inherit_doc r0_0] abbrev r0_52 : Rect S76x8x2048 := Rect.unit (s := S76x8x2048) ![49, 0, 0] S1x8x2048.size inb_S76x8x2048_S1x8x2048_49_0_0
@[inherit_doc r0_0] abbrev r0_53 : Rect S76x8x2048 := Rect.unit (s := S76x8x2048) ![50, 0, 0] S1x8x2048.size inb_S76x8x2048_S1x8x2048_50_0_0
@[inherit_doc r0_0] abbrev r0_54 : Rect S76x8x2048 := Rect.unit (s := S76x8x2048) ![51, 0, 0] S1x8x2048.size inb_S76x8x2048_S1x8x2048_51_0_0
@[inherit_doc r0_0] abbrev r0_55 : Rect S76x8x2048 := Rect.unit (s := S76x8x2048) ![52, 0, 0] S1x8x2048.size inb_S76x8x2048_S1x8x2048_52_0_0
@[inherit_doc r0_0] abbrev r0_56 : Rect S76x8x2048 := Rect.unit (s := S76x8x2048) ![53, 0, 0] S1x8x2048.size inb_S76x8x2048_S1x8x2048_53_0_0
@[inherit_doc r0_0] abbrev r0_57 : Rect S76x8x2048 := Rect.unit (s := S76x8x2048) ![54, 0, 0] S1x8x2048.size inb_S76x8x2048_S1x8x2048_54_0_0
@[inherit_doc r0_0] abbrev r0_58 : Rect S76x8x2048 := Rect.unit (s := S76x8x2048) ![55, 0, 0] S1x8x2048.size inb_S76x8x2048_S1x8x2048_55_0_0
@[inherit_doc r0_0] abbrev r0_59 : Rect S76x8x2048 := Rect.unit (s := S76x8x2048) ![56, 0, 0] S1x8x2048.size inb_S76x8x2048_S1x8x2048_56_0_0
@[inherit_doc r0_0] abbrev r0_60 : Rect S76x8x2048 := Rect.unit (s := S76x8x2048) ![57, 0, 0] S1x8x2048.size inb_S76x8x2048_S1x8x2048_57_0_0
@[inherit_doc r0_0] abbrev r0_61 : Rect S76x8x2048 := Rect.unit (s := S76x8x2048) ![58, 0, 0] S1x8x2048.size inb_S76x8x2048_S1x8x2048_58_0_0
@[inherit_doc r0_0] abbrev r0_62 : Rect S76x8x2048 := Rect.unit (s := S76x8x2048) ![59, 0, 0] S1x8x2048.size inb_S76x8x2048_S1x8x2048_59_0_0
@[inherit_doc r0_0] abbrev r0_63 : Rect S76x8x2048 := Rect.unit (s := S76x8x2048) ![60, 0, 0] S1x8x2048.size inb_S76x8x2048_S1x8x2048_60_0_0
@[inherit_doc r0_0] abbrev r0_64 : Rect S76x8x2048 := Rect.unit (s := S76x8x2048) ![61, 0, 0] S1x8x2048.size inb_S76x8x2048_S1x8x2048_61_0_0
@[inherit_doc r0_0] abbrev r0_65 : Rect S76x8x2048 := Rect.unit (s := S76x8x2048) ![62, 0, 0] S1x8x2048.size inb_S76x8x2048_S1x8x2048_62_0_0
@[inherit_doc r0_0] abbrev r0_66 : Rect S76x8x2048 := Rect.unit (s := S76x8x2048) ![63, 0, 0] S1x8x2048.size inb_S76x8x2048_S1x8x2048_63_0_0
@[inherit_doc r0_0] abbrev r0_67 : Rect S76x8x2048 := Rect.unit (s := S76x8x2048) ![64, 0, 0] S1x8x2048.size inb_S76x8x2048_S1x8x2048_64_0_0
@[inherit_doc r0_0] abbrev r0_68 : Rect S76x8x2048 := Rect.unit (s := S76x8x2048) ![65, 0, 0] S1x8x2048.size inb_S76x8x2048_S1x8x2048_65_0_0
@[inherit_doc r0_0] abbrev r0_69 : Rect S76x8x2048 := Rect.unit (s := S76x8x2048) ![66, 0, 0] S1x8x2048.size inb_S76x8x2048_S1x8x2048_66_0_0
@[inherit_doc r0_0] abbrev r0_70 : Rect S76x8x2048 := Rect.unit (s := S76x8x2048) ![67, 0, 0] S1x8x2048.size inb_S76x8x2048_S1x8x2048_67_0_0
@[inherit_doc r0_0] abbrev r0_71 : Rect S76x8x2048 := Rect.unit (s := S76x8x2048) ![68, 0, 0] S1x8x2048.size inb_S76x8x2048_S1x8x2048_68_0_0
@[inherit_doc r0_0] abbrev r0_72 : Rect S76x8x2048 := Rect.unit (s := S76x8x2048) ![69, 0, 0] S1x8x2048.size inb_S76x8x2048_S1x8x2048_69_0_0
@[inherit_doc r0_0] abbrev r0_73 : Rect S76x8x2048 := Rect.unit (s := S76x8x2048) ![70, 0, 0] S1x8x2048.size inb_S76x8x2048_S1x8x2048_70_0_0
@[inherit_doc r0_0] abbrev r0_74 : Rect S76x8x2048 := Rect.unit (s := S76x8x2048) ![71, 0, 0] S1x8x2048.size inb_S76x8x2048_S1x8x2048_71_0_0
@[inherit_doc r0_0] abbrev r0_75 : Rect S76x8x2048 := Rect.unit (s := S76x8x2048) ![72, 0, 0] S1x8x2048.size inb_S76x8x2048_S1x8x2048_72_0_0
@[inherit_doc r0_0] abbrev r0_76 : Rect S76x8x2048 := Rect.unit (s := S76x8x2048) ![73, 0, 0] S1x8x2048.size inb_S76x8x2048_S1x8x2048_73_0_0
@[inherit_doc r0_0] abbrev r0_77 : Rect S76x8x2048 := Rect.unit (s := S76x8x2048) ![74, 0, 0] S1x8x2048.size inb_S76x8x2048_S1x8x2048_74_0_0
@[inherit_doc r0_0] abbrev r0_78 : Rect S76x8x2048 := Rect.unit (s := S76x8x2048) ![75, 0, 0] S1x8x2048.size inb_S76x8x2048_S1x8x2048_75_0_0
@[inherit_doc r0_0] abbrev r0_79 : Rect S12x8x2048 := Rect.unit (s := S12x8x2048) ![0, 0, 0] S1x8x2048.size inb_S12x8x2048_S1x8x2048_0_0_0
@[inherit_doc r0_0] abbrev r0_80 : Rect S12x8x2048 := Rect.unit (s := S12x8x2048) ![1, 0, 0] S1x8x2048.size inb_S12x8x2048_S1x8x2048_1_0_0
@[inherit_doc r0_0] abbrev r0_81 : Rect S12x8x2048 := Rect.unit (s := S12x8x2048) ![2, 0, 0] S1x8x2048.size inb_S12x8x2048_S1x8x2048_2_0_0
@[inherit_doc r0_0] abbrev r0_82 : Rect S12x8x2048 := Rect.unit (s := S12x8x2048) ![3, 0, 0] S1x8x2048.size inb_S12x8x2048_S1x8x2048_3_0_0
@[inherit_doc r0_0] abbrev r0_83 : Rect S12x8x2048 := Rect.unit (s := S12x8x2048) ![4, 0, 0] S1x8x2048.size inb_S12x8x2048_S1x8x2048_4_0_0
@[inherit_doc r0_0] abbrev r0_84 : Rect S12x8x2048 := Rect.unit (s := S12x8x2048) ![5, 0, 0] S1x8x2048.size inb_S12x8x2048_S1x8x2048_5_0_0
@[inherit_doc r0_0] abbrev r0_85 : Rect S12x8x2048 := Rect.unit (s := S12x8x2048) ![6, 0, 0] S1x8x2048.size inb_S12x8x2048_S1x8x2048_6_0_0
@[inherit_doc r0_0] abbrev r0_86 : Rect S12x8x2048 := Rect.unit (s := S12x8x2048) ![7, 0, 0] S1x8x2048.size inb_S12x8x2048_S1x8x2048_7_0_0
@[inherit_doc r0_0] abbrev r0_87 : Rect S12x8x2048 := Rect.unit (s := S12x8x2048) ![8, 0, 0] S1x8x2048.size inb_S12x8x2048_S1x8x2048_8_0_0
@[inherit_doc r0_0] abbrev r0_88 : Rect S12x8x2048 := Rect.unit (s := S12x8x2048) ![9, 0, 0] S1x8x2048.size inb_S12x8x2048_S1x8x2048_9_0_0
@[inherit_doc r0_0] abbrev r0_89 : Rect S12x8x2048 := Rect.unit (s := S12x8x2048) ![10, 0, 0] S1x8x2048.size inb_S12x8x2048_S1x8x2048_10_0_0
@[inherit_doc r0_0] abbrev r0_90 : Rect S12x8x2048 := Rect.unit (s := S12x8x2048) ![11, 0, 0] S1x8x2048.size inb_S12x8x2048_S1x8x2048_11_0_0

/-- A value of the decode body, from its two input blocks. -/
def dv117 (x0 : Vec F S76x8x2048 .f32) (x1 : Vec F S3x8x2048 .f32) : FVec F S8x2048 .f32 :=
  k0_pay23 (k0_pay21 (View.ld x0 r0_0) (View.ld x0 r0_1) (View.ld x0 r0_2) (View.ld x0 r0_3) (View.ld x0 r0_4) (View.ld x0 r0_5)) (k0_pay22 (View.ld x0 r0_0) (View.ld x0 r0_1) (View.ld x0 r0_2) (View.ld x0 r0_3) (View.ld x0 r0_4) (View.ld x0 r0_5)) (View.ld x0 r0_6) (View.ld x0 r0_7) (View.ld x0 r0_8) (View.ld x0 r0_9) (View.ld x0 r0_10) (View.ld x0 r0_11)
/-- A value of the decode body, from its two input blocks. -/
def dv118 (x0 : Vec F S76x8x2048 .f32) (x1 : Vec F S3x8x2048 .f32) : FVec F S8x2048 .f32 :=
  k0_pay43 (k0_pay39 (View.ld x0 r0_12) (View.ld x0 r0_13) (View.ld x0 r0_14) (View.ld x0 r0_15) (View.ld x0 r0_16) (View.ld x0 r0_17)) (k0_pay40 (View.ld x0 r0_12) (View.ld x0 r0_13) (View.ld x0 r0_14) (View.ld x0 r0_15) (View.ld x0 r0_16) (View.ld x0 r0_17)) (k0_pay41 (View.ld x0 r0_18)) (k0_pay42 (View.ld x0 r0_12) (View.ld x0 r0_13) (View.ld x0 r0_14) (View.ld x0 r0_15) (View.ld x0 r0_16) (View.ld x0 r0_17) (View.ld x0 r0_18)) (View.ld x0 r0_19) (View.ld x0 r0_20) (View.ld x0 r0_21) (View.ld x0 r0_22) (View.ld x0 r0_23)
/-- A value of the decode body, from its two input blocks. -/
def dv119 (x0 : Vec F S76x8x2048 .f32) (x1 : Vec F S3x8x2048 .f32) : FVec F S8x2048 .f32 :=
  k0_pay58 (k0_pay56 (dv117 x0 x1) (k0_pay50 (dv117 x0 x1) (k0_pay48 (dv117 x0 x1) (k0_pay46 (dv117 x0 x1) (k0_pay44 (F := F)) (k0_pay45 (dv117 x0 x1)) (View.ld x0 r0_24) (View.ld x0 r0_25) (View.ld x0 r0_26) (View.ld x0 r0_27) (View.ld x0 r0_28)) (k0_pay47 (dv117 x0 x1)) (View.ld x0 r0_29) (View.ld x0 r0_30) (View.ld x0 r0_31) (View.ld x0 r0_32) (View.ld x0 r0_33)) (k0_pay49 (dv117 x0 x1)) (View.ld x0 r0_34) (View.ld x0 r0_35))) (k0_pay57 (View.ld x1 r0_48))
/-- A value of the decode body, from its two input blocks. -/
def dv120 (x0 : Vec F S76x8x2048 .f32) (x1 : Vec F S3x8x2048 .f32) : FVec F S8x2048 .f32 :=
  k0_pay59 (dv118 x0 x1) (k0_pay55 (dv118 x0 x1) (k0_pay53 (dv118 x0 x1) (k0_pay51 (dv118 x0 x1) (View.ld x0 r0_36) (View.ld x0 r0_37) (View.ld x0 r0_38)) (k0_pay52 (dv118 x0 x1)) (View.ld x0 r0_39) (View.ld x0 r0_40) (View.ld x0 r0_41) (View.ld x0 r0_42) (View.ld x0 r0_43)) (k0_pay54 (dv118 x0 x1)) (View.ld x0 r0_44) (View.ld x0 r0_45) (View.ld x0 r0_46) (View.ld x0 r0_47)) (View.ld x1 r0_49)
/-- A value of the decode body, from its two input blocks. -/
def dv121 (x0 : Vec F S76x8x2048 .f32) (x1 : Vec F S3x8x2048 .f32) : FVec F S8x2048 .f32 :=
  k0_pay67 (View.ld x0 r0_52) (View.ld x0 r0_53) (View.ld x0 r0_54)
/-- A value of the decode body, from its two input blocks. -/
def dv122 (x0 : Vec F S76x8x2048 .f32) (x1 : Vec F S3x8x2048 .f32) : FVec F S8x2048 .f32 :=
  k0_pay69 (View.ld x0 r0_55)
/-- A value of the decode body, from its two input blocks. -/
def dv123 (x0 : Vec F S76x8x2048 .f32) (x1 : Vec F S3x8x2048 .f32) : FVec F S8x2048 .f32 :=
  k0_pay86 (dv121 x0 x1) (dv122 x0 x1) (View.ld x0 r0_56) (View.ld x0 r0_57) (View.ld x0 r0_58) (View.ld x0 r0_59) (View.ld x0 r0_60)
/-- A value of the decode body, from its two input blocks. -/
def dv124 (x0 : Vec F S76x8x2048 .f32) (x1 : Vec F S3x8x2048 .f32) : FVec F S8x2048 .f32 :=
  k0_pay87 (dv121 x0 x1) (k0_pay68 (View.ld x0 r0_52) (View.ld x0 r0_53) (View.ld x0 r0_54)) (dv122 x0 x1) (View.ld x0 r0_56) (View.ld x0 r0_57) (View.ld x0 r0_58) (View.ld x0 r0_59) (View.ld x0 r0_60)
/-- A value of the decode body, from its two input blocks. -/
def dv125 (x0 : Vec F S76x8x2048 .f32) (x1 : Vec F S3x8x2048 .f32) : FVec F S8x2048 .f32 :=
  k0_pay88 (View.ld x0 r0_61)
/-- A value of the decode body, from its two input blocks. -/
def dv126 (x0 : Vec F S76x8x2048 .f32) (x1 : Vec F S3x8x2048 .f32) : FVec F S8x2048 .f32 :=
  k0_pay89 (dv123 x0 x1) (dv124 x0 x1) (dv125 x0 x1) (View.ld x0 r0_62) (View.ld x0 r0_63)
/-- A value of the decode body, from its two input blocks. -/
def dv127 (x0 : Vec F S76x8x2048 .f32) (x1 : Vec F S3x8x2048 .f32) : FVec F S8x2048 .f32 :=
  k0_pay94 (dv126 x0 x1) (k0_pay90 (dv123 x0 x1) (dv124 x0 x1) (dv125 x0 x1) (View.ld x0 r0_62) (View.ld x0 r0_63) (View.ld x0 r0_64) (View.ld x0 r0_65)) (k0_pay91 (dv123 x0 x1) (dv124 x0 x1) (dv125 x0 x1) (View.ld x0 r0_62) (View.ld x0 r0_63)) (k0_pay92 (View.ld x0 r0_66)) (k0_pay93 (F := F)) (View.ld x0 r0_67) (View.ld x0 r0_68) (View.ld x0 r0_69) (View.ld x0 r0_70)
/-- A value of the decode body, from its two input blocks. -/
def dv128 (x0 : Vec F S76x8x2048 .f32) (x1 : Vec F S3x8x2048 .f32) : IVec S8x2048 1 :=
  k0_pay95 (dv126 x0 x1)
/-- A value of the decode body, from its two input blocks. -/
def dv129 (x0 : Vec F S76x8x2048 .f32) (x1 : Vec F S3x8x2048 .f32) : FVec F S8x2048 .f32 :=
  k0_pay96 (View.ld x0 r0_71)
/-- A value of the decode body, from its two input blocks. -/
def dv130 (x0 : Vec F S76x8x2048 .f32) (x1 : Vec F S3x8x2048 .f32) : FVec F S8x2048 .f32 :=
  k0_pay97 (F := F)
/-- A value of the decode body, from its two input blocks. -/
def dv131 (x0 : Vec F S76x8x2048 .f32) (x1 : Vec F S3x8x2048 .f32) : FVec F S8x2048 .f32 :=
  k0_pay104 (dv119 x0 x1) (View.ld x0 r0_76)
/-- A value of the decode body, from its two input blocks. -/
def dv132 (x0 : Vec F S76x8x2048 .f32) (x1 : Vec F S3x8x2048 .f32) : FVec F S8x2048 .f32 :=
  k0_pay105 (dv120 x0 x1) (View.ld x0 r0_78)
/-- A value of the decode body, from its two input blocks. -/
def dv133 (x0 : Vec F S76x8x2048 .f32) (x1 : Vec F S3x8x2048 .f32) : FVec F S8x2048 .f32 :=
  k0_pay106 (dv119 x0 x1) (View.ld x0 r0_76)
/-- A value of the decode body, from its two input blocks. -/
def dv134 (x0 : Vec F S76x8x2048 .f32) (x1 : Vec F S3x8x2048 .f32) : FVec F S8x2048 .f32 :=
  k0_pay107 (View.ld x0 r0_78)

/-- What the decode body leaves in its output block: twelve slabs, last first. -/
def decOut (x0 : Vec F S76x8x2048 .f32) (x1 : Vec F S3x8x2048 .f32) : Vec F S12x8x2048 .f32 :=
  View.canon [⟨r0_90, k0_pay5 (k0_pay109 (dv120 x0 x1) (dv131 x0 x1) (dv132 x0 x1) (dv133 x0 x1) (dv134 x0 x1))⟩,
    ⟨r0_89, k0_pay4 (k0_pay108 (dv120 x0 x1) (dv134 x0 x1))⟩,
    ⟨r0_88, k0_pay3 (dv133 x0 x1)⟩,
    ⟨r0_87, k0_pay2 (dv132 x0 x1)⟩,
    ⟨r0_86, k0_pay1 (dv131 x0 x1)⟩,
    ⟨r0_85, k0_pay116 (k0_pay100 (k0_pay98 (dv126 x0 x1) (dv127 x0 x1) (dv128 x0 x1) (dv129 x0 x1) (dv130 x0 x1) (View.ld x0 r0_72) (View.ld x0 r0_73) (View.ld x0 r0_74) (View.ld x0 r0_75)) (k0_pay99 (dv126 x0 x1) (dv127 x0 x1) (dv128 x0 x1) (dv129 x0 x1) (dv130 x0 x1) (View.ld x0 r0_72) (View.ld x0 r0_73) (View.ld x0 r0_74) (View.ld x0 r0_75)))⟩,
    ⟨r0_84, k0_pay115 (k0_pay103 (View.ld x0 r0_78))⟩,
    ⟨r0_83, k0_pay114 (k0_pay102 (View.ld x0 r0_77))⟩,
    ⟨r0_82, k0_pay113 (k0_pay101 (View.ld x0 r0_76))⟩,
    ⟨r0_81, k0_pay112 (dv120 x0 x1)⟩,
    ⟨r0_80, k0_pay111 (k0_pay60 (View.ld x1 r0_50) (View.ld x0 r0_51))⟩,
    ⟨r0_79, k0_pay110 (dv119 x0 x1)⟩]

/-- The twelve slabs cover the block. -/
theorem decCover (p0 : Vec F S1x8x2048 .f32) (p1 : Vec F S1x8x2048 .f32) (p2 : Vec F S1x8x2048 .f32) (p3 : Vec F S1x8x2048 .f32) (p4 : Vec F S1x8x2048 .f32) (p5 : Vec F S1x8x2048 .f32) (p6 : Vec F S1x8x2048 .f32) (p7 : Vec F S1x8x2048 .f32) (p8 : Vec F S1x8x2048 .f32) (p9 : Vec F S1x8x2048 .f32) (p10 : Vec F S1x8x2048 .f32) (p11 : Vec F S1x8x2048 .f32) (y : S12x8x2048.Idx) :
    ∃ pc ∈ ([⟨r0_90, p0⟩, ⟨r0_89, p1⟩, ⟨r0_88, p2⟩, ⟨r0_87, p3⟩, ⟨r0_86, p4⟩, ⟨r0_85, p5⟩, ⟨r0_84, p6⟩, ⟨r0_83, p7⟩, ⟨r0_82, p8⟩, ⟨r0_81, p9⟩, ⟨r0_80, p10⟩, ⟨r0_79, p11⟩] : List (View.Piece (Elt F) S12x8x2048 .f32)), y ∈ pc.1.set :=
  View.cover_of_tiled [⟨r0_90, p0⟩, ⟨r0_89, p1⟩, ⟨r0_88, p2⟩, ⟨r0_87, p3⟩, ⟨r0_86, p4⟩, ⟨r0_85, p5⟩, ⟨r0_84, p6⟩, ⟨r0_83, p7⟩, ⟨r0_82, p8⟩, ⟨r0_81, p9⟩, ⟨r0_80, p10⟩, ⟨r0_79, p11⟩] S1x8x2048.size (by rfl) y

set_option maxHeartbeats 4000000 in
/-- The decode kernel on whole blocks: it leaves its inputs as they were and its output at `decOut` of them. -/
theorem dec_triple (c : Dev nD) (E : Set ℕ) (i : grid0.Coords) (arg1 : Memref sig .tc .vmem S76x8x2048 .f32) (harg1 : arg1.IsWhole) (arg2 : Memref sig .tc .vmem S3x8x2048 .f32) (harg2 : arg2.IsWhole) (arg3 : Memref sig .tc .vmem S12x8x2048 .f32) (harg3 : arg3.IsWhole)
    (x0 : Vec F S76x8x2048 .f32) (x1 : Vec F S3x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (decOut x0 x1)) -∗ K ⟨⟩))
      ⊢ wp frame (wpE (defs₀ (F := F)) Variants.none c none) E (cc0__decode_kernel i arg1 harg1 arg2 harg2 arg3 harg3) K := by
  simp only [cc0__decode_kernel_eq_skeleton]; unfold cc0__decode_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (decCover _ _ _ _ _ _ _ _ _ _ _ _)).trans ?_
  rfl

end Cert.KernelIdeal.Hand

end
-- ==== Proof.KRun.lean ====
module

public import proofs.«01_k».proof.Proof.KNms
public import proofs.«01_k».proof.Proof.KDec
public import proofs.«01_k».proof.Proof.Gen.KernelIdeal.Regions
public import proofs.«01_k».proof.Proof.Gen.KernelIdeal.Points
public import Idealize.ShloMosaic.Lib.Pipeline.FrameBody
public import Idealize.ShloMosaic.Lib.Pipeline.FrameTail
public import Idealize.ShloMosaic.Lib.Pipeline.RegionsOwned
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The decoding launch -/

/-- Window `w`'s block at point `t`, read off the array the decoding launch is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The decoding launch's data: inputs as fetched, the output at the twelve decoded slabs. -/
def dat0 (c : Dev nD) : Dat τ (Elt F) Unit ℕ (UR sig nD τ) ℕ cfg0 c where
  A w := V1 m c (Pipeline.arrRef spec0 w)
  after w t := match w with
    | ⟨0, _⟩ => iblk0 m c 0 t
    | ⟨1, _⟩ => iblk0 m c 1 t
    | ⟨2, _⟩ => decOut (iblk0 m c 0 t) (iblk0 m c 1 t)
  Φ _ := Pipeline.ΦA spec0 c
  q _ := fullShare
  owed _ := 0

/-- The first launch's arrays start as the host left them. -/
theorem dat0_A (c : Dev nD) (w : Fin cfg0.W) : (dat0 m c).A w = V1 m c (Pipeline.arrRef spec0 w) := by dsimp only [dat0]
/-- The block of channels is kept by its step. -/
theorem dat0_after0 (c : Dev nD) (t : Fin cfg0.N) : (dat0 m c).after 0 t = iblk0 m c 0 t := by dsimp only [dat0]
/-- The block of points is kept by its step. -/
theorem dat0_after1 (c : Dev nD) (t : Fin cfg0.N) : (dat0 m c).after 1 t = iblk0 m c 1 t := by dsimp only [dat0]
/-- A step's third block is the decoding of its first two. -/
theorem dat0_after2 (c : Dev nD) (t : Fin cfg0.N) : (dat0 m c).after 2 t = decOut (iblk0 m c 0 t) (iblk0 m c 1 t) := by dsimp only [dat0]

/-- The first input's buffer holds its block when the body runs. -/
theorem dat0_before0 (c : Dev nD) (t : Fin cfg0.N) (d) : (dat0 m c).before 0 t d = iblk0 m c 0 t :=
  ((dat0 m c).before_in_eq_fetched 0 rfl (fun _ => rfl) (fun _ _ _ => rfl) (fun t => by rw [dat0_after0]; unfold Dat.blockOf iblk0; rw [dat0_A]; try rfl) t d).trans
    (by unfold Dat.fetched Dat.blockOf iblk0; rw [dat0_A]; try rfl)
/-- So does the second's. -/
theorem dat0_before1 (c : Dev nD) (t : Fin cfg0.N) (d) : (dat0 m c).before 1 t d = iblk0 m c 1 t :=
  ((dat0 m c).before_in_eq_fetched 1 rfl (fun _ => rfl) (fun _ _ _ => rfl) (fun t => by rw [dat0_after1]; unfold Dat.blockOf iblk0; rw [dat0_A]; try rfl) t d).trans
    (by unfold Dat.fetched Dat.blockOf iblk0; rw [dat0_A]; try rfl)

/-- The decoding body at a point, between the buffers as handed over and as left. -/
theorem dec_point (c : Dev nD) (t : Fin cfg0.N) :
    iprop((dat0 m c).Φ t.castSucc ∗ (dat0 m c).owesAt () t.castSucc
      ∗ (∃ d, owns (c : Thread nD τ) (st0_0 t) fullShare ((dat0 m c).before 0 t d))
      ∗ (∃ d, owns (c : Thread nD τ) (st0_1 t) fullShare ((dat0 m c).before 1 t d))
      ∗ (∃ d, owns (c : Thread nD τ) (st0_2 t) fullShare ((dat0 m c).before 2 t d)))
    ⊢ wp frame (wpE (defs₀ (F := F)) Variants.none c none) Set.univ (bodyAt0 t) (fun _ =>
      iprop((dat0 m c).Φ t.succ ∗ (dat0 m c).owesAt () t.succ
        ∗ owns (c : Thread nD τ) (st0_0 t) fullShare ((dat0 m c).after 0 t)
        ∗ owns (c : Thread nD τ) (st0_1 t) fullShare ((dat0 m c).after 1 t)
        ∗ owns (c : Thread nD τ) (st0_2 t) fullShare ((dat0 m c).after 2 t))) := by
  unfold bodyAt0
  simp only [dat0_before0, dat0_before1]
  rw [show (dat0 m c).Φ t.succ = (dat0 m c).Φ t.castSucc from rfl,
    show (dat0 m c).owesAt () t.succ = (dat0 m c).owesAt () t.castSucc from rfl,
    dat0_after0, dat0_after1, dat0_after2]
  iintro ⟨HΦ, Ho, ⟨%d0, H0⟩, ⟨%d1, H1⟩, ⟨%d2, H2⟩⟩
  iapply (dec_triple c Set.univ (grid0.coords t) _ _ _ _ _ _ (iblk0 m c 0 t) (iblk0 m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row for the decoding launch is the body. -/
theorem row0 (t : Fin cfg0.N) : defs₀ (F := F) .tc cfg0.body (cfg0.bodyArgs t (cfg0.slots t)) = bodyAt0 t := by
  unfold defs₀; rw [Defs.onTc_tc]

/-- The decoding launch's body keeps its data at every point. -/
theorem dec_body (c : Dev nD) : BodyObligation (dat0 m c) (defs₀ (F := F)) Variants.none () Set.univ := fun t => by
  rw [bigSep_W0, bigSep_W0, row0]
  exact triple_restated (dec_point m c t) rfl .rfl fun _ => .rfl

/-- What the decoding launch leaves in the buffer of decoded boxes, as a value for each buffer it may change. -/
def o0 : Outs (F := F) := fun _ r c => Function.update (fun b : Ref sig .tc => (V1 m c b : Buf (Elt F) ((c : Thread nD τ).loc b))) main_v6 ((dat0 m c).arrAt 2 cfg0.N) r

/-- At every step count the decoded features are those at the end of the first launch. -/
theorem o0_at (c : Dev nD) (n : ℕ) : o0 m n main_v6 c = (dat0 m c).arrAt 2 cfg0.N := by
  unfold o0; rw [Function.update_self]

/-! ## The suppression launch -/

/-- Window `w`'s block, read off the array the suppression launch is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V3 m (o0 m) c (Pipeline.arrRef spec1 w))

/-- The suppression launch's data: inputs as fetched, the outputs at any contents with the rounds' rows. -/
def rdat1 (c : Dev nD) : RDat τ (Elt F) Unit ℕ (UR sig nD τ) ℕ cfg1 c where
  A w := V3 m (o0 m) c (Pipeline.arrRef spec1 w)
  after w t := match w with
    | ⟨0, _⟩ => fun _ X => X = iblk1 m c 0 t
    | ⟨1, _⟩ => fun _ X => X = iblk1 m c 1 t
    | ⟨2, _⟩ => fun _ X => BoxRows (iblk1 m c 0 t) (iblk1 m c 1 t) X
    | ⟨3, _⟩ => fun _ X => ScoreRows (iblk1 m c 0 t) (iblk1 m c 1 t) X
  Φ _ := Pipeline.ΦA spec1 c
  q _ := fullShare
  owed _ := 0

/-- The second launch's arrays start as the host left them after the first launch. -/
theorem rdat1_A (c : Dev nD) (w : Fin cfg1.W) : (rdat1 m c).A w = V3 m (o0 m) c (Pipeline.arrRef spec1 w) := by dsimp only [rdat1]

/-- An input's buffer holds its block when the body runs. -/
theorem rdat1_finds0 (c : Dev nD) (t : Fin cfg1.N) (Y) (h : (rdat1 m c).Finds 0 t Y) : Y = iblk1 m c 0 t := by
  obtain ⟨d, rfl⟩ := ((rdat1 m c).finds_of_fetch (fetch1_0 t) Y).mp h
  unfold RDat.fetched RDat.blockOf iblk1; rw [rdat1_A]; rfl
/-- What a step of the second launch finds in its second block is that block of the scores. -/
theorem rdat1_finds1 (c : Dev nD) (t : Fin cfg1.N) (Y) (h : (rdat1 m c).Finds 1 t Y) : Y = iblk1 m c 1 t := by
  obtain ⟨d, rfl⟩ := ((rdat1 m c).finds_of_fetch (fetch1_1 t) Y).mp h
  unfold RDat.fetched RDat.blockOf iblk1; rw [rdat1_A]; rfl

/-- The suppression body, between the buffers as handed over and as left. -/
theorem nms_point (c : Dev nD) (t : Fin cfg1.N) (Y2 Y3) :
    iprop((rdat1 m c).Φ t.castSucc ∗ (rdat1 m c).owesAt () t.castSucc
      ∗ owns (c : Thread nD τ) (st1_0 t) fullShare (iblk1 m c 0 t)
      ∗ owns (c : Thread nD τ) (st1_1 t) fullShare (iblk1 m c 1 t)
      ∗ owns (c : Thread nD τ) (st1_2 t) fullShare Y2
      ∗ owns (c : Thread nD τ) (st1_3 t) fullShare Y3)
    ⊢ wp frame (wpE (defs₀ (F := F)) Variants.none c none) Set.univ (bodyAt1 t) (fun _ =>
      iprop((rdat1 m c).Φ t.succ ∗ (rdat1 m c).owesAt () t.succ
        ∗ (∃ X, ⌜(rdat1 m c).after 0 t (iblk1 m c 0 t) X⌝ ∗ owns (c : Thread nD τ) (st1_0 t) fullShare X)
        ∗ (∃ X, ⌜(rdat1 m c).after 1 t (iblk1 m c 1 t) X⌝ ∗ owns (c : Thread nD τ) (st1_1 t) fullShare X)
        ∗ (∃ X, ⌜(rdat1 m c).after 2 t Y2 X⌝ ∗ owns (c : Thread nD τ) (st1_2 t) fullShare X)
        ∗ (∃ X, ⌜(rdat1 m c).after 3 t Y3 X⌝ ∗ owns (c : Thread nD τ) (st1_3 t) fullShare X))) := by
  unfold bodyAt1
  rw [show (rdat1 m c).Φ t.succ = (rdat1 m c).Φ t.castSucc from rfl,
    show (rdat1 m c).owesAt () t.succ = (rdat1 m c).owesAt () t.castSucc from rfl]
  dsimp only [rdat1]
  iintro ⟨HΦ, Ho, H0, H1, H2, H3⟩
  iapply (nms_triple (iblk1 m c 0 t) (iblk1 m c 1 t) c _ _ _ _ _ _ _ _ Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexists _; isplitr; · ipureintro; rfl
                  iexact H0
  isplitl [H1]; · iexists _; isplitr; · ipureintro; rfl
                  iexact H1
  isplitl [H2]; · iexact H2
  iexact H3

/-- The body table's row for the suppression launch is the body. -/
theorem row1 (t : Fin cfg1.N) : defs₀ (F := F) .tc cfg1.body (cfg1.bodyArgs t (cfg1.slots t)) = bodyAt1 t := by
  unfold defs₀; rw [Defs.onTc_tc]

/-- The suppression launch's body keeps its data. -/
theorem nms_body (c : Dev nD) : (rdat1 m c).BodyObligation (defs₀ (F := F)) Variants.none () Set.univ := fun t Y hY => by
  rw [bigSep_W1, bigSep_W1, row1]
  have h0 := rdat1_finds0 m c t _ (hY 0)
  have h1 := rdat1_finds1 m c t _ (hY 1)
  rw [h0, h1]
  exact triple_restated (nms_point m c t (Y 2) (Y 3)) rfl .rfl fun _ => .rfl

end Cert.KernelIdeal.Hand

end
-- ==== Proof.KLaunch.lean ====
module

public import proofs.«01_k».proof.Proof.KRun
public import proofs.«01_k».proof.Proof.Gen.KernelIdeal.Regions
public import proofs.«01_k».proof.Proof.Gen.KernelIdeal.Points
public import Idealize.ShloMosaic.Lib.Pipeline.FrameBody
public import Idealize.ShloMosaic.Lib.Pipeline.FrameTail
public import Idealize.ShloMosaic.Lib.Pipeline.RegionsOwned
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation HostSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the suppression launch -/

/-- Contents the two outputs may end with: what a whole-block write with the rounds' rows can leave. -/
def Γ (c : Dev nD) : Type :=
  { p : Buf (Elt F) ((c : Thread nD τ).loc main_v9_0) × Buf (Elt F) ((c : Thread nD τ).loc main_v9_1) //
    BoxRows (iblk1 m c 0 t1_0) (iblk1 m c 1 t1_0) (((cfg1.win 2).blk t1_0).view.read (Elt F) p.1)
    ∧ ScoreRows (iblk1 m c 0 t1_0) (iblk1 m c 1 t1_0) (((cfg1.win 3).blk t1_0).view.read (Elt F) p.2) }

/-- Every unscoped buffer after the suppression launch, for such contents. -/
def W4 (c : Dev nD) (γ : Γ m c) : Valuation τ sig (Elt F) :=
  Function.update (Function.update (V3 m (o0 m) c) main_v9_0 γ.1.1) main_v9_1 γ.1.2

/-- The box output may only end holding the rounds' rows. -/
theorem arrAt2 (c : Dev nD) (G) (h : (rdat1 m c).ArrAt 2 cfg1.N G) :
    BoxRows (iblk1 m c 0 t1_0) (iblk1 m c 1 t1_0) (((cfg1.win 2).blk t1_0).view.read (Elt F) G) := by
  have e := (rdat1 m c).ArrAt_succ 2 t1_0
  rw [show t1_0.val + 1 = cfg1.N from rfl, if_pos (flush1_2 t1_0)] at e
  rw [e] at h
  obtain ⟨G₀, X, -, ⟨Y, -, hX⟩, rfl⟩ := h
  rw [View.read_write_univ]
  exact hX
/-- The score output likewise. -/
theorem arrAt3 (c : Dev nD) (G) (h : (rdat1 m c).ArrAt 3 cfg1.N G) :
    ScoreRows (iblk1 m c 0 t1_0) (iblk1 m c 1 t1_0) (((cfg1.win 3).blk t1_0).view.read (Elt F) G) := by
  have e := (rdat1 m c).ArrAt_succ 3 t1_0
  rw [show t1_0.val + 1 = cfg1.N from rfl, if_pos (flush1_3 t1_0)] at e
  rw [e] at h
  obtain ⟨G₀, X, -, ⟨Y, -, hX⟩, rfl⟩ := h
  rw [View.read_write_univ]
  exact hX

/-! ## The launches as segments -/

/-- The launches' data, one family. -/
def rdats : (p : Fin 2) → (c : Dev nD) → RDat τ (Elt F) Unit ℕ (UR sig nD τ) ℕ (Pipeline.pin (pcfgs (F := F)) adm p) c
  | ⟨0, _⟩ => fun c => (dat0 m c).toR
  | ⟨1, _⟩ => fun c => rdat1 m c

/-- Exact data with the same arrays, for putting the arrays back among the buffers. -/
def xdats : (p : Fin 2) → (c : Dev nD) → Dat τ (Elt F) Unit ℕ (UR sig nD τ) ℕ (Pipeline.pin (pcfgs (F := F)) adm p) c
  | ⟨0, _⟩ => fun c => dat0 m c
  | ⟨1, _⟩ => fun c => { A := fun w => V3 m (o0 m) c (Pipeline.arrRef spec1 w), after := fun _ _ => fun _ => Classical.arbitrary _,
                         Φ := fun _ => BI.emp, q := fun _ => fullShare, owed := fun _ => 0 }

/-- No level is assigned, nothing is owed. -/
abbrev lvs : GSem nD τ sig → Finset Unit := fun _ => ∅
@[inherit_doc lvs] abbrev lvl : GSem nD τ sig → Unit → ℕ := fun _ _ => 0

/-- What rides beside the buffers: the generator register and the core owing nothing. -/
abbrev Rest (c : Dev nD) : sProp 𝕄 := iprop((∃ r, prngReg c r) ∗ ∃ W, owes (c : Thread nD τ) (0 : CellTallies nD τ sig Unit) W)

set_option backward.isDefEq.respectTransparency.types false in
/-- The decoding launch, from the buffers as the first host stretch left them. -/
def segDec : Pipeline.RDat.RegionSeg (pcfgs (F := F)) adm (rdats m) () defs₀ Variants.none lvs lvl 0 where
  win := launch0.win.to₀
  block_pos := launch0.block_pos
  stage_whole := launch0.stage_whole
  K := PEmpty
  osem k := k.elim
  ho := Pipeline.OwnSemFacts.none _
  hbody c := (dec_body m c).toR
  hwaits := Pipeline.RDat.hwaits_of_owed_zero _ _ _ _ lvs lvl 0 fun _ _ => rfl
  pre c := iprop(StableHlo.held (c : Thread nD τ) (Pipeline.ucRefs τ sig) (V1 m c) ∗ Rest c)
  post c := iprop(StableHlo.held (c : Thread nD τ) (Pipeline.ucRefs τ sig) (V2 m (o0 m) c) ∗ Rest c)
  X c := iprop(∃ r, prngReg c r)
  Y c := iprop(∃ r, prngReg c r)
  Z c := Pipeline.unscopedRest (Ix := Unit) (Name := ℕ) (U := UR sig nD τ) (Lvl := ℕ) spec0 c (fun b => V1 m c (Proc.devRef .tc b))
  hentry c := by
    rw [Pipeline.ownSems0_none,
      show StableHlo.held (c : Thread nD τ) (Pipeline.ucRefs τ sig) (V1 m c) = unscopedBufs c (fun b => V1 m c (Proc.devRef .tc b))
        from (Pipeline.unscopedBufs_held (Ix := Unit) (Name := ℕ) (U := UR sig nD τ) (Lvl := ℕ) c (V1 m c)).symm]
    have hsplit := Pipeline.RDat.arrays_of_unscopedBufs (p := 0) (pcfgs (F := F)) adm (rdats m) launch0.win launch0.arr_whole c
      ((dat0 m c).share_full fun _ => rfl) (fun b => V1 m c (Proc.devRef .tc b)) fun w => dat0_A m c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 0 c).owesAt () 0 = (dat0 m c).owesAt () 0 from rfl]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]
    unfold Pipeline.ΦA
    iintro ⟨Hr, Hp⟩
    isplitl [Hp]; · iexact Hp
    isplitr; · iempintro
    iexact Hr
  hexit c := by
    rw [show StableHlo.held (c : Thread nD τ) (Pipeline.ucRefs τ sig) (V2 m (o0 m) c) = unscopedBufs c (fun b => V2 m (o0 m) c (Proc.devRef .tc b))
        from (Pipeline.unscopedBufs_held (Ix := Unit) (Name := ℕ) (U := UR sig nD τ) (Lvl := ℕ) c (V2 m (o0 m) c)).symm]
    have hjoin := Pipeline.unscopedBufs_of_arrays (p := 0) (pcfgs (F := F)) adm (Ix := Unit) (Name := ℕ) (U := UR sig nD τ) (Lvl := ℕ) launch0.win launch0.arr_whole c
      (xdats m) ((dat0 m c).share_full fun _ => rfl) (fun b => V1 m c (Proc.devRef .tc b)) (fun b => V2 m (o0 m) c (Proc.devRef .tc b)) ((dat0 m c).arrAt · cfg0.N)
      (fun w => by
        fin_cases w
        · exact ((dat0 m c).arrAt_in 0 rfl _).trans (V2_of m (o0 m) c main_v2 (by decide)).symm
        · exact ((dat0 m c).arrAt_in 1 rfl _).trans (V2_of m (o0 m) c main_v5 (by decide)).symm
        · exact ((Function.update_self (f := V1 m c) (Proc.devRef .tc main_v6) _).trans (o0_at m c 2)).symm)
      (fun b hb => V2_of m (o0 m) c b fun h => hb (by
        simp only [List.mem_singleton] at h
        subst h; exact Finset.mem_image.mpr ⟨2, Finset.mem_univ _, rfl⟩))
    have harr : (rdats m 0 c).arraysAt (Pipeline.pin (pcfgs (F := F)) adm 0).N ⊢ ((xdats m 0 c).arrays ((dat0 m c).arrAt · cfg0.N) : sProp 𝕄) :=
      (dat0 m c).toR_arraysAt_post cfg0.N
    have hO : (rdats m 0 c).owesAt () (Fin.last (Pipeline.pin (pcfgs (F := F)) adm 0).N) ⊢ (iprop(∃ W, owes (c : Thread nD τ) (0 : CellTallies nD τ sig Unit) W) : sProp 𝕄) := by
      rw [show (rdats m 0 c).owesAt () (Fin.last (Pipeline.pin (pcfgs (F := F)) adm 0).N) = (dat0 m c).owesAt () (Fin.last cfg0.N) from rfl]
      unfold Pipeline.Dat.owesAt Pipeline.owesWithin
      rw [show (dat0 m c).owed (Fin.last cfg0.N) = 0 from rfl]
      iintro ⟨%W, -, HO⟩; iexists W; iexact HO
    iintro ⟨Ha, HO, Hp, Hrest⟩
    imodintro
    isplitl [Ha Hrest]
    · iapply hjoin
      isplitl [Ha]; · iapply harr; iexact Ha
      iexact Hrest
    isplitl [Hp]; · iexact Hp
    iapply hO; iexact HO

set_option backward.isDefEq.respectTransparency.types false in
/-- The suppression launch, from the buffers as the second host stretch left them. -/
def segNms : Pipeline.RDat.RegionSeg (pcfgs (F := F)) adm (rdats m) () defs₀ Variants.none lvs lvl 1 where
  win := launch1.win.to₀
  block_pos := launch1.block_pos
  stage_whole := launch1.stage_whole
  K := PEmpty
  osem k := k.elim
  ho := Pipeline.OwnSemFacts.none _
  hbody c := nms_body m c
  hwaits := Pipeline.RDat.hwaits_of_owed_zero _ _ _ _ lvs lvl 1 fun _ _ => rfl
  pre c := iprop(StableHlo.held (c : Thread nD τ) (Pipeline.ucRefs τ sig) (V3 m (o0 m) c) ∗ Rest c)
  post c := iprop((∃ γ : Γ m c, StableHlo.held (c : Thread nD τ) (Pipeline.ucRefs τ sig) (W4 m c γ)) ∗ Rest c)
  X c := iprop(∃ r, prngReg c r)
  Y c := iprop(∃ r, prngReg c r)
  Z c := Pipeline.unscopedRest (Ix := Unit) (Name := ℕ) (U := UR sig nD τ) (Lvl := ℕ) spec1 c (fun b => V3 m (o0 m) c (Proc.devRef .tc b))
  hentry c := by
    rw [Pipeline.ownSems0_none,
      show StableHlo.held (c : Thread nD τ) (Pipeline.ucRefs τ sig) (V3 m (o0 m) c) = unscopedBufs c (fun b => V3 m (o0 m) c (Proc.devRef .tc b))
        from (Pipeline.unscopedBufs_held (Ix := Unit) (Name := ℕ) (U := UR sig nD τ) (Lvl := ℕ) c (V3 m (o0 m) c)).symm]
    have hsplit := Pipeline.RDat.arrays_of_unscopedBufs (p := 1) (pcfgs (F := F)) adm (rdats m) launch1.win launch1.arr_whole c
      ((xdats m 1 c).share_full fun _ => rfl) (fun b => V3 m (o0 m) c (Proc.devRef .tc b)) fun w => rdat1_A m c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 1 c).owesAt () 0 = (rdat1 m c).owesAt () 0 from rfl]
      unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := fun (γ : Γ m c) => Pipeline.unscopedBufs_of_arrays (p := 1) (pcfgs (F := F)) adm (Ix := Unit) (Name := ℕ) (U := UR sig nD τ) (Lvl := ℕ) launch1.win launch1.arr_whole c
      (xdats m) ((xdats m 1 c).share_full fun _ => rfl) (fun b => V3 m (o0 m) c (Proc.devRef .tc b)) (fun b => W4 m c γ (Proc.devRef .tc b))
      (fun w => W4 m c γ (Proc.devRef .tc (Pipeline.arrRef spec1 w)))
      (fun w => rfl)
      (fun b hb => by
        unfold W4
        rw [Function.update_of_ne, Function.update_of_ne]
        · exact fun h => hb (by rw [Proc.devRef_injective _ h]; exact Finset.mem_image.mpr ⟨2, Finset.mem_univ _, rfl⟩)
        · exact fun h => hb (by rw [Proc.devRef_injective _ h]; exact Finset.mem_image.mpr ⟨3, Finset.mem_univ _, rfl⟩))
    have hO : (rdats m 1 c).owesAt () (Fin.last (Pipeline.pin (pcfgs (F := F)) adm 1).N) ⊢ (iprop(∃ W, owes (c : Thread nD τ) (0 : CellTallies nD τ sig Unit) W) : sProp 𝕄) := by
      rw [show (rdats m 1 c).owesAt () (Fin.last (Pipeline.pin (pcfgs (F := F)) adm 1).N) = (rdat1 m c).owesAt () (Fin.last cfg1.N) from rfl]
      unfold Pipeline.RDat.owesAt Pipeline.owesWithin
      rw [show (rdat1 m c).owed (Fin.last cfg1.N) = 0 from rfl]
      iintro ⟨%W, -, HO⟩; iexists W; iexact HO
    rw [show (rdats m 1 c).arraysAt (Pipeline.pin (pcfgs (F := F)) adm 1).N = (rdat1 m c).arraysAt cfg1.N from rfl]
    unfold Pipeline.RDat.arraysAt
    rw [bigSep_W1]
    iintro ⟨⟨⟨%F0, %h0, H0⟩, ⟨%F1, %h1, H1⟩, ⟨%F2, %h2, H2⟩, ⟨%F3, %h3, H3⟩⟩, HO, Hp, Hrest⟩
    imodintro
    isplitl [H0 H1 H2 H3 Hrest]
    · iexists (⟨(F2, F3), arrAt2 m c F2 h2, arrAt3 m c F3 h3⟩ : Γ m c)
      rw [show StableHlo.held (c : Thread nD τ) (Pipeline.ucRefs τ sig) (W4 m c (⟨(F2, F3), arrAt2 m c F2 h2, arrAt3 m c F3 h3⟩ : Γ m c))
        = unscopedBufs c (fun b => W4 m c (⟨(F2, F3), arrAt2 m c F2 h2, arrAt3 m c F3 h3⟩ : Γ m c) (Proc.devRef .tc b))
        from (Pipeline.unscopedBufs_held (Ix := Unit) (Name := ℕ) (U := UR sig nD τ) (Lvl := ℕ) c _).symm]
      iapply (hjoin (⟨(F2, F3), arrAt2 m c F2 h2, arrAt3 m c F3 h3⟩ : Γ m c))
      isplitr [Hrest]; swap; · iexact Hrest
      rw [RDat.ArrAt_in (rd := rdat1 m c) 0 rfl] at h0
      rw [RDat.ArrAt_in (rd := rdat1 m c) 1 rfl] at h1
      rw [rdat1_A] at h0 h1
      subst h0 h1
      unfold Pipeline.Dat.arrays
      rw [bigSep_W1]
      isplitl [H0]; · iexact H0
      isplitl [H1]; · iexact H1
      isplitl [H2]; · iexact H2
      iexact H3
    isplitl [Hp]; · iexact Hp
    iapply hO; iexact HO

/-! ## The run -/

/-- Every unscoped buffer at the end, for contents the outputs may end with. -/
def W5 (c : Dev nD) (γ : Γ m c) : Valuation τ sig (Elt F) := StableHlo.after hostOps2 (W4 m c γ)

/-- The last host stretch, for whichever contents the suppression launch left. -/
def segTail : HostSeg (Ix := Unit) (Name := ℕ) (U := UR sig nD τ) (Lvl := ℕ) (pcfgs (F := F)) defs₀ Variants.none lvs lvl :=
  Pipeline.HostSeg.ofOpsEx (Γ := Γ m) (pcfgs (F := F)) defs₀ Variants.none lvs lvl (Pipeline.ucRefs τ sig) hostOps2
    (fun op h => Pipeline.sub_ucRefs op ((List.forall_iff_forall_mem.mp hostOps2_sub) op h))
    (fun op h => (List.forall_iff_forall_mem.mp hostOps2_fresh) op h) (W4 m) Rest

/-- The program's segments in order. -/
def segList : List (Pipeline.RDat.Seg (pcfgs (F := F)) adm (rdats m) () defs₀ Variants.none lvs lvl) :=
  [.host (seg0 m Variants.none lvs lvl (fun _ => Rest)), .region (segDec m), .host (seg2 m (o0 m) Variants.none lvs lvl (fun _ => Rest)), .region (segNms m), .host (segTail m)]

set_option backward.isDefEq.respectTransparency.types false in
/-- The program runs to its end; every unscoped buffer then holds its value for some contents the outputs may end with, and
    every counter is zero. -/
theorem run_all : θ_run defs (onTc (τ := τ) (main (F := F))) ⟨m, fun _ => 0, ρ⟩ (fun r =>
    (∀ c : Dev nD, ∃ γ : Γ m c, ∀ b ∈ Pipeline.ucRefs τ sig, r.2.mem ((c.tc : Thread nD τ).1, b) = W5 m c γ b) ∧ r.2.sem = fun _ => 0) := by
  refine Pipeline.RDat.θ_run_regions_kit_dev_sems (pcfgs (F := F)) adm (rdats m) () cellOf_inj emb₁ defs₀ Variants.none lvs lvl m ρ main
    (fun _ => segList m)
    (fun c Q => by
      rewrite [main_chain c, Pipeline.RDat.Seg.run_eq_chain,
        show (segList m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by show ([0, 1] : List (Fin 2)).Nodup; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(∃ γ : Γ m c, StableHlo.held (c : Thread nD τ) (Pipeline.ucRefs τ sig) (W5 m c γ)))
    (hch := fun c => ⟨.rfl, .rfl, .rfl, .rfl, .rfl,
      (show iprop((∃ γ : Γ m c, StableHlo.held (c : Thread nD τ) (Pipeline.ucRefs τ sig) (W5 m c γ)) ∗ Rest c) ⊢ (_ : sProp 𝕄) from by
        iintro ⟨Hh, -, HO⟩
        isplitl [Hh]; · iexact Hh
        iexact HO)⟩)
    (hinit := by
      refine Pipeline.initEach lvs lvl fun c => ?_
      rw [show unscopedBufs c (fun b => m ((c.tc : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists _; iexact HO)
    (QY := fun c s => ∃ γ : Γ m c, ∀ b ∈ Pipeline.ucRefs τ sig, s.mem ((c.tc : Thread nD τ).1, b) = W5 m c γ b)
    (hfin := fun c s' => by
      unfold StableHlo.held
      iintro ⟨⟨%γ, Hh⟩, HSI⟩
      ihave Hr := (pointsTo_read_all (Pipeline.ucRefs τ sig) (fun b => ((c.tc : Thread nD τ).1, b)) (W5 m c γ) s') $$ [Hh HSI]
      · isplitl [Hh] <;> iassumption
      icases Hr with ⟨%h, HSI⟩
      imodintro
      isplitr
      · ipureintro; exact ⟨γ, h⟩
      iexact HSI)
    (hQ := fun _ h hz => ⟨h, funext fun g => hz g (.inr (regions_no_unscoped g.2))⟩)

/-- A buffer the last stretch and the suppression launch leave alone ends as that launch found it. -/
theorem W5_of (c : Dev nD) (γ : Γ m c) (r : Ref sig .tc) (h5 : r ∉ hostOps2_W) (h : r ∉ ([main_v9_0, main_v9_1] : List (Ref sig .tc))) :
    W5 m c γ r = V3 m (o0 m) c r := by
  unfold W5
  refine (StableHlo.after_of_writes_sub hostOps2 _ hostOps2_writes h5).trans ?_
  unfold W4
  rw [Function.update_of_ne (StableHlo.devRef_ne_of_ne (List.ne_of_not_mem_cons (List.not_mem_of_not_mem_cons h)) : (Proc.devRef .tc r : DevRef τ sig) ≠ Proc.devRef .tc main_v9_1),
    Function.update_of_ne (StableHlo.devRef_ne_of_ne (List.ne_of_not_mem_cons h) : (Proc.devRef .tc r : DevRef τ sig) ≠ Proc.devRef .tc main_v9_0)]

/-- The three arguments end as launched. -/
theorem W5_args (c : Dev nD) (γ : Γ m c) : W5 m c γ main_arg0 = m ((c : Thread nD τ).loc main_arg0)
    ∧ W5 m c γ main_arg1 = m ((c : Thread nD τ).loc main_arg1) ∧ W5 m c γ main_arg2 = m ((c : Thread nD τ).loc main_arg2) :=
  ⟨(W5_of m c γ main_arg0 (by decide) (by decide)).trans <| (V3_of m (o0 m) c main_arg0 (by decide)).trans <| (V2_of m (o0 m) c main_arg0 (by decide)).trans <| (V1_of m c main_arg0 (by decide)).trans rfl,
   (W5_of m c γ main_arg1 (by decide) (by decide)).trans <| (V3_of m (o0 m) c main_arg1 (by decide)).trans <| (V2_of m (o0 m) c main_arg1 (by decide)).trans <| (V1_of m c main_arg1 (by decide)).trans rfl,
   (W5_of m c γ main_arg2 (by decide) (by decide)).trans <| (V3_of m (o0 m) c main_arg2 (by decide)).trans <| (V2_of m (o0 m) c main_arg2 (by decide)).trans <| (V1_of m c main_arg2 (by decide)).trans rfl⟩

/-- The program runs to its end; the two results then hold their values for some contents the suppression launch may end with,
    the arguments are as launched and every counter is zero. -/
theorem run_results : θ_run defs (onTc (τ := τ) (main (F := F))) ⟨m, fun _ => 0, ρ⟩ (fun r =>
    (∀ c : Dev nD, (∃ γ : Γ m c, r.2.mem ((c.tc : Thread nD τ).loc main_v10) = W5 m c γ main_v10 ∧ r.2.mem ((c.tc : Thread nD τ).loc main_v11) = W5 m c γ main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  refine (θ_run defs _ _).mono (fun r h => ⟨fun c => ?_, h.2⟩) (run_all m ρ)
  obtain ⟨γ, hb⟩ := h.1 c
  have hu : ∀ b : Ref sig .tc, b.isScoped = false → r.2.mem ((c.tc : Thread nD τ).loc b) = W5 m c γ b :=
    fun b hs => hb _ (Pipeline.devRef_mem_ucRefs hs)
  obtain ⟨a0, a1, a2⟩ := W5_args m c γ
  exact ⟨⟨γ, hu _ (by decide), hu _ (by decide)⟩, (hu _ (by decide)).trans a0, (hu _ (by decide)).trans a1, (hu _ (by decide)).trans a2⟩

end Cert.KernelIdeal.Hand

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2468

noncomputable section
namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The contents of a 32-bit float tensor of shape `S`. -/
abbrev Cf32 (F : FTy → Type) (S : Shape) : Type := (⟨S, .f32⟩ : BufTy).Contents (Elt F)
/-- The contents of a 32-bit integer tensor of shape `S`. -/
abbrev Ci32 (F : FTy → Type) (S : Shape) : Type := (⟨S, .i32⟩ : BufTy).Contents (Elt F)
/-- The contents of a truth-value tensor of shape `S`. -/
abbrev Ci1 (F : FTy → Type) (S : Shape) : Type := (⟨S, .i1⟩ : BufTy).Contents (Elt F)

/-- A reference read as a float tensor of shape `S`. -/
abbrev Tf32 (S : Shape) (r : Ref sig .tc) (h : r.ty = ⟨S, .f32⟩ := by rfl) (h1 : r.space ≠ .host := by decide) (h2 : r.isScoped = false := by rfl) : StableHlo.TRef sig ⟨S, .f32⟩ := ⟨r, h, h1, h2⟩
/-- A reference read as an integer tensor of shape `S`. -/
abbrev Ti32 (S : Shape) (r : Ref sig .tc) (h : r.ty = ⟨S, .i32⟩ := by rfl) (h1 : r.space ≠ .host := by decide) (h2 : r.isScoped = false := by rfl) : StableHlo.TRef sig ⟨S, .i32⟩ := ⟨r, h, h1, h2⟩
/-- A reference read as a truth-value tensor of shape `S`. -/
abbrev Ti1 (S : Shape) (r : Ref sig .tc) (h : r.ty = ⟨S, .i1⟩ := by rfl) (h1 : r.space ≠ .host := by decide) (h2 : r.isScoped = false := by rfl) : StableHlo.TRef sig ⟨S, .i1⟩ := ⟨r, h, h1, h2⟩
/-! ## @main as segments and as a chain of items (Lib/Pipeline/Regions.lean `θ_run_regions_kit`, `Pipeline.chain`) -/

/-- 4 host operations of @main, in order. -/
abbrev hostOps0 : List (HloOp τ sig (Elt F)) :=
  [ StableHlo.nullary main_cst (fun i => FloatOps.ofBits .f32 (lit0 (S3.rowMajor i))),
    StableHlo.reshape main_arg2 main_v0 (rfl : (.f32 : EltTy) = .f32) shapeCasts_S4x16384x3_S65536x3,
    StableHlo.reshape main_arg1 main_v1 (rfl : (.f32 : EltTy) = .f32) shapeCasts_S4x16384x76_S65536x76,
    StableHlo.unary main_v1 main_v2 ((extractStridedSlice S65536x12 ![0, 0] · slices_S65536x76_S65536x12_0_0) : Cf32 F S65536x76 → Cf32 F S65536x12) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.reshape_bufs_sub .., StableHlo.reshape_bufs_sub .., StableHlo.unary_bufs_sub ..⟩
/-- 5 host operations of @argmax (main_call0), in order. -/
abbrev hostOps0_1 : List (HloOp τ sig (Elt F)) :=
  [ StableHlo.TRef.nullary (Ti32 S65536x12 main_call0_v0) (iotaInDim S65536x12 32 1),
    StableHlo.TRef.nullary (Tf32 S_ main_call0_cst) (constant S_ .f32 0xFF800000#32),
    StableHlo.TRef.nullary (Ti32 S_ main_call0_c) (constantI S_ 32 0#32),
    StableHlo.TRef.quaternary (Tf32 S65536x12 main_v2) (Ti32 S65536x12 main_call0_v0) (Tf32 S_ main_call0_cst) (Ti32 S_ main_call0_c) (Tf32 S65536 main_call0_v1_0) (fun x y u v j => (Host.argReduce reducer_argmax_f32_i32 x y u v reducesTo_S65536x12_S65536_d1 h_S_ j).1),
    StableHlo.TRef.quaternary (Tf32 S65536x12 main_v2) (Ti32 S65536x12 main_call0_v0) (Tf32 S_ main_call0_cst) (Ti32 S_ main_call0_c) (Ti32 S65536 main_v3) (fun x y u v j => (Host.argReduce reducer_argmax_f32_i32 x y u v reducesTo_S65536x12_S65536_d1 h_S_ j).2) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, in order. -/
abbrev hostOps0_2 : List (HloOp τ sig (Elt F)) :=
  [ StableHlo.unary main_v1 main_v4 ((extractStridedSlice S65536x12 ![0, 12] · slices_S65536x76_S65536x12_0_12) : Cf32 F S65536x76 → Cf32 F S65536x12) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  StableHlo.unary_bufs_sub ..
/-- 5 host operations of @argmax (main_call1), in order. -/
abbrev hostOps0_3 : List (HloOp τ sig (Elt F)) :=
  [ StableHlo.TRef.nullary (Ti32 S65536x12 main_call1_v0) (iotaInDim S65536x12 32 1),
    StableHlo.TRef.nullary (Tf32 S_ main_call1_cst) (constant S_ .f32 0xFF800000#32),
    StableHlo.TRef.nullary (Ti32 S_ main_call1_c) (constantI S_ 32 0#32),
    StableHlo.TRef.quaternary (Tf32 S65536x12 main_v4) (Ti32 S65536x12 main_call1_v0) (Tf32 S_ main_call1_cst) (Ti32 S_ main_call1_c) (Tf32 S65536 main_call1_v1_0) (fun x y u v j => (Host.argReduce reducer_argmax_f32_i32 x y u v reducesTo_S65536x12_S65536_d1 h_S_ j).1),
    StableHlo.TRef.quaternary (Tf32 S65536x12 main_v4) (Ti32 S65536x12 main_call1_v0) (Tf32 S_ main_call1_cst) (Ti32 S_ main_call1_c) (Ti32 S65536 main_v5) (fun x y u v j => (Host.argReduce reducer_argmax_f32_i32 x y u v reducesTo_S65536x12_S65536_d1 h_S_ j).2) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 22 host operations of @main, in order. -/
abbrev hostOps0_4 : List (HloOp τ sig (Elt F)) :=
  [ StableHlo.unary main_v3 main_v6 (sitofp .f32 : Ci32 F S65536 → Cf32 F S65536),
    StableHlo.nullary main_cst_0 (constant S_ .f32 0x3F000000#32),
    StableHlo.unary main_cst_0 main_v7 (broadcastInDim S65536 ![] bcast_S_S65536 : Cf32 F S_ → Cf32 F S65536),
    StableHlo.binary main_v6 main_v7 main_v8 (mulf : Cf32 F S65536 → Cf32 F S65536 → Cf32 F S65536),
    StableHlo.nullary main_cst_1 (constant S_ .f32 0x3E800000#32),
    StableHlo.unary main_cst_1 main_v9 (broadcastInDim S65536 ![] bcast_S_S65536 : Cf32 F S_ → Cf32 F S65536),
    StableHlo.binary main_v8 main_v9 main_v10 (addf : Cf32 F S65536 → Cf32 F S65536 → Cf32 F S65536),
    StableHlo.nullary main_cst_2 (constant S_ .f32 0x40400000#32),
    StableHlo.unary main_cst_2 main_v11 (broadcastInDim S65536 ![] bcast_S_S65536 : Cf32 F S_ → Cf32 F S65536),
    StableHlo.binary main_v10 main_v11 main_v12 (subf : Cf32 F S65536 → Cf32 F S65536 → Cf32 F S65536),
    StableHlo.unary main_v5 main_v13 (sitofp .f32 : Ci32 F S65536 → Cf32 F S65536),
    StableHlo.nullary main_cst_3 (constant S_ .f32 0x3F000000#32),
    StableHlo.unary main_cst_3 main_v14 (broadcastInDim S65536 ![] bcast_S_S65536 : Cf32 F S_ → Cf32 F S65536),
    StableHlo.binary main_v13 main_v14 main_v15 (mulf : Cf32 F S65536 → Cf32 F S65536 → Cf32 F S65536),
    StableHlo.nullary main_cst_4 (constant S_ .f32 0x3E800000#32),
    StableHlo.unary main_cst_4 main_v16 (broadcastInDim S65536 ![] bcast_S_S65536 : Cf32 F S_ → Cf32 F S65536),
    StableHlo.binary main_v15 main_v16 main_v17 (addf : Cf32 F S65536 → Cf32 F S65536 → Cf32 F S65536),
    StableHlo.nullary main_cst_5 (constant S_ .f32 0x40400000#32),
    StableHlo.unary main_cst_5 main_v18 (broadcastInDim S65536 ![] bcast_S_S65536 : Cf32 F S_ → Cf32 F S65536),
    StableHlo.binary main_v17 main_v18 main_v19 (subf : Cf32 F S65536 → Cf32 F S65536 → Cf32 F S65536),
    StableHlo.unary main_v1 main_v20 ((extractStridedSlice S65536x12 ![0, 24] · slices_S65536x76_S65536x12_0_24) : Cf32 F S65536x76 → Cf32 F S65536x12),
    StableHlo.unary main_v3 main_v21 (broadcastInDim S65536x1 ![0] bcast_S65536_S65536x1_0 : Ci32 F S65536 → Ci32 F S65536x1) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩
/-- 9 host operations of @take_along_axis (main_call2), in order. -/
abbrev hostOps0_5 : List (HloOp τ sig (Elt F)) :=
  [ StableHlo.TRef.nullary (Ti32 S_ main_call2_c) (constantI S_ 32 0#32),
    StableHlo.TRef.unary (Ti32 S_ main_call2_c) (Ti32 S65536x1 main_call2_v0) (broadcastInDim S65536x1 ![] bcast_S_S65536x1),
    StableHlo.TRef.binary (Ti32 S65536x1 main_v21) (Ti32 S65536x1 main_call2_v0) (Ti1 S65536x1 main_call2_v1) (cmpi .slt),
    StableHlo.TRef.nullary (Ti32 S_ main_call2_c_0) (constantI S_ 32 12#32),
    StableHlo.TRef.unary (Ti32 S_ main_call2_c_0) (Ti32 S65536x1 main_call2_v2) (broadcastInDim S65536x1 ![] bcast_S_S65536x1),
    StableHlo.TRef.binary (Ti32 S65536x1 main_v21) (Ti32 S65536x1 main_call2_v2) (Ti32 S65536x1 main_call2_v3) addi,
    StableHlo.TRef.ternary (Ti1 S65536x1 main_call2_v1) (Ti32 S65536x1 main_call2_v3) (Ti32 S65536x1 main_v21) (Ti32 S65536x1 main_call2_v4) select,
    StableHlo.TRef.reshape (Ti32 S65536x1 main_call2_v4) (Ti32 S65536x1x1 main_call2_v5) (rfl : (.i32 : EltTy) = .i32) shapeCasts_S65536x1_S65536x1x1,
    StableHlo.TRef.binary (Tf32 S65536x12 main_v20) (Ti32 S65536x1x1 main_call2_v5) (Tf32 S65536x1 main_v22) (fun x i => Host.gather gather_S65536x12_S65536x1x1_S65536x1_n_1_0_0_1_2_11 x i) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 3 host operations of @main, in order. -/
abbrev hostOps0_6 : List (HloOp τ sig (Elt F)) :=
  [ StableHlo.reshape main_v22 main_v23 (rfl : (.f32 : EltTy) = .f32) shapeCasts_S65536x1_S65536,
    StableHlo.unary main_v1 main_v24 ((extractStridedSlice S65536x12 ![0, 36] · slices_S65536x76_S65536x12_0_36) : Cf32 F S65536x76 → Cf32 F S65536x12),
    StableHlo.unary main_v5 main_v25 (broadcastInDim S65536x1 ![0] bcast_S65536_S65536x1_0 : Ci32 F S65536 → Ci32 F S65536x1) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.reshape_bufs_sub .., StableHlo.unary_bufs_sub .., StableHlo.unary_bufs_sub ..⟩
/-- 9 host operations of @take_along_axis (main_call3), in order. -/
abbrev hostOps0_7 : List (HloOp τ sig (Elt F)) :=
  [ StableHlo.TRef.nullary (Ti32 S_ main_call3_c) (constantI S_ 32 0#32),
    StableHlo.TRef.unary (Ti32 S_ main_call3_c) (Ti32 S65536x1 main_call3_v0) (broadcastInDim S65536x1 ![] bcast_S_S65536x1),
    StableHlo.TRef.binary (Ti32 S65536x1 main_v25) (Ti32 S65536x1 main_call3_v0) (Ti1 S65536x1 main_call3_v1) (cmpi .slt),
    StableHlo.TRef.nullary (Ti32 S_ main_call3_c_0) (constantI S_ 32 12#32),
    StableHlo.TRef.unary (Ti32 S_ main_call3_c_0) (Ti32 S65536x1 main_call3_v2) (broadcastInDim S65536x1 ![] bcast_S_S65536x1),
    StableHlo.TRef.binary (Ti32 S65536x1 main_v25) (Ti32 S65536x1 main_call3_v2) (Ti32 S65536x1 main_call3_v3) addi,
    StableHlo.TRef.ternary (Ti1 S65536x1 main_call3_v1) (Ti32 S65536x1 main_call3_v3) (Ti32 S65536x1 main_v25) (Ti32 S65536x1 main_call3_v4) select,
    StableHlo.TRef.reshape (Ti32 S65536x1 main_call3_v4) (Ti32 S65536x1x1 main_call3_v5) (rfl : (.i32 : EltTy) = .i32) shapeCasts_S65536x1_S65536x1x1,
    StableHlo.TRef.binary (Tf32 S65536x12 main_v24) (Ti32 S65536x1x1 main_call3_v5) (Tf32 S65536x1 main_v26) (fun x i => Host.gather gather_S65536x12_S65536x1x1_S65536x1_n_1_0_0_1_2_11 x i) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 15 host operations of @main, in order. -/
abbrev hostOps0_8 : List (HloOp τ sig (Elt F)) :=
  [ StableHlo.reshape main_v26 main_v27 (rfl : (.f32 : EltTy) = .f32) shapeCasts_S65536x1_S65536,
    StableHlo.nullary main_cst_6 (constant S_ .f32 0x3F000000#32),
    StableHlo.unary main_cst_6 main_v28 (broadcastInDim S65536 ![] bcast_S_S65536 : Cf32 F S_ → Cf32 F S65536),
    StableHlo.binary main_v23 main_v28 main_v29 (mulf : Cf32 F S65536 → Cf32 F S65536 → Cf32 F S65536),
    StableHlo.binary main_v12 main_v29 main_v30 (addf : Cf32 F S65536 → Cf32 F S65536 → Cf32 F S65536),
    StableHlo.nullary main_cst_7 (constant S_ .f32 0x3F000000#32),
    StableHlo.unary main_cst_7 main_v31 (broadcastInDim S65536 ![] bcast_S_S65536 : Cf32 F S_ → Cf32 F S65536),
    StableHlo.binary main_v27 main_v31 main_v32 (mulf : Cf32 F S65536 → Cf32 F S65536 → Cf32 F S65536),
    StableHlo.binary main_v19 main_v32 main_v33 (addf : Cf32 F S65536 → Cf32 F S65536 → Cf32 F S65536),
    StableHlo.unary main_v0 main_v34 ((extractStridedSlice S65536x1 ![0, 1] · slices_S65536x3_S65536x1_0_1) : Cf32 F S65536x3 → Cf32 F S65536x1),
    StableHlo.reshape main_v34 main_v35 (rfl : (.f32 : EltTy) = .f32) shapeCasts_S65536x1_S65536,
    StableHlo.unary main_v1 main_v36 ((extractStridedSlice S65536x1 ![0, 48] · slices_S65536x76_S65536x1_0_48) : Cf32 F S65536x76 → Cf32 F S65536x1),
    StableHlo.reshape main_v36 main_v37 (rfl : (.f32 : EltTy) = .f32) shapeCasts_S65536x1_S65536,
    StableHlo.binary main_v35 main_v37 main_v38 (addf : Cf32 F S65536 → Cf32 F S65536 → Cf32 F S65536),
    StableHlo.unary main_v1 main_v39 ((extractStridedSlice S65536x12 ![0, 49] · slices_S65536x76_S65536x12_0_49) : Cf32 F S65536x76 → Cf32 F S65536x12) ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub ..⟩
/-- 5 host operations of @argmax (main_call4), in order. -/
abbrev hostOps0_9 : List (HloOp τ sig (Elt F)) :=
  [ StableHlo.TRef.nullary (Ti32 S65536x12 main_call4_v0) (iotaInDim S65536x12 32 1),
    StableHlo.TRef.nullary (Tf32 S_ main_call4_cst) (constant S_ .f32 0xFF800000#32),
    StableHlo.TRef.nullary (Ti32 S_ main_call4_c) (constantI S_ 32 0#32),
    StableHlo.TRef.quaternary (Tf32 S65536x12 main_v39) (Ti32 S65536x12 main_call4_v0) (Tf32 S_ main_call4_cst) (Ti32 S_ main_call4_c) (Tf32 S65536 main_call4_v1_0) (fun x y u v j => (Host.argReduce reducer_argmax_f32_i32 x y u v reducesTo_S65536x12_S65536_d1 h_S_ j).1),
    StableHlo.TRef.quaternary (Tf32 S65536x12 main_v39) (Ti32 S65536x12 main_call4_v0) (Tf32 S_ main_call4_cst) (Ti32 S_ main_call4_c) (Ti32 S65536 main_v40) (fun x y u v j => (Host.argReduce reducer_argmax_f32_i32 x y u v reducesTo_S65536x12_S65536_d1 h_S_ j).2) ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 2 host operations of @main, in order. -/
abbrev hostOps0_10 : List (HloOp τ sig (Elt F)) :=
  [ StableHlo.unary main_v1 main_v41 ((extractStridedSlice S65536x12 ![0, 61] · slices_S65536x76_S65536x12_0_61) : Cf32 F S65536x76 → Cf32 F S65536x12),
    StableHlo.unary main_v40 main_v42 (broadcastInDim S65536x1 ![0] bcast_S65536_S65536x1_0 : Ci32 F S65536 → Ci32 F S65536x1) ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.unary_bufs_sub .., StableHlo.unary_bufs_sub ..⟩
/-- 9 host operations of @take_along_axis (main_call5), in order. -/
abbrev hostOps0_11 : List (HloOp τ sig (Elt F)) :=
  [ StableHlo.TRef.nullary (Ti32 S_ main_call5_c) (constantI S_ 32 0#32),
    StableHlo.TRef.unary (Ti32 S_ main_call5_c) (Ti32 S65536x1 main_call5_v0) (broadcastInDim S65536x1 ![] bcast_S_S65536x1),
    StableHlo.TRef.binary (Ti32 S65536x1 main_v42) (Ti32 S65536x1 main_call5_v0) (Ti1 S65536x1 main_call5_v1) (cmpi .slt),
    StableHlo.TRef.nullary (Ti32 S_ main_call5_c_0) (constantI S_ 32 12#32),
    StableHlo.TRef.unary (Ti32 S_ main_call5_c_0) (Ti32 S65536x1 main_call5_v2) (broadcastInDim S65536x1 ![] bcast_S_S65536x1),
    StableHlo.TRef.binary (Ti32 S65536x1 main_v42) (Ti32 S65536x1 main_call5_v2) (Ti32 S65536x1 main_call5_v3) addi,
    StableHlo.TRef.ternary (Ti1 S65536x1 main_call5_v1) (Ti32 S65536x1 main_call5_v3) (Ti32 S65536x1 main_v42) (Ti32 S65536x1 main_call5_v4) select,
    StableHlo.TRef.reshape (Ti32 S65536x1 main_call5_v4) (Ti32 S65536x1x1 main_call5_v5) (rfl : (.i32 : EltTy) = .i32) shapeCasts_S65536x1_S65536x1x1,
    StableHlo.TRef.binary (Tf32 S65536x12 main_v41) (Ti32 S65536x1x1 main_call5_v5) (Tf32 S65536x1 main_v43) (fun x i => Host.gather gather_S65536x12_S65536x1x1_S65536x1_n_1_0_0_1_2_11 x i) ]
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 10 host operations of @main, in order. -/
abbrev hostOps0_12 : List (HloOp τ sig (Elt F)) :=
  [ StableHlo.reshape main_v43 main_v44 (rfl : (.f32 : EltTy) = .f32) shapeCasts_S65536x1_S65536,
    StableHlo.nullary main_cst_8 (constant S_ .f32 0x3E860A92#32),
    StableHlo.unary main_cst_8 main_v45 (broadcastInDim S65536 ![] bcast_S_S65536 : Cf32 F S_ → Cf32 F S65536),
    StableHlo.binary main_v44 main_v45 main_v46 (mulf : Cf32 F S65536 → Cf32 F S65536 → Cf32 F S65536),
    StableHlo.unary main_v40 main_v47 (sitofp .f32 : Ci32 F S65536 → Cf32 F S65536),
    StableHlo.nullary main_cst_9 (constant S_ .f32 0x3F060A92#32),
    StableHlo.unary main_cst_9 main_v48 (broadcastInDim S65536 ![] bcast_S_S65536 : Cf32 F S_ → Cf32 F S65536),
    StableHlo.binary main_v47 main_v48 main_v49 (mulf : Cf32 F S65536 → Cf32 F S65536 → Cf32 F S65536),
    StableHlo.binary main_v49 main_v46 main_v50 (addf : Cf32 F S65536 → Cf32 F S65536 → Cf32 F S65536),
    StableHlo.nullary main_cst_10 (constant S_ .f32 0x40C90FDB#32) ]
/-- Each touches TensorCore references only (`HostSeg.ofOps` over `StableHlo.tcRefs`, or a subset by `sub_ucRefs`). -/
theorem hostOps0_12_sub : (hostOps0_12 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub ..⟩
/-- 17 host operations of @remainder (main_call6), in order. -/
abbrev hostOps0_13 : List (HloOp τ sig (Elt F)) :=
  [ StableHlo.TRef.unary (Tf32 S_ main_cst_10) (Tf32 S_ main_call6_v0) id,
    StableHlo.TRef.unary (Tf32 S_ main_call6_v0) (Tf32 S65536 main_call6_v1) (broadcastInDim S65536 ![] bcast_S_S65536),
    StableHlo.TRef.binary (Tf32 S65536 main_v50) (Tf32 S65536 main_call6_v1) (Tf32 S65536 main_call6_v2) Host.remf,
    StableHlo.TRef.nullary (Tf32 S_ main_call6_cst) (constant S_ .f32 0x00000000#32),
    StableHlo.TRef.unary (Tf32 S_ main_call6_cst) (Tf32 S65536 main_call6_v3) (broadcastInDim S65536 ![] bcast_S_S65536),
    StableHlo.TRef.binary (Tf32 S65536 main_call6_v2) (Tf32 S65536 main_call6_v3) (Ti1 S65536 main_call6_v4) (cmpf .une),
    StableHlo.TRef.nullary (Tf32 S_ main_call6_cst_0) (constant S_ .f32 0x00000000#32),
    StableHlo.TRef.unary (Tf32 S_ main_call6_cst_0) (Tf32 S65536 main_call6_v5) (broadcastInDim S65536 ![] bcast_S_S65536),
    StableHlo.TRef.binary (Tf32 S65536 main_call6_v2) (Tf32 S65536 main_call6_v5) (Ti1 S65536 main_call6_v6) (cmpf .olt),
    StableHlo.TRef.nullary (Tf32 S_ main_call6_cst_1) (constant S_ .f32 0x00000000#32),
    StableHlo.TRef.binary (Tf32 S_ main_call6_v0) (Tf32 S_ main_call6_cst_1) (Ti1 S_ main_call6_v7) (cmpf .olt),
    StableHlo.TRef.unary (Ti1 S_ main_call6_v7) (Ti1 S65536 main_call6_v8) (broadcastInDim S65536 ![] bcast_S_S65536),
    StableHlo.TRef.binary (Ti1 S65536 main_call6_v6) (Ti1 S65536 main_call6_v8) (Ti1 S65536 main_call6_v9) (cmpi .ne),
    StableHlo.TRef.binary (Ti1 S65536 main_call6_v9) (Ti1 S65536 main_call6_v4) (Ti1 S65536 main_call6_v10) andi,
    StableHlo.TRef.unary (Tf32 S_ main_call6_v0) (Tf32 S65536 main_call6_v11) (broadcastInDim S65536 ![] bcast_S_S65536),
    StableHlo.TRef.binary (Tf32 S65536 main_call6_v2) (Tf32 S65536 main_call6_v11) (Tf32 S65536 main_call6_v12) addf,
    StableHlo.TRef.ternary (Ti1 S65536 main_call6_v10) (Tf32 S65536 main_call6_v12) (Tf32 S65536 main_call6_v2) (Tf32 S65536 main_v51) select ]
/-- Each touches TensorCore references only (`HostSeg.ofOps` over `StableHlo.tcRefs`, or a subset by `sub_ucRefs`). -/
theorem hostOps0_13_sub : (hostOps0_13 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 6 host operations of @main, in order. -/
abbrev hostOps0_14 : List (HloOp τ sig (Elt F)) :=
  [ StableHlo.nullary main_cst_11 (constant S_ .f32 0x40490FDB#32),
    StableHlo.unary main_cst_11 main_v52 (broadcastInDim S65536 ![] bcast_S_S65536 : Cf32 F S_ → Cf32 F S65536),
    StableHlo.binary main_v51 main_v52 main_v53 (cmpf .ogt : Cf32 F S65536 → Cf32 F S65536 → Ci1 F S65536),
    StableHlo.nullary main_cst_12 (constant S_ .f32 0x40C90FDB#32),
    StableHlo.unary main_cst_12 main_v54 (broadcastInDim S65536 ![] bcast_S_S65536 : Cf32 F S_ → Cf32 F S65536),
    StableHlo.binary main_v51 main_v54 main_v55 (subf : Cf32 F S65536 → Cf32 F S65536 → Cf32 F S65536) ]
/-- Each touches TensorCore references only (`HostSeg.ofOps` over `StableHlo.tcRefs`, or a subset by `sub_ucRefs`). -/
theorem hostOps0_14_sub : (hostOps0_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..⟩
/-- 1 host operation of @_where (main_call7), in order. -/
abbrev hostOps0_15 : List (HloOp τ sig (Elt F)) :=
  [ StableHlo.TRef.ternary (Ti1 S65536 main_v53) (Tf32 S65536 main_v55) (Tf32 S65536 main_v51) (Tf32 S65536 main_v56) select ]
/-- Each touches TensorCore references only (`HostSeg.ofOps` over `StableHlo.tcRefs`, or a subset by `sub_ucRefs`). -/
theorem hostOps0_15_sub : (hostOps0_15 : List (HloOp τ sig (Elt F))).Forall fun op => op.bufs ⊆ StableHlo.tcRefs τ sig :=
  StableHlo.ternary_bufs_sub ..
set_option maxHeartbeats 40000000 in  -- a long stretch: its list (or the term over it) exceeds the default budget
/-- 68 host operations of @main, in order. -/
abbrev hostOps0_16 : List (HloOp τ sig (Elt F)) :=
  ( StableHlo.unary main_v1 main_v57 ((extractStridedSlice S65536x3 ![0, 73] · slices_S65536x76_S65536x3_0_73) : Cf32 F S65536x76 → Cf32 F S65536x3)
  :: StableHlo.unary main_cst main_v58 (broadcastInDim S1x3 ![1] bcast_S3_S1x3_1 : Cf32 F S3 → Cf32 F S1x3)
  :: StableHlo.unary main_v58 main_v59 (broadcastInDim S65536x3 ![0, 1] bcast_S1x3_S65536x3_0_1 : Cf32 F S1x3 → Cf32 F S65536x3)
  :: StableHlo.binary main_v57 main_v59 main_v60 (mulf : Cf32 F S65536x3 → Cf32 F S65536x3 → Cf32 F S65536x3)
  :: StableHlo.unary main_cst main_v61 (broadcastInDim S1x3 ![1] bcast_S3_S1x3_1 : Cf32 F S3 → Cf32 F S1x3)
  :: StableHlo.unary main_v61 main_v62 (broadcastInDim S65536x3 ![0, 1] bcast_S1x3_S65536x3_0_1 : Cf32 F S1x3 → Cf32 F S65536x3)
  :: StableHlo.binary main_v60 main_v62 main_v63 (addf : Cf32 F S65536x3 → Cf32 F S65536x3 → Cf32 F S65536x3)
  :: StableHlo.unary main_v30 main_v64 (broadcastInDim S65536x1 ![0] bcast_S65536_S65536x1_0 : Cf32 F S65536 → Cf32 F S65536x1)
  :: StableHlo.unary main_v0 main_v65 ((extractStridedSlice S65536x1 ![0, 0] · slices_S65536x3_S65536x1_0_0) : Cf32 F S65536x3 → Cf32 F S65536x1)
  :: StableHlo.binary main_v64 main_v65 main_v66 (addf : Cf32 F S65536x1 → Cf32 F S65536x1 → Cf32 F S65536x1)
  :: StableHlo.unary main_v38 main_v67 (broadcastInDim S65536x1 ![0] bcast_S65536_S65536x1_0 : Cf32 F S65536 → Cf32 F S65536x1)
  :: StableHlo.unary main_v33 main_v68 (broadcastInDim S65536x1 ![0] bcast_S65536_S65536x1_0 : Cf32 F S65536 → Cf32 F S65536x1)
  :: StableHlo.unary main_v0 main_v69 ((extractStridedSlice S65536x1 ![0, 2] · slices_S65536x3_S65536x1_0_2) : Cf32 F S65536x3 → Cf32 F S65536x1)
  :: StableHlo.binary main_v68 main_v69 main_v70 (addf : Cf32 F S65536x1 → Cf32 F S65536x1 → Cf32 F S65536x1)
  :: StableHlo.unary main_v56 main_v71 (broadcastInDim S65536x1 ![0] bcast_S65536_S65536x1_0 : Cf32 F S65536 → Cf32 F S65536x1)
  :: StableHlo.nary ![main_v66, main_v67, main_v70, main_v63, main_v71] main_v72 (fun u => (concatenate S65536x7 1 [⟨S65536x1, (u 0 : Cf32 F S65536x1)⟩, ⟨S65536x1, (u 1 : Cf32 F S65536x1)⟩, ⟨S65536x1, (u 2 : Cf32 F S65536x1)⟩, ⟨S65536x3, (u 3 : Cf32 F S65536x3)⟩, ⟨S65536x1, (u 4 : Cf32 F S65536x1)⟩] concatenates_S65536x1_S65536x1_S65536x1_S65536x3_S65536x1_S65536x7_d1 : Cf32 F S65536x7))
  :: StableHlo.reshape main_v72 main_v73 (rfl : (.f32 : EltTy) = .f32) shapeCasts_S65536x7_S4x16384x7
  :: StableHlo.unary main_v73 main_v74 ((extractStridedSlice S4x16384x1 ![0, 0, 0] · slices_S4x16384x7_S4x16384x1_0_0_0) : Cf32 F S4x16384x7 → Cf32 F S4x16384x1)
  :: StableHlo.reshape main_v74 main_v75 (rfl : (.f32 : EltTy) = .f32) shapeCasts_S4x16384x1_S4x16384
  :: StableHlo.unary main_v73 main_v76 ((extractStridedSlice S4x16384x1 ![0, 0, 2] · slices_S4x16384x7_S4x16384x1_0_0_2) : Cf32 F S4x16384x7 → Cf32 F S4x16384x1)
  :: StableHlo.reshape main_v76 main_v77 (rfl : (.f32 : EltTy) = .f32) shapeCasts_S4x16384x1_S4x16384
  :: StableHlo.unary main_v73 main_v78 ((extractStridedSlice S4x16384x1 ![0, 0, 3] · slices_S4x16384x7_S4x16384x1_0_0_3) : Cf32 F S4x16384x7 → Cf32 F S4x16384x1)
  :: StableHlo.reshape main_v78 main_v79 (rfl : (.f32 : EltTy) = .f32) shapeCasts_S4x16384x1_S4x16384
  :: StableHlo.unary main_v73 main_v80 ((extractStridedSlice S4x16384x1 ![0, 0, 5] · slices_S4x16384x7_S4x16384x1_0_0_5) : Cf32 F S4x16384x7 → Cf32 F S4x16384x1)
  :: StableHlo.reshape main_v80 main_v81 (rfl : (.f32 : EltTy) = .f32) shapeCasts_S4x16384x1_S4x16384
  :: StableHlo.nullary main_cst_13 (constant S_ .f32 0x40000000#32)
  :: StableHlo.unary main_cst_13 main_v82 (broadcastInDim S4x16384 ![] bcast_S_S4x16384 : Cf32 F S_ → Cf32 F S4x16384)
  :: StableHlo.binary main_v79 main_v82 main_v83 (Host.divf : Cf32 F S4x16384 → Cf32 F S4x16384 → Cf32 F S4x16384)
  :: StableHlo.binary main_v75 main_v83 main_v84 (subf : Cf32 F S4x16384 → Cf32 F S4x16384 → Cf32 F S4x16384)
  :: StableHlo.nullary main_cst_14 (constant S_ .f32 0x40000000#32)
  :: StableHlo.unary main_cst_14 main_v85 (broadcastInDim S4x16384 ![] bcast_S_S4x16384 : Cf32 F S_ → Cf32 F S4x16384)
  :: StableHlo.binary main_v81 main_v85 main_v86 (Host.divf : Cf32 F S4x16384 → Cf32 F S4x16384 → Cf32 F S4x16384)
  :: StableHlo.binary main_v77 main_v86 main_v87 (subf : Cf32 F S4x16384 → Cf32 F S4x16384 → Cf32 F S4x16384)
  :: StableHlo.nullary main_cst_15 (constant S_ .f32 0x40000000#32)
  :: StableHlo.unary main_cst_15 main_v88 (broadcastInDim S4x16384 ![] bcast_S_S4x16384 : Cf32 F S_ → Cf32 F S4x16384)
  :: StableHlo.binary main_v79 main_v88 main_v89 (Host.divf : Cf32 F S4x16384 → Cf32 F S4x16384 → Cf32 F S4x16384)
  :: StableHlo.binary main_v75 main_v89 main_v90 (addf : Cf32 F S4x16384 → Cf32 F S4x16384 → Cf32 F S4x16384)
  :: StableHlo.nullary main_cst_16 (constant S_ .f32 0x40000000#32)
  :: StableHlo.unary main_cst_16 main_v91 (broadcastInDim S4x16384 ![] bcast_S_S4x16384 : Cf32 F S_ → Cf32 F S4x16384)
  :: StableHlo.binary main_v81 main_v91 main_v92 (Host.divf : Cf32 F S4x16384 → Cf32 F S4x16384 → Cf32 F S4x16384)
  :: StableHlo.binary main_v77 main_v92 main_v93 (addf : Cf32 F S4x16384 → Cf32 F S4x16384 → Cf32 F S4x16384)
  :: StableHlo.reshape main_arg0 main_v94 (rfl : (.f32 : EltTy) = .f32) shapeCasts_S4x16384x1_S4x16384
  :: StableHlo.binary main_v90 main_v84 main_v95 (subf : Cf32 F S4x16384 → Cf32 F S4x16384 → Cf32 F S4x16384)
  :: StableHlo.nullary main_cst_17 (constant S_ .f32 0x00000000#32)
  :: StableHlo.unary main_cst_17 main_v96 (broadcastInDim S4x16384 ![] bcast_S_S4x16384 : Cf32 F S_ → Cf32 F S4x16384)
  :: StableHlo.binary main_v95 main_v96 main_v97 (maximumf : Cf32 F S4x16384 → Cf32 F S4x16384 → Cf32 F S4x16384)
  :: StableHlo.binary main_v93 main_v87 main_v98 (subf : Cf32 F S4x16384 → Cf32 F S4x16384 → Cf32 F S4x16384)
  :: StableHlo.nullary main_cst_18 (constant S_ .f32 0x00000000#32)
  :: StableHlo.unary main_cst_18 main_v99 (broadcastInDim S4x16384 ![] bcast_S_S4x16384 : Cf32 F S_ → Cf32 F S4x16384)
  :: StableHlo.binary main_v98 main_v99 main_v100 (maximumf : Cf32 F S4x16384 → Cf32 F S4x16384 → Cf32 F S4x16384)
  :: StableHlo.binary main_v97 main_v100 main_v101 (mulf : Cf32 F S4x16384 → Cf32 F S4x16384 → Cf32 F S4x16384)
  :: StableHlo.nullary main_c (constantI S_ 1 0#1)
  :: StableHlo.unary main_c main_v102 (broadcastInDim S4x16384 ![] bcast_S_S4x16384 : Ci1 F S_ → Ci1 F S4x16384)
  :: StableHlo.nullary main_c_19 (constantI S_ 32 0#32)
  :: StableHlo.unary main_c_19 main_v103 (broadcastInDim S512x4 ![] bcast_S_S512x4 : Ci32 F S_ → Ci32 F S512x4)
  :: StableHlo.nullary main_c_20 (constantI S_ 1 0#1)
  :: StableHlo.unary main_c_20 main_v104 (broadcastInDim S512x4 ![] bcast_S_S512x4 : Ci1 F S_ → Ci1 F S512x4)
  :: StableHlo.nullary main_c_21 (constantI S_ 32 0#32)
  :: StableHlo.unary main_v94 main_v105_0 id
  :: StableHlo.unary main_v84 main_v105_1 id
  :: StableHlo.unary main_v87 main_v105_2 id
  :: StableHlo.unary main_v90 main_v105_3 id
  :: StableHlo.unary main_v93 main_v105_4 id
  :: StableHlo.unary main_v101 main_v105_5 id
  :: StableHlo.unary main_c_21 main_v105_6 id
  :: StableHlo.unary main_v102 main_v105_7 id
  :: StableHlo.unary main_v103 main_v105_8 id
  :: StableHlo.unary main_v104 main_v105_9 id
  :: [] )
set_option maxHeartbeats 40000000 in  -- a long stretch: its list (or the term over it) exceeds the default budget
/-- Each touches TensorCore references only (`HostSeg.ofOps` over `StableHlo.tcRefs`, or a subset by `sub_ucRefs`). -/
theorem hostOps0_16_sub : (hostOps0_16 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 5 host operations of @main, in order. -/
abbrev hostOps0_17 : List (HloOp τ sig (Elt F)) :=
  [ StableHlo.unary main_v105_8 main_v106 ((transpose S4x512 [1, 0] · transposes_S512x4_S4x512_1_0) : Ci32 F S512x4 → Ci32 F S4x512),
    StableHlo.unary main_v105_9 main_v107 ((transpose S4x512 [1, 0] · transposes_S512x4_S4x512_1_0) : Ci1 F S512x4 → Ci1 F S4x512),
    StableHlo.unary main_v107 main_v108 (uitofp .f32 : Ci1 F S4x512 → Cf32 F S4x512),
    StableHlo.unary main_v108 main_v109 (broadcastInDim S4x512x1 ![0, 1] bcast_S4x512_S4x512x1_0_1 : Cf32 F S4x512 → Cf32 F S4x512x1),
    StableHlo.unary main_v106 main_v110 (broadcastInDim S4x512x1 ![0, 1] bcast_S4x512_S4x512x1_0_1 : Ci32 F S4x512 → Ci32 F S4x512x1) ]
/-- Each touches TensorCore references only (`HostSeg.ofOps` over `StableHlo.tcRefs`, or a subset by `sub_ucRefs`). -/
theorem hostOps0_17_sub : (hostOps0_17 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩
/-- 8 host operations of @take_along_axis_5 (main_call19), in order. -/
abbrev hostOps0_18 : List (HloOp τ sig (Elt F)) :=
  [ StableHlo.TRef.nullary (Ti32 S_ main_call19_c) (constantI S_ 32 0#32),
    StableHlo.TRef.unary (Ti32 S_ main_call19_c) (Ti32 S4x512x1 main_call19_v0) (broadcastInDim S4x512x1 ![] bcast_S_S4x512x1),
    StableHlo.TRef.binary (Ti32 S4x512x1 main_v110) (Ti32 S4x512x1 main_call19_v0) (Ti1 S4x512x1 main_call19_v1) (cmpi .slt),
    StableHlo.TRef.nullary (Ti32 S_ main_call19_c_0) (constantI S_ 32 16384#32),
    StableHlo.TRef.unary (Ti32 S_ main_call19_c_0) (Ti32 S4x512x1 main_call19_v2) (broadcastInDim S4x512x1 ![] bcast_S_S4x512x1),
    StableHlo.TRef.binary (Ti32 S4x512x1 main_v110) (Ti32 S4x512x1 main_call19_v2) (Ti32 S4x512x1 main_call19_v3) addi,
    StableHlo.TRef.ternary (Ti1 S4x512x1 main_call19_v1) (Ti32 S4x512x1 main_call19_v3) (Ti32 S4x512x1 main_v110) (Ti32 S4x512x1 main_call19_v4) select,
    StableHlo.TRef.binary (Tf32 S4x16384x7 main_v73) (Ti32 S4x512x1 main_call19_v4) (Tf32 S4x512x7 main_v111) (fun x i => Host.gather gather_S4x16384x7_S4x512x1_S4x512x7_2_1_0_0_1_2_117 x i) ]
/-- Each touches TensorCore references only (`HostSeg.ofOps` over `StableHlo.tcRefs`, or a subset by `sub_ucRefs`). -/
theorem hostOps0_18_sub : (hostOps0_18 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 3 host operations of @main, in order. -/
abbrev hostOps0_19 : List (HloOp τ sig (Elt F)) :=
  [ StableHlo.unary main_v109 main_v112 (broadcastInDim S4x512x7 ![0, 1, 2] bcast_S4x512x1_S4x512x7_0_1_2 : Cf32 F S4x512x1 → Cf32 F S4x512x7),
    StableHlo.binary main_v111 main_v112 main_v113 (mulf : Cf32 F S4x512x7 → Cf32 F S4x512x7 → Cf32 F S4x512x7),
    StableHlo.unary main_v106 main_v114 (broadcastInDim S4x512x1 ![0, 1] bcast_S4x512_S4x512x1_0_1 : Ci32 F S4x512 → Ci32 F S4x512x1) ]
/-- Each touches TensorCore references only (`HostSeg.ofOps` over `StableHlo.tcRefs`, or a subset by `sub_ucRefs`). -/
theorem hostOps0_19_sub : (hostOps0_19 : List (HloOp τ sig (Elt F))).Forall fun op => op.bufs ⊆ StableHlo.tcRefs τ sig :=
  ⟨StableHlo.unary_bufs_sub .., StableHlo.binary_bufs_sub .., StableHlo.unary_bufs_sub ..⟩
/-- 8 host operations of @take_along_axis_6 (main_call20), in order. -/
abbrev hostOps0_20 : List (HloOp τ sig (Elt F)) :=
  [ StableHlo.TRef.nullary (Ti32 S_ main_call20_c) (constantI S_ 32 0#32),
    StableHlo.TRef.unary (Ti32 S_ main_call20_c) (Ti32 S4x512x1 main_call20_v0) (broadcastInDim S4x512x1 ![] bcast_S_S4x512x1),
    StableHlo.TRef.binary (Ti32 S4x512x1 main_v114) (Ti32 S4x512x1 main_call20_v0) (Ti1 S4x512x1 main_call20_v1) (cmpi .slt),
    StableHlo.TRef.nullary (Ti32 S_ main_call20_c_0) (constantI S_ 32 16384#32),
    StableHlo.TRef.unary (Ti32 S_ main_call20_c_0) (Ti32 S4x512x1 main_call20_v2) (broadcastInDim S4x512x1 ![] bcast_S_S4x512x1),
    StableHlo.TRef.binary (Ti32 S4x512x1 main_v114) (Ti32 S4x512x1 main_call20_v2) (Ti32 S4x512x1 main_call20_v3) addi,
    StableHlo.TRef.ternary (Ti1 S4x512x1 main_call20_v1) (Ti32 S4x512x1 main_call20_v3) (Ti32 S4x512x1 main_v114) (Ti32 S4x512x1 main_call20_v4) select,
    StableHlo.TRef.binary (Tf32 S4x16384x1 main_arg0) (Ti32 S4x512x1 main_call20_v4) (Tf32 S4x512x1 main_v115) (fun x i => Host.gather gather_S4x16384x1_S4x512x1_S4x512x1_2_1_0_0_1_2_111 x i) ]
/-- Each touches TensorCore references only (`HostSeg.ofOps` over `StableHlo.tcRefs`, or a subset by `sub_ucRefs`). -/
theorem hostOps0_20_sub : (hostOps0_20 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 1 host operation of @main, in order. -/
abbrev hostOps0_21 : List (HloOp τ sig (Elt F)) :=
  [ StableHlo.binary main_v115 main_v109 main_v116 (mulf : Cf32 F S4x512x1 → Cf32 F S4x512x1 → Cf32 F S4x512x1) ]
/-- Each touches TensorCore references only (`HostSeg.ofOps` over `StableHlo.tcRefs`, or a subset by `sub_ucRefs`). -/
theorem hostOps0_21_sub : (hostOps0_21 : List (HloOp τ sig (Elt F))).Forall fun op => op.bufs ⊆ StableHlo.tcRefs τ sig :=
  StableHlo.binary_bufs_sub ..
/-- 4 host operations of @main, window 0 (statements 1 … 60), in order. -/
abbrev main_part0_ops0 : List (HloOp τ sig (Elt F)) :=
  [ StableHlo.nullary main_cst (fun i => FloatOps.ofBits .f32 (lit0 (S3.rowMajor i))),
    StableHlo.reshape main_arg2 main_v0 (rfl : (.f32 : EltTy) = .f32) shapeCasts_S4x16384x3_S65536x3,
    StableHlo.reshape main_arg1 main_v1 (rfl : (.f32 : EltTy) = .f32) shapeCasts_S4x16384x76_S65536x76,
    StableHlo.unary main_v1 main_v2 ((extractStridedSlice S65536x12 ![0, 0] · slices_S65536x76_S65536x12_0_0) : Cf32 F S65536x76 → Cf32 F S65536x12) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.reshape_bufs_sub .., StableHlo.reshape_bufs_sub .., StableHlo.unary_bufs_sub ..⟩
/-- 5 host operations of @argmax (main_call0), window 0 (statements 1 … 60), in order. -/
abbrev main_part0_ops1 : List (HloOp τ sig (Elt F)) :=
  [ StableHlo.TRef.nullary (Ti32 S65536x12 main_call0_v0) (iotaInDim S65536x12 32 1),
    StableHlo.TRef.nullary (Tf32 S_ main_call0_cst) (constant S_ .f32 0xFF800000#32),
    StableHlo.TRef.nullary (Ti32 S_ main_call0_c) (constantI S_ 32 0#32),
    StableHlo.TRef.quaternary (Tf32 S65536x12 main_v2) (Ti32 S65536x12 main_call0_v0) (Tf32 S_ main_call0_cst) (Ti32 S_ main_call0_c) (Tf32 S65536 main_call0_v1_0) (fun x y u v j => (Host.argReduce reducer_argmax_f32_i32 x y u v reducesTo_S65536x12_S65536_d1 h_S_ j).1),
    StableHlo.TRef.quaternary (Tf32 S65536x12 main_v2) (Ti32 S65536x12 main_call0_v0) (Tf32 S_ main_call0_cst) (Ti32 S_ main_call0_c) (Ti32 S65536 main_v3) (fun x y u v j => (Host.argReduce reducer_argmax_f32_i32 x y u v reducesTo_S65536x12_S65536_d1 h_S_ j).2) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, window 0 (statements 1 … 60), in order. -/
abbrev main_part0_ops2 : List (HloOp τ sig (Elt F)) :=
  [ StableHlo.unary main_v1 main_v4 ((extractStridedSlice S65536x12 ![0, 12] · slices_S65536x76_S65536x12_0_12) : Cf32 F S65536x76 → Cf32 F S65536x12) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  StableHlo.unary_bufs_sub ..
/-- 5 host operations of @argmax (main_call1), window 0 (statements 1 … 60), in order. -/
abbrev main_part0_ops3 : List (HloOp τ sig (Elt F)) :=
  [ StableHlo.TRef.nullary (Ti32 S65536x12 main_call1_v0) (iotaInDim S65536x12 32 1),
    StableHlo.TRef.nullary (Tf32 S_ main_call1_cst) (constant S_ .f32 0xFF800000#32),
    StableHlo.TRef.nullary (Ti32 S_ main_call1_c) (constantI S_ 32 0#32),
    StableHlo.TRef.quaternary (Tf32 S65536x12 main_v4) (Ti32 S65536x12 main_call1_v0) (Tf32 S_ main_call1_cst) (Ti32 S_ main_call1_c) (Tf32 S65536 main_call1_v1_0) (fun x y u v j => (Host.argReduce reducer_argmax_f32_i32 x y u v reducesTo_S65536x12_S65536_d1 h_S_ j).1),
    StableHlo.TRef.quaternary (Tf32 S65536x12 main_v4) (Ti32 S65536x12 main_call1_v0) (Tf32 S_ main_call1_cst) (Ti32 S_ main_call1_c) (Ti32 S65536 main_v5) (fun x y u v j => (Host.argReduce reducer_argmax_f32_i32 x y u v reducesTo_S65536x12_S65536_d1 h_S_ j).2) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 22 host operations of @main, window 0 (statements 1 … 60), in order. -/
abbrev main_part0_ops4 : List (HloOp τ sig (Elt F)) :=
  [ StableHlo.unary main_v3 main_v6 (sitofp .f32 : Ci32 F S65536 → Cf32 F S65536),
    StableHlo.nullary main_cst_0 (constant S_ .f32 0x3F000000#32),
    StableHlo.unary main_cst_0 main_v7 (broadcastInDim S65536 ![] bcast_S_S65536 : Cf32 F S_ → Cf32 F S65536),
    StableHlo.binary main_v6 main_v7 main_v8 (mulf : Cf32 F S65536 → Cf32 F S65536 → Cf32 F S65536),
    StableHlo.nullary main_cst_1 (constant S_ .f32 0x3E800000#32),
    StableHlo.unary main_cst_1 main_v9 (broadcastInDim S65536 ![] bcast_S_S65536 : Cf32 F S_ → Cf32 F S65536),
    StableHlo.binary main_v8 main_v9 main_v10 (addf : Cf32 F S65536 → Cf32 F S65536 → Cf32 F S65536),
    StableHlo.nullary main_cst_2 (constant S_ .f32 0x40400000#32),
    StableHlo.unary main_cst_2 main_v11 (broadcastInDim S65536 ![] bcast_S_S65536 : Cf32 F S_ → Cf32 F S65536),
    StableHlo.binary main_v10 main_v11 main_v12 (subf : Cf32 F S65536 → Cf32 F S65536 → Cf32 F S65536),
    StableHlo.unary main_v5 main_v13 (sitofp .f32 : Ci32 F S65536 → Cf32 F S65536),
    StableHlo.nullary main_cst_3 (constant S_ .f32 0x3F000000#32),
    StableHlo.unary main_cst_3 main_v14 (broadcastInDim S65536 ![] bcast_S_S65536 : Cf32 F S_ → Cf32 F S65536),
    StableHlo.binary main_v13 main_v14 main_v15 (mulf : Cf32 F S65536 → Cf32 F S65536 → Cf32 F S65536),
    StableHlo.nullary main_cst_4 (constant S_ .f32 0x3E800000#32),
    StableHlo.unary main_cst_4 main_v16 (broadcastInDim S65536 ![] bcast_S_S65536 : Cf32 F S_ → Cf32 F S65536),
    StableHlo.binary main_v15 main_v16 main_v17 (addf : Cf32 F S65536 → Cf32 F S65536 → Cf32 F S65536),
    StableHlo.nullary main_cst_5 (constant S_ .f32 0x40400000#32),
    StableHlo.unary main_cst_5 main_v18 (broadcastInDim S65536 ![] bcast_S_S65536 : Cf32 F S_ → Cf32 F S65536),
    StableHlo.binary main_v17 main_v18 main_v19 (subf : Cf32 F S65536 → Cf32 F S65536 → Cf32 F S65536),
    StableHlo.unary main_v1 main_v20 ((extractStridedSlice S65536x12 ![0, 24] · slices_S65536x76_S65536x12_0_24) : Cf32 F S65536x76 → Cf32 F S65536x12),
    StableHlo.unary main_v3 main_v21 (broadcastInDim S65536x1 ![0] bcast_S65536_S65536x1_0 : Ci32 F S65536 → Ci32 F S65536x1) ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩
/-- 9 host operations of @take_along_axis (main_call2), window 0 (statements 1 … 60), in order. -/
abbrev main_part0_ops5 : List (HloOp τ sig (Elt F)) :=
  [ StableHlo.TRef.nullary (Ti32 S_ main_call2_c) (constantI S_ 32 0#32),
    StableHlo.TRef.unary (Ti32 S_ main_call2_c) (Ti32 S65536x1 main_call2_v0) (broadcastInDim S65536x1 ![] bcast_S_S65536x1),
    StableHlo.TRef.binary (Ti32 S65536x1 main_v21) (Ti32 S65536x1 main_call2_v0) (Ti1 S65536x1 main_call2_v1) (cmpi .slt),
    StableHlo.TRef.nullary (Ti32 S_ main_call2_c_0) (constantI S_ 32 12#32),
    StableHlo.TRef.unary (Ti32 S_ main_call2_c_0) (Ti32 S65536x1 main_call2_v2) (broadcastInDim S65536x1 ![] bcast_S_S65536x1),
    StableHlo.TRef.binary (Ti32 S65536x1 main_v21) (Ti32 S65536x1 main_call2_v2) (Ti32 S65536x1 main_call2_v3) addi,
    StableHlo.TRef.ternary (Ti1 S65536x1 main_call2_v1) (Ti32 S65536x1 main_call2_v3) (Ti32 S65536x1 main_v21) (Ti32 S65536x1 main_call2_v4) select,
    StableHlo.TRef.reshape (Ti32 S65536x1 main_call2_v4) (Ti32 S65536x1x1 main_call2_v5) (rfl : (.i32 : EltTy) = .i32) shapeCasts_S65536x1_S65536x1x1,
    StableHlo.TRef.binary (Tf32 S65536x12 main_v20) (Ti32 S65536x1x1 main_call2_v5) (Tf32 S65536x1 main_v22) (fun x i => Host.gather gather_S65536x12_S65536x1x1_S65536x1_n_1_0_0_1_2_11 x i) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 3 host operations of @main, window 0 (statements 1 … 60), in order. -/
abbrev main_part0_ops6 : List (HloOp τ sig (Elt F)) :=
  [ StableHlo.reshape main_v22 main_v23 (rfl : (.f32 : EltTy) = .f32) shapeCasts_S65536x1_S65536,
    StableHlo.unary main_v1 main_v24 ((extractStridedSlice S65536x12 ![0, 36] · slices_S65536x76_S65536x12_0_36) : Cf32 F S65536x76 → Cf32 F S65536x12),
    StableHlo.unary main_v5 main_v25 (broadcastInDim S65536x1 ![0] bcast_S65536_S65536x1_0 : Ci32 F S65536 → Ci32 F S65536x1) ]
/-- Each touches TensorCore references only (`HostSeg.ofOps` over `StableHlo.tcRefs`, or a subset by `sub_ucRefs`). -/
theorem main_part0_ops6_sub : (main_part0_ops6 : List (HloOp τ sig (Elt F))).Forall fun op => op.bufs ⊆ StableHlo.tcRefs τ sig :=
  ⟨StableHlo.reshape_bufs_sub .., StableHlo.unary_bufs_sub .., StableHlo.unary_bufs_sub ..⟩
/-- 9 host operations of @take_along_axis (main_call3), window 0 (statements 1 … 60), in order. -/
abbrev main_part0_ops7 : List (HloOp τ sig (Elt F)) :=
  [ StableHlo.TRef.nullary (Ti32 S_ main_call3_c) (constantI S_ 32 0#32),
    StableHlo.TRef.unary (Ti32 S_ main_call3_c) (Ti32 S65536x1 main_call3_v0) (broadcastInDim S65536x1 ![] bcast_S_S65536x1),
    StableHlo.TRef.binary (Ti32 S65536x1 main_v25) (Ti32 S65536x1 main_call3_v0) (Ti1 S65536x1 main_call3_v1) (cmpi .slt),
    StableHlo.TRef.nullary (Ti32 S_ main_call3_c_0) (constantI S_ 32 12#32),
    StableHlo.TRef.unary (Ti32 S_ main_call3_c_0) (Ti32 S65536x1 main_call3_v2) (broadcastInDim S65536x1 ![] bcast_S_S65536x1),
    StableHlo.TRef.binary (Ti32 S65536x1 main_v25) (Ti32 S65536x1 main_call3_v2) (Ti32 S65536x1 main_call3_v3) addi,
    StableHlo.TRef.ternary (Ti1 S65536x1 main_call3_v1) (Ti32 S65536x1 main_call3_v3) (Ti32 S65536x1 main_v25) (Ti32 S65536x1 main_call3_v4) select,
    StableHlo.TRef.reshape (Ti32 S65536x1 main_call3_v4) (Ti32 S65536x1x1 main_call3_v5) (rfl : (.i32 : EltTy) = .i32) shapeCasts_S65536x1_S65536x1x1,
    StableHlo.TRef.binary (Tf32 S65536x12 main_v24) (Ti32 S65536x1x1 main_call3_v5) (Tf32 S65536x1 main_v26) (fun x i => Host.gather gather_S65536x12_S65536x1x1_S65536x1_n_1_0_0_1_2_11 x i) ]
/-- Each touches TensorCore references only (`HostSeg.ofOps` over `StableHlo.tcRefs`, or a subset by `sub_ucRefs`). -/
theorem main_part0_ops7_sub : (main_part0_ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 15 host operations of @main, window 0 (statements 1 … 60), in order. -/
abbrev main_part0_ops8 : List (HloOp τ sig (Elt F)) :=
  [ StableHlo.reshape main_v26 main_v27 (rfl : (.f32 : EltTy) = .f32) shapeCasts_S65536x1_S65536,
    StableHlo.nullary main_cst_6 (constant S_ .f32 0x3F000000#32),
    StableHlo.unary main_cst_6 main_v28 (broadcastInDim S65536 ![] bcast_S_S65536 : Cf32 F S_ → Cf32 F S65536),
    StableHlo.binary main_v23 main_v28 main_v29 (mulf : Cf32 F S65536 → Cf32 F S65536 → Cf32 F S65536),
    StableHlo.binary main_v12 main_v29 main_v30 (addf : Cf32 F S65536 → Cf32 F S65536 → Cf32 F S65536),
    StableHlo.nullary main_cst_7 (constant S_ .f32 0x3F000000#32),
    StableHlo.unary main_cst_7 main_v31 (broadcastInDim S65536 ![] bcast_S_S65536 : Cf32 F S_ → Cf32 F S65536),
    StableHlo.binary main_v27 main_v31 main_v32 (mulf : Cf32 F S65536 → Cf32 F S65536 → Cf32 F S65536),
    StableHlo.binary main_v19 main_v32 main_v33 (addf : Cf32 F S65536 → Cf32 F S65536 → Cf32 F S65536),
    StableHlo.unary main_v0 main_v34 ((extractStridedSlice S65536x1 ![0, 1] · slices_S65536x3_S65536x1_0_1) : Cf32 F S65536x3 → Cf32 F S65536x1),
    StableHlo.reshape main_v34 main_v35 (rfl : (.f32 : EltTy) = .f32) shapeCasts_S65536x1_S65536,
    StableHlo.unary main_v1 main_v36 ((extractStridedSlice S65536x1 ![0, 48] · slices_S65536x76_S65536x1_0_48) : Cf32 F S65536x76 → Cf32 F S65536x1),
    StableHlo.reshape main_v36 main_v37 (rfl : (.f32 : EltTy) = .f32) shapeCasts_S65536x1_S65536,
    StableHlo.binary main_v35 main_v37 main_v38 (addf : Cf32 F S65536 → Cf32 F S65536 → Cf32 F S65536),
    StableHlo.unary main_v1 main_v39 ((extractStridedSlice S65536x12 ![0, 49] · slices_S65536x76_S65536x12_0_49) : Cf32 F S65536x76 → Cf32 F S65536x12) ]
/-- Each touches TensorCore references only (`HostSeg.ofOps` over `StableHlo.tcRefs`, or a subset by `sub_ucRefs`). -/
theorem main_part0_ops8_sub : (main_part0_ops8 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub ..⟩
/-- 5 host operations of @argmax (main_call4), window 0 (statements 1 … 60), in order. -/
abbrev main_part0_ops9 : List (HloOp τ sig (Elt F)) :=
  [ StableHlo.TRef.nullary (Ti32 S65536x12 main_call4_v0) (iotaInDim S65536x12 32 1),
    StableHlo.TRef.nullary (Tf32 S_ main_call4_cst) (constant S_ .f32 0xFF800000#32),
    StableHlo.TRef.nullary (Ti32 S_ main_call4_c) (constantI S_ 32 0#32),
    StableHlo.TRef.quaternary (Tf32 S65536x12 main_v39) (Ti32 S65536x12 main_call4_v0) (Tf32 S_ main_call4_cst) (Ti32 S_ main_call4_c) (Tf32 S65536 main_call4_v1_0) (fun x y u v j => (Host.argReduce reducer_argmax_f32_i32 x y u v reducesTo_S65536x12_S65536_d1 h_S_ j).1),
    StableHlo.TRef.quaternary (Tf32 S65536x12 main_v39) (Ti32 S65536x12 main_call4_v0) (Tf32 S_ main_call4_cst) (Ti32 S_ main_call4_c) (Ti32 S65536 main_v40) (fun x y u v j => (Host.argReduce reducer_argmax_f32_i32 x y u v reducesTo_S65536x12_S65536_d1 h_S_ j).2) ]
/-- Each touches TensorCore references only (`HostSeg.ofOps` over `StableHlo.tcRefs`, or a subset by `sub_ucRefs`). -/
theorem main_part0_ops9_sub : (main_part0_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 2 host operations of @main, window 0 (statements 1 … 60), in order. -/
abbrev main_part0_ops10 : List (HloOp τ sig (Elt F)) :=
  [ StableHlo.unary main_v1 main_v41 ((extractStridedSlice S65536x12 ![0, 61] · slices_S65536x76_S65536x12_0_61) : Cf32 F S65536x76 → Cf32 F S65536x12),
    StableHlo.unary main_v40 main_v42 (broadcastInDim S65536x1 ![0] bcast_S65536_S65536x1_0 : Ci32 F S65536 → Ci32 F S65536x1) ]
/-- Each touches TensorCore references only (`HostSeg.ofOps` over `StableHlo.tcRefs`, or a subset by `sub_ucRefs`). -/
theorem main_part0_ops10_sub : (main_part0_ops10 : List (HloOp τ sig (Elt F))).Forall fun op => op.bufs ⊆ StableHlo.tcRefs τ sig :=
  ⟨StableHlo.unary_bufs_sub .., StableHlo.unary_bufs_sub ..⟩
/-- 9 host operations of @take_along_axis (main_call5), window 0 (statements 1 … 60), in order. -/
abbrev main_part0_ops11 : List (HloOp τ sig (Elt F)) :=
  [ StableHlo.TRef.nullary (Ti32 S_ main_call5_c) (constantI S_ 32 0#32),
    StableHlo.TRef.unary (Ti32 S_ main_call5_c) (Ti32 S65536x1 main_call5_v0) (broadcastInDim S65536x1 ![] bcast_S_S65536x1),
    StableHlo.TRef.binary (Ti32 S65536x1 main_v42) (Ti32 S65536x1 main_call5_v0) (Ti1 S65536x1 main_call5_v1) (cmpi .slt),
    StableHlo.TRef.nullary (Ti32 S_ main_call5_c_0) (constantI S_ 32 12#32),
    StableHlo.TRef.unary (Ti32 S_ main_call5_c_0) (Ti32 S65536x1 main_call5_v2) (broadcastInDim S65536x1 ![] bcast_S_S65536x1),
    StableHlo.TRef.binary (Ti32 S65536x1 main_v42) (Ti32 S65536x1 main_call5_v2) (Ti32 S65536x1 main_call5_v3) addi,
    StableHlo.TRef.ternary (Ti1 S65536x1 main_call5_v1) (Ti32 S65536x1 main_call5_v3) (Ti32 S65536x1 main_v42) (Ti32 S65536x1 main_call5_v4) select,
    StableHlo.TRef.reshape (Ti32 S65536x1 main_call5_v4) (Ti32 S65536x1x1 main_call5_v5) (rfl : (.i32 : EltTy) = .i32) shapeCasts_S65536x1_S65536x1x1,
    StableHlo.TRef.binary (Tf32 S65536x12 main_v41) (Ti32 S65536x1x1 main_call5_v5) (Tf32 S65536x1 main_v43) (fun x i => Host.gather gather_S65536x12_S65536x1x1_S65536x1_n_1_0_0_1_2_11 x i) ]
/-- Each touches TensorCore references only (`HostSeg.ofOps` over `StableHlo.tcRefs`, or a subset by `sub_ucRefs`). -/
theorem main_part0_ops11_sub : (main_part0_ops11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 7 host operations of @main, window 0 (statements 1 … 60), in order. -/
abbrev main_part0_ops12 : List (HloOp τ sig (Elt F)) :=
  [ StableHlo.reshape main_v43 main_v44 (rfl : (.f32 : EltTy) = .f32) shapeCasts_S65536x1_S65536,
    StableHlo.nullary main_cst_8 (constant S_ .f32 0x3E860A92#32),
    StableHlo.unary main_cst_8 main_v45 (broadcastInDim S65536 ![] bcast_S_S65536 : Cf32 F S_ → Cf32 F S65536),
    StableHlo.binary main_v44 main_v45 main_v46 (mulf : Cf32 F S65536 → Cf32 F S65536 → Cf32 F S65536),
    StableHlo.unary main_v40 main_v47 (sitofp .f32 : Ci32 F S65536 → Cf32 F S65536),
    StableHlo.nullary main_cst_9 (constant S_ .f32 0x3F060A92#32),
    StableHlo.unary main_cst_9 main_v48 (broadcastInDim S65536 ![] bcast_S_S65536 : Cf32 F S_ → Cf32 F S65536) ]
/-- Each touches TensorCore references only (`HostSeg.ofOps` over `StableHlo.tcRefs`, or a subset by `sub_ucRefs`). -/
theorem main_part0_ops12_sub : (main_part0_ops12 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub .., StableHlo.nullary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11 ]
  (StableHlo.seq main_part0_ops12) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 3 host operations of @main, window 1 (statements 61 … 120), in order. -/
abbrev main_part1_ops0 : List (HloOp τ sig (Elt F)) :=
  [ StableHlo.binary main_v47 main_v48 main_v49 (mulf : Cf32 F S65536 → Cf32 F S65536 → Cf32 F S65536),
    StableHlo.binary main_v49 main_v46 main_v50 (addf : Cf32 F S65536 → Cf32 F S65536 → Cf32 F S65536),
    StableHlo.nullary main_cst_10 (constant S_ .f32 0x40C90FDB#32) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.binary_bufs_sub .., StableHlo.binary_bufs_sub .., StableHlo.nullary_bufs_sub ..⟩
/-- 17 host operations of @remainder (main_call6), window 1 (statements 61 … 120), in order. -/
abbrev main_part1_ops1 : List (HloOp τ sig (Elt F)) :=
  [ StableHlo.TRef.unary (Tf32 S_ main_cst_10) (Tf32 S_ main_call6_v0) id,
    StableHlo.TRef.unary (Tf32 S_ main_call6_v0) (Tf32 S65536 main_call6_v1) (broadcastInDim S65536 ![] bcast_S_S65536),
    StableHlo.TRef.binary (Tf32 S65536 main_v50) (Tf32 S65536 main_call6_v1) (Tf32 S65536 main_call6_v2) Host.remf,
    StableHlo.TRef.nullary (Tf32 S_ main_call6_cst) (constant S_ .f32 0x00000000#32),
    StableHlo.TRef.unary (Tf32 S_ main_call6_cst) (Tf32 S65536 main_call6_v3) (broadcastInDim S65536 ![] bcast_S_S65536),
    StableHlo.TRef.binary (Tf32 S65536 main_call6_v2) (Tf32 S65536 main_call6_v3) (Ti1 S65536 main_call6_v4) (cmpf .une),
    StableHlo.TRef.nullary (Tf32 S_ main_call6_cst_0) (constant S_ .f32 0x00000000#32),
    StableHlo.TRef.unary (Tf32 S_ main_call6_cst_0) (Tf32 S65536 main_call6_v5) (broadcastInDim S65536 ![] bcast_S_S65536),
    StableHlo.TRef.binary (Tf32 S65536 main_call6_v2) (Tf32 S65536 main_call6_v5) (Ti1 S65536 main_call6_v6) (cmpf .olt),
    StableHlo.TRef.nullary (Tf32 S_ main_call6_cst_1) (constant S_ .f32 0x00000000#32),
    StableHlo.TRef.binary (Tf32 S_ main_call6_v0) (Tf32 S_ main_call6_cst_1) (Ti1 S_ main_call6_v7) (cmpf .olt),
    StableHlo.TRef.unary (Ti1 S_ main_call6_v7) (Ti1 S65536 main_call6_v8) (broadcastInDim S65536 ![] bcast_S_S65536),
    StableHlo.TRef.binary (Ti1 S65536 main_call6_v6) (Ti1 S65536 main_call6_v8) (Ti1 S65536 main_call6_v9) (cmpi .ne),
    StableHlo.TRef.binary (Ti1 S65536 main_call6_v9) (Ti1 S65536 main_call6_v4) (Ti1 S65536 main_call6_v10) andi,
    StableHlo.TRef.unary (Tf32 S_ main_call6_v0) (Tf32 S65536 main_call6_v11) (broadcastInDim S65536 ![] bcast_S_S65536),
    StableHlo.TRef.binary (Tf32 S65536 main_call6_v2) (Tf32 S65536 main_call6_v11) (Tf32 S65536 main_call6_v12) addf,
    StableHlo.TRef.ternary (Ti1 S65536 main_call6_v10) (Tf32 S65536 main_call6_v12) (Tf32 S65536 main_call6_v2) (Tf32 S65536 main_v51) select ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 6 host operations of @main, window 1 (statements 61 … 120), in order. -/
abbrev main_part1_ops2 : List (HloOp τ sig (Elt F)) :=
  [ StableHlo.nullary main_cst_11 (constant S_ .f32 0x40490FDB#32),
    StableHlo.unary main_cst_11 main_v52 (broadcastInDim S65536 ![] bcast_S_S65536 : Cf32 F S_ → Cf32 F S65536),
    StableHlo.binary main_v51 main_v52 main_v53 (cmpf .ogt : Cf32 F S65536 → Cf32 F S65536 → Ci1 F S65536),
    StableHlo.nullary main_cst_12 (constant S_ .f32 0x40C90FDB#32),
    StableHlo.unary main_cst_12 main_v54 (broadcastInDim S65536 ![] bcast_S_S65536 : Cf32 F S_ → Cf32 F S65536),
    StableHlo.binary main_v51 main_v54 main_v55 (subf : Cf32 F S65536 → Cf32 F S65536 → Cf32 F S65536) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..⟩
/-- 1 host operation of @_where (main_call7), window 1 (statements 61 … 120), in order. -/
abbrev main_part1_ops3 : List (HloOp τ sig (Elt F)) :=
  [ StableHlo.TRef.ternary (Ti1 S65536 main_v53) (Tf32 S65536 main_v55) (Tf32 S65536 main_v51) (Tf32 S65536 main_v56) select ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  StableHlo.ternary_bufs_sub ..
/-- 49 host operations of @main, window 1 (statements 61 … 120), in order. -/
abbrev main_part1_ops4 : List (HloOp τ sig (Elt F)) :=
  ( StableHlo.unary main_v1 main_v57 ((extractStridedSlice S65536x3 ![0, 73] · slices_S65536x76_S65536x3_0_73) : Cf32 F S65536x76 → Cf32 F S65536x3)
  :: StableHlo.unary main_cst main_v58 (broadcastInDim S1x3 ![1] bcast_S3_S1x3_1 : Cf32 F S3 → Cf32 F S1x3)
  :: StableHlo.unary main_v58 main_v59 (broadcastInDim S65536x3 ![0, 1] bcast_S1x3_S65536x3_0_1 : Cf32 F S1x3 → Cf32 F S65536x3)
  :: StableHlo.binary main_v57 main_v59 main_v60 (mulf : Cf32 F S65536x3 → Cf32 F S65536x3 → Cf32 F S65536x3)
  :: StableHlo.unary main_cst main_v61 (broadcastInDim S1x3 ![1] bcast_S3_S1x3_1 : Cf32 F S3 → Cf32 F S1x3)
  :: StableHlo.unary main_v61 main_v62 (broadcastInDim S65536x3 ![0, 1] bcast_S1x3_S65536x3_0_1 : Cf32 F S1x3 → Cf32 F S65536x3)
  :: StableHlo.binary main_v60 main_v62 main_v63 (addf : Cf32 F S65536x3 → Cf32 F S65536x3 → Cf32 F S65536x3)
  :: StableHlo.unary main_v30 main_v64 (broadcastInDim S65536x1 ![0] bcast_S65536_S65536x1_0 : Cf32 F S65536 → Cf32 F S65536x1)
  :: StableHlo.unary main_v0 main_v65 ((extractStridedSlice S65536x1 ![0, 0] · slices_S65536x3_S65536x1_0_0) : Cf32 F S65536x3 → Cf32 F S65536x1)
  :: StableHlo.binary main_v64 main_v65 main_v66 (addf : Cf32 F S65536x1 → Cf32 F S65536x1 → Cf32 F S65536x1)
  :: StableHlo.unary main_v38 main_v67 (broadcastInDim S65536x1 ![0] bcast_S65536_S65536x1_0 : Cf32 F S65536 → Cf32 F S65536x1)
  :: StableHlo.unary main_v33 main_v68 (broadcastInDim S65536x1 ![0] bcast_S65536_S65536x1_0 : Cf32 F S65536 → Cf32 F S65536x1)
  :: StableHlo.unary main_v0 main_v69 ((extractStridedSlice S65536x1 ![0, 2] · slices_S65536x3_S65536x1_0_2) : Cf32 F S65536x3 → Cf32 F S65536x1)
  :: StableHlo.binary main_v68 main_v69 main_v70 (addf : Cf32 F S65536x1 → Cf32 F S65536x1 → Cf32 F S65536x1)
  :: StableHlo.unary main_v56 main_v71 (broadcastInDim S65536x1 ![0] bcast_S65536_S65536x1_0 : Cf32 F S65536 → Cf32 F S65536x1)
  :: StableHlo.nary ![main_v66, main_v67, main_v70, main_v63, main_v71] main_v72 (fun u => (concatenate S65536x7 1 [⟨S65536x1, (u 0 : Cf32 F S65536x1)⟩, ⟨S65536x1, (u 1 : Cf32 F S65536x1)⟩, ⟨S65536x1, (u 2 : Cf32 F S65536x1)⟩, ⟨S65536x3, (u 3 : Cf32 F S65536x3)⟩, ⟨S65536x1, (u 4 : Cf32 F S65536x1)⟩] concatenates_S65536x1_S65536x1_S65536x1_S65536x3_S65536x1_S65536x7_d1 : Cf32 F S65536x7))
  :: StableHlo.reshape main_v72 main_v73 (rfl : (.f32 : EltTy) = .f32) shapeCasts_S65536x7_S4x16384x7
  :: StableHlo.unary main_v73 main_v74 ((extractStridedSlice S4x16384x1 ![0, 0, 0] · slices_S4x16384x7_S4x16384x1_0_0_0) : Cf32 F S4x16384x7 → Cf32 F S4x16384x1)
  :: StableHlo.reshape main_v74 main_v75 (rfl : (.f32 : EltTy) = .f32) shapeCasts_S4x16384x1_S4x16384
  :: StableHlo.unary main_v73 main_v76 ((extractStridedSlice S4x16384x1 ![0, 0, 2] · slices_S4x16384x7_S4x16384x1_0_0_2) : Cf32 F S4x16384x7 → Cf32 F S4x16384x1)
  :: StableHlo.reshape main_v76 main_v77 (rfl : (.f32 : EltTy) = .f32) shapeCasts_S4x16384x1_S4x16384
  :: StableHlo.unary main_v73 main_v78 ((extractStridedSlice S4x16384x1 ![0, 0, 3] · slices_S4x16384x7_S4x16384x1_0_0_3) : Cf32 F S4x16384x7 → Cf32 F S4x16384x1)
  :: StableHlo.reshape main_v78 main_v79 (rfl : (.f32 : EltTy) = .f32) shapeCasts_S4x16384x1_S4x16384
  :: StableHlo.unary main_v73 main_v80 ((extractStridedSlice S4x16384x1 ![0, 0, 5] · slices_S4x16384x7_S4x16384x1_0_0_5) : Cf32 F S4x16384x7 → Cf32 F S4x16384x1)
  :: StableHlo.reshape main_v80 main_v81 (rfl : (.f32 : EltTy) = .f32) shapeCasts_S4x16384x1_S4x16384
  :: StableHlo.nullary main_cst_13 (constant S_ .f32 0x40000000#32)
  :: StableHlo.unary main_cst_13 main_v82 (broadcastInDim S4x16384 ![] bcast_S_S4x16384 : Cf32 F S_ → Cf32 F S4x16384)
  :: StableHlo.binary main_v79 main_v82 main_v83 (Host.divf : Cf32 F S4x16384 → Cf32 F S4x16384 → Cf32 F S4x16384)
  :: StableHlo.binary main_v75 main_v83 main_v84 (subf : Cf32 F S4x16384 → Cf32 F S4x16384 → Cf32 F S4x16384)
  :: StableHlo.nullary main_cst_14 (constant S_ .f32 0x40000000#32)
  :: StableHlo.unary main_cst_14 main_v85 (broadcastInDim S4x16384 ![] bcast_S_S4x16384 : Cf32 F S_ → Cf32 F S4x16384)
  :: StableHlo.binary main_v81 main_v85 main_v86 (Host.divf : Cf32 F S4x16384 → Cf32 F S4x16384 → Cf32 F S4x16384)
  :: StableHlo.binary main_v77 main_v86 main_v87 (subf : Cf32 F S4x16384 → Cf32 F S4x16384 → Cf32 F S4x16384)
  :: StableHlo.nullary main_cst_15 (constant S_ .f32 0x40000000#32)
  :: StableHlo.unary main_cst_15 main_v88 (broadcastInDim S4x16384 ![] bcast_S_S4x16384 : Cf32 F S_ → Cf32 F S4x16384)
  :: StableHlo.binary main_v79 main_v88 main_v89 (Host.divf : Cf32 F S4x16384 → Cf32 F S4x16384 → Cf32 F S4x16384)
  :: StableHlo.binary main_v75 main_v89 main_v90 (addf : Cf32 F S4x16384 → Cf32 F S4x16384 → Cf32 F S4x16384)
  :: StableHlo.nullary main_cst_16 (constant S_ .f32 0x40000000#32)
  :: StableHlo.unary main_cst_16 main_v91 (broadcastInDim S4x16384 ![] bcast_S_S4x16384 : Cf32 F S_ → Cf32 F S4x16384)
  :: StableHlo.binary main_v81 main_v91 main_v92 (Host.divf : Cf32 F S4x16384 → Cf32 F S4x16384 → Cf32 F S4x16384)
  :: StableHlo.binary main_v77 main_v92 main_v93 (addf : Cf32 F S4x16384 → Cf32 F S4x16384 → Cf32 F S4x16384)
  :: StableHlo.reshape main_arg0 main_v94 (rfl : (.f32 : EltTy) = .f32) shapeCasts_S4x16384x1_S4x16384
  :: StableHlo.binary main_v90 main_v84 main_v95 (subf : Cf32 F S4x16384 → Cf32 F S4x16384 → Cf32 F S4x16384)
  :: StableHlo.nullary main_cst_17 (constant S_ .f32 0x00000000#32)
  :: StableHlo.unary main_cst_17 main_v96 (broadcastInDim S4x16384 ![] bcast_S_S4x16384 : Cf32 F S_ → Cf32 F S4x16384)
  :: StableHlo.binary main_v95 main_v96 main_v97 (maximumf : Cf32 F S4x16384 → Cf32 F S4x16384 → Cf32 F S4x16384)
  :: StableHlo.binary main_v93 main_v87 main_v98 (subf : Cf32 F S4x16384 → Cf32 F S4x16384 → Cf32 F S4x16384)
  :: StableHlo.nullary main_cst_18 (constant S_ .f32 0x00000000#32)
  :: StableHlo.unary main_cst_18 main_v99 (broadcastInDim S4x16384 ![] bcast_S_S4x16384 : Cf32 F S_ → Cf32 F S4x16384)
  :: [] )
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    StableHlo.seq main_part1_ops2,
    StableHlo.seq main_part1_ops3 ]
  (StableHlo.seq main_part1_ops4) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 19 host operations of @main, window 2 (statements 121 … 152), in order. -/
abbrev main_part2_ops0 : List (HloOp τ sig (Elt F)) :=
  [ StableHlo.binary main_v98 main_v99 main_v100 (maximumf : Cf32 F S4x16384 → Cf32 F S4x16384 → Cf32 F S4x16384),
    StableHlo.binary main_v97 main_v100 main_v101 (mulf : Cf32 F S4x16384 → Cf32 F S4x16384 → Cf32 F S4x16384),
    StableHlo.nullary main_c (constantI S_ 1 0#1),
    StableHlo.unary main_c main_v102 (broadcastInDim S4x16384 ![] bcast_S_S4x16384 : Ci1 F S_ → Ci1 F S4x16384),
    StableHlo.nullary main_c_19 (constantI S_ 32 0#32),
    StableHlo.unary main_c_19 main_v103 (broadcastInDim S512x4 ![] bcast_S_S512x4 : Ci32 F S_ → Ci32 F S512x4),
    StableHlo.nullary main_c_20 (constantI S_ 1 0#1),
    StableHlo.unary main_c_20 main_v104 (broadcastInDim S512x4 ![] bcast_S_S512x4 : Ci1 F S_ → Ci1 F S512x4),
    StableHlo.nullary main_c_21 (constantI S_ 32 0#32),
    StableHlo.unary main_v94 main_v105_0 id,
    StableHlo.unary main_v84 main_v105_1 id,
    StableHlo.unary main_v87 main_v105_2 id,
    StableHlo.unary main_v90 main_v105_3 id,
    StableHlo.unary main_v93 main_v105_4 id,
    StableHlo.unary main_v101 main_v105_5 id,
    StableHlo.unary main_c_21 main_v105_6 id,
    StableHlo.unary main_v102 main_v105_7 id,
    StableHlo.unary main_v103 main_v105_8 id,
    StableHlo.unary main_v104 main_v105_9 id ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 5 host operations of @main, window 2 (statements 121 … 152), in order. -/
abbrev main_part2_ops1 : List (HloOp τ sig (Elt F)) :=
  [ StableHlo.unary main_v105_8 main_v106 ((transpose S4x512 [1, 0] · transposes_S512x4_S4x512_1_0) : Ci32 F S512x4 → Ci32 F S4x512),
    StableHlo.unary main_v105_9 main_v107 ((transpose S4x512 [1, 0] · transposes_S512x4_S4x512_1_0) : Ci1 F S512x4 → Ci1 F S4x512),
    StableHlo.unary main_v107 main_v108 (uitofp .f32 : Ci1 F S4x512 → Cf32 F S4x512),
    StableHlo.unary main_v108 main_v109 (broadcastInDim S4x512x1 ![0, 1] bcast_S4x512_S4x512x1_0_1 : Cf32 F S4x512 → Cf32 F S4x512x1),
    StableHlo.unary main_v106 main_v110 (broadcastInDim S4x512x1 ![0, 1] bcast_S4x512_S4x512x1_0_1 : Ci32 F S4x512 → Ci32 F S4x512x1) ]
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩
/-- 8 host operations of @take_along_axis_5 (main_call19), window 2 (statements 121 … 152), in order. -/
abbrev main_part2_ops2 : List (HloOp τ sig (Elt F)) :=
  [ StableHlo.TRef.nullary (Ti32 S_ main_call19_c) (constantI S_ 32 0#32),
    StableHlo.TRef.unary (Ti32 S_ main_call19_c) (Ti32 S4x512x1 main_call19_v0) (broadcastInDim S4x512x1 ![] bcast_S_S4x512x1),
    StableHlo.TRef.binary (Ti32 S4x512x1 main_v110) (Ti32 S4x512x1 main_call19_v0) (Ti1 S4x512x1 main_call19_v1) (cmpi .slt),
    StableHlo.TRef.nullary (Ti32 S_ main_call19_c_0) (constantI S_ 32 16384#32),
    StableHlo.TRef.unary (Ti32 S_ main_call19_c_0) (Ti32 S4x512x1 main_call19_v2) (broadcastInDim S4x512x1 ![] bcast_S_S4x512x1),
    StableHlo.TRef.binary (Ti32 S4x512x1 main_v110) (Ti32 S4x512x1 main_call19_v2) (Ti32 S4x512x1 main_call19_v3) addi,
    StableHlo.TRef.ternary (Ti1 S4x512x1 main_call19_v1) (Ti32 S4x512x1 main_call19_v3) (Ti32 S4x512x1 main_v110) (Ti32 S4x512x1 main_call19_v4) select,
    StableHlo.TRef.binary (Tf32 S4x16384x7 main_v73) (Ti32 S4x512x1 main_call19_v4) (Tf32 S4x512x7 main_v111) (fun x i => Host.gather gather_S4x16384x7_S4x512x1_S4x512x7_2_1_0_0_1_2_117 x i) ]
/-- Each touches TensorCore references only (`HostSeg.ofOps` over `StableHlo.tcRefs`, or a subset by `sub_ucRefs`). -/
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 3 host operations of @main, window 2 (statements 121 … 152), in order. -/
abbrev main_part2_ops3 : List (HloOp τ sig (Elt F)) :=
  [ StableHlo.unary main_v109 main_v112 (broadcastInDim S4x512x7 ![0, 1, 2] bcast_S4x512x1_S4x512x7_0_1_2 : Cf32 F S4x512x1 → Cf32 F S4x512x7),
    StableHlo.binary main_v111 main_v112 main_v113 (mulf : Cf32 F S4x512x7 → Cf32 F S4x512x7 → Cf32 F S4x512x7),
    StableHlo.unary main_v106 main_v114 (broadcastInDim S4x512x1 ![0, 1] bcast_S4x512_S4x512x1_0_1 : Ci32 F S4x512 → Ci32 F S4x512x1) ]
/-- Each touches TensorCore references only (`HostSeg.ofOps` over `StableHlo.tcRefs`, or a subset by `sub_ucRefs`). -/
theorem main_part2_ops3_sub : (main_part2_ops3 : List (HloOp τ sig (Elt F))).Forall fun op => op.bufs ⊆ StableHlo.tcRefs τ sig :=
  ⟨StableHlo.unary_bufs_sub .., StableHlo.binary_bufs_sub .., StableHlo.unary_bufs_sub ..⟩
/-- 8 host operations of @take_along_axis_6 (main_call20), window 2 (statements 121 … 152), in order. -/
abbrev main_part2_ops4 : List (HloOp τ sig (Elt F)) :=
  [ StableHlo.TRef.nullary (Ti32 S_ main_call20_c) (constantI S_ 32 0#32),
    StableHlo.TRef.unary (Ti32 S_ main_call20_c) (Ti32 S4x512x1 main_call20_v0) (broadcastInDim S4x512x1 ![] bcast_S_S4x512x1),
    StableHlo.TRef.binary (Ti32 S4x512x1 main_v114) (Ti32 S4x512x1 main_call20_v0) (Ti1 S4x512x1 main_call20_v1) (cmpi .slt),
    StableHlo.TRef.nullary (Ti32 S_ main_call20_c_0) (constantI S_ 32 16384#32),
    StableHlo.TRef.unary (Ti32 S_ main_call20_c_0) (Ti32 S4x512x1 main_call20_v2) (broadcastInDim S4x512x1 ![] bcast_S_S4x512x1),
    StableHlo.TRef.binary (Ti32 S4x512x1 main_v114) (Ti32 S4x512x1 main_call20_v2) (Ti32 S4x512x1 main_call20_v3) addi,
    StableHlo.TRef.ternary (Ti1 S4x512x1 main_call20_v1) (Ti32 S4x512x1 main_call20_v3) (Ti32 S4x512x1 main_v114) (Ti32 S4x512x1 main_call20_v4) select,
    StableHlo.TRef.binary (Tf32 S4x16384x1 main_arg0) (Ti32 S4x512x1 main_call20_v4) (Tf32 S4x512x1 main_v115) (fun x i => Host.gather gather_S4x16384x1_S4x512x1_S4x512x1_2_1_0_0_1_2_111 x i) ]
/-- Each touches TensorCore references only (`HostSeg.ofOps` over `StableHlo.tcRefs`, or a subset by `sub_ucRefs`). -/
theorem main_part2_ops4_sub : (main_part2_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 1 host operation of @main, window 2 (statements 121 … 152), in order. -/
abbrev main_part2_ops5 : List (HloOp τ sig (Elt F)) :=
  [ StableHlo.binary main_v115 main_v109 main_v116 (mulf : Cf32 F S4x512x1 → Cf32 F S4x512x1 → Cf32 F S4x512x1) ]
/-- Each touches TensorCore references only (`HostSeg.ofOps` over `StableHlo.tcRefs`, or a subset by `sub_ucRefs`). -/
theorem main_part2_ops5_sub : (main_part2_ops5 : List (HloOp τ sig (Elt F))).Forall fun op => op.bufs ⊆ StableHlo.tcRefs τ sig :=
  StableHlo.binary_bufs_sub ..
/-- The last window of `main` (`main_part2`, statements 121 … 152) is the chain of ITS items, each item aligned with the window's
    statements, then `chain_rfl`. -/
theorem main_part2_chain (c : Dev nD) : main_part2 (F := F) c = (Pipeline.chain
  [ StableHlo.seq main_part2_ops0,
    HostLoop.enter 0,
    StableHlo.seq main_part2_ops1,
    StableHlo.seq main_part2_ops2,
    StableHlo.seq main_part2_ops3,
    StableHlo.seq main_part2_ops4,
    StableHlo.seq main_part2_ops5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11,
    StableHlo.seq main_part0_ops12,
    StableHlo.seq main_part1_ops0,
    StableHlo.seq main_part1_ops1,
    StableHlo.seq main_part1_ops2,
    StableHlo.seq main_part1_ops3,
    StableHlo.seq main_part1_ops4,
    StableHlo.seq main_part2_ops0,
    HostLoop.enter 0,
    StableHlo.seq main_part2_ops1,
    StableHlo.seq main_part2_ops2,
    StableHlo.seq main_part2_ops3,
    StableHlo.seq main_part2_ops4,
    StableHlo.seq main_part2_ops5 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4],
    .ops [main_part0_ops5],
    .ops [main_part0_ops6],
    .ops [main_part0_ops7],
    .ops [main_part0_ops8],
    .ops [main_part0_ops9],
    .ops [main_part0_ops10],
    .ops [main_part0_ops11],
    .ops [main_part0_ops12, main_part1_ops0],
    .ops [main_part1_ops1],
    .ops [main_part1_ops2],
    .ops [main_part1_ops3],
    .ops [main_part1_ops4, main_part2_ops0],
    .prog (HostLoop.enter 0),
    .ops [main_part2_ops1],
    .ops [main_part2_ops2],
    .ops [main_part2_ops3],
    .ops [main_part2_ops4],
    .ops [main_part2_ops5] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11,
    StableHlo.seq main_part0_ops12,
    StableHlo.seq main_part1_ops0,
    StableHlo.seq main_part1_ops1,
    StableHlo.seq main_part1_ops2,
    StableHlo.seq main_part1_ops3,
    StableHlo.seq main_part1_ops4,
    StableHlo.seq main_part2_ops0,
    HostLoop.enter 0,
    StableHlo.seq main_part2_ops1,
    StableHlo.seq main_part2_ops2,
    StableHlo.seq main_part2_ops3,
    StableHlo.seq main_part2_ops4,
    StableHlo.seq main_part2_ops5 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    HostLoop.enter 0,
    StableHlo.seq hostOps0_17,
    StableHlo.seq hostOps0_18,
    StableHlo.seq hostOps0_19,
    StableHlo.seq hostOps0_20,
    StableHlo.seq hostOps0_21 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    HostLoop.enter 0,
    StableHlo.seq hostOps0_17,
    StableHlo.seq hostOps0_18,
    StableHlo.seq hostOps0_19,
    StableHlo.seq hostOps0_20,
    StableHlo.seq hostOps0_21 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 1 host operation of host loop 0's body region, in order. -/
abbrev while0Ops0 : List (HloOp τ sig (Elt F)) :=
  [ StableHlo.nullary main_while0b_cst_31 (constant S_ .f32 0xFF800000#32) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  StableHlo.nullary_bufs_sub ..
/-- 3 host operations of @_where_0 (main_while0b_call8), in order. -/
abbrev while0Ops0_1 : List (HloOp τ sig (Elt F)) :=
  [ StableHlo.TRef.unary (Tf32 S_ main_while0b_cst_31) (Tf32 S_ main_while0b_call8_v0) id,
    StableHlo.TRef.unary (Tf32 S_ main_while0b_call8_v0) (Tf32 S4x16384 main_while0b_call8_v1) (broadcastInDim S4x16384 ![] bcast_S_S4x16384),
    StableHlo.TRef.ternary (Ti1 S4x16384 main_v105_7) (Tf32 S4x16384 main_while0b_call8_v1) (Tf32 S4x16384 main_v105_0) (Tf32 S4x16384 main_while0b_v117) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 5 host operations of @argmax_1 (main_while0b_call9), in order. -/
abbrev while0Ops0_2 : List (HloOp τ sig (Elt F)) :=
  [ StableHlo.TRef.nullary (Ti32 S4x16384 main_while0b_call9_v0) (iotaInDim S4x16384 32 1),
    StableHlo.TRef.nullary (Tf32 S_ main_while0b_call9_cst) (constant S_ .f32 0xFF800000#32),
    StableHlo.TRef.nullary (Ti32 S_ main_while0b_call9_c) (constantI S_ 32 0#32),
    StableHlo.TRef.quaternary (Tf32 S4x16384 main_while0b_v117) (Ti32 S4x16384 main_while0b_call9_v0) (Tf32 S_ main_while0b_call9_cst) (Ti32 S_ main_while0b_call9_c) (Tf32 S4 main_while0b_call9_v1_0) (fun x y u v j => (Host.argReduce reducer_argmax_f32_i32 x y u v reducesTo_S4x16384_S4_d1 h_S_ j).1),
    StableHlo.TRef.quaternary (Tf32 S4x16384 main_while0b_v117) (Ti32 S4x16384 main_while0b_call9_v0) (Tf32 S_ main_while0b_call9_cst) (Ti32 S_ main_while0b_call9_c) (Ti32 S4 main_while0b_v118) (fun x y u v j => (Host.argReduce reducer_argmax_f32_i32 x y u v reducesTo_S4x16384_S4_d1 h_S_ j).2) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of host loop 0's body region, in order. -/
abbrev while0Ops0_3 : List (HloOp τ sig (Elt F)) :=
  [ StableHlo.unary main_while0b_v118 main_while0b_v119 (broadcastInDim S4x1 ![0] bcast_S4_S4x1_0 : Ci32 F S4 → Ci32 F S4x1) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  StableHlo.unary_bufs_sub ..
/-- 9 host operations of @take_along_axis_2 (main_while0b_call10), in order. -/
abbrev while0Ops0_4 : List (HloOp τ sig (Elt F)) :=
  [ StableHlo.TRef.nullary (Ti32 S_ main_while0b_call10_c) (constantI S_ 32 0#32),
    StableHlo.TRef.unary (Ti32 S_ main_while0b_call10_c) (Ti32 S4x1 main_while0b_call10_v0) (broadcastInDim S4x1 ![] bcast_S_S4x1),
    StableHlo.TRef.binary (Ti32 S4x1 main_while0b_v119) (Ti32 S4x1 main_while0b_call10_v0) (Ti1 S4x1 main_while0b_call10_v1) (cmpi .slt),
    StableHlo.TRef.nullary (Ti32 S_ main_while0b_call10_c_0) (constantI S_ 32 16384#32),
    StableHlo.TRef.unary (Ti32 S_ main_while0b_call10_c_0) (Ti32 S4x1 main_while0b_call10_v2) (broadcastInDim S4x1 ![] bcast_S_S4x1),
    StableHlo.TRef.binary (Ti32 S4x1 main_while0b_v119) (Ti32 S4x1 main_while0b_call10_v2) (Ti32 S4x1 main_while0b_call10_v3) addi,
    StableHlo.TRef.ternary (Ti1 S4x1 main_while0b_call10_v1) (Ti32 S4x1 main_while0b_call10_v3) (Ti32 S4x1 main_while0b_v119) (Ti32 S4x1 main_while0b_call10_v4) select,
    StableHlo.TRef.reshape (Ti32 S4x1 main_while0b_call10_v4) (Ti32 S4x1x1 main_while0b_call10_v5) (rfl : (.i32 : EltTy) = .i32) shapeCasts_S4x1_S4x1x1,
    StableHlo.TRef.binary (Tf32 S4x16384 main_while0b_v117) (Ti32 S4x1x1 main_while0b_call10_v5) (Tf32 S4x1 main_while0b_v120) (fun x i => Host.gather gather_S4x16384_S4x1x1_S4x1_n_1_0_0_1_2_11 x i) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 4 host operations of host loop 0's body region, in order. -/
abbrev while0Ops0_5 : List (HloOp τ sig (Elt F)) :=
  [ StableHlo.nullary main_while0b_cst_32 (constant S_ .f32 0xFF800000#32),
    StableHlo.unary main_while0b_cst_32 main_while0b_v121 (broadcastInDim S4x1 ![] bcast_S_S4x1 : Cf32 F S_ → Cf32 F S4x1),
    StableHlo.binary main_while0b_v120 main_while0b_v121 main_while0b_v122 (cmpf .ogt : Cf32 F S4x1 → Cf32 F S4x1 → Ci1 F S4x1),
    StableHlo.unary main_while0b_v118 main_while0b_v123 (broadcastInDim S4x1 ![0] bcast_S4_S4x1_0 : Ci32 F S4 → Ci32 F S4x1) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩
/-- 9 host operations of @take_along_axis_2 (main_while0b_call11), in order. -/
abbrev while0Ops0_6 : List (HloOp τ sig (Elt F)) :=
  [ StableHlo.TRef.nullary (Ti32 S_ main_while0b_call11_c) (constantI S_ 32 0#32),
    StableHlo.TRef.unary (Ti32 S_ main_while0b_call11_c) (Ti32 S4x1 main_while0b_call11_v0) (broadcastInDim S4x1 ![] bcast_S_S4x1),
    StableHlo.TRef.binary (Ti32 S4x1 main_while0b_v123) (Ti32 S4x1 main_while0b_call11_v0) (Ti1 S4x1 main_while0b_call11_v1) (cmpi .slt),
    StableHlo.TRef.nullary (Ti32 S_ main_while0b_call11_c_0) (constantI S_ 32 16384#32),
    StableHlo.TRef.unary (Ti32 S_ main_while0b_call11_c_0) (Ti32 S4x1 main_while0b_call11_v2) (broadcastInDim S4x1 ![] bcast_S_S4x1),
    StableHlo.TRef.binary (Ti32 S4x1 main_while0b_v123) (Ti32 S4x1 main_while0b_call11_v2) (Ti32 S4x1 main_while0b_call11_v3) addi,
    StableHlo.TRef.ternary (Ti1 S4x1 main_while0b_call11_v1) (Ti32 S4x1 main_while0b_call11_v3) (Ti32 S4x1 main_while0b_v123) (Ti32 S4x1 main_while0b_call11_v4) select,
    StableHlo.TRef.reshape (Ti32 S4x1 main_while0b_call11_v4) (Ti32 S4x1x1 main_while0b_call11_v5) (rfl : (.i32 : EltTy) = .i32) shapeCasts_S4x1_S4x1x1,
    StableHlo.TRef.binary (Tf32 S4x16384 main_v105_1) (Ti32 S4x1x1 main_while0b_call11_v5) (Tf32 S4x1 main_while0b_v124) (fun x i => Host.gather gather_S4x16384_S4x1x1_S4x1_n_1_0_0_1_2_11 x i) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 3 host operations of host loop 0's body region, in order. -/
abbrev while0Ops0_7 : List (HloOp τ sig (Elt F)) :=
  [ StableHlo.unary main_while0b_v124 main_while0b_v125 (broadcastInDim S4x16384 ![0, 1] bcast_S4x1_S4x16384_0_1 : Cf32 F S4x1 → Cf32 F S4x16384),
    StableHlo.binary main_while0b_v125 main_v105_1 main_while0b_v126 (maximumf : Cf32 F S4x16384 → Cf32 F S4x16384 → Cf32 F S4x16384),
    StableHlo.unary main_while0b_v118 main_while0b_v127 (broadcastInDim S4x1 ![0] bcast_S4_S4x1_0 : Ci32 F S4 → Ci32 F S4x1) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.unary_bufs_sub .., StableHlo.binary_bufs_sub .., StableHlo.unary_bufs_sub ..⟩
/-- 9 host operations of @take_along_axis_2 (main_while0b_call12), in order. -/
abbrev while0Ops0_8 : List (HloOp τ sig (Elt F)) :=
  [ StableHlo.TRef.nullary (Ti32 S_ main_while0b_call12_c) (constantI S_ 32 0#32),
    StableHlo.TRef.unary (Ti32 S_ main_while0b_call12_c) (Ti32 S4x1 main_while0b_call12_v0) (broadcastInDim S4x1 ![] bcast_S_S4x1),
    StableHlo.TRef.binary (Ti32 S4x1 main_while0b_v127) (Ti32 S4x1 main_while0b_call12_v0) (Ti1 S4x1 main_while0b_call12_v1) (cmpi .slt),
    StableHlo.TRef.nullary (Ti32 S_ main_while0b_call12_c_0) (constantI S_ 32 16384#32),
    StableHlo.TRef.unary (Ti32 S_ main_while0b_call12_c_0) (Ti32 S4x1 main_while0b_call12_v2) (broadcastInDim S4x1 ![] bcast_S_S4x1),
    StableHlo.TRef.binary (Ti32 S4x1 main_while0b_v127) (Ti32 S4x1 main_while0b_call12_v2) (Ti32 S4x1 main_while0b_call12_v3) addi,
    StableHlo.TRef.ternary (Ti1 S4x1 main_while0b_call12_v1) (Ti32 S4x1 main_while0b_call12_v3) (Ti32 S4x1 main_while0b_v127) (Ti32 S4x1 main_while0b_call12_v4) select,
    StableHlo.TRef.reshape (Ti32 S4x1 main_while0b_call12_v4) (Ti32 S4x1x1 main_while0b_call12_v5) (rfl : (.i32 : EltTy) = .i32) shapeCasts_S4x1_S4x1x1,
    StableHlo.TRef.binary (Tf32 S4x16384 main_v105_2) (Ti32 S4x1x1 main_while0b_call12_v5) (Tf32 S4x1 main_while0b_v128) (fun x i => Host.gather gather_S4x16384_S4x1x1_S4x1_n_1_0_0_1_2_11 x i) ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 3 host operations of host loop 0's body region, in order. -/
abbrev while0Ops0_9 : List (HloOp τ sig (Elt F)) :=
  [ StableHlo.unary main_while0b_v128 main_while0b_v129 (broadcastInDim S4x16384 ![0, 1] bcast_S4x1_S4x16384_0_1 : Cf32 F S4x1 → Cf32 F S4x16384),
    StableHlo.binary main_while0b_v129 main_v105_2 main_while0b_v130 (maximumf : Cf32 F S4x16384 → Cf32 F S4x16384 → Cf32 F S4x16384),
    StableHlo.unary main_while0b_v118 main_while0b_v131 (broadcastInDim S4x1 ![0] bcast_S4_S4x1_0 : Ci32 F S4 → Ci32 F S4x1) ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.unary_bufs_sub .., StableHlo.binary_bufs_sub .., StableHlo.unary_bufs_sub ..⟩
/-- 9 host operations of @take_along_axis_2 (main_while0b_call13), in order. -/
abbrev while0Ops0_10 : List (HloOp τ sig (Elt F)) :=
  [ StableHlo.TRef.nullary (Ti32 S_ main_while0b_call13_c) (constantI S_ 32 0#32),
    StableHlo.TRef.unary (Ti32 S_ main_while0b_call13_c) (Ti32 S4x1 main_while0b_call13_v0) (broadcastInDim S4x1 ![] bcast_S_S4x1),
    StableHlo.TRef.binary (Ti32 S4x1 main_while0b_v131) (Ti32 S4x1 main_while0b_call13_v0) (Ti1 S4x1 main_while0b_call13_v1) (cmpi .slt),
    StableHlo.TRef.nullary (Ti32 S_ main_while0b_call13_c_0) (constantI S_ 32 16384#32),
    StableHlo.TRef.unary (Ti32 S_ main_while0b_call13_c_0) (Ti32 S4x1 main_while0b_call13_v2) (broadcastInDim S4x1 ![] bcast_S_S4x1),
    StableHlo.TRef.binary (Ti32 S4x1 main_while0b_v131) (Ti32 S4x1 main_while0b_call13_v2) (Ti32 S4x1 main_while0b_call13_v3) addi,
    StableHlo.TRef.ternary (Ti1 S4x1 main_while0b_call13_v1) (Ti32 S4x1 main_while0b_call13_v3) (Ti32 S4x1 main_while0b_v131) (Ti32 S4x1 main_while0b_call13_v4) select,
    StableHlo.TRef.reshape (Ti32 S4x1 main_while0b_call13_v4) (Ti32 S4x1x1 main_while0b_call13_v5) (rfl : (.i32 : EltTy) = .i32) shapeCasts_S4x1_S4x1x1,
    StableHlo.TRef.binary (Tf32 S4x16384 main_v105_3) (Ti32 S4x1x1 main_while0b_call13_v5) (Tf32 S4x1 main_while0b_v132) (fun x i => Host.gather gather_S4x16384_S4x1x1_S4x1_n_1_0_0_1_2_11 x i) ]
/-- Each touches TensorCore references only (`HostSeg.ofOps` over `StableHlo.tcRefs`, or a subset by `sub_ucRefs`). -/
theorem while0Ops0_10_sub : (while0Ops0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 3 host operations of host loop 0's body region, in order. -/
abbrev while0Ops0_11 : List (HloOp τ sig (Elt F)) :=
  [ StableHlo.unary main_while0b_v132 main_while0b_v133 (broadcastInDim S4x16384 ![0, 1] bcast_S4x1_S4x16384_0_1 : Cf32 F S4x1 → Cf32 F S4x16384),
    StableHlo.binary main_while0b_v133 main_v105_3 main_while0b_v134 (minimumf : Cf32 F S4x16384 → Cf32 F S4x16384 → Cf32 F S4x16384),
    StableHlo.unary main_while0b_v118 main_while0b_v135 (broadcastInDim S4x1 ![0] bcast_S4_S4x1_0 : Ci32 F S4 → Ci32 F S4x1) ]
/-- Each touches TensorCore references only (`HostSeg.ofOps` over `StableHlo.tcRefs`, or a subset by `sub_ucRefs`). -/
theorem while0Ops0_11_sub : (while0Ops0_11 : List (HloOp τ sig (Elt F))).Forall fun op => op.bufs ⊆ StableHlo.tcRefs τ sig :=
  ⟨StableHlo.unary_bufs_sub .., StableHlo.binary_bufs_sub .., StableHlo.unary_bufs_sub ..⟩
/-- 9 host operations of @take_along_axis_2 (main_while0b_call14), in order. -/
abbrev while0Ops0_12 : List (HloOp τ sig (Elt F)) :=
  [ StableHlo.TRef.nullary (Ti32 S_ main_while0b_call14_c) (constantI S_ 32 0#32),
    StableHlo.TRef.unary (Ti32 S_ main_while0b_call14_c) (Ti32 S4x1 main_while0b_call14_v0) (broadcastInDim S4x1 ![] bcast_S_S4x1),
    StableHlo.TRef.binary (Ti32 S4x1 main_while0b_v135) (Ti32 S4x1 main_while0b_call14_v0) (Ti1 S4x1 main_while0b_call14_v1) (cmpi .slt),
    StableHlo.TRef.nullary (Ti32 S_ main_while0b_call14_c_0) (constantI S_ 32 16384#32),
    StableHlo.TRef.unary (Ti32 S_ main_while0b_call14_c_0) (Ti32 S4x1 main_while0b_call14_v2) (broadcastInDim S4x1 ![] bcast_S_S4x1),
    StableHlo.TRef.binary (Ti32 S4x1 main_while0b_v135) (Ti32 S4x1 main_while0b_call14_v2) (Ti32 S4x1 main_while0b_call14_v3) addi,
    StableHlo.TRef.ternary (Ti1 S4x1 main_while0b_call14_v1) (Ti32 S4x1 main_while0b_call14_v3) (Ti32 S4x1 main_while0b_v135) (Ti32 S4x1 main_while0b_call14_v4) select,
    StableHlo.TRef.reshape (Ti32 S4x1 main_while0b_call14_v4) (Ti32 S4x1x1 main_while0b_call14_v5) (rfl : (.i32 : EltTy) = .i32) shapeCasts_S4x1_S4x1x1,
    StableHlo.TRef.binary (Tf32 S4x16384 main_v105_4) (Ti32 S4x1x1 main_while0b_call14_v5) (Tf32 S4x1 main_while0b_v136) (fun x i => Host.gather gather_S4x16384_S4x1x1_S4x1_n_1_0_0_1_2_11 x i) ]
/-- Each touches TensorCore references only (`HostSeg.ofOps` over `StableHlo.tcRefs`, or a subset by `sub_ucRefs`). -/
theorem while0Ops0_12_sub : (while0Ops0_12 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 12 host operations of host loop 0's body region, in order. -/
abbrev while0Ops0_13 : List (HloOp τ sig (Elt F)) :=
  [ StableHlo.unary main_while0b_v136 main_while0b_v137 (broadcastInDim S4x16384 ![0, 1] bcast_S4x1_S4x16384_0_1 : Cf32 F S4x1 → Cf32 F S4x16384),
    StableHlo.binary main_while0b_v137 main_v105_4 main_while0b_v138 (minimumf : Cf32 F S4x16384 → Cf32 F S4x16384 → Cf32 F S4x16384),
    StableHlo.binary main_while0b_v134 main_while0b_v126 main_while0b_v139 (subf : Cf32 F S4x16384 → Cf32 F S4x16384 → Cf32 F S4x16384),
    StableHlo.nullary main_while0b_cst_33 (constant S_ .f32 0x00000000#32),
    StableHlo.unary main_while0b_cst_33 main_while0b_v140 (broadcastInDim S4x16384 ![] bcast_S_S4x16384 : Cf32 F S_ → Cf32 F S4x16384),
    StableHlo.binary main_while0b_v139 main_while0b_v140 main_while0b_v141 (maximumf : Cf32 F S4x16384 → Cf32 F S4x16384 → Cf32 F S4x16384),
    StableHlo.binary main_while0b_v138 main_while0b_v130 main_while0b_v142 (subf : Cf32 F S4x16384 → Cf32 F S4x16384 → Cf32 F S4x16384),
    StableHlo.nullary main_while0b_cst_34 (constant S_ .f32 0x00000000#32),
    StableHlo.unary main_while0b_cst_34 main_while0b_v143 (broadcastInDim S4x16384 ![] bcast_S_S4x16384 : Cf32 F S_ → Cf32 F S4x16384),
    StableHlo.binary main_while0b_v142 main_while0b_v143 main_while0b_v144 (maximumf : Cf32 F S4x16384 → Cf32 F S4x16384 → Cf32 F S4x16384),
    StableHlo.binary main_while0b_v141 main_while0b_v144 main_while0b_v145 (mulf : Cf32 F S4x16384 → Cf32 F S4x16384 → Cf32 F S4x16384),
    StableHlo.unary main_while0b_v118 main_while0b_v146 (broadcastInDim S4x1 ![0] bcast_S4_S4x1_0 : Ci32 F S4 → Ci32 F S4x1) ]
/-- Each touches TensorCore references only (`HostSeg.ofOps` over `StableHlo.tcRefs`, or a subset by `sub_ucRefs`). -/
theorem while0Ops0_13_sub : (while0Ops0_13 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 9 host operations of @take_along_axis_2 (main_while0b_call15), in order. -/
abbrev while0Ops0_14 : List (HloOp τ sig (Elt F)) :=
  [ StableHlo.TRef.nullary (Ti32 S_ main_while0b_call15_c) (constantI S_ 32 0#32),
    StableHlo.TRef.unary (Ti32 S_ main_while0b_call15_c) (Ti32 S4x1 main_while0b_call15_v0) (broadcastInDim S4x1 ![] bcast_S_S4x1),
    StableHlo.TRef.binary (Ti32 S4x1 main_while0b_v146) (Ti32 S4x1 main_while0b_call15_v0) (Ti1 S4x1 main_while0b_call15_v1) (cmpi .slt),
    StableHlo.TRef.nullary (Ti32 S_ main_while0b_call15_c_0) (constantI S_ 32 16384#32),
    StableHlo.TRef.unary (Ti32 S_ main_while0b_call15_c_0) (Ti32 S4x1 main_while0b_call15_v2) (broadcastInDim S4x1 ![] bcast_S_S4x1),
    StableHlo.TRef.binary (Ti32 S4x1 main_while0b_v146) (Ti32 S4x1 main_while0b_call15_v2) (Ti32 S4x1 main_while0b_call15_v3) addi,
    StableHlo.TRef.ternary (Ti1 S4x1 main_while0b_call15_v1) (Ti32 S4x1 main_while0b_call15_v3) (Ti32 S4x1 main_while0b_v146) (Ti32 S4x1 main_while0b_call15_v4) select,
    StableHlo.TRef.reshape (Ti32 S4x1 main_while0b_call15_v4) (Ti32 S4x1x1 main_while0b_call15_v5) (rfl : (.i32 : EltTy) = .i32) shapeCasts_S4x1_S4x1x1,
    StableHlo.TRef.binary (Tf32 S4x16384 main_v105_5) (Ti32 S4x1x1 main_while0b_call15_v5) (Tf32 S4x1 main_while0b_v147) (fun x i => Host.gather gather_S4x16384_S4x1x1_S4x1_n_1_0_0_1_2_11 x i) ]
/-- Each touches TensorCore references only (`HostSeg.ofOps` over `StableHlo.tcRefs`, or a subset by `sub_ucRefs`). -/
theorem while0Ops0_14_sub : (while0Ops0_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 32 host operations of host loop 0's body region, in order. -/
abbrev while0Ops0_15 : List (HloOp τ sig (Elt F)) :=
  [ StableHlo.unary main_while0b_v147 main_while0b_v148 (broadcastInDim S4x16384 ![0, 1] bcast_S4x1_S4x16384_0_1 : Cf32 F S4x1 → Cf32 F S4x16384),
    StableHlo.binary main_while0b_v148 main_v105_5 main_while0b_v149 (addf : Cf32 F S4x16384 → Cf32 F S4x16384 → Cf32 F S4x16384),
    StableHlo.binary main_while0b_v149 main_while0b_v145 main_while0b_v150 (subf : Cf32 F S4x16384 → Cf32 F S4x16384 → Cf32 F S4x16384),
    StableHlo.nullary main_while0b_cst_35 (constant S_ .f32 0x322BCC77#32),
    StableHlo.unary main_while0b_cst_35 main_while0b_v151 (broadcastInDim S4x16384 ![] bcast_S_S4x16384 : Cf32 F S_ → Cf32 F S4x16384),
    StableHlo.binary main_while0b_v150 main_while0b_v151 main_while0b_v152 (maximumf : Cf32 F S4x16384 → Cf32 F S4x16384 → Cf32 F S4x16384),
    StableHlo.binary main_while0b_v145 main_while0b_v152 main_while0b_v153 (Host.divf : Cf32 F S4x16384 → Cf32 F S4x16384 → Cf32 F S4x16384),
    StableHlo.nullary main_while0b_cst_36 (constant S_ .f32 0x3F59999A#32),
    StableHlo.unary main_while0b_cst_36 main_while0b_v154 (broadcastInDim S4x16384 ![] bcast_S_S4x16384 : Cf32 F S_ → Cf32 F S4x16384),
    StableHlo.binary main_while0b_v153 main_while0b_v154 main_while0b_v155 (cmpf .ogt : Cf32 F S4x16384 → Cf32 F S4x16384 → Ci1 F S4x16384),
    StableHlo.binary main_v105_7 main_while0b_v155 main_while0b_v156 (ori : Ci1 F S4x16384 → Ci1 F S4x16384 → Ci1 F S4x16384),
    StableHlo.nullary main_while0b_v157 (iotaInDim S4 32 0),
    StableHlo.nullary main_while0b_c_37 (constantI S_ 32 0#32),
    StableHlo.unary main_while0b_c_37 main_while0b_v158 (broadcastInDim S4 ![] bcast_S_S4 : Ci32 F S_ → Ci32 F S4),
    StableHlo.binary main_while0b_v157 main_while0b_v158 main_while0b_v159 (cmpi .slt : Ci32 F S4 → Ci32 F S4 → Ci1 F S4),
    StableHlo.nullary main_while0b_c_38 (constantI S_ 32 4#32),
    StableHlo.unary main_while0b_c_38 main_while0b_v160 (broadcastInDim S4 ![] bcast_S_S4 : Ci32 F S_ → Ci32 F S4),
    StableHlo.binary main_while0b_v157 main_while0b_v160 main_while0b_v161 (addi : Ci32 F S4 → Ci32 F S4 → Ci32 F S4),
    StableHlo.ternary main_while0b_v159 main_while0b_v161 main_while0b_v157 main_while0b_v162 (select : Ci1 F S4 → Ci32 F S4 → Ci32 F S4 → Ci32 F S4),
    StableHlo.nullary main_while0b_c_39 (constantI S_ 32 0#32),
    StableHlo.unary main_while0b_c_39 main_while0b_v163 (broadcastInDim S4 ![] bcast_S_S4 : Ci32 F S_ → Ci32 F S4),
    StableHlo.binary main_while0b_v118 main_while0b_v163 main_while0b_v164 (cmpi .slt : Ci32 F S4 → Ci32 F S4 → Ci1 F S4),
    StableHlo.nullary main_while0b_c_40 (constantI S_ 32 16384#32),
    StableHlo.unary main_while0b_c_40 main_while0b_v165 (broadcastInDim S4 ![] bcast_S_S4 : Ci32 F S_ → Ci32 F S4),
    StableHlo.binary main_while0b_v118 main_while0b_v165 main_while0b_v166 (addi : Ci32 F S4 → Ci32 F S4 → Ci32 F S4),
    StableHlo.ternary main_while0b_v164 main_while0b_v166 main_while0b_v118 main_while0b_v167 (select : Ci1 F S4 → Ci32 F S4 → Ci32 F S4 → Ci32 F S4),
    StableHlo.unary main_while0b_v162 main_while0b_v168 (broadcastInDim S4x1 ![0] bcast_S4_S4x1_0 : Ci32 F S4 → Ci32 F S4x1),
    StableHlo.unary main_while0b_v167 main_while0b_v169 (broadcastInDim S4x1 ![0] bcast_S4_S4x1_0 : Ci32 F S4 → Ci32 F S4x1),
    StableHlo.binary main_while0b_v168 main_while0b_v169 main_while0b_v170 ((fun a b => concatenate S4x2 1 [⟨S4x1, a⟩, ⟨S4x1, b⟩] concatenates_S4x1_S4x1_S4x2_d1) : Ci32 F S4x1 → Ci32 F S4x1 → Ci32 F S4x2),
    StableHlo.nullary main_while0b_c_41 (constantI S_ 1 1#1),
    StableHlo.unary main_while0b_c_41 main_while0b_v171 (broadcastInDim S4 ![] bcast_S_S4 : Ci1 F S_ → Ci1 F S4),
    StableHlo.ternary main_while0b_v156 main_while0b_v170 main_while0b_v171 main_while0b_v172 ((fun x i u => Host.scatter scatter_S4x16384_S4x2_S4_n_01_01_1 (fun _ b => b) x i u) : Ci1 F S4x16384 → Ci32 F S4x2 → Ci1 F S4 → Ci1 F S4x16384) ]
/-- Each touches TensorCore references only (`HostSeg.ofOps` over `StableHlo.tcRefs`, or a subset by `sub_ucRefs`). -/
theorem while0Ops0_15_sub : (while0Ops0_15 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub ..⟩
/-- 2 host operations of @_where_3 (main_while0b_call16), in order. -/
abbrev while0Ops0_16 : List (HloOp τ sig (Elt F)) :=
  [ StableHlo.TRef.unary (Ti1 S4x1 main_while0b_v122) (Ti1 S4x16384 main_while0b_call16_v0) (broadcastInDim S4x16384 ![0, 1] bcast_S4x1_S4x16384_0_1),
    StableHlo.TRef.ternary (Ti1 S4x16384 main_while0b_call16_v0) (Ti1 S4x16384 main_while0b_v172) (Ti1 S4x16384 main_v105_7) (Ti1 S4x16384 main_while0b_v173) select ]
/-- Each touches TensorCore references only (`HostSeg.ofOps` over `StableHlo.tcRefs`, or a subset by `sub_ucRefs`). -/
theorem while0Ops0_16_sub : (while0Ops0_16 : List (HloOp τ sig (Elt F))).Forall fun op => op.bufs ⊆ StableHlo.tcRefs τ sig :=
  ⟨StableHlo.unary_bufs_sub .., StableHlo.ternary_bufs_sub ..⟩
/-- 1 host operation of host loop 0's body region, in order. -/
abbrev while0Ops0_17 : List (HloOp τ sig (Elt F)) :=
  [ StableHlo.reshape main_while0b_v122 main_while0b_v174 (rfl : (.i1 : EltTy) = .i1) shapeCasts_S4x1_S4 ]
/-- Each touches TensorCore references only (`HostSeg.ofOps` over `StableHlo.tcRefs`, or a subset by `sub_ucRefs`). -/
theorem while0Ops0_17_sub : (while0Ops0_17 : List (HloOp τ sig (Elt F))).Forall fun op => op.bufs ⊆ StableHlo.tcRefs τ sig :=
  StableHlo.reshape_bufs_sub ..
/-- 3 host operations of @dynamic_update_index_in_dim (main_while0b_call17), in order. -/
abbrev while0Ops0_18 : List (HloOp τ sig (Elt F)) :=
  [ StableHlo.TRef.unary (Ti32 S4 main_while0b_v118) (Ti32 S1x4 main_while0b_call17_v0) (broadcastInDim S1x4 ![1] bcast_S4_S1x4_1),
    StableHlo.TRef.nullary (Ti32 S_ main_while0b_call17_c) (constantI S_ 32 0#32),
    StableHlo.TRef.binaryIndexed (Ti32 S512x4 main_v105_8) (Ti32 S1x4 main_while0b_call17_v0) ![(Ti32 S_ main_v105_6), (Ti32 S_ main_while0b_call17_c)] (Ti32 S512x4 main_while0b_v175) (fun x u i => Host.dynamicUpdateSlice x u (fun k => (i k (Shape.Idx.first h_S_)).toInt) updateFits_S512x4_S1x4) ]
/-- Each touches TensorCore references only (`HostSeg.ofOps` over `StableHlo.tcRefs`, or a subset by `sub_ucRefs`). -/
theorem while0Ops0_18_sub : (while0Ops0_18 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim_4 (main_while0b_call18), in order. -/
abbrev while0Ops0_19 : List (HloOp τ sig (Elt F)) :=
  [ StableHlo.TRef.unary (Ti1 S4 main_while0b_v174) (Ti1 S1x4 main_while0b_call18_v0) (broadcastInDim S1x4 ![1] bcast_S4_S1x4_1),
    StableHlo.TRef.nullary (Ti32 S_ main_while0b_call18_c) (constantI S_ 32 0#32),
    StableHlo.TRef.binaryIndexed (Ti1 S512x4 main_v105_9) (Ti1 S1x4 main_while0b_call18_v0) ![(Ti32 S_ main_v105_6), (Ti32 S_ main_while0b_call18_c)] (Ti1 S512x4 main_while0b_v176) (fun x u i => Host.dynamicUpdateSlice x u (fun k => (i k (Shape.Idx.first h_S_)).toInt) updateFits_S512x4_S1x4) ]
/-- Each touches TensorCore references only (`HostSeg.ofOps` over `StableHlo.tcRefs`, or a subset by `sub_ucRefs`). -/
theorem while0Ops0_19_sub : (while0Ops0_19 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_20 : List (HloOp τ sig (Elt F)) :=
  [ StableHlo.nullary main_while0b_c_42 (constantI S_ 32 1#32),
    StableHlo.binary main_v105_6 main_while0b_c_42 main_while0b_v177 (addi : Ci32 F S_ → Ci32 F S_ → Ci32 F S_),
    StableHlo.unary main_while0b_v177 main_v105_6 id,
    StableHlo.unary main_while0b_v173 main_v105_7 id,
    StableHlo.unary main_while0b_v175 main_v105_8 id,
    StableHlo.unary main_while0b_v176 main_v105_9 id ]
/-- Each touches TensorCore references only (`HostSeg.ofOps` over `StableHlo.tcRefs`, or a subset by `sub_ucRefs`). -/
theorem while0Ops0_20_sub : (while0Ops0_20 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12,
    StableHlo.seq while0Ops0_13,
    StableHlo.seq while0Ops0_14,
    StableHlo.seq while0Ops0_15,
    StableHlo.seq while0Ops0_16,
    StableHlo.seq while0Ops0_17,
    StableHlo.seq while0Ops0_18,
    StableHlo.seq while0Ops0_19,
    StableHlo.seq while0Ops0_20 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

end Cert.ReferenceIdeal.Gen

end
-- ==== Proof.RefLine.lean ====
module

public import proofs.«01_k».proof.Proof.RefOps
public import Idealize.ShloMosaic.Lib.Pipeline.Regions
public import Idealize.ShloMosaic.Lib.StableHlo.RunLoop
public import Idealize.ShloMosaic.Lib.StableHlo.RunRead

@[expose] public section

noncomputable section
/-! # Straight lines of host operations, read as systems of equations

A stretch of host operations in which every operation writes one reference of its own leaves its buffers at contents
that solve the operations' equations: each result holds its operation's value of what its operands hold at the end.
This module says so once for every kind of operation; the programs' own equations are its instances. -/

namespace Cert.ReferenceIdeal.Value

open Idealize.ShloMosaic Idealize.ShloMosaic.TcCoe
open Idealize.ShloMosaic.StableHlo

variable {τ : Topo} {sig : RefSig} {Val : EltTy → Type}

/-- The operations `ops` write the references `W`, one each and in this order. -/
def Line (ops : List (HloOp τ sig Val)) (W : List (Ref sig .tc)) : Prop :=
  List.Forall₂ (fun op r => op.writes = {Proc.devRef .tc r}) ops W

/-- Two lines one after the other are a line. -/
theorem Line.append {o₁ o₂ : List (HloOp τ sig Val)} {W₁ W₂ : List (Ref sig .tc)} (h₁ : Line o₁ W₁) (h₂ : Line o₂ W₂) :
    Line (o₁ ++ o₂) (W₁ ++ W₂) := List.rel_append h₁ h₂

variable {ops : List (HloOp τ sig Val)} {W : List (Ref sig .tc)}

/-- A reference that the line does not write keeps its contents. -/
theorem Line.keep (h : Line ops W) {r : Ref sig .tc} (hr : r ∉ W) (V : Valuation τ sig Val) :
    after ops V (Proc.devRef .tc r) = V (Proc.devRef .tc r) := by
  induction h generalizing V with
  | nil => rfl
  | @cons op w ops W hw _ ih =>
    rw [after_cons, ih (fun hm => hr (List.mem_cons_of_mem _ hm))]
    refine HloOp.result_of_not_mem _ _ ?_
    rw [hw, Finset.mem_singleton]
    exact fun he => hr (Proc.devRef_injective _ he ▸ List.mem_cons_self)

/-- A reference that is not written from place `i` on holds at the end what it holds at place `i`. -/
theorem Line.late (h : Line ops W) (V : Valuation τ sig Val) (i : ℕ) {r : Ref sig .tc} (hr : r ∉ W.drop i) :
    after (ops.take i) V (Proc.devRef .tc r) = after ops V (Proc.devRef .tc r) := by
  conv_rhs => rw [← List.take_append_drop i ops, after_append]
  exact (Line.keep (List.forall₂_drop i h) hr _).symm

/-- A reference that is not written before place `i` holds there what it held at the start. -/
theorem Line.early (h : Line ops W) (V : Valuation τ sig Val) (i : ℕ) {r : Ref sig .tc} (hr : r ∉ W.take i) :
    after (ops.take i) V (Proc.devRef .tc r) = V (Proc.devRef .tc r) :=
  Line.keep (List.forall₂_take i h) hr _

/-- What operation `i` writes and no later one does is at the end its result of the contents at place `i`. -/
theorem Line.place (h : Line ops W) (V : Valuation τ sig Val) (i : ℕ) {op : HloOp τ sig Val} (ho : ops[i]? = some op)
    {r : Ref sig .tc} (hr : r ∉ W.drop (i + 1)) :
    after ops V (Proc.devRef .tc r) = op.result (after (ops.take i) V) (Proc.devRef .tc r) := by
  rw [← h.late V (i + 1) hr, List.take_add_one, ho, after_append]
  rfl

section kinds
variable (h : Line ops W) (V : Valuation τ sig Val) (i : ℕ) {a b c e y : Ref sig .tc}
include h

/-- The equation of an operation without operands. -/
theorem Line.eq0 {v : y.ty.Contents Val} {hy} (ho : ops[i]? = some (nullary y v hy)) (hr : y ∉ W.drop (i + 1)) :
    after ops V (Proc.devRef .tc y) = v := by
  rw [h.place V i ho hr, nullary_result]

/-- The equation of an operation of one operand. -/
theorem Line.eq1 {f : a.ty.Contents Val → y.ty.Contents Val} {ha hy} (ho : ops[i]? = some (unary a y f ha hy))
    (hr : y ∉ W.drop (i + 1)) {u : a.ty.Contents Val} (hu : after (ops.take i) V (Proc.devRef .tc a) = u) :
    after ops V (Proc.devRef .tc y) = f u := by
  rw [h.place V i ho hr, unary_result, hu]

/-- The equation of an operation of two operands. -/
theorem Line.eq2 {f : a.ty.Contents Val → b.ty.Contents Val → y.ty.Contents Val} {ha hb hy}
    (ho : ops[i]? = some (binary a b y f ha hb hy)) (hr : y ∉ W.drop (i + 1)) {u : a.ty.Contents Val} {v : b.ty.Contents Val}
    (hu : after (ops.take i) V (Proc.devRef .tc a) = u) (hv : after (ops.take i) V (Proc.devRef .tc b) = v) :
    after ops V (Proc.devRef .tc y) = f u v := by
  rw [h.place V i ho hr, binary_result, hu, hv]

/-- The equation of an operation of three operands. -/
theorem Line.eq3 {f : c.ty.Contents Val → a.ty.Contents Val → b.ty.Contents Val → y.ty.Contents Val} {hc ha hb hy}
    (ho : ops[i]? = some (ternary c a b y f hc ha hb hy)) (hr : y ∉ W.drop (i + 1)) {u : c.ty.Contents Val} {v : a.ty.Contents Val}
    {w : b.ty.Contents Val} (hu : after (ops.take i) V (Proc.devRef .tc c) = u) (hv : after (ops.take i) V (Proc.devRef .tc a) = v)
    (hw : after (ops.take i) V (Proc.devRef .tc b) = w) :
    after ops V (Proc.devRef .tc y) = f u v w := by
  rw [h.place V i ho hr, ternary_result, hu, hv, hw]

/-- The equation of an operation of two operands given with their types. -/
theorem Line.teq2 {Ta Tb Ty : BufTy} (A : TRef sig Ta) (B : TRef sig Tb) (Y : TRef sig Ty)
    (f : Ta.Contents Val → Tb.Contents Val → Ty.Contents Val) (ho : ops[i]? = some (TRef.binary A B Y f)) (hr : Y.ref ∉ W.drop (i + 1))
    {u : Ta.Contents Val} {v : Tb.Contents Val} (hu : A.ofBuf (after (ops.take i) V (Proc.devRef .tc A.ref)) = u)
    (hv : B.ofBuf (after (ops.take i) V (Proc.devRef .tc B.ref)) = v) :
    Y.ofBuf (after ops V (Proc.devRef .tc Y.ref)) = f u v := by
  rw [h.place V i ho hr, binary_result, hu, hv]
  exact cast_cast _ _ _

/-- The equation of an operation of three operands given with their types. -/
theorem Line.teq3 {Tc Ta Tb Ty : BufTy} (C : TRef sig Tc) (A : TRef sig Ta) (B : TRef sig Tb) (Y : TRef sig Ty)
    (f : Tc.Contents Val → Ta.Contents Val → Tb.Contents Val → Ty.Contents Val)
    (ho : ops[i]? = some (TRef.ternary C A B Y f)) (hr : Y.ref ∉ W.drop (i + 1)) {w : Tc.Contents Val}
    {u : Ta.Contents Val} {v : Tb.Contents Val} (hw : C.ofBuf (after (ops.take i) V (Proc.devRef .tc C.ref)) = w)
    (hu : A.ofBuf (after (ops.take i) V (Proc.devRef .tc A.ref)) = u)
    (hv : B.ofBuf (after (ops.take i) V (Proc.devRef .tc B.ref)) = v) :
    Y.ofBuf (after ops V (Proc.devRef .tc Y.ref)) = f w u v := by
  rw [h.place V i ho hr, ternary_result, hw, hu, hv]
  exact cast_cast _ _ _

/-- The equation of an operation of four operands. -/
theorem Line.eq4 {f : a.ty.Contents Val → b.ty.Contents Val → c.ty.Contents Val → e.ty.Contents Val → y.ty.Contents Val} {ha hb hc he hy}
    (ho : ops[i]? = some (quaternary a b c e y f ha hb hc he hy)) (hr : y ∉ W.drop (i + 1)) {u : a.ty.Contents Val}
    {v : b.ty.Contents Val} {w : c.ty.Contents Val} {x : e.ty.Contents Val}
    (hu : after (ops.take i) V (Proc.devRef .tc a) = u) (hv : after (ops.take i) V (Proc.devRef .tc b) = v)
    (hw : after (ops.take i) V (Proc.devRef .tc c) = w) (hx : after (ops.take i) V (Proc.devRef .tc e) = x) :
    after ops V (Proc.devRef .tc y) = f u v w x := by
  rw [h.place V i ho hr, quaternary_result, hu, hv, hw, hx]

/-- The equation of a reshape. -/
theorem Line.eqR {he : a.ty.elt = y.ty.elt} {hn ha hy} (ho : ops[i]? = some (reshape a y he hn ha hy)) (hr : y ∉ W.drop (i + 1))
    {u : a.ty.Contents Val} (hu : after (ops.take i) V (Proc.devRef .tc a) = u) :
    after ops V (Proc.devRef .tc y) = fun j => he ▸ shapeCast y.ty.shape u hn j := by
  rw [h.place V i ho hr, reshape_result, hu]

/-- The equation of an operation of a family of operands. -/
theorem Line.eqN {n : ℕ} {xs : Fin n → Ref sig .tc} {f : ((k : Fin n) → (xs k).ty.Contents Val) → y.ty.Contents Val} {hxs hy}
    (ho : ops[i]? = some (nary xs y f hxs hy)) (hr : y ∉ W.drop (i + 1)) {u : (k : Fin n) → (xs k).ty.Contents Val}
    (hu : ∀ k, after (ops.take i) V (Proc.devRef .tc (xs k)) = u k) :
    after ops V (Proc.devRef .tc y) = f u := by
  rw [h.place V i ho hr, nary_result]
  exact congrArg f (funext hu)

/-- The equation of an operation of two operands at a place that a family of numbers names. -/
theorem Line.eqI {n : ℕ} {ix : Fin n → Ref sig .tc} {T : BufTy} {f : a.ty.Contents Val → b.ty.Contents Val → (Fin n → T.Contents Val) → y.ty.Contents Val}
    {hT ha hb hix hy} (ho : ops[i]? = some (binaryIndexed a b ix T y f hT ha hb hix hy)) (hr : y ∉ W.drop (i + 1))
    {u : a.ty.Contents Val} {v : b.ty.Contents Val} {w : Fin n → T.Contents Val}
    (hu : after (ops.take i) V (Proc.devRef .tc a) = u) (hv : after (ops.take i) V (Proc.devRef .tc b) = v)
    (hw : ∀ k, cast (congrArg (fun U : BufTy => U.Contents Val) (hT k)) (after (ops.take i) V (Proc.devRef .tc (ix k))) = w k) :
    after ops V (Proc.devRef .tc y) = f u v w := by
  rw [h.place V i ho hr, binaryIndexed_result, hu, hv]
  exact congrArg _ (funext hw)

end kinds

end Cert.ReferenceIdeal.Value

end
-- ==== Proof.RefPreEq.lean ====
module

public import proofs.«01_k».proof.Proof.Gen.ReferenceIdeal
public import proofs.«01_k».proof.Proof.RefLine

@[expose] public section

set_option maxRecDepth 16384

noncomputable section
/-! # The reference before its loop, operation by operation

One equation for each operation: what its result holds at the end of the stretch, as the operation's value of what its
operands hold there (or held at the start, where the stretch writes them later or not at all). -/

namespace Cert.ReferenceIdeal.Value

open Cert.ReferenceIdeal Cert.ReferenceIdeal.Gen
open Idealize.ShloMosaic Idealize.ShloMosaic.TcCoe
open Idealize.ShloMosaic.StableHlo

variable {F : FTy → Type} [FloatOps F]

/-- The reference's operations before the loop, in order. -/
abbrev preOps : List (HloOp τ sig (Elt F)) := hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16))))))))))))))))

/-- The references that `preOps` writes, in order. -/
abbrev preW : List (Ref sig .tc) :=
  [main_cst, main_v0, main_v1, main_v2, main_call0_v0, main_call0_cst, main_call0_c, main_call0_v1_0, main_v3, main_v4, main_call1_v0, main_call1_cst, main_call1_c, main_call1_v1_0, main_v5, main_v6, main_cst_0, main_v7, main_v8, main_cst_1, main_v9, main_v10, main_cst_2, main_v11, main_v12, main_v13, main_cst_3, main_v14, main_v15, main_cst_4, main_v16, main_v17, main_cst_5, main_v18, main_v19, main_v20, main_v21, main_call2_c, main_call2_v0, main_call2_v1, main_call2_c_0, main_call2_v2, main_call2_v3, main_call2_v4, main_call2_v5, main_v22, main_v23, main_v24, main_v25, main_call3_c, main_call3_v0, main_call3_v1, main_call3_c_0, main_call3_v2, main_call3_v3, main_call3_v4, main_call3_v5, main_v26, main_v27, main_cst_6, main_v28, main_v29, main_v30, main_cst_7, main_v31, main_v32, main_v33, main_v34, main_v35, main_v36, main_v37, main_v38, main_v39, main_call4_v0, main_call4_cst, main_call4_c, main_call4_v1_0, main_v40, main_v41, main_v42, main_call5_c, main_call5_v0, main_call5_v1, main_call5_c_0, main_call5_v2, main_call5_v3, main_call5_v4, main_call5_v5, main_v43, main_v44, main_cst_8, main_v45, main_v46, main_v47, main_cst_9, main_v48, main_v49, main_v50, main_cst_10, main_call6_v0, main_call6_v1, main_call6_v2, main_call6_cst, main_call6_v3, main_call6_v4, main_call6_cst_0, main_call6_v5, main_call6_v6, main_call6_cst_1, main_call6_v7, main_call6_v8, main_call6_v9, main_call6_v10, main_call6_v11, main_call6_v12, main_v51, main_cst_11, main_v52, main_v53, main_cst_12, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_cst_13, main_v82, main_v83, main_v84, main_cst_14, main_v85, main_v86, main_v87, main_cst_15, main_v88, main_v89, main_v90, main_cst_16, main_v91, main_v92, main_v93, main_v94, main_v95, main_cst_17, main_v96, main_v97, main_v98, main_cst_18, main_v99, main_v100, main_v101, main_c, main_v102, main_c_19, main_v103, main_c_20, main_v104, main_c_21, main_v105_0, main_v105_1, main_v105_2, main_v105_3, main_v105_4, main_v105_5, main_v105_6, main_v105_7, main_v105_8, main_v105_9]

set_option maxHeartbeats 4000000 in
/-- `preOps` is a line. -/
theorem pre_line : Line (preOps : List (HloOp τ sig (Elt F))) preW := by
  unfold Line
  repeat (first | exact List.Forall₂.nil | refine List.Forall₂.cons rfl ?_)

/-- What every buffer holds after `preOps`, run from contents `V`. -/
def Pre (V : Valuation τ sig (Elt F)) : Valuation τ sig (Elt F) := after preOps V

/-- A reference that `preOps` does not write keeps its contents. -/
theorem pre_keep (V : Valuation τ sig (Elt F)) {r : Ref sig .tc} (hr : r ∉ preW) : Pre V (Proc.devRef .tc r) = V (Proc.devRef .tc r) :=
  pre_line.keep hr V

variable (V : Valuation τ sig (Elt F))

/-- What `main_cst` holds. -/
theorem pre_cst : (Pre V main_cst : Cf32 F S3) = fun i => FloatOps.ofBits .f32 (lit0 (S3.rowMajor i)) :=
  pre_line.eq0 V 0 rfl (by decide +kernel)
/-- What `main_v0` holds. -/
theorem pre_v0 : (Pre V main_v0 : Cf32 F S65536x3) = shapeCast S65536x3 (V main_arg2 : Cf32 F S4x16384x3) shapeCasts_S4x16384x3_S65536x3 :=
  pre_line.eqR V 1 rfl (by decide +kernel) (pre_line.early V 1 (by decide +kernel))
/-- What `main_v1` holds. -/
theorem pre_v1 : (Pre V main_v1 : Cf32 F S65536x76) = shapeCast S65536x76 (V main_arg1 : Cf32 F S4x16384x76) shapeCasts_S4x16384x76_S65536x76 :=
  pre_line.eqR V 2 rfl (by decide +kernel) (pre_line.early V 2 (by decide +kernel))
/-- What `main_v2` holds. -/
theorem pre_v2 : (Pre V main_v2 : Cf32 F S65536x12) = extractStridedSlice S65536x12 ![0, 0] (Pre V main_v1 : Cf32 F S65536x76) slices_S65536x76_S65536x12_0_0 :=
  pre_line.eq1 V 3 rfl (by decide +kernel) (pre_line.late V 3 (by decide +kernel))
/-- What `main_call0_v0` holds. -/
theorem pre_call0_v0 : (Pre V main_call0_v0 : Ci32 F S65536x12) = (iotaInDim S65536x12 32 1) :=
  pre_line.eq0 V 4 rfl (by decide +kernel)
/-- What `main_call0_cst` holds. -/
theorem pre_call0_cst : (Pre V main_call0_cst : Cf32 F S_) = (constant S_ .f32 0xFF800000#32) :=
  pre_line.eq0 V 5 rfl (by decide +kernel)
/-- What `main_call0_c` holds. -/
theorem pre_call0_c : (Pre V main_call0_c : Ci32 F S_) = (constantI S_ 32 0#32) :=
  pre_line.eq0 V 6 rfl (by decide +kernel)
/-- What `main_call0_v1_0` holds. -/
theorem pre_call0_v1_0 : (Pre V main_call0_v1_0 : Cf32 F S65536) = fun j => (Host.argReduce reducer_argmax_f32_i32 (Pre V main_v2 : Cf32 F S65536x12) (Pre V main_call0_v0 : Ci32 F S65536x12) (Pre V main_call0_cst : Cf32 F S_) (Pre V main_call0_c : Ci32 F S_) reducesTo_S65536x12_S65536_d1 h_S_ j).1 :=
  pre_line.eq4 V 7 rfl (by decide +kernel) (pre_line.late V 7 (by decide +kernel)) (pre_line.late V 7 (by decide +kernel)) (pre_line.late V 7 (by decide +kernel)) (pre_line.late V 7 (by decide +kernel))
/-- What `main_v3` holds. -/
theorem pre_v3 : (Pre V main_v3 : Ci32 F S65536) = fun j => (Host.argReduce reducer_argmax_f32_i32 (Pre V main_v2 : Cf32 F S65536x12) (Pre V main_call0_v0 : Ci32 F S65536x12) (Pre V main_call0_cst : Cf32 F S_) (Pre V main_call0_c : Ci32 F S_) reducesTo_S65536x12_S65536_d1 h_S_ j).2 :=
  pre_line.eq4 V 8 rfl (by decide +kernel) (pre_line.late V 8 (by decide +kernel)) (pre_line.late V 8 (by decide +kernel)) (pre_line.late V 8 (by decide +kernel)) (pre_line.late V 8 (by decide +kernel))
/-- What `main_v4` holds. -/
theorem pre_v4 : (Pre V main_v4 : Cf32 F S65536x12) = extractStridedSlice S65536x12 ![0, 12] (Pre V main_v1 : Cf32 F S65536x76) slices_S65536x76_S65536x12_0_12 :=
  pre_line.eq1 V 9 rfl (by decide +kernel) (pre_line.late V 9 (by decide +kernel))
/-- What `main_call1_v0` holds. -/
theorem pre_call1_v0 : (Pre V main_call1_v0 : Ci32 F S65536x12) = (iotaInDim S65536x12 32 1) :=
  pre_line.eq0 V 10 rfl (by decide +kernel)
/-- What `main_call1_cst` holds. -/
theorem pre_call1_cst : (Pre V main_call1_cst : Cf32 F S_) = (constant S_ .f32 0xFF800000#32) :=
  pre_line.eq0 V 11 rfl (by decide +kernel)
/-- What `main_call1_c` holds. -/
theorem pre_call1_c : (Pre V main_call1_c : Ci32 F S_) = (constantI S_ 32 0#32) :=
  pre_line.eq0 V 12 rfl (by decide +kernel)
/-- What `main_call1_v1_0` holds. -/
theorem pre_call1_v1_0 : (Pre V main_call1_v1_0 : Cf32 F S65536) = fun j => (Host.argReduce reducer_argmax_f32_i32 (Pre V main_v4 : Cf32 F S65536x12) (Pre V main_call1_v0 : Ci32 F S65536x12) (Pre V main_call1_cst : Cf32 F S_) (Pre V main_call1_c : Ci32 F S_) reducesTo_S65536x12_S65536_d1 h_S_ j).1 :=
  pre_line.eq4 V 13 rfl (by decide +kernel) (pre_line.late V 13 (by decide +kernel)) (pre_line.late V 13 (by decide +kernel)) (pre_line.late V 13 (by decide +kernel)) (pre_line.late V 13 (by decide +kernel))
/-- What `main_v5` holds. -/
theorem pre_v5 : (Pre V main_v5 : Ci32 F S65536) = fun j => (Host.argReduce reducer_argmax_f32_i32 (Pre V main_v4 : Cf32 F S65536x12) (Pre V main_call1_v0 : Ci32 F S65536x12) (Pre V main_call1_cst : Cf32 F S_) (Pre V main_call1_c : Ci32 F S_) reducesTo_S65536x12_S65536_d1 h_S_ j).2 :=
  pre_line.eq4 V 14 rfl (by decide +kernel) (pre_line.late V 14 (by decide +kernel)) (pre_line.late V 14 (by decide +kernel)) (pre_line.late V 14 (by decide +kernel)) (pre_line.late V 14 (by decide +kernel))
/-- What `main_v6` holds. -/
theorem pre_v6 : (Pre V main_v6 : Cf32 F S65536) = sitofp .f32 (Pre V main_v3 : Ci32 F S65536) :=
  pre_line.eq1 V 15 rfl (by decide +kernel) (pre_line.late V 15 (by decide +kernel))
/-- What `main_cst_0` holds. -/
theorem pre_cst_0 : (Pre V main_cst_0 : Cf32 F S_) = (constant S_ .f32 0x3F000000#32) :=
  pre_line.eq0 V 16 rfl (by decide +kernel)
/-- What `main_v7` holds. -/
theorem pre_v7 : (Pre V main_v7 : Cf32 F S65536) = broadcastInDim S65536 ![] bcast_S_S65536 (Pre V main_cst_0 : Cf32 F S_) :=
  pre_line.eq1 V 17 rfl (by decide +kernel) (pre_line.late V 17 (by decide +kernel))
/-- What `main_v8` holds. -/
theorem pre_v8 : (Pre V main_v8 : Cf32 F S65536) = mulf (Pre V main_v6 : Cf32 F S65536) (Pre V main_v7 : Cf32 F S65536) :=
  pre_line.eq2 V 18 rfl (by decide +kernel) (pre_line.late V 18 (by decide +kernel)) (pre_line.late V 18 (by decide +kernel))
/-- What `main_cst_1` holds. -/
theorem pre_cst_1 : (Pre V main_cst_1 : Cf32 F S_) = (constant S_ .f32 0x3E800000#32) :=
  pre_line.eq0 V 19 rfl (by decide +kernel)
/-- What `main_v9` holds. -/
theorem pre_v9 : (Pre V main_v9 : Cf32 F S65536) = broadcastInDim S65536 ![] bcast_S_S65536 (Pre V main_cst_1 : Cf32 F S_) :=
  pre_line.eq1 V 20 rfl (by decide +kernel) (pre_line.late V 20 (by decide +kernel))
/-- What `main_v10` holds. -/
theorem pre_v10 : (Pre V main_v10 : Cf32 F S65536) = addf (Pre V main_v8 : Cf32 F S65536) (Pre V main_v9 : Cf32 F S65536) :=
  pre_line.eq2 V 21 rfl (by decide +kernel) (pre_line.late V 21 (by decide +kernel)) (pre_line.late V 21 (by decide +kernel))
/-- What `main_cst_2` holds. -/
theorem pre_cst_2 : (Pre V main_cst_2 : Cf32 F S_) = (constant S_ .f32 0x40400000#32) :=
  pre_line.eq0 V 22 rfl (by decide +kernel)
/-- What `main_v11` holds. -/
theorem pre_v11 : (Pre V main_v11 : Cf32 F S65536) = broadcastInDim S65536 ![] bcast_S_S65536 (Pre V main_cst_2 : Cf32 F S_) :=
  pre_line.eq1 V 23 rfl (by decide +kernel) (pre_line.late V 23 (by decide +kernel))
/-- What `main_v12` holds. -/
theorem pre_v12 : (Pre V main_v12 : Cf32 F S65536) = subf (Pre V main_v10 : Cf32 F S65536) (Pre V main_v11 : Cf32 F S65536) :=
  pre_line.eq2 V 24 rfl (by decide +kernel) (pre_line.late V 24 (by decide +kernel)) (pre_line.late V 24 (by decide +kernel))
/-- What `main_v13` holds. -/
theorem pre_v13 : (Pre V main_v13 : Cf32 F S65536) = sitofp .f32 (Pre V main_v5 : Ci32 F S65536) :=
  pre_line.eq1 V 25 rfl (by decide +kernel) (pre_line.late V 25 (by decide +kernel))
/-- What `main_cst_3` holds. -/
theorem pre_cst_3 : (Pre V main_cst_3 : Cf32 F S_) = (constant S_ .f32 0x3F000000#32) :=
  pre_line.eq0 V 26 rfl (by decide +kernel)
/-- What `main_v14` holds. -/
theorem pre_v14 : (Pre V main_v14 : Cf32 F S65536) = broadcastInDim S65536 ![] bcast_S_S65536 (Pre V main_cst_3 : Cf32 F S_) :=
  pre_line.eq1 V 27 rfl (by decide +kernel) (pre_line.late V 27 (by decide +kernel))
/-- What `main_v15` holds. -/
theorem pre_v15 : (Pre V main_v15 : Cf32 F S65536) = mulf (Pre V main_v13 : Cf32 F S65536) (Pre V main_v14 : Cf32 F S65536) :=
  pre_line.eq2 V 28 rfl (by decide +kernel) (pre_line.late V 28 (by decide +kernel)) (pre_line.late V 28 (by decide +kernel))
/-- What `main_cst_4` holds. -/
theorem pre_cst_4 : (Pre V main_cst_4 : Cf32 F S_) = (constant S_ .f32 0x3E800000#32) :=
  pre_line.eq0 V 29 rfl (by decide +kernel)
/-- What `main_v16` holds. -/
theorem pre_v16 : (Pre V main_v16 : Cf32 F S65536) = broadcastInDim S65536 ![] bcast_S_S65536 (Pre V main_cst_4 : Cf32 F S_) :=
  pre_line.eq1 V 30 rfl (by decide +kernel) (pre_line.late V 30 (by decide +kernel))
/-- What `main_v17` holds. -/
theorem pre_v17 : (Pre V main_v17 : Cf32 F S65536) = addf (Pre V main_v15 : Cf32 F S65536) (Pre V main_v16 : Cf32 F S65536) :=
  pre_line.eq2 V 31 rfl (by decide +kernel) (pre_line.late V 31 (by decide +kernel)) (pre_line.late V 31 (by decide +kernel))
/-- What `main_cst_5` holds. -/
theorem pre_cst_5 : (Pre V main_cst_5 : Cf32 F S_) = (constant S_ .f32 0x40400000#32) :=
  pre_line.eq0 V 32 rfl (by decide +kernel)
/-- What `main_v18` holds. -/
theorem pre_v18 : (Pre V main_v18 : Cf32 F S65536) = broadcastInDim S65536 ![] bcast_S_S65536 (Pre V main_cst_5 : Cf32 F S_) :=
  pre_line.eq1 V 33 rfl (by decide +kernel) (pre_line.late V 33 (by decide +kernel))
/-- What `main_v19` holds. -/
theorem pre_v19 : (Pre V main_v19 : Cf32 F S65536) = subf (Pre V main_v17 : Cf32 F S65536) (Pre V main_v18 : Cf32 F S65536) :=
  pre_line.eq2 V 34 rfl (by decide +kernel) (pre_line.late V 34 (by decide +kernel)) (pre_line.late V 34 (by decide +kernel))
/-- What `main_v20` holds. -/
theorem pre_v20 : (Pre V main_v20 : Cf32 F S65536x12) = extractStridedSlice S65536x12 ![0, 24] (Pre V main_v1 : Cf32 F S65536x76) slices_S65536x76_S65536x12_0_24 :=
  pre_line.eq1 V 35 rfl (by decide +kernel) (pre_line.late V 35 (by decide +kernel))
/-- What `main_v21` holds. -/
theorem pre_v21 : (Pre V main_v21 : Ci32 F S65536x1) = broadcastInDim S65536x1 ![0] bcast_S65536_S65536x1_0 (Pre V main_v3 : Ci32 F S65536) :=
  pre_line.eq1 V 36 rfl (by decide +kernel) (pre_line.late V 36 (by decide +kernel))
/-- What `main_call2_c` holds. -/
theorem pre_call2_c : (Pre V main_call2_c : Ci32 F S_) = (constantI S_ 32 0#32) :=
  pre_line.eq0 V 37 rfl (by decide +kernel)
/-- What `main_call2_v0` holds. -/
theorem pre_call2_v0 : (Pre V main_call2_v0 : Ci32 F S65536x1) = (broadcastInDim S65536x1 ![] bcast_S_S65536x1) (Pre V main_call2_c : Ci32 F S_) :=
  pre_line.eq1 V 38 rfl (by decide +kernel) (pre_line.late V 38 (by decide +kernel))
/-- What `main_call2_v1` holds. -/
theorem pre_call2_v1 : (Pre V main_call2_v1 : Ci1 F S65536x1) = ((cmpi .slt) : Ci32 F S65536x1 → Ci32 F S65536x1 → Ci1 F S65536x1) (Pre V main_v21 : Ci32 F S65536x1) (Pre V main_call2_v0 : Ci32 F S65536x1) :=
  pre_line.teq2 V 39 (Ti32 S65536x1 main_v21) (Ti32 S65536x1 main_call2_v0) (Ti1 S65536x1 main_call2_v1) ((cmpi .slt) : Ci32 F S65536x1 → Ci32 F S65536x1 → Ci1 F S65536x1) rfl (by decide +kernel) (pre_line.late V 39 (by decide +kernel)) (pre_line.late V 39 (by decide +kernel))
/-- What `main_call2_c_0` holds. -/
theorem pre_call2_c_0 : (Pre V main_call2_c_0 : Ci32 F S_) = (constantI S_ 32 12#32) :=
  pre_line.eq0 V 40 rfl (by decide +kernel)
/-- What `main_call2_v2` holds. -/
theorem pre_call2_v2 : (Pre V main_call2_v2 : Ci32 F S65536x1) = (broadcastInDim S65536x1 ![] bcast_S_S65536x1) (Pre V main_call2_c_0 : Ci32 F S_) :=
  pre_line.eq1 V 41 rfl (by decide +kernel) (pre_line.late V 41 (by decide +kernel))
/-- What `main_call2_v3` holds. -/
theorem pre_call2_v3 : (Pre V main_call2_v3 : Ci32 F S65536x1) = (addi : Ci32 F S65536x1 → Ci32 F S65536x1 → Ci32 F S65536x1) (Pre V main_v21 : Ci32 F S65536x1) (Pre V main_call2_v2 : Ci32 F S65536x1) :=
  pre_line.teq2 V 42 (Ti32 S65536x1 main_v21) (Ti32 S65536x1 main_call2_v2) (Ti32 S65536x1 main_call2_v3) (addi : Ci32 F S65536x1 → Ci32 F S65536x1 → Ci32 F S65536x1) rfl (by decide +kernel) (pre_line.late V 42 (by decide +kernel)) (pre_line.late V 42 (by decide +kernel))
/-- What `main_call2_v4` holds. -/
theorem pre_call2_v4 : (Pre V main_call2_v4 : Ci32 F S65536x1) = (select : Ci1 F S65536x1 → Ci32 F S65536x1 → Ci32 F S65536x1 → Ci32 F S65536x1) (Pre V main_call2_v1 : Ci1 F S65536x1) (Pre V main_call2_v3 : Ci32 F S65536x1) (Pre V main_v21 : Ci32 F S65536x1) :=
  pre_line.teq3 V 43 (Ti1 S65536x1 main_call2_v1) (Ti32 S65536x1 main_call2_v3) (Ti32 S65536x1 main_v21) (Ti32 S65536x1 main_call2_v4) (select : Ci1 F S65536x1 → Ci32 F S65536x1 → Ci32 F S65536x1 → Ci32 F S65536x1) rfl (by decide +kernel) (pre_line.late V 43 (by decide +kernel)) (pre_line.late V 43 (by decide +kernel)) (pre_line.late V 43 (by decide +kernel))
/-- What `main_call2_v5` holds. -/
theorem pre_call2_v5 : (Pre V main_call2_v5 : Ci32 F S65536x1x1) = shapeCast S65536x1x1 (Pre V main_call2_v4 : Ci32 F S65536x1) shapeCasts_S65536x1_S65536x1x1 :=
  pre_line.eqR V 44 rfl (by decide +kernel) (pre_line.late V 44 (by decide +kernel))
/-- What `main_v22` holds. -/
theorem pre_v22 : (Pre V main_v22 : Cf32 F S65536x1) = Host.gather gather_S65536x12_S65536x1x1_S65536x1_n_1_0_0_1_2_11 (Pre V main_v20 : Cf32 F S65536x12) (Pre V main_call2_v5 : Ci32 F S65536x1x1) :=
  pre_line.teq2 V 45 (Tf32 S65536x12 main_v20) (Ti32 S65536x1x1 main_call2_v5) (Tf32 S65536x1 main_v22) (fun x i => Host.gather gather_S65536x12_S65536x1x1_S65536x1_n_1_0_0_1_2_11 x i) rfl (by decide +kernel) (pre_line.late V 45 (by decide +kernel)) (pre_line.late V 45 (by decide +kernel))
/-- What `main_v23` holds. -/
theorem pre_v23 : (Pre V main_v23 : Cf32 F S65536) = shapeCast S65536 (Pre V main_v22 : Cf32 F S65536x1) shapeCasts_S65536x1_S65536 :=
  pre_line.eqR V 46 rfl (by decide +kernel) (pre_line.late V 46 (by decide +kernel))
/-- What `main_v24` holds. -/
theorem pre_v24 : (Pre V main_v24 : Cf32 F S65536x12) = extractStridedSlice S65536x12 ![0, 36] (Pre V main_v1 : Cf32 F S65536x76) slices_S65536x76_S65536x12_0_36 :=
  pre_line.eq1 V 47 rfl (by decide +kernel) (pre_line.late V 47 (by decide +kernel))
/-- What `main_v25` holds. -/
theorem pre_v25 : (Pre V main_v25 : Ci32 F S65536x1) = broadcastInDim S65536x1 ![0] bcast_S65536_S65536x1_0 (Pre V main_v5 : Ci32 F S65536) :=
  pre_line.eq1 V 48 rfl (by decide +kernel) (pre_line.late V 48 (by decide +kernel))
/-- What `main_call3_c` holds. -/
theorem pre_call3_c : (Pre V main_call3_c : Ci32 F S_) = (constantI S_ 32 0#32) :=
  pre_line.eq0 V 49 rfl (by decide +kernel)
/-- What `main_call3_v0` holds. -/
theorem pre_call3_v0 : (Pre V main_call3_v0 : Ci32 F S65536x1) = (broadcastInDim S65536x1 ![] bcast_S_S65536x1) (Pre V main_call3_c : Ci32 F S_) :=
  pre_line.eq1 V 50 rfl (by decide +kernel) (pre_line.late V 50 (by decide +kernel))
/-- What `main_call3_v1` holds. -/
theorem pre_call3_v1 : (Pre V main_call3_v1 : Ci1 F S65536x1) = ((cmpi .slt) : Ci32 F S65536x1 → Ci32 F S65536x1 → Ci1 F S65536x1) (Pre V main_v25 : Ci32 F S65536x1) (Pre V main_call3_v0 : Ci32 F S65536x1) :=
  pre_line.teq2 V 51 (Ti32 S65536x1 main_v25) (Ti32 S65536x1 main_call3_v0) (Ti1 S65536x1 main_call3_v1) ((cmpi .slt) : Ci32 F S65536x1 → Ci32 F S65536x1 → Ci1 F S65536x1) rfl (by decide +kernel) (pre_line.late V 51 (by decide +kernel)) (pre_line.late V 51 (by decide +kernel))
/-- What `main_call3_c_0` holds. -/
theorem pre_call3_c_0 : (Pre V main_call3_c_0 : Ci32 F S_) = (constantI S_ 32 12#32) :=
  pre_line.eq0 V 52 rfl (by decide +kernel)
/-- What `main_call3_v2` holds. -/
theorem pre_call3_v2 : (Pre V main_call3_v2 : Ci32 F S65536x1) = (broadcastInDim S65536x1 ![] bcast_S_S65536x1) (Pre V main_call3_c_0 : Ci32 F S_) :=
  pre_line.eq1 V 53 rfl (by decide +kernel) (pre_line.late V 53 (by decide +kernel))
/-- What `main_call3_v3` holds. -/
theorem pre_call3_v3 : (Pre V main_call3_v3 : Ci32 F S65536x1) = (addi : Ci32 F S65536x1 → Ci32 F S65536x1 → Ci32 F S65536x1) (Pre V main_v25 : Ci32 F S65536x1) (Pre V main_call3_v2 : Ci32 F S65536x1) :=
  pre_line.teq2 V 54 (Ti32 S65536x1 main_v25) (Ti32 S65536x1 main_call3_v2) (Ti32 S65536x1 main_call3_v3) (addi : Ci32 F S65536x1 → Ci32 F S65536x1 → Ci32 F S65536x1) rfl (by decide +kernel) (pre_line.late V 54 (by decide +kernel)) (pre_line.late V 54 (by decide +kernel))
/-- What `main_call3_v4` holds. -/
theorem pre_call3_v4 : (Pre V main_call3_v4 : Ci32 F S65536x1) = (select : Ci1 F S65536x1 → Ci32 F S65536x1 → Ci32 F S65536x1 → Ci32 F S65536x1) (Pre V main_call3_v1 : Ci1 F S65536x1) (Pre V main_call3_v3 : Ci32 F S65536x1) (Pre V main_v25 : Ci32 F S65536x1) :=
  pre_line.teq3 V 55 (Ti1 S65536x1 main_call3_v1) (Ti32 S65536x1 main_call3_v3) (Ti32 S65536x1 main_v25) (Ti32 S65536x1 main_call3_v4) (select : Ci1 F S65536x1 → Ci32 F S65536x1 → Ci32 F S65536x1 → Ci32 F S65536x1) rfl (by decide +kernel) (pre_line.late V 55 (by decide +kernel)) (pre_line.late V 55 (by decide +kernel)) (pre_line.late V 55 (by decide +kernel))
/-- What `main_call3_v5` holds. -/
theorem pre_call3_v5 : (Pre V main_call3_v5 : Ci32 F S65536x1x1) = shapeCast S65536x1x1 (Pre V main_call3_v4 : Ci32 F S65536x1) shapeCasts_S65536x1_S65536x1x1 :=
  pre_line.eqR V 56 rfl (by decide +kernel) (pre_line.late V 56 (by decide +kernel))
/-- What `main_v26` holds. -/
theorem pre_v26 : (Pre V main_v26 : Cf32 F S65536x1) = Host.gather gather_S65536x12_S65536x1x1_S65536x1_n_1_0_0_1_2_11 (Pre V main_v24 : Cf32 F S65536x12) (Pre V main_call3_v5 : Ci32 F S65536x1x1) :=
  pre_line.teq2 V 57 (Tf32 S65536x12 main_v24) (Ti32 S65536x1x1 main_call3_v5) (Tf32 S65536x1 main_v26) (fun x i => Host.gather gather_S65536x12_S65536x1x1_S65536x1_n_1_0_0_1_2_11 x i) rfl (by decide +kernel) (pre_line.late V 57 (by decide +kernel)) (pre_line.late V 57 (by decide +kernel))
/-- What `main_v27` holds. -/
theorem pre_v27 : (Pre V main_v27 : Cf32 F S65536) = shapeCast S65536 (Pre V main_v26 : Cf32 F S65536x1) shapeCasts_S65536x1_S65536 :=
  pre_line.eqR V 58 rfl (by decide +kernel) (pre_line.late V 58 (by decide +kernel))
/-- What `main_cst_6` holds. -/
theorem pre_cst_6 : (Pre V main_cst_6 : Cf32 F S_) = (constant S_ .f32 0x3F000000#32) :=
  pre_line.eq0 V 59 rfl (by decide +kernel)
/-- What `main_v28` holds. -/
theorem pre_v28 : (Pre V main_v28 : Cf32 F S65536) = broadcastInDim S65536 ![] bcast_S_S65536 (Pre V main_cst_6 : Cf32 F S_) :=
  pre_line.eq1 V 60 rfl (by decide +kernel) (pre_line.late V 60 (by decide +kernel))
/-- What `main_v29` holds. -/
theorem pre_v29 : (Pre V main_v29 : Cf32 F S65536) = mulf (Pre V main_v23 : Cf32 F S65536) (Pre V main_v28 : Cf32 F S65536) :=
  pre_line.eq2 V 61 rfl (by decide +kernel) (pre_line.late V 61 (by decide +kernel)) (pre_line.late V 61 (by decide +kernel))
/-- What `main_v30` holds. -/
theorem pre_v30 : (Pre V main_v30 : Cf32 F S65536) = addf (Pre V main_v12 : Cf32 F S65536) (Pre V main_v29 : Cf32 F S65536) :=
  pre_line.eq2 V 62 rfl (by decide +kernel) (pre_line.late V 62 (by decide +kernel)) (pre_line.late V 62 (by decide +kernel))
/-- What `main_cst_7` holds. -/
theorem pre_cst_7 : (Pre V main_cst_7 : Cf32 F S_) = (constant S_ .f32 0x3F000000#32) :=
  pre_line.eq0 V 63 rfl (by decide +kernel)
/-- What `main_v31` holds. -/
theorem pre_v31 : (Pre V main_v31 : Cf32 F S65536) = broadcastInDim S65536 ![] bcast_S_S65536 (Pre V main_cst_7 : Cf32 F S_) :=
  pre_line.eq1 V 64 rfl (by decide +kernel) (pre_line.late V 64 (by decide +kernel))
/-- What `main_v32` holds. -/
theorem pre_v32 : (Pre V main_v32 : Cf32 F S65536) = mulf (Pre V main_v27 : Cf32 F S65536) (Pre V main_v31 : Cf32 F S65536) :=
  pre_line.eq2 V 65 rfl (by decide +kernel) (pre_line.late V 65 (by decide +kernel)) (pre_line.late V 65 (by decide +kernel))
/-- What `main_v33` holds. -/
theorem pre_v33 : (Pre V main_v33 : Cf32 F S65536) = addf (Pre V main_v19 : Cf32 F S65536) (Pre V main_v32 : Cf32 F S65536) :=
  pre_line.eq2 V 66 rfl (by decide +kernel) (pre_line.late V 66 (by decide +kernel)) (pre_line.late V 66 (by decide +kernel))
/-- What `main_v34` holds. -/
theorem pre_v34 : (Pre V main_v34 : Cf32 F S65536x1) = extractStridedSlice S65536x1 ![0, 1] (Pre V main_v0 : Cf32 F S65536x3) slices_S65536x3_S65536x1_0_1 :=
  pre_line.eq1 V 67 rfl (by decide +kernel) (pre_line.late V 67 (by decide +kernel))
/-- What `main_v35` holds. -/
theorem pre_v35 : (Pre V main_v35 : Cf32 F S65536) = shapeCast S65536 (Pre V main_v34 : Cf32 F S65536x1) shapeCasts_S65536x1_S65536 :=
  pre_line.eqR V 68 rfl (by decide +kernel) (pre_line.late V 68 (by decide +kernel))
/-- What `main_v36` holds. -/
theorem pre_v36 : (Pre V main_v36 : Cf32 F S65536x1) = extractStridedSlice S65536x1 ![0, 48] (Pre V main_v1 : Cf32 F S65536x76) slices_S65536x76_S65536x1_0_48 :=
  pre_line.eq1 V 69 rfl (by decide +kernel) (pre_line.late V 69 (by decide +kernel))
/-- What `main_v37` holds. -/
theorem pre_v37 : (Pre V main_v37 : Cf32 F S65536) = shapeCast S65536 (Pre V main_v36 : Cf32 F S65536x1) shapeCasts_S65536x1_S65536 :=
  pre_line.eqR V 70 rfl (by decide +kernel) (pre_line.late V 70 (by decide +kernel))
/-- What `main_v38` holds. -/
theorem pre_v38 : (Pre V main_v38 : Cf32 F S65536) = addf (Pre V main_v35 : Cf32 F S65536) (Pre V main_v37 : Cf32 F S65536) :=
  pre_line.eq2 V 71 rfl (by decide +kernel) (pre_line.late V 71 (by decide +kernel)) (pre_line.late V 71 (by decide +kernel))
/-- What `main_v39` holds. -/
theorem pre_v39 : (Pre V main_v39 : Cf32 F S65536x12) = extractStridedSlice S65536x12 ![0, 49] (Pre V main_v1 : Cf32 F S65536x76) slices_S65536x76_S65536x12_0_49 :=
  pre_line.eq1 V 72 rfl (by decide +kernel) (pre_line.late V 72 (by decide +kernel))
/-- What `main_call4_v0` holds. -/
theorem pre_call4_v0 : (Pre V main_call4_v0 : Ci32 F S65536x12) = (iotaInDim S65536x12 32 1) :=
  pre_line.eq0 V 73 rfl (by decide +kernel)
/-- What `main_call4_cst` holds. -/
theorem pre_call4_cst : (Pre V main_call4_cst : Cf32 F S_) = (constant S_ .f32 0xFF800000#32) :=
  pre_line.eq0 V 74 rfl (by decide +kernel)
/-- What `main_call4_c` holds. -/
theorem pre_call4_c : (Pre V main_call4_c : Ci32 F S_) = (constantI S_ 32 0#32) :=
  pre_line.eq0 V 75 rfl (by decide +kernel)
/-- What `main_call4_v1_0` holds. -/
theorem pre_call4_v1_0 : (Pre V main_call4_v1_0 : Cf32 F S65536) = fun j => (Host.argReduce reducer_argmax_f32_i32 (Pre V main_v39 : Cf32 F S65536x12) (Pre V main_call4_v0 : Ci32 F S65536x12) (Pre V main_call4_cst : Cf32 F S_) (Pre V main_call4_c : Ci32 F S_) reducesTo_S65536x12_S65536_d1 h_S_ j).1 :=
  pre_line.eq4 V 76 rfl (by decide +kernel) (pre_line.late V 76 (by decide +kernel)) (pre_line.late V 76 (by decide +kernel)) (pre_line.late V 76 (by decide +kernel)) (pre_line.late V 76 (by decide +kernel))
/-- What `main_v40` holds. -/
theorem pre_v40 : (Pre V main_v40 : Ci32 F S65536) = fun j => (Host.argReduce reducer_argmax_f32_i32 (Pre V main_v39 : Cf32 F S65536x12) (Pre V main_call4_v0 : Ci32 F S65536x12) (Pre V main_call4_cst : Cf32 F S_) (Pre V main_call4_c : Ci32 F S_) reducesTo_S65536x12_S65536_d1 h_S_ j).2 :=
  pre_line.eq4 V 77 rfl (by decide +kernel) (pre_line.late V 77 (by decide +kernel)) (pre_line.late V 77 (by decide +kernel)) (pre_line.late V 77 (by decide +kernel)) (pre_line.late V 77 (by decide +kernel))
/-- What `main_v41` holds. -/
theorem pre_v41 : (Pre V main_v41 : Cf32 F S65536x12) = extractStridedSlice S65536x12 ![0, 61] (Pre V main_v1 : Cf32 F S65536x76) slices_S65536x76_S65536x12_0_61 :=
  pre_line.eq1 V 78 rfl (by decide +kernel) (pre_line.late V 78 (by decide +kernel))
/-- What `main_v42` holds. -/
theorem pre_v42 : (Pre V main_v42 : Ci32 F S65536x1) = broadcastInDim S65536x1 ![0] bcast_S65536_S65536x1_0 (Pre V main_v40 : Ci32 F S65536) :=
  pre_line.eq1 V 79 rfl (by decide +kernel) (pre_line.late V 79 (by decide +kernel))
/-- What `main_call5_c` holds. -/
theorem pre_call5_c : (Pre V main_call5_c : Ci32 F S_) = (constantI S_ 32 0#32) :=
  pre_line.eq0 V 80 rfl (by decide +kernel)
/-- What `main_call5_v0` holds. -/
theorem pre_call5_v0 : (Pre V main_call5_v0 : Ci32 F S65536x1) = (broadcastInDim S65536x1 ![] bcast_S_S65536x1) (Pre V main_call5_c : Ci32 F S_) :=
  pre_line.eq1 V 81 rfl (by decide +kernel) (pre_line.late V 81 (by decide +kernel))
/-- What `main_call5_v1` holds. -/
theorem pre_call5_v1 : (Pre V main_call5_v1 : Ci1 F S65536x1) = ((cmpi .slt) : Ci32 F S65536x1 → Ci32 F S65536x1 → Ci1 F S65536x1) (Pre V main_v42 : Ci32 F S65536x1) (Pre V main_call5_v0 : Ci32 F S65536x1) :=
  pre_line.teq2 V 82 (Ti32 S65536x1 main_v42) (Ti32 S65536x1 main_call5_v0) (Ti1 S65536x1 main_call5_v1) ((cmpi .slt) : Ci32 F S65536x1 → Ci32 F S65536x1 → Ci1 F S65536x1) rfl (by decide +kernel) (pre_line.late V 82 (by decide +kernel)) (pre_line.late V 82 (by decide +kernel))
/-- What `main_call5_c_0` holds. -/
theorem pre_call5_c_0 : (Pre V main_call5_c_0 : Ci32 F S_) = (constantI S_ 32 12#32) :=
  pre_line.eq0 V 83 rfl (by decide +kernel)
/-- What `main_call5_v2` holds. -/
theorem pre_call5_v2 : (Pre V main_call5_v2 : Ci32 F S65536x1) = (broadcastInDim S65536x1 ![] bcast_S_S65536x1) (Pre V main_call5_c_0 : Ci32 F S_) :=
  pre_line.eq1 V 84 rfl (by decide +kernel) (pre_line.late V 84 (by decide +kernel))
/-- What `main_call5_v3` holds. -/
theorem pre_call5_v3 : (Pre V main_call5_v3 : Ci32 F S65536x1) = (addi : Ci32 F S65536x1 → Ci32 F S65536x1 → Ci32 F S65536x1) (Pre V main_v42 : Ci32 F S65536x1) (Pre V main_call5_v2 : Ci32 F S65536x1) :=
  pre_line.teq2 V 85 (Ti32 S65536x1 main_v42) (Ti32 S65536x1 main_call5_v2) (Ti32 S65536x1 main_call5_v3) (addi : Ci32 F S65536x1 → Ci32 F S65536x1 → Ci32 F S65536x1) rfl (by decide +kernel) (pre_line.late V 85 (by decide +kernel)) (pre_line.late V 85 (by decide +kernel))
/-- What `main_call5_v4` holds. -/
theorem pre_call5_v4 : (Pre V main_call5_v4 : Ci32 F S65536x1) = (select : Ci1 F S65536x1 → Ci32 F S65536x1 → Ci32 F S65536x1 → Ci32 F S65536x1) (Pre V main_call5_v1 : Ci1 F S65536x1) (Pre V main_call5_v3 : Ci32 F S65536x1) (Pre V main_v42 : Ci32 F S65536x1) :=
  pre_line.teq3 V 86 (Ti1 S65536x1 main_call5_v1) (Ti32 S65536x1 main_call5_v3) (Ti32 S65536x1 main_v42) (Ti32 S65536x1 main_call5_v4) (select : Ci1 F S65536x1 → Ci32 F S65536x1 → Ci32 F S65536x1 → Ci32 F S65536x1) rfl (by decide +kernel) (pre_line.late V 86 (by decide +kernel)) (pre_line.late V 86 (by decide +kernel)) (pre_line.late V 86 (by decide +kernel))
/-- What `main_call5_v5` holds. -/
theorem pre_call5_v5 : (Pre V main_call5_v5 : Ci32 F S65536x1x1) = shapeCast S65536x1x1 (Pre V main_call5_v4 : Ci32 F S65536x1) shapeCasts_S65536x1_S65536x1x1 :=
  pre_line.eqR V 87 rfl (by decide +kernel) (pre_line.late V 87 (by decide +kernel))
/-- What `main_v43` holds. -/
theorem pre_v43 : (Pre V main_v43 : Cf32 F S65536x1) = Host.gather gather_S65536x12_S65536x1x1_S65536x1_n_1_0_0_1_2_11 (Pre V main_v41 : Cf32 F S65536x12) (Pre V main_call5_v5 : Ci32 F S65536x1x1) :=
  pre_line.teq2 V 88 (Tf32 S65536x12 main_v41) (Ti32 S65536x1x1 main_call5_v5) (Tf32 S65536x1 main_v43) (fun x i => Host.gather gather_S65536x12_S65536x1x1_S65536x1_n_1_0_0_1_2_11 x i) rfl (by decide +kernel) (pre_line.late V 88 (by decide +kernel)) (pre_line.late V 88 (by decide +kernel))
/-- What `main_v44` holds. -/
theorem pre_v44 : (Pre V main_v44 : Cf32 F S65536) = shapeCast S65536 (Pre V main_v43 : Cf32 F S65536x1) shapeCasts_S65536x1_S65536 :=
  pre_line.eqR V 89 rfl (by decide +kernel) (pre_line.late V 89 (by decide +kernel))
/-- What `main_cst_8` holds. -/
theorem pre_cst_8 : (Pre V main_cst_8 : Cf32 F S_) = (constant S_ .f32 0x3E860A92#32) :=
  pre_line.eq0 V 90 rfl (by decide +kernel)
/-- What `main_v45` holds. -/
theorem pre_v45 : (Pre V main_v45 : Cf32 F S65536) = broadcastInDim S65536 ![] bcast_S_S65536 (Pre V main_cst_8 : Cf32 F S_) :=
  pre_line.eq1 V 91 rfl (by decide +kernel) (pre_line.late V 91 (by decide +kernel))
/-- What `main_v46` holds. -/
theorem pre_v46 : (Pre V main_v46 : Cf32 F S65536) = mulf (Pre V main_v44 : Cf32 F S65536) (Pre V main_v45 : Cf32 F S65536) :=
  pre_line.eq2 V 92 rfl (by decide +kernel) (pre_line.late V 92 (by decide +kernel)) (pre_line.late V 92 (by decide +kernel))
/-- What `main_v47` holds. -/
theorem pre_v47 : (Pre V main_v47 : Cf32 F S65536) = sitofp .f32 (Pre V main_v40 : Ci32 F S65536) :=
  pre_line.eq1 V 93 rfl (by decide +kernel) (pre_line.late V 93 (by decide +kernel))
/-- What `main_cst_9` holds. -/
theorem pre_cst_9 : (Pre V main_cst_9 : Cf32 F S_) = (constant S_ .f32 0x3F060A92#32) :=
  pre_line.eq0 V 94 rfl (by decide +kernel)
/-- What `main_v48` holds. -/
theorem pre_v48 : (Pre V main_v48 : Cf32 F S65536) = broadcastInDim S65536 ![] bcast_S_S65536 (Pre V main_cst_9 : Cf32 F S_) :=
  pre_line.eq1 V 95 rfl (by decide +kernel) (pre_line.late V 95 (by decide +kernel))
/-- What `main_v49` holds. -/
theorem pre_v49 : (Pre V main_v49 : Cf32 F S65536) = mulf (Pre V main_v47 : Cf32 F S65536) (Pre V main_v48 : Cf32 F S65536) :=
  pre_line.eq2 V 96 rfl (by decide +kernel) (pre_line.late V 96 (by decide +kernel)) (pre_line.late V 96 (by decide +kernel))
/-- What `main_v50` holds. -/
theorem pre_v50 : (Pre V main_v50 : Cf32 F S65536) = addf (Pre V main_v49 : Cf32 F S65536) (Pre V main_v46 : Cf32 F S65536) :=
  pre_line.eq2 V 97 rfl (by decide +kernel) (pre_line.late V 97 (by decide +kernel)) (pre_line.late V 97 (by decide +kernel))
/-- What `main_cst_10` holds. -/
theorem pre_cst_10 : (Pre V main_cst_10 : Cf32 F S_) = (constant S_ .f32 0x40C90FDB#32) :=
  pre_line.eq0 V 98 rfl (by decide +kernel)
/-- What `main_call6_v0` holds. -/
theorem pre_call6_v0 : (Pre V main_call6_v0 : Cf32 F S_) = (Pre V main_cst_10 : Cf32 F S_) :=
  pre_line.eq1 V 99 rfl (by decide +kernel) (pre_line.late V 99 (by decide +kernel))
/-- What `main_call6_v1` holds. -/
theorem pre_call6_v1 : (Pre V main_call6_v1 : Cf32 F S65536) = (broadcastInDim S65536 ![] bcast_S_S65536) (Pre V main_call6_v0 : Cf32 F S_) :=
  pre_line.eq1 V 100 rfl (by decide +kernel) (pre_line.late V 100 (by decide +kernel))
/-- What `main_call6_v2` holds. -/
theorem pre_call6_v2 : (Pre V main_call6_v2 : Cf32 F S65536) = (Host.remf : Cf32 F S65536 → Cf32 F S65536 → Cf32 F S65536) (Pre V main_v50 : Cf32 F S65536) (Pre V main_call6_v1 : Cf32 F S65536) :=
  pre_line.teq2 V 101 (Tf32 S65536 main_v50) (Tf32 S65536 main_call6_v1) (Tf32 S65536 main_call6_v2) (Host.remf : Cf32 F S65536 → Cf32 F S65536 → Cf32 F S65536) rfl (by decide +kernel) (pre_line.late V 101 (by decide +kernel)) (pre_line.late V 101 (by decide +kernel))
/-- What `main_call6_cst` holds. -/
theorem pre_call6_cst : (Pre V main_call6_cst : Cf32 F S_) = (constant S_ .f32 0x00000000#32) :=
  pre_line.eq0 V 102 rfl (by decide +kernel)
/-- What `main_call6_v3` holds. -/
theorem pre_call6_v3 : (Pre V main_call6_v3 : Cf32 F S65536) = (broadcastInDim S65536 ![] bcast_S_S65536) (Pre V main_call6_cst : Cf32 F S_) :=
  pre_line.eq1 V 103 rfl (by decide +kernel) (pre_line.late V 103 (by decide +kernel))
/-- What `main_call6_v4` holds. -/
theorem pre_call6_v4 : (Pre V main_call6_v4 : Ci1 F S65536) = ((cmpf .une) : Cf32 F S65536 → Cf32 F S65536 → Ci1 F S65536) (Pre V main_call6_v2 : Cf32 F S65536) (Pre V main_call6_v3 : Cf32 F S65536) :=
  pre_line.teq2 V 104 (Tf32 S65536 main_call6_v2) (Tf32 S65536 main_call6_v3) (Ti1 S65536 main_call6_v4) ((cmpf .une) : Cf32 F S65536 → Cf32 F S65536 → Ci1 F S65536) rfl (by decide +kernel) (pre_line.late V 104 (by decide +kernel)) (pre_line.late V 104 (by decide +kernel))
/-- What `main_call6_cst_0` holds. -/
theorem pre_call6_cst_0 : (Pre V main_call6_cst_0 : Cf32 F S_) = (constant S_ .f32 0x00000000#32) :=
  pre_line.eq0 V 105 rfl (by decide +kernel)
/-- What `main_call6_v5` holds. -/
theorem pre_call6_v5 : (Pre V main_call6_v5 : Cf32 F S65536) = (broadcastInDim S65536 ![] bcast_S_S65536) (Pre V main_call6_cst_0 : Cf32 F S_) :=
  pre_line.eq1 V 106 rfl (by decide +kernel) (pre_line.late V 106 (by decide +kernel))
/-- What `main_call6_v6` holds. -/
theorem pre_call6_v6 : (Pre V main_call6_v6 : Ci1 F S65536) = ((cmpf .olt) : Cf32 F S65536 → Cf32 F S65536 → Ci1 F S65536) (Pre V main_call6_v2 : Cf32 F S65536) (Pre V main_call6_v5 : Cf32 F S65536) :=
  pre_line.teq2 V 107 (Tf32 S65536 main_call6_v2) (Tf32 S65536 main_call6_v5) (Ti1 S65536 main_call6_v6) ((cmpf .olt) : Cf32 F S65536 → Cf32 F S65536 → Ci1 F S65536) rfl (by decide +kernel) (pre_line.late V 107 (by decide +kernel)) (pre_line.late V 107 (by decide +kernel))
/-- What `main_call6_cst_1` holds. -/
theorem pre_call6_cst_1 : (Pre V main_call6_cst_1 : Cf32 F S_) = (constant S_ .f32 0x00000000#32) :=
  pre_line.eq0 V 108 rfl (by decide +kernel)
/-- What `main_call6_v7` holds. -/
theorem pre_call6_v7 : (Pre V main_call6_v7 : Ci1 F S_) = ((cmpf .olt) : Cf32 F S_ → Cf32 F S_ → Ci1 F S_) (Pre V main_call6_v0 : Cf32 F S_) (Pre V main_call6_cst_1 : Cf32 F S_) :=
  pre_line.teq2 V 109 (Tf32 S_ main_call6_v0) (Tf32 S_ main_call6_cst_1) (Ti1 S_ main_call6_v7) ((cmpf .olt) : Cf32 F S_ → Cf32 F S_ → Ci1 F S_) rfl (by decide +kernel) (pre_line.late V 109 (by decide +kernel)) (pre_line.late V 109 (by decide +kernel))
/-- What `main_call6_v8` holds. -/
theorem pre_call6_v8 : (Pre V main_call6_v8 : Ci1 F S65536) = (broadcastInDim S65536 ![] bcast_S_S65536) (Pre V main_call6_v7 : Ci1 F S_) :=
  pre_line.eq1 V 110 rfl (by decide +kernel) (pre_line.late V 110 (by decide +kernel))
/-- What `main_call6_v9` holds. -/
theorem pre_call6_v9 : (Pre V main_call6_v9 : Ci1 F S65536) = ((cmpi .ne) : Ci1 F S65536 → Ci1 F S65536 → Ci1 F S65536) (Pre V main_call6_v6 : Ci1 F S65536) (Pre V main_call6_v8 : Ci1 F S65536) :=
  pre_line.teq2 V 111 (Ti1 S65536 main_call6_v6) (Ti1 S65536 main_call6_v8) (Ti1 S65536 main_call6_v9) ((cmpi .ne) : Ci1 F S65536 → Ci1 F S65536 → Ci1 F S65536) rfl (by decide +kernel) (pre_line.late V 111 (by decide +kernel)) (pre_line.late V 111 (by decide +kernel))
/-- What `main_call6_v10` holds. -/
theorem pre_call6_v10 : (Pre V main_call6_v10 : Ci1 F S65536) = (andi : Ci1 F S65536 → Ci1 F S65536 → Ci1 F S65536) (Pre V main_call6_v9 : Ci1 F S65536) (Pre V main_call6_v4 : Ci1 F S65536) :=
  pre_line.teq2 V 112 (Ti1 S65536 main_call6_v9) (Ti1 S65536 main_call6_v4) (Ti1 S65536 main_call6_v10) (andi : Ci1 F S65536 → Ci1 F S65536 → Ci1 F S65536) rfl (by decide +kernel) (pre_line.late V 112 (by decide +kernel)) (pre_line.late V 112 (by decide +kernel))
/-- What `main_call6_v11` holds. -/
theorem pre_call6_v11 : (Pre V main_call6_v11 : Cf32 F S65536) = (broadcastInDim S65536 ![] bcast_S_S65536) (Pre V main_call6_v0 : Cf32 F S_) :=
  pre_line.eq1 V 113 rfl (by decide +kernel) (pre_line.late V 113 (by decide +kernel))
/-- What `main_call6_v12` holds. -/
theorem pre_call6_v12 : (Pre V main_call6_v12 : Cf32 F S65536) = (addf : Cf32 F S65536 → Cf32 F S65536 → Cf32 F S65536) (Pre V main_call6_v2 : Cf32 F S65536) (Pre V main_call6_v11 : Cf32 F S65536) :=
  pre_line.teq2 V 114 (Tf32 S65536 main_call6_v2) (Tf32 S65536 main_call6_v11) (Tf32 S65536 main_call6_v12) (addf : Cf32 F S65536 → Cf32 F S65536 → Cf32 F S65536) rfl (by decide +kernel) (pre_line.late V 114 (by decide +kernel)) (pre_line.late V 114 (by decide +kernel))
/-- What `main_v51` holds. -/
theorem pre_v51 : (Pre V main_v51 : Cf32 F S65536) = (select : Ci1 F S65536 → Cf32 F S65536 → Cf32 F S65536 → Cf32 F S65536) (Pre V main_call6_v10 : Ci1 F S65536) (Pre V main_call6_v12 : Cf32 F S65536) (Pre V main_call6_v2 : Cf32 F S65536) :=
  pre_line.teq3 V 115 (Ti1 S65536 main_call6_v10) (Tf32 S65536 main_call6_v12) (Tf32 S65536 main_call6_v2) (Tf32 S65536 main_v51) (select : Ci1 F S65536 → Cf32 F S65536 → Cf32 F S65536 → Cf32 F S65536) rfl (by decide +kernel) (pre_line.late V 115 (by decide +kernel)) (pre_line.late V 115 (by decide +kernel)) (pre_line.late V 115 (by decide +kernel))
/-- What `main_cst_11` holds. -/
theorem pre_cst_11 : (Pre V main_cst_11 : Cf32 F S_) = (constant S_ .f32 0x40490FDB#32) :=
  pre_line.eq0 V 116 rfl (by decide +kernel)
/-- What `main_v52` holds. -/
theorem pre_v52 : (Pre V main_v52 : Cf32 F S65536) = broadcastInDim S65536 ![] bcast_S_S65536 (Pre V main_cst_11 : Cf32 F S_) :=
  pre_line.eq1 V 117 rfl (by decide +kernel) (pre_line.late V 117 (by decide +kernel))
/-- What `main_v53` holds. -/
theorem pre_v53 : (Pre V main_v53 : Ci1 F S65536) = cmpf .ogt (Pre V main_v51 : Cf32 F S65536) (Pre V main_v52 : Cf32 F S65536) :=
  pre_line.eq2 V 118 rfl (by decide +kernel) (pre_line.late V 118 (by decide +kernel)) (pre_line.late V 118 (by decide +kernel))
/-- What `main_cst_12` holds. -/
theorem pre_cst_12 : (Pre V main_cst_12 : Cf32 F S_) = (constant S_ .f32 0x40C90FDB#32) :=
  pre_line.eq0 V 119 rfl (by decide +kernel)
/-- What `main_v54` holds. -/
theorem pre_v54 : (Pre V main_v54 : Cf32 F S65536) = broadcastInDim S65536 ![] bcast_S_S65536 (Pre V main_cst_12 : Cf32 F S_) :=
  pre_line.eq1 V 120 rfl (by decide +kernel) (pre_line.late V 120 (by decide +kernel))
/-- What `main_v55` holds. -/
theorem pre_v55 : (Pre V main_v55 : Cf32 F S65536) = subf (Pre V main_v51 : Cf32 F S65536) (Pre V main_v54 : Cf32 F S65536) :=
  pre_line.eq2 V 121 rfl (by decide +kernel) (pre_line.late V 121 (by decide +kernel)) (pre_line.late V 121 (by decide +kernel))
/-- What `main_v56` holds. -/
theorem pre_v56 : (Pre V main_v56 : Cf32 F S65536) = (select : Ci1 F S65536 → Cf32 F S65536 → Cf32 F S65536 → Cf32 F S65536) (Pre V main_v53 : Ci1 F S65536) (Pre V main_v55 : Cf32 F S65536) (Pre V main_v51 : Cf32 F S65536) :=
  pre_line.teq3 V 122 (Ti1 S65536 main_v53) (Tf32 S65536 main_v55) (Tf32 S65536 main_v51) (Tf32 S65536 main_v56) (select : Ci1 F S65536 → Cf32 F S65536 → Cf32 F S65536 → Cf32 F S65536) rfl (by decide +kernel) (pre_line.late V 122 (by decide +kernel)) (pre_line.late V 122 (by decide +kernel)) (pre_line.late V 122 (by decide +kernel))
/-- What `main_v57` holds. -/
theorem pre_v57 : (Pre V main_v57 : Cf32 F S65536x3) = extractStridedSlice S65536x3 ![0, 73] (Pre V main_v1 : Cf32 F S65536x76) slices_S65536x76_S65536x3_0_73 :=
  pre_line.eq1 V 123 rfl (by decide +kernel) (pre_line.late V 123 (by decide +kernel))
/-- What `main_v58` holds. -/
theorem pre_v58 : (Pre V main_v58 : Cf32 F S1x3) = broadcastInDim S1x3 ![1] bcast_S3_S1x3_1 (Pre V main_cst : Cf32 F S3) :=
  pre_line.eq1 V 124 rfl (by decide +kernel) (pre_line.late V 124 (by decide +kernel))
/-- What `main_v59` holds. -/
theorem pre_v59 : (Pre V main_v59 : Cf32 F S65536x3) = broadcastInDim S65536x3 ![0, 1] bcast_S1x3_S65536x3_0_1 (Pre V main_v58 : Cf32 F S1x3) :=
  pre_line.eq1 V 125 rfl (by decide +kernel) (pre_line.late V 125 (by decide +kernel))
/-- What `main_v60` holds. -/
theorem pre_v60 : (Pre V main_v60 : Cf32 F S65536x3) = mulf (Pre V main_v57 : Cf32 F S65536x3) (Pre V main_v59 : Cf32 F S65536x3) :=
  pre_line.eq2 V 126 rfl (by decide +kernel) (pre_line.late V 126 (by decide +kernel)) (pre_line.late V 126 (by decide +kernel))
/-- What `main_v61` holds. -/
theorem pre_v61 : (Pre V main_v61 : Cf32 F S1x3) = broadcastInDim S1x3 ![1] bcast_S3_S1x3_1 (Pre V main_cst : Cf32 F S3) :=
  pre_line.eq1 V 127 rfl (by decide +kernel) (pre_line.late V 127 (by decide +kernel))
/-- What `main_v62` holds. -/
theorem pre_v62 : (Pre V main_v62 : Cf32 F S65536x3) = broadcastInDim S65536x3 ![0, 1] bcast_S1x3_S65536x3_0_1 (Pre V main_v61 : Cf32 F S1x3) :=
  pre_line.eq1 V 128 rfl (by decide +kernel) (pre_line.late V 128 (by decide +kernel))
/-- What `main_v63` holds. -/
theorem pre_v63 : (Pre V main_v63 : Cf32 F S65536x3) = addf (Pre V main_v60 : Cf32 F S65536x3) (Pre V main_v62 : Cf32 F S65536x3) :=
  pre_line.eq2 V 129 rfl (by decide +kernel) (pre_line.late V 129 (by decide +kernel)) (pre_line.late V 129 (by decide +kernel))
/-- What `main_v64` holds. -/
theorem pre_v64 : (Pre V main_v64 : Cf32 F S65536x1) = broadcastInDim S65536x1 ![0] bcast_S65536_S65536x1_0 (Pre V main_v30 : Cf32 F S65536) :=
  pre_line.eq1 V 130 rfl (by decide +kernel) (pre_line.late V 130 (by decide +kernel))
/-- What `main_v65` holds. -/
theorem pre_v65 : (Pre V main_v65 : Cf32 F S65536x1) = extractStridedSlice S65536x1 ![0, 0] (Pre V main_v0 : Cf32 F S65536x3) slices_S65536x3_S65536x1_0_0 :=
  pre_line.eq1 V 131 rfl (by decide +kernel) (pre_line.late V 131 (by decide +kernel))
/-- What `main_v66` holds. -/
theorem pre_v66 : (Pre V main_v66 : Cf32 F S65536x1) = addf (Pre V main_v64 : Cf32 F S65536x1) (Pre V main_v65 : Cf32 F S65536x1) :=
  pre_line.eq2 V 132 rfl (by decide +kernel) (pre_line.late V 132 (by decide +kernel)) (pre_line.late V 132 (by decide +kernel))
/-- What `main_v67` holds. -/
theorem pre_v67 : (Pre V main_v67 : Cf32 F S65536x1) = broadcastInDim S65536x1 ![0] bcast_S65536_S65536x1_0 (Pre V main_v38 : Cf32 F S65536) :=
  pre_line.eq1 V 133 rfl (by decide +kernel) (pre_line.late V 133 (by decide +kernel))
/-- What `main_v68` holds. -/
theorem pre_v68 : (Pre V main_v68 : Cf32 F S65536x1) = broadcastInDim S65536x1 ![0] bcast_S65536_S65536x1_0 (Pre V main_v33 : Cf32 F S65536) :=
  pre_line.eq1 V 134 rfl (by decide +kernel) (pre_line.late V 134 (by decide +kernel))
/-- What `main_v69` holds. -/
theorem pre_v69 : (Pre V main_v69 : Cf32 F S65536x1) = extractStridedSlice S65536x1 ![0, 2] (Pre V main_v0 : Cf32 F S65536x3) slices_S65536x3_S65536x1_0_2 :=
  pre_line.eq1 V 135 rfl (by decide +kernel) (pre_line.late V 135 (by decide +kernel))
/-- What `main_v70` holds. -/
theorem pre_v70 : (Pre V main_v70 : Cf32 F S65536x1) = addf (Pre V main_v68 : Cf32 F S65536x1) (Pre V main_v69 : Cf32 F S65536x1) :=
  pre_line.eq2 V 136 rfl (by decide +kernel) (pre_line.late V 136 (by decide +kernel)) (pre_line.late V 136 (by decide +kernel))
/-- What `main_v71` holds. -/
theorem pre_v71 : (Pre V main_v71 : Cf32 F S65536x1) = broadcastInDim S65536x1 ![0] bcast_S65536_S65536x1_0 (Pre V main_v56 : Cf32 F S65536) :=
  pre_line.eq1 V 137 rfl (by decide +kernel) (pre_line.late V 137 (by decide +kernel))
/-- What `main_v72` holds. -/
theorem pre_v72 : (Pre V main_v72 : Cf32 F S65536x7) = (concatenate S65536x7 1 [⟨S65536x1, (Pre V main_v66 : Cf32 F S65536x1)⟩, ⟨S65536x1, (Pre V main_v67 : Cf32 F S65536x1)⟩, ⟨S65536x1, (Pre V main_v70 : Cf32 F S65536x1)⟩, ⟨S65536x3, (Pre V main_v63 : Cf32 F S65536x3)⟩, ⟨S65536x1, (Pre V main_v71 : Cf32 F S65536x1)⟩] concatenates_S65536x1_S65536x1_S65536x1_S65536x3_S65536x1_S65536x7_d1 : Cf32 F S65536x7) :=
  pre_line.eqN V 138 rfl (by decide +kernel) (u := fun k => Pre V ((![main_v66, main_v67, main_v70, main_v63, main_v71] : Fin 5 → Ref sig .tc) k)) (fun k => pre_line.late V 138 (r := (![main_v66, main_v67, main_v70, main_v63, main_v71] : Fin 5 → Ref sig .tc) k) (by revert k; decide +kernel))
/-- What `main_v73` holds. -/
theorem pre_v73 : (Pre V main_v73 : Cf32 F S4x16384x7) = shapeCast S4x16384x7 (Pre V main_v72 : Cf32 F S65536x7) shapeCasts_S65536x7_S4x16384x7 :=
  pre_line.eqR V 139 rfl (by decide +kernel) (pre_line.late V 139 (by decide +kernel))
/-- What `main_v74` holds. -/
theorem pre_v74 : (Pre V main_v74 : Cf32 F S4x16384x1) = extractStridedSlice S4x16384x1 ![0, 0, 0] (Pre V main_v73 : Cf32 F S4x16384x7) slices_S4x16384x7_S4x16384x1_0_0_0 :=
  pre_line.eq1 V 140 rfl (by decide +kernel) (pre_line.late V 140 (by decide +kernel))
/-- What `main_v75` holds. -/
theorem pre_v75 : (Pre V main_v75 : Cf32 F S4x16384) = shapeCast S4x16384 (Pre V main_v74 : Cf32 F S4x16384x1) shapeCasts_S4x16384x1_S4x16384 :=
  pre_line.eqR V 141 rfl (by decide +kernel) (pre_line.late V 141 (by decide +kernel))
/-- What `main_v76` holds. -/
theorem pre_v76 : (Pre V main_v76 : Cf32 F S4x16384x1) = extractStridedSlice S4x16384x1 ![0, 0, 2] (Pre V main_v73 : Cf32 F S4x16384x7) slices_S4x16384x7_S4x16384x1_0_0_2 :=
  pre_line.eq1 V 142 rfl (by decide +kernel) (pre_line.late V 142 (by decide +kernel))
/-- What `main_v77` holds. -/
theorem pre_v77 : (Pre V main_v77 : Cf32 F S4x16384) = shapeCast S4x16384 (Pre V main_v76 : Cf32 F S4x16384x1) shapeCasts_S4x16384x1_S4x16384 :=
  pre_line.eqR V 143 rfl (by decide +kernel) (pre_line.late V 143 (by decide +kernel))
/-- What `main_v78` holds. -/
theorem pre_v78 : (Pre V main_v78 : Cf32 F S4x16384x1) = extractStridedSlice S4x16384x1 ![0, 0, 3] (Pre V main_v73 : Cf32 F S4x16384x7) slices_S4x16384x7_S4x16384x1_0_0_3 :=
  pre_line.eq1 V 144 rfl (by decide +kernel) (pre_line.late V 144 (by decide +kernel))
/-- What `main_v79` holds. -/
theorem pre_v79 : (Pre V main_v79 : Cf32 F S4x16384) = shapeCast S4x16384 (Pre V main_v78 : Cf32 F S4x16384x1) shapeCasts_S4x16384x1_S4x16384 :=
  pre_line.eqR V 145 rfl (by decide +kernel) (pre_line.late V 145 (by decide +kernel))
/-- What `main_v80` holds. -/
theorem pre_v80 : (Pre V main_v80 : Cf32 F S4x16384x1) = extractStridedSlice S4x16384x1 ![0, 0, 5] (Pre V main_v73 : Cf32 F S4x16384x7) slices_S4x16384x7_S4x16384x1_0_0_5 :=
  pre_line.eq1 V 146 rfl (by decide +kernel) (pre_line.late V 146 (by decide +kernel))
/-- What `main_v81` holds. -/
theorem pre_v81 : (Pre V main_v81 : Cf32 F S4x16384) = shapeCast S4x16384 (Pre V main_v80 : Cf32 F S4x16384x1) shapeCasts_S4x16384x1_S4x16384 :=
  pre_line.eqR V 147 rfl (by decide +kernel) (pre_line.late V 147 (by decide +kernel))
/-- What `main_cst_13` holds. -/
theorem pre_cst_13 : (Pre V main_cst_13 : Cf32 F S_) = (constant S_ .f32 0x40000000#32) :=
  pre_line.eq0 V 148 rfl (by decide +kernel)
/-- What `main_v82` holds. -/
theorem pre_v82 : (Pre V main_v82 : Cf32 F S4x16384) = broadcastInDim S4x16384 ![] bcast_S_S4x16384 (Pre V main_cst_13 : Cf32 F S_) :=
  pre_line.eq1 V 149 rfl (by decide +kernel) (pre_line.late V 149 (by decide +kernel))
/-- What `main_v83` holds. -/
theorem pre_v83 : (Pre V main_v83 : Cf32 F S4x16384) = Host.divf (Pre V main_v79 : Cf32 F S4x16384) (Pre V main_v82 : Cf32 F S4x16384) :=
  pre_line.eq2 V 150 rfl (by decide +kernel) (pre_line.late V 150 (by decide +kernel)) (pre_line.late V 150 (by decide +kernel))
/-- What `main_v84` holds. -/
theorem pre_v84 : (Pre V main_v84 : Cf32 F S4x16384) = subf (Pre V main_v75 : Cf32 F S4x16384) (Pre V main_v83 : Cf32 F S4x16384) :=
  pre_line.eq2 V 151 rfl (by decide +kernel) (pre_line.late V 151 (by decide +kernel)) (pre_line.late V 151 (by decide +kernel))
/-- What `main_cst_14` holds. -/
theorem pre_cst_14 : (Pre V main_cst_14 : Cf32 F S_) = (constant S_ .f32 0x40000000#32) :=
  pre_line.eq0 V 152 rfl (by decide +kernel)
/-- What `main_v85` holds. -/
theorem pre_v85 : (Pre V main_v85 : Cf32 F S4x16384) = broadcastInDim S4x16384 ![] bcast_S_S4x16384 (Pre V main_cst_14 : Cf32 F S_) :=
  pre_line.eq1 V 153 rfl (by decide +kernel) (pre_line.late V 153 (by decide +kernel))
/-- What `main_v86` holds. -/
theorem pre_v86 : (Pre V main_v86 : Cf32 F S4x16384) = Host.divf (Pre V main_v81 : Cf32 F S4x16384) (Pre V main_v85 : Cf32 F S4x16384) :=
  pre_line.eq2 V 154 rfl (by decide +kernel) (pre_line.late V 154 (by decide +kernel)) (pre_line.late V 154 (by decide +kernel))
/-- What `main_v87` holds. -/
theorem pre_v87 : (Pre V main_v87 : Cf32 F S4x16384) = subf (Pre V main_v77 : Cf32 F S4x16384) (Pre V main_v86 : Cf32 F S4x16384) :=
  pre_line.eq2 V 155 rfl (by decide +kernel) (pre_line.late V 155 (by decide +kernel)) (pre_line.late V 155 (by decide +kernel))
/-- What `main_cst_15` holds. -/
theorem pre_cst_15 : (Pre V main_cst_15 : Cf32 F S_) = (constant S_ .f32 0x40000000#32) :=
  pre_line.eq0 V 156 rfl (by decide +kernel)
/-- What `main_v88` holds. -/
theorem pre_v88 : (Pre V main_v88 : Cf32 F S4x16384) = broadcastInDim S4x16384 ![] bcast_S_S4x16384 (Pre V main_cst_15 : Cf32 F S_) :=
  pre_line.eq1 V 157 rfl (by decide +kernel) (pre_line.late V 157 (by decide +kernel))
/-- What `main_v89` holds. -/
theorem pre_v89 : (Pre V main_v89 : Cf32 F S4x16384) = Host.divf (Pre V main_v79 : Cf32 F S4x16384) (Pre V main_v88 : Cf32 F S4x16384) :=
  pre_line.eq2 V 158 rfl (by decide +kernel) (pre_line.late V 158 (by decide +kernel)) (pre_line.late V 158 (by decide +kernel))
/-- What `main_v90` holds. -/
theorem pre_v90 : (Pre V main_v90 : Cf32 F S4x16384) = addf (Pre V main_v75 : Cf32 F S4x16384) (Pre V main_v89 : Cf32 F S4x16384) :=
  pre_line.eq2 V 159 rfl (by decide +kernel) (pre_line.late V 159 (by decide +kernel)) (pre_line.late V 159 (by decide +kernel))
/-- What `main_cst_16` holds. -/
theorem pre_cst_16 : (Pre V main_cst_16 : Cf32 F S_) = (constant S_ .f32 0x40000000#32) :=
  pre_line.eq0 V 160 rfl (by decide +kernel)
/-- What `main_v91` holds. -/
theorem pre_v91 : (Pre V main_v91 : Cf32 F S4x16384) = broadcastInDim S4x16384 ![] bcast_S_S4x16384 (Pre V main_cst_16 : Cf32 F S_) :=
  pre_line.eq1 V 161 rfl (by decide +kernel) (pre_line.late V 161 (by decide +kernel))
/-- What `main_v92` holds. -/
theorem pre_v92 : (Pre V main_v92 : Cf32 F S4x16384) = Host.divf (Pre V main_v81 : Cf32 F S4x16384) (Pre V main_v91 : Cf32 F S4x16384) :=
  pre_line.eq2 V 162 rfl (by decide +kernel) (pre_line.late V 162 (by decide +kernel)) (pre_line.late V 162 (by decide +kernel))
/-- What `main_v93` holds. -/
theorem pre_v93 : (Pre V main_v93 : Cf32 F S4x16384) = addf (Pre V main_v77 : Cf32 F S4x16384) (Pre V main_v92 : Cf32 F S4x16384) :=
  pre_line.eq2 V 163 rfl (by decide +kernel) (pre_line.late V 163 (by decide +kernel)) (pre_line.late V 163 (by decide +kernel))
/-- What `main_v94` holds. -/
theorem pre_v94 : (Pre V main_v94 : Cf32 F S4x16384) = shapeCast S4x16384 (V main_arg0 : Cf32 F S4x16384x1) shapeCasts_S4x16384x1_S4x16384 :=
  pre_line.eqR V 164 rfl (by decide +kernel) (pre_line.early V 164 (by decide +kernel))
/-- What `main_v95` holds. -/
theorem pre_v95 : (Pre V main_v95 : Cf32 F S4x16384) = subf (Pre V main_v90 : Cf32 F S4x16384) (Pre V main_v84 : Cf32 F S4x16384) :=
  pre_line.eq2 V 165 rfl (by decide +kernel) (pre_line.late V 165 (by decide +kernel)) (pre_line.late V 165 (by decide +kernel))
/-- What `main_cst_17` holds. -/
theorem pre_cst_17 : (Pre V main_cst_17 : Cf32 F S_) = (constant S_ .f32 0x00000000#32) :=
  pre_line.eq0 V 166 rfl (by decide +kernel)
/-- What `main_v96` holds. -/
theorem pre_v96 : (Pre V main_v96 : Cf32 F S4x16384) = broadcastInDim S4x16384 ![] bcast_S_S4x16384 (Pre V main_cst_17 : Cf32 F S_) :=
  pre_line.eq1 V 167 rfl (by decide +kernel) (pre_line.late V 167 (by decide +kernel))
/-- What `main_v97` holds. -/
theorem pre_v97 : (Pre V main_v97 : Cf32 F S4x16384) = maximumf (Pre V main_v95 : Cf32 F S4x16384) (Pre V main_v96 : Cf32 F S4x16384) :=
  pre_line.eq2 V 168 rfl (by decide +kernel) (pre_line.late V 168 (by decide +kernel)) (pre_line.late V 168 (by decide +kernel))
/-- What `main_v98` holds. -/
theorem pre_v98 : (Pre V main_v98 : Cf32 F S4x16384) = subf (Pre V main_v93 : Cf32 F S4x16384) (Pre V main_v87 : Cf32 F S4x16384) :=
  pre_line.eq2 V 169 rfl (by decide +kernel) (pre_line.late V 169 (by decide +kernel)) (pre_line.late V 169 (by decide +kernel))
/-- What `main_cst_18` holds. -/
theorem pre_cst_18 : (Pre V main_cst_18 : Cf32 F S_) = (constant S_ .f32 0x00000000#32) :=
  pre_line.eq0 V 170 rfl (by decide +kernel)
/-- What `main_v99` holds. -/
theorem pre_v99 : (Pre V main_v99 : Cf32 F S4x16384) = broadcastInDim S4x16384 ![] bcast_S_S4x16384 (Pre V main_cst_18 : Cf32 F S_) :=
  pre_line.eq1 V 171 rfl (by decide +kernel) (pre_line.late V 171 (by decide +kernel))
/-- What `main_v100` holds. -/
theorem pre_v100 : (Pre V main_v100 : Cf32 F S4x16384) = maximumf (Pre V main_v98 : Cf32 F S4x16384) (Pre V main_v99 : Cf32 F S4x16384) :=
  pre_line.eq2 V 172 rfl (by decide +kernel) (pre_line.late V 172 (by decide +kernel)) (pre_line.late V 172 (by decide +kernel))
/-- What `main_v101` holds. -/
theorem pre_v101 : (Pre V main_v101 : Cf32 F S4x16384) = mulf (Pre V main_v97 : Cf32 F S4x16384) (Pre V main_v100 : Cf32 F S4x16384) :=
  pre_line.eq2 V 173 rfl (by decide +kernel) (pre_line.late V 173 (by decide +kernel)) (pre_line.late V 173 (by decide +kernel))
/-- What `main_c` holds. -/
theorem pre_c : (Pre V main_c : Ci1 F S_) = (constantI S_ 1 0#1) :=
  pre_line.eq0 V 174 rfl (by decide +kernel)
/-- What `main_v102` holds. -/
theorem pre_v102 : (Pre V main_v102 : Ci1 F S4x16384) = broadcastInDim S4x16384 ![] bcast_S_S4x16384 (Pre V main_c : Ci1 F S_) :=
  pre_line.eq1 V 175 rfl (by decide +kernel) (pre_line.late V 175 (by decide +kernel))
/-- What `main_c_19` holds. -/
theorem pre_c_19 : (Pre V main_c_19 : Ci32 F S_) = (constantI S_ 32 0#32) :=
  pre_line.eq0 V 176 rfl (by decide +kernel)
/-- What `main_v103` holds. -/
theorem pre_v103 : (Pre V main_v103 : Ci32 F S512x4) = broadcastInDim S512x4 ![] bcast_S_S512x4 (Pre V main_c_19 : Ci32 F S_) :=
  pre_line.eq1 V 177 rfl (by decide +kernel) (pre_line.late V 177 (by decide +kernel))
/-- What `main_c_20` holds. -/
theorem pre_c_20 : (Pre V main_c_20 : Ci1 F S_) = (constantI S_ 1 0#1) :=
  pre_line.eq0 V 178 rfl (by decide +kernel)
/-- What `main_v104` holds. -/
theorem pre_v104 : (Pre V main_v104 : Ci1 F S512x4) = broadcastInDim S512x4 ![] bcast_S_S512x4 (Pre V main_c_20 : Ci1 F S_) :=
  pre_line.eq1 V 179 rfl (by decide +kernel) (pre_line.late V 179 (by decide +kernel))
/-- What `main_c_21` holds. -/
theorem pre_c_21 : (Pre V main_c_21 : Ci32 F S_) = (constantI S_ 32 0#32) :=
  pre_line.eq0 V 180 rfl (by decide +kernel)
/-- What `main_v105_0` holds. -/
theorem pre_v105_0 : (Pre V main_v105_0 : Cf32 F S4x16384) = (Pre V main_v94 : Cf32 F S4x16384) :=
  pre_line.eq1 V 181 rfl (by decide +kernel) (pre_line.late V 181 (by decide +kernel))
/-- What `main_v105_1` holds. -/
theorem pre_v105_1 : (Pre V main_v105_1 : Cf32 F S4x16384) = (Pre V main_v84 : Cf32 F S4x16384) :=
  pre_line.eq1 V 182 rfl (by decide +kernel) (pre_line.late V 182 (by decide +kernel))
/-- What `main_v105_2` holds. -/
theorem pre_v105_2 : (Pre V main_v105_2 : Cf32 F S4x16384) = (Pre V main_v87 : Cf32 F S4x16384) :=
  pre_line.eq1 V 183 rfl (by decide +kernel) (pre_line.late V 183 (by decide +kernel))
/-- What `main_v105_3` holds. -/
theorem pre_v105_3 : (Pre V main_v105_3 : Cf32 F S4x16384) = (Pre V main_v90 : Cf32 F S4x16384) :=
  pre_line.eq1 V 184 rfl (by decide +kernel) (pre_line.late V 184 (by decide +kernel))
/-- What `main_v105_4` holds. -/
theorem pre_v105_4 : (Pre V main_v105_4 : Cf32 F S4x16384) = (Pre V main_v93 : Cf32 F S4x16384) :=
  pre_line.eq1 V 185 rfl (by decide +kernel) (pre_line.late V 185 (by decide +kernel))
/-- What `main_v105_5` holds. -/
theorem pre_v105_5 : (Pre V main_v105_5 : Cf32 F S4x16384) = (Pre V main_v101 : Cf32 F S4x16384) :=
  pre_line.eq1 V 186 rfl (by decide +kernel) (pre_line.late V 186 (by decide +kernel))
/-- What `main_v105_6` holds. -/
theorem pre_v105_6 : (Pre V main_v105_6 : Ci32 F S_) = (Pre V main_c_21 : Ci32 F S_) :=
  pre_line.eq1 V 187 rfl (by decide +kernel) (pre_line.late V 187 (by decide +kernel))
/-- What `main_v105_7` holds. -/
theorem pre_v105_7 : (Pre V main_v105_7 : Ci1 F S4x16384) = (Pre V main_v102 : Ci1 F S4x16384) :=
  pre_line.eq1 V 188 rfl (by decide +kernel) (pre_line.late V 188 (by decide +kernel))
/-- What `main_v105_8` holds. -/
theorem pre_v105_8 : (Pre V main_v105_8 : Ci32 F S512x4) = (Pre V main_v103 : Ci32 F S512x4) :=
  pre_line.eq1 V 189 rfl (by decide +kernel) (pre_line.late V 189 (by decide +kernel))
/-- What `main_v105_9` holds. -/
theorem pre_v105_9 : (Pre V main_v105_9 : Ci1 F S512x4) = (Pre V main_v104 : Ci1 F S512x4) :=
  pre_line.eq1 V 190 rfl (by decide +kernel) (pre_line.late V 190 (by decide +kernel))

end Cert.ReferenceIdeal.Value

end
-- ==== Proof.RefTripEq.lean ====
module

public import proofs.«01_k».proof.Proof.Gen.ReferenceIdeal
public import proofs.«01_k».proof.Proof.RefLine

@[expose] public section

set_option maxRecDepth 16384

noncomputable section
/-! # One trip of the reference's loop, operation by operation

One equation for each operation: what its result holds at the end of the stretch, as the operation's value of what its
operands hold there (or held at the start, where the stretch writes them later or not at all). -/

namespace Cert.ReferenceIdeal.Value

open Cert.ReferenceIdeal Cert.ReferenceIdeal.Gen
open Idealize.ShloMosaic Idealize.ShloMosaic.TcCoe
open Idealize.ShloMosaic.StableHlo

variable {F : FTy → Type} [FloatOps F]

/-- The loop body's operations, in order. -/
abbrev tripOps : List (HloOp τ sig (Elt F)) := while0Ops0 ++ (while0Ops0_1 ++ (while0Ops0_2 ++ (while0Ops0_3 ++ (while0Ops0_4 ++ (while0Ops0_5 ++ (while0Ops0_6 ++ (while0Ops0_7 ++ (while0Ops0_8 ++ (while0Ops0_9 ++ (while0Ops0_10 ++ (while0Ops0_11 ++ (while0Ops0_12 ++ (while0Ops0_13 ++ (while0Ops0_14 ++ (while0Ops0_15 ++ (while0Ops0_16 ++ (while0Ops0_17 ++ (while0Ops0_18 ++ (while0Ops0_19 ++ (while0Ops0_20))))))))))))))))))))

/-- The references that `tripOps` writes, in order. -/
abbrev tripW : List (Ref sig .tc) :=
  [main_while0b_cst_31, main_while0b_call8_v0, main_while0b_call8_v1, main_while0b_v117, main_while0b_call9_v0, main_while0b_call9_cst, main_while0b_call9_c, main_while0b_call9_v1_0, main_while0b_v118, main_while0b_v119, main_while0b_call10_c, main_while0b_call10_v0, main_while0b_call10_v1, main_while0b_call10_c_0, main_while0b_call10_v2, main_while0b_call10_v3, main_while0b_call10_v4, main_while0b_call10_v5, main_while0b_v120, main_while0b_cst_32, main_while0b_v121, main_while0b_v122, main_while0b_v123, main_while0b_call11_c, main_while0b_call11_v0, main_while0b_call11_v1, main_while0b_call11_c_0, main_while0b_call11_v2, main_while0b_call11_v3, main_while0b_call11_v4, main_while0b_call11_v5, main_while0b_v124, main_while0b_v125, main_while0b_v126, main_while0b_v127, main_while0b_call12_c, main_while0b_call12_v0, main_while0b_call12_v1, main_while0b_call12_c_0, main_while0b_call12_v2, main_while0b_call12_v3, main_while0b_call12_v4, main_while0b_call12_v5, main_while0b_v128, main_while0b_v129, main_while0b_v130, main_while0b_v131, main_while0b_call13_c, main_while0b_call13_v0, main_while0b_call13_v1, main_while0b_call13_c_0, main_while0b_call13_v2, main_while0b_call13_v3, main_while0b_call13_v4, main_while0b_call13_v5, main_while0b_v132, main_while0b_v133, main_while0b_v134, main_while0b_v135, main_while0b_call14_c, main_while0b_call14_v0, main_while0b_call14_v1, main_while0b_call14_c_0, main_while0b_call14_v2, main_while0b_call14_v3, main_while0b_call14_v4, main_while0b_call14_v5, main_while0b_v136, main_while0b_v137, main_while0b_v138, main_while0b_v139, main_while0b_cst_33, main_while0b_v140, main_while0b_v141, main_while0b_v142, main_while0b_cst_34, main_while0b_v143, main_while0b_v144, main_while0b_v145, main_while0b_v146, main_while0b_call15_c, main_while0b_call15_v0, main_while0b_call15_v1, main_while0b_call15_c_0, main_while0b_call15_v2, main_while0b_call15_v3, main_while0b_call15_v4, main_while0b_call15_v5, main_while0b_v147, main_while0b_v148, main_while0b_v149, main_while0b_v150, main_while0b_cst_35, main_while0b_v151, main_while0b_v152, main_while0b_v153, main_while0b_cst_36, main_while0b_v154, main_while0b_v155, main_while0b_v156, main_while0b_v157, main_while0b_c_37, main_while0b_v158, main_while0b_v159, main_while0b_c_38, main_while0b_v160, main_while0b_v161, main_while0b_v162, main_while0b_c_39, main_while0b_v163, main_while0b_v164, main_while0b_c_40, main_while0b_v165, main_while0b_v166, main_while0b_v167, main_while0b_v168, main_while0b_v169, main_while0b_v170, main_while0b_c_41, main_while0b_v171, main_while0b_v172, main_while0b_call16_v0, main_while0b_v173, main_while0b_v174, main_while0b_call17_v0, main_while0b_call17_c, main_while0b_v175, main_while0b_call18_v0, main_while0b_call18_c, main_while0b_v176, main_while0b_c_42, main_while0b_v177, main_v105_6, main_v105_7, main_v105_8, main_v105_9]

set_option maxHeartbeats 4000000 in
/-- `tripOps` is a line. -/
theorem trip_line : Line (tripOps : List (HloOp τ sig (Elt F))) tripW := by
  unfold Line
  repeat (first | exact List.Forall₂.nil | refine List.Forall₂.cons rfl ?_)

/-- What every buffer holds after `tripOps`, run from contents `V`. -/
def Trip (V : Valuation τ sig (Elt F)) : Valuation τ sig (Elt F) := after tripOps V

/-- A reference that `tripOps` does not write keeps its contents. -/
theorem trip_keep (V : Valuation τ sig (Elt F)) {r : Ref sig .tc} (hr : r ∉ tripW) : Trip V (Proc.devRef .tc r) = V (Proc.devRef .tc r) :=
  trip_line.keep hr V

variable (V : Valuation τ sig (Elt F))

/-- What `main_while0b_cst_31` holds. -/
theorem trip_cst_31 : (Trip V main_while0b_cst_31 : Cf32 F S_) = (constant S_ .f32 0xFF800000#32) :=
  trip_line.eq0 V 0 rfl (by decide +kernel)
/-- What `main_while0b_call8_v0` holds. -/
theorem trip_call8_v0 : (Trip V main_while0b_call8_v0 : Cf32 F S_) = (Trip V main_while0b_cst_31 : Cf32 F S_) :=
  trip_line.eq1 V 1 rfl (by decide +kernel) (trip_line.late V 1 (by decide +kernel))
/-- What `main_while0b_call8_v1` holds. -/
theorem trip_call8_v1 : (Trip V main_while0b_call8_v1 : Cf32 F S4x16384) = (broadcastInDim S4x16384 ![] bcast_S_S4x16384) (Trip V main_while0b_call8_v0 : Cf32 F S_) :=
  trip_line.eq1 V 2 rfl (by decide +kernel) (trip_line.late V 2 (by decide +kernel))
/-- What `main_while0b_v117` holds. -/
theorem trip_v117 : (Trip V main_while0b_v117 : Cf32 F S4x16384) = (select : Ci1 F S4x16384 → Cf32 F S4x16384 → Cf32 F S4x16384 → Cf32 F S4x16384) (V main_v105_7 : Ci1 F S4x16384) (Trip V main_while0b_call8_v1 : Cf32 F S4x16384) (V main_v105_0 : Cf32 F S4x16384) :=
  trip_line.teq3 V 3 (Ti1 S4x16384 main_v105_7) (Tf32 S4x16384 main_while0b_call8_v1) (Tf32 S4x16384 main_v105_0) (Tf32 S4x16384 main_while0b_v117) (select : Ci1 F S4x16384 → Cf32 F S4x16384 → Cf32 F S4x16384 → Cf32 F S4x16384) rfl (by decide +kernel) (trip_line.early V 3 (by decide +kernel)) (trip_line.late V 3 (by decide +kernel)) (trip_line.early V 3 (by decide +kernel))
/-- What `main_while0b_call9_v0` holds. -/
theorem trip_call9_v0 : (Trip V main_while0b_call9_v0 : Ci32 F S4x16384) = (iotaInDim S4x16384 32 1) :=
  trip_line.eq0 V 4 rfl (by decide +kernel)
/-- What `main_while0b_call9_cst` holds. -/
theorem trip_call9_cst : (Trip V main_while0b_call9_cst : Cf32 F S_) = (constant S_ .f32 0xFF800000#32) :=
  trip_line.eq0 V 5 rfl (by decide +kernel)
/-- What `main_while0b_call9_c` holds. -/
theorem trip_call9_c : (Trip V main_while0b_call9_c : Ci32 F S_) = (constantI S_ 32 0#32) :=
  trip_line.eq0 V 6 rfl (by decide +kernel)
/-- What `main_while0b_call9_v1_0` holds. -/
theorem trip_call9_v1_0 : (Trip V main_while0b_call9_v1_0 : Cf32 F S4) = fun j => (Host.argReduce reducer_argmax_f32_i32 (Trip V main_while0b_v117 : Cf32 F S4x16384) (Trip V main_while0b_call9_v0 : Ci32 F S4x16384) (Trip V main_while0b_call9_cst : Cf32 F S_) (Trip V main_while0b_call9_c : Ci32 F S_) reducesTo_S4x16384_S4_d1 h_S_ j).1 :=
  trip_line.eq4 V 7 rfl (by decide +kernel) (trip_line.late V 7 (by decide +kernel)) (trip_line.late V 7 (by decide +kernel)) (trip_line.late V 7 (by decide +kernel)) (trip_line.late V 7 (by decide +kernel))
/-- What `main_while0b_v118` holds. -/
theorem trip_v118 : (Trip V main_while0b_v118 : Ci32 F S4) = fun j => (Host.argReduce reducer_argmax_f32_i32 (Trip V main_while0b_v117 : Cf32 F S4x16384) (Trip V main_while0b_call9_v0 : Ci32 F S4x16384) (Trip V main_while0b_call9_cst : Cf32 F S_) (Trip V main_while0b_call9_c : Ci32 F S_) reducesTo_S4x16384_S4_d1 h_S_ j).2 :=
  trip_line.eq4 V 8 rfl (by decide +kernel) (trip_line.late V 8 (by decide +kernel)) (trip_line.late V 8 (by decide +kernel)) (trip_line.late V 8 (by decide +kernel)) (trip_line.late V 8 (by decide +kernel))
/-- What `main_while0b_v119` holds. -/
theorem trip_v119 : (Trip V main_while0b_v119 : Ci32 F S4x1) = broadcastInDim S4x1 ![0] bcast_S4_S4x1_0 (Trip V main_while0b_v118 : Ci32 F S4) :=
  trip_line.eq1 V 9 rfl (by decide +kernel) (trip_line.late V 9 (by decide +kernel))
/-- What `main_while0b_call10_c` holds. -/
theorem trip_call10_c : (Trip V main_while0b_call10_c : Ci32 F S_) = (constantI S_ 32 0#32) :=
  trip_line.eq0 V 10 rfl (by decide +kernel)
/-- What `main_while0b_call10_v0` holds. -/
theorem trip_call10_v0 : (Trip V main_while0b_call10_v0 : Ci32 F S4x1) = (broadcastInDim S4x1 ![] bcast_S_S4x1) (Trip V main_while0b_call10_c : Ci32 F S_) :=
  trip_line.eq1 V 11 rfl (by decide +kernel) (trip_line.late V 11 (by decide +kernel))
/-- What `main_while0b_call10_v1` holds. -/
theorem trip_call10_v1 : (Trip V main_while0b_call10_v1 : Ci1 F S4x1) = ((cmpi .slt) : Ci32 F S4x1 → Ci32 F S4x1 → Ci1 F S4x1) (Trip V main_while0b_v119 : Ci32 F S4x1) (Trip V main_while0b_call10_v0 : Ci32 F S4x1) :=
  trip_line.teq2 V 12 (Ti32 S4x1 main_while0b_v119) (Ti32 S4x1 main_while0b_call10_v0) (Ti1 S4x1 main_while0b_call10_v1) ((cmpi .slt) : Ci32 F S4x1 → Ci32 F S4x1 → Ci1 F S4x1) rfl (by decide +kernel) (trip_line.late V 12 (by decide +kernel)) (trip_line.late V 12 (by decide +kernel))
/-- What `main_while0b_call10_c_0` holds. -/
theorem trip_call10_c_0 : (Trip V main_while0b_call10_c_0 : Ci32 F S_) = (constantI S_ 32 16384#32) :=
  trip_line.eq0 V 13 rfl (by decide +kernel)
/-- What `main_while0b_call10_v2` holds. -/
theorem trip_call10_v2 : (Trip V main_while0b_call10_v2 : Ci32 F S4x1) = (broadcastInDim S4x1 ![] bcast_S_S4x1) (Trip V main_while0b_call10_c_0 : Ci32 F S_) :=
  trip_line.eq1 V 14 rfl (by decide +kernel) (trip_line.late V 14 (by decide +kernel))
/-- What `main_while0b_call10_v3` holds. -/
theorem trip_call10_v3 : (Trip V main_while0b_call10_v3 : Ci32 F S4x1) = (addi : Ci32 F S4x1 → Ci32 F S4x1 → Ci32 F S4x1) (Trip V main_while0b_v119 : Ci32 F S4x1) (Trip V main_while0b_call10_v2 : Ci32 F S4x1) :=
  trip_line.teq2 V 15 (Ti32 S4x1 main_while0b_v119) (Ti32 S4x1 main_while0b_call10_v2) (Ti32 S4x1 main_while0b_call10_v3) (addi : Ci32 F S4x1 → Ci32 F S4x1 → Ci32 F S4x1) rfl (by decide +kernel) (trip_line.late V 15 (by decide +kernel)) (trip_line.late V 15 (by decide +kernel))
/-- What `main_while0b_call10_v4` holds. -/
theorem trip_call10_v4 : (Trip V main_while0b_call10_v4 : Ci32 F S4x1) = (select : Ci1 F S4x1 → Ci32 F S4x1 → Ci32 F S4x1 → Ci32 F S4x1) (Trip V main_while0b_call10_v1 : Ci1 F S4x1) (Trip V main_while0b_call10_v3 : Ci32 F S4x1) (Trip V main_while0b_v119 : Ci32 F S4x1) :=
  trip_line.teq3 V 16 (Ti1 S4x1 main_while0b_call10_v1) (Ti32 S4x1 main_while0b_call10_v3) (Ti32 S4x1 main_while0b_v119) (Ti32 S4x1 main_while0b_call10_v4) (select : Ci1 F S4x1 → Ci32 F S4x1 → Ci32 F S4x1 → Ci32 F S4x1) rfl (by decide +kernel) (trip_line.late V 16 (by decide +kernel)) (trip_line.late V 16 (by decide +kernel)) (trip_line.late V 16 (by decide +kernel))
/-- What `main_while0b_call10_v5` holds. -/
theorem trip_call10_v5 : (Trip V main_while0b_call10_v5 : Ci32 F S4x1x1) = shapeCast S4x1x1 (Trip V main_while0b_call10_v4 : Ci32 F S4x1) shapeCasts_S4x1_S4x1x1 :=
  trip_line.eqR V 17 rfl (by decide +kernel) (trip_line.late V 17 (by decide +kernel))
/-- What `main_while0b_v120` holds. -/
theorem trip_v120 : (Trip V main_while0b_v120 : Cf32 F S4x1) = Host.gather gather_S4x16384_S4x1x1_S4x1_n_1_0_0_1_2_11 (Trip V main_while0b_v117 : Cf32 F S4x16384) (Trip V main_while0b_call10_v5 : Ci32 F S4x1x1) :=
  trip_line.teq2 V 18 (Tf32 S4x16384 main_while0b_v117) (Ti32 S4x1x1 main_while0b_call10_v5) (Tf32 S4x1 main_while0b_v120) (fun x i => Host.gather gather_S4x16384_S4x1x1_S4x1_n_1_0_0_1_2_11 x i) rfl (by decide +kernel) (trip_line.late V 18 (by decide +kernel)) (trip_line.late V 18 (by decide +kernel))
/-- What `main_while0b_cst_32` holds. -/
theorem trip_cst_32 : (Trip V main_while0b_cst_32 : Cf32 F S_) = (constant S_ .f32 0xFF800000#32) :=
  trip_line.eq0 V 19 rfl (by decide +kernel)
/-- What `main_while0b_v121` holds. -/
theorem trip_v121 : (Trip V main_while0b_v121 : Cf32 F S4x1) = broadcastInDim S4x1 ![] bcast_S_S4x1 (Trip V main_while0b_cst_32 : Cf32 F S_) :=
  trip_line.eq1 V 20 rfl (by decide +kernel) (trip_line.late V 20 (by decide +kernel))
/-- What `main_while0b_v122` holds. -/
theorem trip_v122 : (Trip V main_while0b_v122 : Ci1 F S4x1) = cmpf .ogt (Trip V main_while0b_v120 : Cf32 F S4x1) (Trip V main_while0b_v121 : Cf32 F S4x1) :=
  trip_line.eq2 V 21 rfl (by decide +kernel) (trip_line.late V 21 (by decide +kernel)) (trip_line.late V 21 (by decide +kernel))
/-- What `main_while0b_v123` holds. -/
theorem trip_v123 : (Trip V main_while0b_v123 : Ci32 F S4x1) = broadcastInDim S4x1 ![0] bcast_S4_S4x1_0 (Trip V main_while0b_v118 : Ci32 F S4) :=
  trip_line.eq1 V 22 rfl (by decide +kernel) (trip_line.late V 22 (by decide +kernel))
/-- What `main_while0b_call11_c` holds. -/
theorem trip_call11_c : (Trip V main_while0b_call11_c : Ci32 F S_) = (constantI S_ 32 0#32) :=
  trip_line.eq0 V 23 rfl (by decide +kernel)
/-- What `main_while0b_call11_v0` holds. -/
theorem trip_call11_v0 : (Trip V main_while0b_call11_v0 : Ci32 F S4x1) = (broadcastInDim S4x1 ![] bcast_S_S4x1) (Trip V main_while0b_call11_c : Ci32 F S_) :=
  trip_line.eq1 V 24 rfl (by decide +kernel) (trip_line.late V 24 (by decide +kernel))
/-- What `main_while0b_call11_v1` holds. -/
theorem trip_call11_v1 : (Trip V main_while0b_call11_v1 : Ci1 F S4x1) = ((cmpi .slt) : Ci32 F S4x1 → Ci32 F S4x1 → Ci1 F S4x1) (Trip V main_while0b_v123 : Ci32 F S4x1) (Trip V main_while0b_call11_v0 : Ci32 F S4x1) :=
  trip_line.teq2 V 25 (Ti32 S4x1 main_while0b_v123) (Ti32 S4x1 main_while0b_call11_v0) (Ti1 S4x1 main_while0b_call11_v1) ((cmpi .slt) : Ci32 F S4x1 → Ci32 F S4x1 → Ci1 F S4x1) rfl (by decide +kernel) (trip_line.late V 25 (by decide +kernel)) (trip_line.late V 25 (by decide +kernel))
/-- What `main_while0b_call11_c_0` holds. -/
theorem trip_call11_c_0 : (Trip V main_while0b_call11_c_0 : Ci32 F S_) = (constantI S_ 32 16384#32) :=
  trip_line.eq0 V 26 rfl (by decide +kernel)
/-- What `main_while0b_call11_v2` holds. -/
theorem trip_call11_v2 : (Trip V main_while0b_call11_v2 : Ci32 F S4x1) = (broadcastInDim S4x1 ![] bcast_S_S4x1) (Trip V main_while0b_call11_c_0 : Ci32 F S_) :=
  trip_line.eq1 V 27 rfl (by decide +kernel) (trip_line.late V 27 (by decide +kernel))
/-- What `main_while0b_call11_v3` holds. -/
theorem trip_call11_v3 : (Trip V main_while0b_call11_v3 : Ci32 F S4x1) = (addi : Ci32 F S4x1 → Ci32 F S4x1 → Ci32 F S4x1) (Trip V main_while0b_v123 : Ci32 F S4x1) (Trip V main_while0b_call11_v2 : Ci32 F S4x1) :=
  trip_line.teq2 V 28 (Ti32 S4x1 main_while0b_v123) (Ti32 S4x1 main_while0b_call11_v2) (Ti32 S4x1 main_while0b_call11_v3) (addi : Ci32 F S4x1 → Ci32 F S4x1 → Ci32 F S4x1) rfl (by decide +kernel) (trip_line.late V 28 (by decide +kernel)) (trip_line.late V 28 (by decide +kernel))
/-- What `main_while0b_call11_v4` holds. -/
theorem trip_call11_v4 : (Trip V main_while0b_call11_v4 : Ci32 F S4x1) = (select : Ci1 F S4x1 → Ci32 F S4x1 → Ci32 F S4x1 → Ci32 F S4x1) (Trip V main_while0b_call11_v1 : Ci1 F S4x1) (Trip V main_while0b_call11_v3 : Ci32 F S4x1) (Trip V main_while0b_v123 : Ci32 F S4x1) :=
  trip_line.teq3 V 29 (Ti1 S4x1 main_while0b_call11_v1) (Ti32 S4x1 main_while0b_call11_v3) (Ti32 S4x1 main_while0b_v123) (Ti32 S4x1 main_while0b_call11_v4) (select : Ci1 F S4x1 → Ci32 F S4x1 → Ci32 F S4x1 → Ci32 F S4x1) rfl (by decide +kernel) (trip_line.late V 29 (by decide +kernel)) (trip_line.late V 29 (by decide +kernel)) (trip_line.late V 29 (by decide +kernel))
/-- What `main_while0b_call11_v5` holds. -/
theorem trip_call11_v5 : (Trip V main_while0b_call11_v5 : Ci32 F S4x1x1) = shapeCast S4x1x1 (Trip V main_while0b_call11_v4 : Ci32 F S4x1) shapeCasts_S4x1_S4x1x1 :=
  trip_line.eqR V 30 rfl (by decide +kernel) (trip_line.late V 30 (by decide +kernel))
/-- What `main_while0b_v124` holds. -/
theorem trip_v124 : (Trip V main_while0b_v124 : Cf32 F S4x1) = Host.gather gather_S4x16384_S4x1x1_S4x1_n_1_0_0_1_2_11 (V main_v105_1 : Cf32 F S4x16384) (Trip V main_while0b_call11_v5 : Ci32 F S4x1x1) :=
  trip_line.teq2 V 31 (Tf32 S4x16384 main_v105_1) (Ti32 S4x1x1 main_while0b_call11_v5) (Tf32 S4x1 main_while0b_v124) (fun x i => Host.gather gather_S4x16384_S4x1x1_S4x1_n_1_0_0_1_2_11 x i) rfl (by decide +kernel) (trip_line.early V 31 (by decide +kernel)) (trip_line.late V 31 (by decide +kernel))
/-- What `main_while0b_v125` holds. -/
theorem trip_v125 : (Trip V main_while0b_v125 : Cf32 F S4x16384) = broadcastInDim S4x16384 ![0, 1] bcast_S4x1_S4x16384_0_1 (Trip V main_while0b_v124 : Cf32 F S4x1) :=
  trip_line.eq1 V 32 rfl (by decide +kernel) (trip_line.late V 32 (by decide +kernel))
/-- What `main_while0b_v126` holds. -/
theorem trip_v126 : (Trip V main_while0b_v126 : Cf32 F S4x16384) = maximumf (Trip V main_while0b_v125 : Cf32 F S4x16384) (V main_v105_1 : Cf32 F S4x16384) :=
  trip_line.eq2 V 33 rfl (by decide +kernel) (trip_line.late V 33 (by decide +kernel)) (trip_line.early V 33 (by decide +kernel))
/-- What `main_while0b_v127` holds. -/
theorem trip_v127 : (Trip V main_while0b_v127 : Ci32 F S4x1) = broadcastInDim S4x1 ![0] bcast_S4_S4x1_0 (Trip V main_while0b_v118 : Ci32 F S4) :=
  trip_line.eq1 V 34 rfl (by decide +kernel) (trip_line.late V 34 (by decide +kernel))
/-- What `main_while0b_call12_c` holds. -/
theorem trip_call12_c : (Trip V main_while0b_call12_c : Ci32 F S_) = (constantI S_ 32 0#32) :=
  trip_line.eq0 V 35 rfl (by decide +kernel)
/-- What `main_while0b_call12_v0` holds. -/
theorem trip_call12_v0 : (Trip V main_while0b_call12_v0 : Ci32 F S4x1) = (broadcastInDim S4x1 ![] bcast_S_S4x1) (Trip V main_while0b_call12_c : Ci32 F S_) :=
  trip_line.eq1 V 36 rfl (by decide +kernel) (trip_line.late V 36 (by decide +kernel))
/-- What `main_while0b_call12_v1` holds. -/
theorem trip_call12_v1 : (Trip V main_while0b_call12_v1 : Ci1 F S4x1) = ((cmpi .slt) : Ci32 F S4x1 → Ci32 F S4x1 → Ci1 F S4x1) (Trip V main_while0b_v127 : Ci32 F S4x1) (Trip V main_while0b_call12_v0 : Ci32 F S4x1) :=
  trip_line.teq2 V 37 (Ti32 S4x1 main_while0b_v127) (Ti32 S4x1 main_while0b_call12_v0) (Ti1 S4x1 main_while0b_call12_v1) ((cmpi .slt) : Ci32 F S4x1 → Ci32 F S4x1 → Ci1 F S4x1) rfl (by decide +kernel) (trip_line.late V 37 (by decide +kernel)) (trip_line.late V 37 (by decide +kernel))
/-- What `main_while0b_call12_c_0` holds. -/
theorem trip_call12_c_0 : (Trip V main_while0b_call12_c_0 : Ci32 F S_) = (constantI S_ 32 16384#32) :=
  trip_line.eq0 V 38 rfl (by decide +kernel)
/-- What `main_while0b_call12_v2` holds. -/
theorem trip_call12_v2 : (Trip V main_while0b_call12_v2 : Ci32 F S4x1) = (broadcastInDim S4x1 ![] bcast_S_S4x1) (Trip V main_while0b_call12_c_0 : Ci32 F S_) :=
  trip_line.eq1 V 39 rfl (by decide +kernel) (trip_line.late V 39 (by decide +kernel))
/-- What `main_while0b_call12_v3` holds. -/
theorem trip_call12_v3 : (Trip V main_while0b_call12_v3 : Ci32 F S4x1) = (addi : Ci32 F S4x1 → Ci32 F S4x1 → Ci32 F S4x1) (Trip V main_while0b_v127 : Ci32 F S4x1) (Trip V main_while0b_call12_v2 : Ci32 F S4x1) :=
  trip_line.teq2 V 40 (Ti32 S4x1 main_while0b_v127) (Ti32 S4x1 main_while0b_call12_v2) (Ti32 S4x1 main_while0b_call12_v3) (addi : Ci32 F S4x1 → Ci32 F S4x1 → Ci32 F S4x1) rfl (by decide +kernel) (trip_line.late V 40 (by decide +kernel)) (trip_line.late V 40 (by decide +kernel))
/-- What `main_while0b_call12_v4` holds. -/
theorem trip_call12_v4 : (Trip V main_while0b_call12_v4 : Ci32 F S4x1) = (select : Ci1 F S4x1 → Ci32 F S4x1 → Ci32 F S4x1 → Ci32 F S4x1) (Trip V main_while0b_call12_v1 : Ci1 F S4x1) (Trip V main_while0b_call12_v3 : Ci32 F S4x1) (Trip V main_while0b_v127 : Ci32 F S4x1) :=
  trip_line.teq3 V 41 (Ti1 S4x1 main_while0b_call12_v1) (Ti32 S4x1 main_while0b_call12_v3) (Ti32 S4x1 main_while0b_v127) (Ti32 S4x1 main_while0b_call12_v4) (select : Ci1 F S4x1 → Ci32 F S4x1 → Ci32 F S4x1 → Ci32 F S4x1) rfl (by decide +kernel) (trip_line.late V 41 (by decide +kernel)) (trip_line.late V 41 (by decide +kernel)) (trip_line.late V 41 (by decide +kernel))
/-- What `main_while0b_call12_v5` holds. -/
theorem trip_call12_v5 : (Trip V main_while0b_call12_v5 : Ci32 F S4x1x1) = shapeCast S4x1x1 (Trip V main_while0b_call12_v4 : Ci32 F S4x1) shapeCasts_S4x1_S4x1x1 :=
  trip_line.eqR V 42 rfl (by decide +kernel) (trip_line.late V 42 (by decide +kernel))
/-- What `main_while0b_v128` holds. -/
theorem trip_v128 : (Trip V main_while0b_v128 : Cf32 F S4x1) = Host.gather gather_S4x16384_S4x1x1_S4x1_n_1_0_0_1_2_11 (V main_v105_2 : Cf32 F S4x16384) (Trip V main_while0b_call12_v5 : Ci32 F S4x1x1) :=
  trip_line.teq2 V 43 (Tf32 S4x16384 main_v105_2) (Ti32 S4x1x1 main_while0b_call12_v5) (Tf32 S4x1 main_while0b_v128) (fun x i => Host.gather gather_S4x16384_S4x1x1_S4x1_n_1_0_0_1_2_11 x i) rfl (by decide +kernel) (trip_line.early V 43 (by decide +kernel)) (trip_line.late V 43 (by decide +kernel))
/-- What `main_while0b_v129` holds. -/
theorem trip_v129 : (Trip V main_while0b_v129 : Cf32 F S4x16384) = broadcastInDim S4x16384 ![0, 1] bcast_S4x1_S4x16384_0_1 (Trip V main_while0b_v128 : Cf32 F S4x1) :=
  trip_line.eq1 V 44 rfl (by decide +kernel) (trip_line.late V 44 (by decide +kernel))
/-- What `main_while0b_v130` holds. -/
theorem trip_v130 : (Trip V main_while0b_v130 : Cf32 F S4x16384) = maximumf (Trip V main_while0b_v129 : Cf32 F S4x16384) (V main_v105_2 : Cf32 F S4x16384) :=
  trip_line.eq2 V 45 rfl (by decide +kernel) (trip_line.late V 45 (by decide +kernel)) (trip_line.early V 45 (by decide +kernel))
/-- What `main_while0b_v131` holds. -/
theorem trip_v131 : (Trip V main_while0b_v131 : Ci32 F S4x1) = broadcastInDim S4x1 ![0] bcast_S4_S4x1_0 (Trip V main_while0b_v118 : Ci32 F S4) :=
  trip_line.eq1 V 46 rfl (by decide +kernel) (trip_line.late V 46 (by decide +kernel))
/-- What `main_while0b_call13_c` holds. -/
theorem trip_call13_c : (Trip V main_while0b_call13_c : Ci32 F S_) = (constantI S_ 32 0#32) :=
  trip_line.eq0 V 47 rfl (by decide +kernel)
/-- What `main_while0b_call13_v0` holds. -/
theorem trip_call13_v0 : (Trip V main_while0b_call13_v0 : Ci32 F S4x1) = (broadcastInDim S4x1 ![] bcast_S_S4x1) (Trip V main_while0b_call13_c : Ci32 F S_) :=
  trip_line.eq1 V 48 rfl (by decide +kernel) (trip_line.late V 48 (by decide +kernel))
/-- What `main_while0b_call13_v1` holds. -/
theorem trip_call13_v1 : (Trip V main_while0b_call13_v1 : Ci1 F S4x1) = ((cmpi .slt) : Ci32 F S4x1 → Ci32 F S4x1 → Ci1 F S4x1) (Trip V main_while0b_v131 : Ci32 F S4x1) (Trip V main_while0b_call13_v0 : Ci32 F S4x1) :=
  trip_line.teq2 V 49 (Ti32 S4x1 main_while0b_v131) (Ti32 S4x1 main_while0b_call13_v0) (Ti1 S4x1 main_while0b_call13_v1) ((cmpi .slt) : Ci32 F S4x1 → Ci32 F S4x1 → Ci1 F S4x1) rfl (by decide +kernel) (trip_line.late V 49 (by decide +kernel)) (trip_line.late V 49 (by decide +kernel))
/-- What `main_while0b_call13_c_0` holds. -/
theorem trip_call13_c_0 : (Trip V main_while0b_call13_c_0 : Ci32 F S_) = (constantI S_ 32 16384#32) :=
  trip_line.eq0 V 50 rfl (by decide +kernel)
/-- What `main_while0b_call13_v2` holds. -/
theorem trip_call13_v2 : (Trip V main_while0b_call13_v2 : Ci32 F S4x1) = (broadcastInDim S4x1 ![] bcast_S_S4x1) (Trip V main_while0b_call13_c_0 : Ci32 F S_) :=
  trip_line.eq1 V 51 rfl (by decide +kernel) (trip_line.late V 51 (by decide +kernel))
/-- What `main_while0b_call13_v3` holds. -/
theorem trip_call13_v3 : (Trip V main_while0b_call13_v3 : Ci32 F S4x1) = (addi : Ci32 F S4x1 → Ci32 F S4x1 → Ci32 F S4x1) (Trip V main_while0b_v131 : Ci32 F S4x1) (Trip V main_while0b_call13_v2 : Ci32 F S4x1) :=
  trip_line.teq2 V 52 (Ti32 S4x1 main_while0b_v131) (Ti32 S4x1 main_while0b_call13_v2) (Ti32 S4x1 main_while0b_call13_v3) (addi : Ci32 F S4x1 → Ci32 F S4x1 → Ci32 F S4x1) rfl (by decide +kernel) (trip_line.late V 52 (by decide +kernel)) (trip_line.late V 52 (by decide +kernel))
/-- What `main_while0b_call13_v4` holds. -/
theorem trip_call13_v4 : (Trip V main_while0b_call13_v4 : Ci32 F S4x1) = (select : Ci1 F S4x1 → Ci32 F S4x1 → Ci32 F S4x1 → Ci32 F S4x1) (Trip V main_while0b_call13_v1 : Ci1 F S4x1) (Trip V main_while0b_call13_v3 : Ci32 F S4x1) (Trip V main_while0b_v131 : Ci32 F S4x1) :=
  trip_line.teq3 V 53 (Ti1 S4x1 main_while0b_call13_v1) (Ti32 S4x1 main_while0b_call13_v3) (Ti32 S4x1 main_while0b_v131) (Ti32 S4x1 main_while0b_call13_v4) (select : Ci1 F S4x1 → Ci32 F S4x1 → Ci32 F S4x1 → Ci32 F S4x1) rfl (by decide +kernel) (trip_line.late V 53 (by decide +kernel)) (trip_line.late V 53 (by decide +kernel)) (trip_line.late V 53 (by decide +kernel))
/-- What `main_while0b_call13_v5` holds. -/
theorem trip_call13_v5 : (Trip V main_while0b_call13_v5 : Ci32 F S4x1x1) = shapeCast S4x1x1 (Trip V main_while0b_call13_v4 : Ci32 F S4x1) shapeCasts_S4x1_S4x1x1 :=
  trip_line.eqR V 54 rfl (by decide +kernel) (trip_line.late V 54 (by decide +kernel))
/-- What `main_while0b_v132` holds. -/
theorem trip_v132 : (Trip V main_while0b_v132 : Cf32 F S4x1) = Host.gather gather_S4x16384_S4x1x1_S4x1_n_1_0_0_1_2_11 (V main_v105_3 : Cf32 F S4x16384) (Trip V main_while0b_call13_v5 : Ci32 F S4x1x1) :=
  trip_line.teq2 V 55 (Tf32 S4x16384 main_v105_3) (Ti32 S4x1x1 main_while0b_call13_v5) (Tf32 S4x1 main_while0b_v132) (fun x i => Host.gather gather_S4x16384_S4x1x1_S4x1_n_1_0_0_1_2_11 x i) rfl (by decide +kernel) (trip_line.early V 55 (by decide +kernel)) (trip_line.late V 55 (by decide +kernel))
/-- What `main_while0b_v133` holds. -/
theorem trip_v133 : (Trip V main_while0b_v133 : Cf32 F S4x16384) = broadcastInDim S4x16384 ![0, 1] bcast_S4x1_S4x16384_0_1 (Trip V main_while0b_v132 : Cf32 F S4x1) :=
  trip_line.eq1 V 56 rfl (by decide +kernel) (trip_line.late V 56 (by decide +kernel))
/-- What `main_while0b_v134` holds. -/
theorem trip_v134 : (Trip V main_while0b_v134 : Cf32 F S4x16384) = minimumf (Trip V main_while0b_v133 : Cf32 F S4x16384) (V main_v105_3 : Cf32 F S4x16384) :=
  trip_line.eq2 V 57 rfl (by decide +kernel) (trip_line.late V 57 (by decide +kernel)) (trip_line.early V 57 (by decide +kernel))
/-- What `main_while0b_v135` holds. -/
theorem trip_v135 : (Trip V main_while0b_v135 : Ci32 F S4x1) = broadcastInDim S4x1 ![0] bcast_S4_S4x1_0 (Trip V main_while0b_v118 : Ci32 F S4) :=
  trip_line.eq1 V 58 rfl (by decide +kernel) (trip_line.late V 58 (by decide +kernel))
/-- What `main_while0b_call14_c` holds. -/
theorem trip_call14_c : (Trip V main_while0b_call14_c : Ci32 F S_) = (constantI S_ 32 0#32) :=
  trip_line.eq0 V 59 rfl (by decide +kernel)
/-- What `main_while0b_call14_v0` holds. -/
theorem trip_call14_v0 : (Trip V main_while0b_call14_v0 : Ci32 F S4x1) = (broadcastInDim S4x1 ![] bcast_S_S4x1) (Trip V main_while0b_call14_c : Ci32 F S_) :=
  trip_line.eq1 V 60 rfl (by decide +kernel) (trip_line.late V 60 (by decide +kernel))
/-- What `main_while0b_call14_v1` holds. -/
theorem trip_call14_v1 : (Trip V main_while0b_call14_v1 : Ci1 F S4x1) = ((cmpi .slt) : Ci32 F S4x1 → Ci32 F S4x1 → Ci1 F S4x1) (Trip V main_while0b_v135 : Ci32 F S4x1) (Trip V main_while0b_call14_v0 : Ci32 F S4x1) :=
  trip_line.teq2 V 61 (Ti32 S4x1 main_while0b_v135) (Ti32 S4x1 main_while0b_call14_v0) (Ti1 S4x1 main_while0b_call14_v1) ((cmpi .slt) : Ci32 F S4x1 → Ci32 F S4x1 → Ci1 F S4x1) rfl (by decide +kernel) (trip_line.late V 61 (by decide +kernel)) (trip_line.late V 61 (by decide +kernel))
/-- What `main_while0b_call14_c_0` holds. -/
theorem trip_call14_c_0 : (Trip V main_while0b_call14_c_0 : Ci32 F S_) = (constantI S_ 32 16384#32) :=
  trip_line.eq0 V 62 rfl (by decide +kernel)
/-- What `main_while0b_call14_v2` holds. -/
theorem trip_call14_v2 : (Trip V main_while0b_call14_v2 : Ci32 F S4x1) = (broadcastInDim S4x1 ![] bcast_S_S4x1) (Trip V main_while0b_call14_c_0 : Ci32 F S_) :=
  trip_line.eq1 V 63 rfl (by decide +kernel) (trip_line.late V 63 (by decide +kernel))
/-- What `main_while0b_call14_v3` holds. -/
theorem trip_call14_v3 : (Trip V main_while0b_call14_v3 : Ci32 F S4x1) = (addi : Ci32 F S4x1 → Ci32 F S4x1 → Ci32 F S4x1) (Trip V main_while0b_v135 : Ci32 F S4x1) (Trip V main_while0b_call14_v2 : Ci32 F S4x1) :=
  trip_line.teq2 V 64 (Ti32 S4x1 main_while0b_v135) (Ti32 S4x1 main_while0b_call14_v2) (Ti32 S4x1 main_while0b_call14_v3) (addi : Ci32 F S4x1 → Ci32 F S4x1 → Ci32 F S4x1) rfl (by decide +kernel) (trip_line.late V 64 (by decide +kernel)) (trip_line.late V 64 (by decide +kernel))
/-- What `main_while0b_call14_v4` holds. -/
theorem trip_call14_v4 : (Trip V main_while0b_call14_v4 : Ci32 F S4x1) = (select : Ci1 F S4x1 → Ci32 F S4x1 → Ci32 F S4x1 → Ci32 F S4x1) (Trip V main_while0b_call14_v1 : Ci1 F S4x1) (Trip V main_while0b_call14_v3 : Ci32 F S4x1) (Trip V main_while0b_v135 : Ci32 F S4x1) :=
  trip_line.teq3 V 65 (Ti1 S4x1 main_while0b_call14_v1) (Ti32 S4x1 main_while0b_call14_v3) (Ti32 S4x1 main_while0b_v135) (Ti32 S4x1 main_while0b_call14_v4) (select : Ci1 F S4x1 → Ci32 F S4x1 → Ci32 F S4x1 → Ci32 F S4x1) rfl (by decide +kernel) (trip_line.late V 65 (by decide +kernel)) (trip_line.late V 65 (by decide +kernel)) (trip_line.late V 65 (by decide +kernel))
/-- What `main_while0b_call14_v5` holds. -/
theorem trip_call14_v5 : (Trip V main_while0b_call14_v5 : Ci32 F S4x1x1) = shapeCast S4x1x1 (Trip V main_while0b_call14_v4 : Ci32 F S4x1) shapeCasts_S4x1_S4x1x1 :=
  trip_line.eqR V 66 rfl (by decide +kernel) (trip_line.late V 66 (by decide +kernel))
/-- What `main_while0b_v136` holds. -/
theorem trip_v136 : (Trip V main_while0b_v136 : Cf32 F S4x1) = Host.gather gather_S4x16384_S4x1x1_S4x1_n_1_0_0_1_2_11 (V main_v105_4 : Cf32 F S4x16384) (Trip V main_while0b_call14_v5 : Ci32 F S4x1x1) :=
  trip_line.teq2 V 67 (Tf32 S4x16384 main_v105_4) (Ti32 S4x1x1 main_while0b_call14_v5) (Tf32 S4x1 main_while0b_v136) (fun x i => Host.gather gather_S4x16384_S4x1x1_S4x1_n_1_0_0_1_2_11 x i) rfl (by decide +kernel) (trip_line.early V 67 (by decide +kernel)) (trip_line.late V 67 (by decide +kernel))
/-- What `main_while0b_v137` holds. -/
theorem trip_v137 : (Trip V main_while0b_v137 : Cf32 F S4x16384) = broadcastInDim S4x16384 ![0, 1] bcast_S4x1_S4x16384_0_1 (Trip V main_while0b_v136 : Cf32 F S4x1) :=
  trip_line.eq1 V 68 rfl (by decide +kernel) (trip_line.late V 68 (by decide +kernel))
/-- What `main_while0b_v138` holds. -/
theorem trip_v138 : (Trip V main_while0b_v138 : Cf32 F S4x16384) = minimumf (Trip V main_while0b_v137 : Cf32 F S4x16384) (V main_v105_4 : Cf32 F S4x16384) :=
  trip_line.eq2 V 69 rfl (by decide +kernel) (trip_line.late V 69 (by decide +kernel)) (trip_line.early V 69 (by decide +kernel))
/-- What `main_while0b_v139` holds. -/
theorem trip_v139 : (Trip V main_while0b_v139 : Cf32 F S4x16384) = subf (Trip V main_while0b_v134 : Cf32 F S4x16384) (Trip V main_while0b_v126 : Cf32 F S4x16384) :=
  trip_line.eq2 V 70 rfl (by decide +kernel) (trip_line.late V 70 (by decide +kernel)) (trip_line.late V 70 (by decide +kernel))
/-- What `main_while0b_cst_33` holds. -/
theorem trip_cst_33 : (Trip V main_while0b_cst_33 : Cf32 F S_) = (constant S_ .f32 0x00000000#32) :=
  trip_line.eq0 V 71 rfl (by decide +kernel)
/-- What `main_while0b_v140` holds. -/
theorem trip_v140 : (Trip V main_while0b_v140 : Cf32 F S4x16384) = broadcastInDim S4x16384 ![] bcast_S_S4x16384 (Trip V main_while0b_cst_33 : Cf32 F S_) :=
  trip_line.eq1 V 72 rfl (by decide +kernel) (trip_line.late V 72 (by decide +kernel))
/-- What `main_while0b_v141` holds. -/
theorem trip_v141 : (Trip V main_while0b_v141 : Cf32 F S4x16384) = maximumf (Trip V main_while0b_v139 : Cf32 F S4x16384) (Trip V main_while0b_v140 : Cf32 F S4x16384) :=
  trip_line.eq2 V 73 rfl (by decide +kernel) (trip_line.late V 73 (by decide +kernel)) (trip_line.late V 73 (by decide +kernel))
/-- What `main_while0b_v142` holds. -/
theorem trip_v142 : (Trip V main_while0b_v142 : Cf32 F S4x16384) = subf (Trip V main_while0b_v138 : Cf32 F S4x16384) (Trip V main_while0b_v130 : Cf32 F S4x16384) :=
  trip_line.eq2 V 74 rfl (by decide +kernel) (trip_line.late V 74 (by decide +kernel)) (trip_line.late V 74 (by decide +kernel))
/-- What `main_while0b_cst_34` holds. -/
theorem trip_cst_34 : (Trip V main_while0b_cst_34 : Cf32 F S_) = (constant S_ .f32 0x00000000#32) :=
  trip_line.eq0 V 75 rfl (by decide +kernel)
/-- What `main_while0b_v143` holds. -/
theorem trip_v143 : (Trip V main_while0b_v143 : Cf32 F S4x16384) = broadcastInDim S4x16384 ![] bcast_S_S4x16384 (Trip V main_while0b_cst_34 : Cf32 F S_) :=
  trip_line.eq1 V 76 rfl (by decide +kernel) (trip_line.late V 76 (by decide +kernel))
/-- What `main_while0b_v144` holds. -/
theorem trip_v144 : (Trip V main_while0b_v144 : Cf32 F S4x16384) = maximumf (Trip V main_while0b_v142 : Cf32 F S4x16384) (Trip V main_while0b_v143 : Cf32 F S4x16384) :=
  trip_line.eq2 V 77 rfl (by decide +kernel) (trip_line.late V 77 (by decide +kernel)) (trip_line.late V 77 (by decide +kernel))
/-- What `main_while0b_v145` holds. -/
theorem trip_v145 : (Trip V main_while0b_v145 : Cf32 F S4x16384) = mulf (Trip V main_while0b_v141 : Cf32 F S4x16384) (Trip V main_while0b_v144 : Cf32 F S4x16384) :=
  trip_line.eq2 V 78 rfl (by decide +kernel) (trip_line.late V 78 (by decide +kernel)) (trip_line.late V 78 (by decide +kernel))
/-- What `main_while0b_v146` holds. -/
theorem trip_v146 : (Trip V main_while0b_v146 : Ci32 F S4x1) = broadcastInDim S4x1 ![0] bcast_S4_S4x1_0 (Trip V main_while0b_v118 : Ci32 F S4) :=
  trip_line.eq1 V 79 rfl (by decide +kernel) (trip_line.late V 79 (by decide +kernel))
/-- What `main_while0b_call15_c` holds. -/
theorem trip_call15_c : (Trip V main_while0b_call15_c : Ci32 F S_) = (constantI S_ 32 0#32) :=
  trip_line.eq0 V 80 rfl (by decide +kernel)
/-- What `main_while0b_call15_v0` holds. -/
theorem trip_call15_v0 : (Trip V main_while0b_call15_v0 : Ci32 F S4x1) = (broadcastInDim S4x1 ![] bcast_S_S4x1) (Trip V main_while0b_call15_c : Ci32 F S_) :=
  trip_line.eq1 V 81 rfl (by decide +kernel) (trip_line.late V 81 (by decide +kernel))
/-- What `main_while0b_call15_v1` holds. -/
theorem trip_call15_v1 : (Trip V main_while0b_call15_v1 : Ci1 F S4x1) = ((cmpi .slt) : Ci32 F S4x1 → Ci32 F S4x1 → Ci1 F S4x1) (Trip V main_while0b_v146 : Ci32 F S4x1) (Trip V main_while0b_call15_v0 : Ci32 F S4x1) :=
  trip_line.teq2 V 82 (Ti32 S4x1 main_while0b_v146) (Ti32 S4x1 main_while0b_call15_v0) (Ti1 S4x1 main_while0b_call15_v1) ((cmpi .slt) : Ci32 F S4x1 → Ci32 F S4x1 → Ci1 F S4x1) rfl (by decide +kernel) (trip_line.late V 82 (by decide +kernel)) (trip_line.late V 82 (by decide +kernel))
/-- What `main_while0b_call15_c_0` holds. -/
theorem trip_call15_c_0 : (Trip V main_while0b_call15_c_0 : Ci32 F S_) = (constantI S_ 32 16384#32) :=
  trip_line.eq0 V 83 rfl (by decide +kernel)
/-- What `main_while0b_call15_v2` holds. -/
theorem trip_call15_v2 : (Trip V main_while0b_call15_v2 : Ci32 F S4x1) = (broadcastInDim S4x1 ![] bcast_S_S4x1) (Trip V main_while0b_call15_c_0 : Ci32 F S_) :=
  trip_line.eq1 V 84 rfl (by decide +kernel) (trip_line.late V 84 (by decide +kernel))
/-- What `main_while0b_call15_v3` holds. -/
theorem trip_call15_v3 : (Trip V main_while0b_call15_v3 : Ci32 F S4x1) = (addi : Ci32 F S4x1 → Ci32 F S4x1 → Ci32 F S4x1) (Trip V main_while0b_v146 : Ci32 F S4x1) (Trip V main_while0b_call15_v2 : Ci32 F S4x1) :=
  trip_line.teq2 V 85 (Ti32 S4x1 main_while0b_v146) (Ti32 S4x1 main_while0b_call15_v2) (Ti32 S4x1 main_while0b_call15_v3) (addi : Ci32 F S4x1 → Ci32 F S4x1 → Ci32 F S4x1) rfl (by decide +kernel) (trip_line.late V 85 (by decide +kernel)) (trip_line.late V 85 (by decide +kernel))
/-- What `main_while0b_call15_v4` holds. -/
theorem trip_call15_v4 : (Trip V main_while0b_call15_v4 : Ci32 F S4x1) = (select : Ci1 F S4x1 → Ci32 F S4x1 → Ci32 F S4x1 → Ci32 F S4x1) (Trip V main_while0b_call15_v1 : Ci1 F S4x1) (Trip V main_while0b_call15_v3 : Ci32 F S4x1) (Trip V main_while0b_v146 : Ci32 F S4x1) :=
  trip_line.teq3 V 86 (Ti1 S4x1 main_while0b_call15_v1) (Ti32 S4x1 main_while0b_call15_v3) (Ti32 S4x1 main_while0b_v146) (Ti32 S4x1 main_while0b_call15_v4) (select : Ci1 F S4x1 → Ci32 F S4x1 → Ci32 F S4x1 → Ci32 F S4x1) rfl (by decide +kernel) (trip_line.late V 86 (by decide +kernel)) (trip_line.late V 86 (by decide +kernel)) (trip_line.late V 86 (by decide +kernel))
/-- What `main_while0b_call15_v5` holds. -/
theorem trip_call15_v5 : (Trip V main_while0b_call15_v5 : Ci32 F S4x1x1) = shapeCast S4x1x1 (Trip V main_while0b_call15_v4 : Ci32 F S4x1) shapeCasts_S4x1_S4x1x1 :=
  trip_line.eqR V 87 rfl (by decide +kernel) (trip_line.late V 87 (by decide +kernel))
/-- What `main_while0b_v147` holds. -/
theorem trip_v147 : (Trip V main_while0b_v147 : Cf32 F S4x1) = Host.gather gather_S4x16384_S4x1x1_S4x1_n_1_0_0_1_2_11 (V main_v105_5 : Cf32 F S4x16384) (Trip V main_while0b_call15_v5 : Ci32 F S4x1x1) :=
  trip_line.teq2 V 88 (Tf32 S4x16384 main_v105_5) (Ti32 S4x1x1 main_while0b_call15_v5) (Tf32 S4x1 main_while0b_v147) (fun x i => Host.gather gather_S4x16384_S4x1x1_S4x1_n_1_0_0_1_2_11 x i) rfl (by decide +kernel) (trip_line.early V 88 (by decide +kernel)) (trip_line.late V 88 (by decide +kernel))
/-- What `main_while0b_v148` holds. -/
theorem trip_v148 : (Trip V main_while0b_v148 : Cf32 F S4x16384) = broadcastInDim S4x16384 ![0, 1] bcast_S4x1_S4x16384_0_1 (Trip V main_while0b_v147 : Cf32 F S4x1) :=
  trip_line.eq1 V 89 rfl (by decide +kernel) (trip_line.late V 89 (by decide +kernel))
/-- What `main_while0b_v149` holds. -/
theorem trip_v149 : (Trip V main_while0b_v149 : Cf32 F S4x16384) = addf (Trip V main_while0b_v148 : Cf32 F S4x16384) (V main_v105_5 : Cf32 F S4x16384) :=
  trip_line.eq2 V 90 rfl (by decide +kernel) (trip_line.late V 90 (by decide +kernel)) (trip_line.early V 90 (by decide +kernel))
/-- What `main_while0b_v150` holds. -/
theorem trip_v150 : (Trip V main_while0b_v150 : Cf32 F S4x16384) = subf (Trip V main_while0b_v149 : Cf32 F S4x16384) (Trip V main_while0b_v145 : Cf32 F S4x16384) :=
  trip_line.eq2 V 91 rfl (by decide +kernel) (trip_line.late V 91 (by decide +kernel)) (trip_line.late V 91 (by decide +kernel))
/-- What `main_while0b_cst_35` holds. -/
theorem trip_cst_35 : (Trip V main_while0b_cst_35 : Cf32 F S_) = (constant S_ .f32 0x322BCC77#32) :=
  trip_line.eq0 V 92 rfl (by decide +kernel)
/-- What `main_while0b_v151` holds. -/
theorem trip_v151 : (Trip V main_while0b_v151 : Cf32 F S4x16384) = broadcastInDim S4x16384 ![] bcast_S_S4x16384 (Trip V main_while0b_cst_35 : Cf32 F S_) :=
  trip_line.eq1 V 93 rfl (by decide +kernel) (trip_line.late V 93 (by decide +kernel))
/-- What `main_while0b_v152` holds. -/
theorem trip_v152 : (Trip V main_while0b_v152 : Cf32 F S4x16384) = maximumf (Trip V main_while0b_v150 : Cf32 F S4x16384) (Trip V main_while0b_v151 : Cf32 F S4x16384) :=
  trip_line.eq2 V 94 rfl (by decide +kernel) (trip_line.late V 94 (by decide +kernel)) (trip_line.late V 94 (by decide +kernel))
/-- What `main_while0b_v153` holds. -/
theorem trip_v153 : (Trip V main_while0b_v153 : Cf32 F S4x16384) = Host.divf (Trip V main_while0b_v145 : Cf32 F S4x16384) (Trip V main_while0b_v152 : Cf32 F S4x16384) :=
  trip_line.eq2 V 95 rfl (by decide +kernel) (trip_line.late V 95 (by decide +kernel)) (trip_line.late V 95 (by decide +kernel))
/-- What `main_while0b_cst_36` holds. -/
theorem trip_cst_36 : (Trip V main_while0b_cst_36 : Cf32 F S_) = (constant S_ .f32 0x3F59999A#32) :=
  trip_line.eq0 V 96 rfl (by decide +kernel)
/-- What `main_while0b_v154` holds. -/
theorem trip_v154 : (Trip V main_while0b_v154 : Cf32 F S4x16384) = broadcastInDim S4x16384 ![] bcast_S_S4x16384 (Trip V main_while0b_cst_36 : Cf32 F S_) :=
  trip_line.eq1 V 97 rfl (by decide +kernel) (trip_line.late V 97 (by decide +kernel))
/-- What `main_while0b_v155` holds. -/
theorem trip_v155 : (Trip V main_while0b_v155 : Ci1 F S4x16384) = cmpf .ogt (Trip V main_while0b_v153 : Cf32 F S4x16384) (Trip V main_while0b_v154 : Cf32 F S4x16384) :=
  trip_line.eq2 V 98 rfl (by decide +kernel) (trip_line.late V 98 (by decide +kernel)) (trip_line.late V 98 (by decide +kernel))
/-- What `main_while0b_v156` holds. -/
theorem trip_v156 : (Trip V main_while0b_v156 : Ci1 F S4x16384) = ori (V main_v105_7 : Ci1 F S4x16384) (Trip V main_while0b_v155 : Ci1 F S4x16384) :=
  trip_line.eq2 V 99 rfl (by decide +kernel) (trip_line.early V 99 (by decide +kernel)) (trip_line.late V 99 (by decide +kernel))
/-- What `main_while0b_v157` holds. -/
theorem trip_v157 : (Trip V main_while0b_v157 : Ci32 F S4) = (iotaInDim S4 32 0) :=
  trip_line.eq0 V 100 rfl (by decide +kernel)
/-- What `main_while0b_c_37` holds. -/
theorem trip_c_37 : (Trip V main_while0b_c_37 : Ci32 F S_) = (constantI S_ 32 0#32) :=
  trip_line.eq0 V 101 rfl (by decide +kernel)
/-- What `main_while0b_v158` holds. -/
theorem trip_v158 : (Trip V main_while0b_v158 : Ci32 F S4) = broadcastInDim S4 ![] bcast_S_S4 (Trip V main_while0b_c_37 : Ci32 F S_) :=
  trip_line.eq1 V 102 rfl (by decide +kernel) (trip_line.late V 102 (by decide +kernel))
/-- What `main_while0b_v159` holds. -/
theorem trip_v159 : (Trip V main_while0b_v159 : Ci1 F S4) = cmpi .slt (Trip V main_while0b_v157 : Ci32 F S4) (Trip V main_while0b_v158 : Ci32 F S4) :=
  trip_line.eq2 V 103 rfl (by decide +kernel) (trip_line.late V 103 (by decide +kernel)) (trip_line.late V 103 (by decide +kernel))
/-- What `main_while0b_c_38` holds. -/
theorem trip_c_38 : (Trip V main_while0b_c_38 : Ci32 F S_) = (constantI S_ 32 4#32) :=
  trip_line.eq0 V 104 rfl (by decide +kernel)
/-- What `main_while0b_v160` holds. -/
theorem trip_v160 : (Trip V main_while0b_v160 : Ci32 F S4) = broadcastInDim S4 ![] bcast_S_S4 (Trip V main_while0b_c_38 : Ci32 F S_) :=
  trip_line.eq1 V 105 rfl (by decide +kernel) (trip_line.late V 105 (by decide +kernel))
/-- What `main_while0b_v161` holds. -/
theorem trip_v161 : (Trip V main_while0b_v161 : Ci32 F S4) = addi (Trip V main_while0b_v157 : Ci32 F S4) (Trip V main_while0b_v160 : Ci32 F S4) :=
  trip_line.eq2 V 106 rfl (by decide +kernel) (trip_line.late V 106 (by decide +kernel)) (trip_line.late V 106 (by decide +kernel))
/-- What `main_while0b_v162` holds. -/
theorem trip_v162 : (Trip V main_while0b_v162 : Ci32 F S4) = select (Trip V main_while0b_v159 : Ci1 F S4) (Trip V main_while0b_v161 : Ci32 F S4) (Trip V main_while0b_v157 : Ci32 F S4) :=
  trip_line.eq3 V 107 rfl (by decide +kernel) (trip_line.late V 107 (by decide +kernel)) (trip_line.late V 107 (by decide +kernel)) (trip_line.late V 107 (by decide +kernel))
/-- What `main_while0b_c_39` holds. -/
theorem trip_c_39 : (Trip V main_while0b_c_39 : Ci32 F S_) = (constantI S_ 32 0#32) :=
  trip_line.eq0 V 108 rfl (by decide +kernel)
/-- What `main_while0b_v163` holds. -/
theorem trip_v163 : (Trip V main_while0b_v163 : Ci32 F S4) = broadcastInDim S4 ![] bcast_S_S4 (Trip V main_while0b_c_39 : Ci32 F S_) :=
  trip_line.eq1 V 109 rfl (by decide +kernel) (trip_line.late V 109 (by decide +kernel))
/-- What `main_while0b_v164` holds. -/
theorem trip_v164 : (Trip V main_while0b_v164 : Ci1 F S4) = cmpi .slt (Trip V main_while0b_v118 : Ci32 F S4) (Trip V main_while0b_v163 : Ci32 F S4) :=
  trip_line.eq2 V 110 rfl (by decide +kernel) (trip_line.late V 110 (by decide +kernel)) (trip_line.late V 110 (by decide +kernel))
/-- What `main_while0b_c_40` holds. -/
theorem trip_c_40 : (Trip V main_while0b_c_40 : Ci32 F S_) = (constantI S_ 32 16384#32) :=
  trip_line.eq0 V 111 rfl (by decide +kernel)
/-- What `main_while0b_v165` holds. -/
theorem trip_v165 : (Trip V main_while0b_v165 : Ci32 F S4) = broadcastInDim S4 ![] bcast_S_S4 (Trip V main_while0b_c_40 : Ci32 F S_) :=
  trip_line.eq1 V 112 rfl (by decide +kernel) (trip_line.late V 112 (by decide +kernel))
/-- What `main_while0b_v166` holds. -/
theorem trip_v166 : (Trip V main_while0b_v166 : Ci32 F S4) = addi (Trip V main_while0b_v118 : Ci32 F S4) (Trip V main_while0b_v165 : Ci32 F S4) :=
  trip_line.eq2 V 113 rfl (by decide +kernel) (trip_line.late V 113 (by decide +kernel)) (trip_line.late V 113 (by decide +kernel))
/-- What `main_while0b_v167` holds. -/
theorem trip_v167 : (Trip V main_while0b_v167 : Ci32 F S4) = select (Trip V main_while0b_v164 : Ci1 F S4) (Trip V main_while0b_v166 : Ci32 F S4) (Trip V main_while0b_v118 : Ci32 F S4) :=
  trip_line.eq3 V 114 rfl (by decide +kernel) (trip_line.late V 114 (by decide +kernel)) (trip_line.late V 114 (by decide +kernel)) (trip_line.late V 114 (by decide +kernel))
/-- What `main_while0b_v168` holds. -/
theorem trip_v168 : (Trip V main_while0b_v168 : Ci32 F S4x1) = broadcastInDim S4x1 ![0] bcast_S4_S4x1_0 (Trip V main_while0b_v162 : Ci32 F S4) :=
  trip_line.eq1 V 115 rfl (by decide +kernel) (trip_line.late V 115 (by decide +kernel))
/-- What `main_while0b_v169` holds. -/
theorem trip_v169 : (Trip V main_while0b_v169 : Ci32 F S4x1) = broadcastInDim S4x1 ![0] bcast_S4_S4x1_0 (Trip V main_while0b_v167 : Ci32 F S4) :=
  trip_line.eq1 V 116 rfl (by decide +kernel) (trip_line.late V 116 (by decide +kernel))
/-- What `main_while0b_v170` holds. -/
theorem trip_v170 : (Trip V main_while0b_v170 : Ci32 F S4x2) = concatenate S4x2 1 [⟨S4x1, (Trip V main_while0b_v168 : Ci32 F S4x1)⟩, ⟨S4x1, (Trip V main_while0b_v169 : Ci32 F S4x1)⟩] concatenates_S4x1_S4x1_S4x2_d1 :=
  trip_line.eq2 V 117 rfl (by decide +kernel) (trip_line.late V 117 (by decide +kernel)) (trip_line.late V 117 (by decide +kernel))
/-- What `main_while0b_c_41` holds. -/
theorem trip_c_41 : (Trip V main_while0b_c_41 : Ci1 F S_) = (constantI S_ 1 1#1) :=
  trip_line.eq0 V 118 rfl (by decide +kernel)
/-- What `main_while0b_v171` holds. -/
theorem trip_v171 : (Trip V main_while0b_v171 : Ci1 F S4) = broadcastInDim S4 ![] bcast_S_S4 (Trip V main_while0b_c_41 : Ci1 F S_) :=
  trip_line.eq1 V 119 rfl (by decide +kernel) (trip_line.late V 119 (by decide +kernel))
/-- What `main_while0b_v172` holds. -/
theorem trip_v172 : (Trip V main_while0b_v172 : Ci1 F S4x16384) = Host.scatter scatter_S4x16384_S4x2_S4_n_01_01_1 (fun _ b => b) (Trip V main_while0b_v156 : Ci1 F S4x16384) (Trip V main_while0b_v170 : Ci32 F S4x2) (Trip V main_while0b_v171 : Ci1 F S4) :=
  trip_line.eq3 V 120 rfl (by decide +kernel) (trip_line.late V 120 (by decide +kernel)) (trip_line.late V 120 (by decide +kernel)) (trip_line.late V 120 (by decide +kernel))
/-- What `main_while0b_call16_v0` holds. -/
theorem trip_call16_v0 : (Trip V main_while0b_call16_v0 : Ci1 F S4x16384) = (broadcastInDim S4x16384 ![0, 1] bcast_S4x1_S4x16384_0_1) (Trip V main_while0b_v122 : Ci1 F S4x1) :=
  trip_line.eq1 V 121 rfl (by decide +kernel) (trip_line.late V 121 (by decide +kernel))
/-- What `main_while0b_v173` holds. -/
theorem trip_v173 : (Trip V main_while0b_v173 : Ci1 F S4x16384) = (select : Ci1 F S4x16384 → Ci1 F S4x16384 → Ci1 F S4x16384 → Ci1 F S4x16384) (Trip V main_while0b_call16_v0 : Ci1 F S4x16384) (Trip V main_while0b_v172 : Ci1 F S4x16384) (V main_v105_7 : Ci1 F S4x16384) :=
  trip_line.teq3 V 122 (Ti1 S4x16384 main_while0b_call16_v0) (Ti1 S4x16384 main_while0b_v172) (Ti1 S4x16384 main_v105_7) (Ti1 S4x16384 main_while0b_v173) (select : Ci1 F S4x16384 → Ci1 F S4x16384 → Ci1 F S4x16384 → Ci1 F S4x16384) rfl (by decide +kernel) (trip_line.late V 122 (by decide +kernel)) (trip_line.late V 122 (by decide +kernel)) (trip_line.early V 122 (by decide +kernel))
/-- What `main_while0b_v174` holds. -/
theorem trip_v174 : (Trip V main_while0b_v174 : Ci1 F S4) = shapeCast S4 (Trip V main_while0b_v122 : Ci1 F S4x1) shapeCasts_S4x1_S4 :=
  trip_line.eqR V 123 rfl (by decide +kernel) (trip_line.late V 123 (by decide +kernel))
/-- What `main_while0b_call17_v0` holds. -/
theorem trip_call17_v0 : (Trip V main_while0b_call17_v0 : Ci32 F S1x4) = (broadcastInDim S1x4 ![1] bcast_S4_S1x4_1) (Trip V main_while0b_v118 : Ci32 F S4) :=
  trip_line.eq1 V 124 rfl (by decide +kernel) (trip_line.late V 124 (by decide +kernel))
/-- What `main_while0b_call17_c` holds. -/
theorem trip_call17_c : (Trip V main_while0b_call17_c : Ci32 F S_) = (constantI S_ 32 0#32) :=
  trip_line.eq0 V 125 rfl (by decide +kernel)
/-- What `main_while0b_v175` holds. -/
theorem trip_v175 : (Trip V main_while0b_v175 : Ci32 F S512x4) = Host.dynamicUpdateSlice (V main_v105_8 : Ci32 F S512x4) (Trip V main_while0b_call17_v0 : Ci32 F S1x4) (fun k => ((![(V main_v105_6 : Ci32 F S_), (Trip V main_while0b_call17_c : Ci32 F S_)] : Fin 2 → Ci32 F S_) k (Shape.Idx.first h_S_)).toInt) updateFits_S512x4_S1x4 :=
  trip_line.eqI V 126 rfl (by decide +kernel) (trip_line.early V 126 (by decide +kernel)) (trip_line.late V 126 (by decide +kernel)) (fun k => by fin_cases k <;> first | exact (trip_line.early V 126 (by decide +kernel)) | exact (trip_line.late V 126 (by decide +kernel)))
/-- What `main_while0b_call18_v0` holds. -/
theorem trip_call18_v0 : (Trip V main_while0b_call18_v0 : Ci1 F S1x4) = (broadcastInDim S1x4 ![1] bcast_S4_S1x4_1) (Trip V main_while0b_v174 : Ci1 F S4) :=
  trip_line.eq1 V 127 rfl (by decide +kernel) (trip_line.late V 127 (by decide +kernel))
/-- What `main_while0b_call18_c` holds. -/
theorem trip_call18_c : (Trip V main_while0b_call18_c : Ci32 F S_) = (constantI S_ 32 0#32) :=
  trip_line.eq0 V 128 rfl (by decide +kernel)
/-- What `main_while0b_v176` holds. -/
theorem trip_v176 : (Trip V main_while0b_v176 : Ci1 F S512x4) = Host.dynamicUpdateSlice (V main_v105_9 : Ci1 F S512x4) (Trip V main_while0b_call18_v0 : Ci1 F S1x4) (fun k => ((![(V main_v105_6 : Ci32 F S_), (Trip V main_while0b_call18_c : Ci32 F S_)] : Fin 2 → Ci32 F S_) k (Shape.Idx.first h_S_)).toInt) updateFits_S512x4_S1x4 :=
  trip_line.eqI V 129 rfl (by decide +kernel) (trip_line.early V 129 (by decide +kernel)) (trip_line.late V 129 (by decide +kernel)) (fun k => by fin_cases k <;> first | exact (trip_line.early V 129 (by decide +kernel)) | exact (trip_line.late V 129 (by decide +kernel)))
/-- What `main_while0b_c_42` holds. -/
theorem trip_c_42 : (Trip V main_while0b_c_42 : Ci32 F S_) = (constantI S_ 32 1#32) :=
  trip_line.eq0 V 130 rfl (by decide +kernel)
/-- What `main_while0b_v177` holds. -/
theorem trip_v177 : (Trip V main_while0b_v177 : Ci32 F S_) = addi (V main_v105_6 : Ci32 F S_) (Trip V main_while0b_c_42 : Ci32 F S_) :=
  trip_line.eq2 V 131 rfl (by decide +kernel) (trip_line.early V 131 (by decide +kernel)) (trip_line.late V 131 (by decide +kernel))
/-- What `main_v105_6` holds. -/
theorem trip_v105_6 : (Trip V main_v105_6 : Ci32 F S_) = (Trip V main_while0b_v177 : Ci32 F S_) :=
  trip_line.eq1 V 132 rfl (by decide +kernel) (trip_line.late V 132 (by decide +kernel))
/-- What `main_v105_7` holds. -/
theorem trip_v105_7 : (Trip V main_v105_7 : Ci1 F S4x16384) = (Trip V main_while0b_v173 : Ci1 F S4x16384) :=
  trip_line.eq1 V 133 rfl (by decide +kernel) (trip_line.late V 133 (by decide +kernel))
/-- What `main_v105_8` holds. -/
theorem trip_v105_8 : (Trip V main_v105_8 : Ci32 F S512x4) = (Trip V main_while0b_v175 : Ci32 F S512x4) :=
  trip_line.eq1 V 134 rfl (by decide +kernel) (trip_line.late V 134 (by decide +kernel))
/-- What `main_v105_9` holds. -/
theorem trip_v105_9 : (Trip V main_v105_9 : Ci1 F S512x4) = (Trip V main_while0b_v176 : Ci1 F S512x4) :=
  trip_line.eq1 V 135 rfl (by decide +kernel) (trip_line.late V 135 (by decide +kernel))

end Cert.ReferenceIdeal.Value

end
-- ==== Proof.RefPostEq.lean ====
module

public import proofs.«01_k».proof.Proof.Gen.ReferenceIdeal
public import proofs.«01_k».proof.Proof.RefLine

@[expose] public section

set_option maxRecDepth 16384

noncomputable section
/-! # The reference after its loop, operation by operation

One equation for each operation: what its result holds at the end of the stretch, as the operation's value of what its
operands hold there (or held at the start, where the stretch writes them later or not at all). -/

namespace Cert.ReferenceIdeal.Value

open Cert.ReferenceIdeal Cert.ReferenceIdeal.Gen
open Idealize.ShloMosaic Idealize.ShloMosaic.TcCoe
open Idealize.ShloMosaic.StableHlo

variable {F : FTy → Type} [FloatOps F]

/-- The reference's operations after the loop, in order. -/
abbrev postOps : List (HloOp τ sig (Elt F)) := hostOps0_17 ++ (hostOps0_18 ++ (hostOps0_19 ++ (hostOps0_20 ++ (hostOps0_21))))

/-- The references that `postOps` writes, in order. -/
abbrev postW : List (Ref sig .tc) :=
  [main_v106, main_v107, main_v108, main_v109, main_v110, main_call19_c, main_call19_v0, main_call19_v1, main_call19_c_0, main_call19_v2, main_call19_v3, main_call19_v4, main_v111, main_v112, main_v113, main_v114, main_call20_c, main_call20_v0, main_call20_v1, main_call20_c_0, main_call20_v2, main_call20_v3, main_call20_v4, main_v115, main_v116]

set_option maxHeartbeats 4000000 in
/-- `postOps` is a line. -/
theorem post_line : Line (postOps : List (HloOp τ sig (Elt F))) postW := by
  unfold Line
  repeat (first | exact List.Forall₂.nil | refine List.Forall₂.cons rfl ?_)

/-- What every buffer holds after `postOps`, run from contents `V`. -/
def Post (V : Valuation τ sig (Elt F)) : Valuation τ sig (Elt F) := after postOps V

/-- A reference that `postOps` does not write keeps its contents. -/
theorem post_keep (V : Valuation τ sig (Elt F)) {r : Ref sig .tc} (hr : r ∉ postW) : Post V (Proc.devRef .tc r) = V (Proc.devRef .tc r) :=
  post_line.keep hr V

variable (V : Valuation τ sig (Elt F))

/-- What `main_v106` holds. -/
theorem post_v106 : (Post V main_v106 : Ci32 F S4x512) = transpose S4x512 [1, 0] (V main_v105_8 : Ci32 F S512x4) transposes_S512x4_S4x512_1_0 :=
  post_line.eq1 V 0 rfl (by decide +kernel) (post_line.early V 0 (by decide +kernel))
/-- What `main_v107` holds. -/
theorem post_v107 : (Post V main_v107 : Ci1 F S4x512) = transpose S4x512 [1, 0] (V main_v105_9 : Ci1 F S512x4) transposes_S512x4_S4x512_1_0 :=
  post_line.eq1 V 1 rfl (by decide +kernel) (post_line.early V 1 (by decide +kernel))
/-- What `main_v108` holds. -/
theorem post_v108 : (Post V main_v108 : Cf32 F S4x512) = uitofp .f32 (Post V main_v107 : Ci1 F S4x512) :=
  post_line.eq1 V 2 rfl (by decide +kernel) (post_line.late V 2 (by decide +kernel))
/-- What `main_v109` holds. -/
theorem post_v109 : (Post V main_v109 : Cf32 F S4x512x1) = broadcastInDim S4x512x1 ![0, 1] bcast_S4x512_S4x512x1_0_1 (Post V main_v108 : Cf32 F S4x512) :=
  post_line.eq1 V 3 rfl (by decide +kernel) (post_line.late V 3 (by decide +kernel))
/-- What `main_v110` holds. -/
theorem post_v110 : (Post V main_v110 : Ci32 F S4x512x1) = broadcastInDim S4x512x1 ![0, 1] bcast_S4x512_S4x512x1_0_1 (Post V main_v106 : Ci32 F S4x512) :=
  post_line.eq1 V 4 rfl (by decide +kernel) (post_line.late V 4 (by decide +kernel))
/-- What `main_call19_c` holds. -/
theorem post_call19_c : (Post V main_call19_c : Ci32 F S_) = (constantI S_ 32 0#32) :=
  post_line.eq0 V 5 rfl (by decide +kernel)
/-- What `main_call19_v0` holds. -/
theorem post_call19_v0 : (Post V main_call19_v0 : Ci32 F S4x512x1) = (broadcastInDim S4x512x1 ![] bcast_S_S4x512x1) (Post V main_call19_c : Ci32 F S_) :=
  post_line.eq1 V 6 rfl (by decide +kernel) (post_line.late V 6 (by decide +kernel))
/-- What `main_call19_v1` holds. -/
theorem post_call19_v1 : (Post V main_call19_v1 : Ci1 F S4x512x1) = ((cmpi .slt) : Ci32 F S4x512x1 → Ci32 F S4x512x1 → Ci1 F S4x512x1) (Post V main_v110 : Ci32 F S4x512x1) (Post V main_call19_v0 : Ci32 F S4x512x1) :=
  post_line.teq2 V 7 (Ti32 S4x512x1 main_v110) (Ti32 S4x512x1 main_call19_v0) (Ti1 S4x512x1 main_call19_v1) ((cmpi .slt) : Ci32 F S4x512x1 → Ci32 F S4x512x1 → Ci1 F S4x512x1) rfl (by decide +kernel) (post_line.late V 7 (by decide +kernel)) (post_line.late V 7 (by decide +kernel))
/-- What `main_call19_c_0` holds. -/
theorem post_call19_c_0 : (Post V main_call19_c_0 : Ci32 F S_) = (constantI S_ 32 16384#32) :=
  post_line.eq0 V 8 rfl (by decide +kernel)
/-- What `main_call19_v2` holds. -/
theorem post_call19_v2 : (Post V main_call19_v2 : Ci32 F S4x512x1) = (broadcastInDim S4x512x1 ![] bcast_S_S4x512x1) (Post V main_call19_c_0 : Ci32 F S_) :=
  post_line.eq1 V 9 rfl (by decide +kernel) (post_line.late V 9 (by decide +kernel))
/-- What `main_call19_v3` holds. -/
theorem post_call19_v3 : (Post V main_call19_v3 : Ci32 F S4x512x1) = (addi : Ci32 F S4x512x1 → Ci32 F S4x512x1 → Ci32 F S4x512x1) (Post V main_v110 : Ci32 F S4x512x1) (Post V main_call19_v2 : Ci32 F S4x512x1) :=
  post_line.teq2 V 10 (Ti32 S4x512x1 main_v110) (Ti32 S4x512x1 main_call19_v2) (Ti32 S4x512x1 main_call19_v3) (addi : Ci32 F S4x512x1 → Ci32 F S4x512x1 → Ci32 F S4x512x1) rfl (by decide +kernel) (post_line.late V 10 (by decide +kernel)) (post_line.late V 10 (by decide +kernel))
/-- What `main_call19_v4` holds. -/
theorem post_call19_v4 : (Post V main_call19_v4 : Ci32 F S4x512x1) = (select : Ci1 F S4x512x1 → Ci32 F S4x512x1 → Ci32 F S4x512x1 → Ci32 F S4x512x1) (Post V main_call19_v1 : Ci1 F S4x512x1) (Post V main_call19_v3 : Ci32 F S4x512x1) (Post V main_v110 : Ci32 F S4x512x1) :=
  post_line.teq3 V 11 (Ti1 S4x512x1 main_call19_v1) (Ti32 S4x512x1 main_call19_v3) (Ti32 S4x512x1 main_v110) (Ti32 S4x512x1 main_call19_v4) (select : Ci1 F S4x512x1 → Ci32 F S4x512x1 → Ci32 F S4x512x1 → Ci32 F S4x512x1) rfl (by decide +kernel) (post_line.late V 11 (by decide +kernel)) (post_line.late V 11 (by decide +kernel)) (post_line.late V 11 (by decide +kernel))
/-- What `main_v111` holds. -/
theorem post_v111 : (Post V main_v111 : Cf32 F S4x512x7) = Host.gather gather_S4x16384x7_S4x512x1_S4x512x7_2_1_0_0_1_2_117 (V main_v73 : Cf32 F S4x16384x7) (Post V main_call19_v4 : Ci32 F S4x512x1) :=
  post_line.teq2 V 12 (Tf32 S4x16384x7 main_v73) (Ti32 S4x512x1 main_call19_v4) (Tf32 S4x512x7 main_v111) (fun x i => Host.gather gather_S4x16384x7_S4x512x1_S4x512x7_2_1_0_0_1_2_117 x i) rfl (by decide +kernel) (post_line.early V 12 (by decide +kernel)) (post_line.late V 12 (by decide +kernel))
/-- What `main_v112` holds. -/
theorem post_v112 : (Post V main_v112 : Cf32 F S4x512x7) = broadcastInDim S4x512x7 ![0, 1, 2] bcast_S4x512x1_S4x512x7_0_1_2 (Post V main_v109 : Cf32 F S4x512x1) :=
  post_line.eq1 V 13 rfl (by decide +kernel) (post_line.late V 13 (by decide +kernel))
/-- What `main_v113` holds. -/
theorem post_v113 : (Post V main_v113 : Cf32 F S4x512x7) = mulf (Post V main_v111 : Cf32 F S4x512x7) (Post V main_v112 : Cf32 F S4x512x7) :=
  post_line.eq2 V 14 rfl (by decide +kernel) (post_line.late V 14 (by decide +kernel)) (post_line.late V 14 (by decide +kernel))
/-- What `main_v114` holds. -/
theorem post_v114 : (Post V main_v114 : Ci32 F S4x512x1) = broadcastInDim S4x512x1 ![0, 1] bcast_S4x512_S4x512x1_0_1 (Post V main_v106 : Ci32 F S4x512) :=
  post_line.eq1 V 15 rfl (by decide +kernel) (post_line.late V 15 (by decide +kernel))
/-- What `main_call20_c` holds. -/
theorem post_call20_c : (Post V main_call20_c : Ci32 F S_) = (constantI S_ 32 0#32) :=
  post_line.eq0 V 16 rfl (by decide +kernel)
/-- What `main_call20_v0` holds. -/
theorem post_call20_v0 : (Post V main_call20_v0 : Ci32 F S4x512x1) = (broadcastInDim S4x512x1 ![] bcast_S_S4x512x1) (Post V main_call20_c : Ci32 F S_) :=
  post_line.eq1 V 17 rfl (by decide +kernel) (post_line.late V 17 (by decide +kernel))
/-- What `main_call20_v1` holds. -/
theorem post_call20_v1 : (Post V main_call20_v1 : Ci1 F S4x512x1) = ((cmpi .slt) : Ci32 F S4x512x1 → Ci32 F S4x512x1 → Ci1 F S4x512x1) (Post V main_v114 : Ci32 F S4x512x1) (Post V main_call20_v0 : Ci32 F S4x512x1) :=
  post_line.teq2 V 18 (Ti32 S4x512x1 main_v114) (Ti32 S4x512x1 main_call20_v0) (Ti1 S4x512x1 main_call20_v1) ((cmpi .slt) : Ci32 F S4x512x1 → Ci32 F S4x512x1 → Ci1 F S4x512x1) rfl (by decide +kernel) (post_line.late V 18 (by decide +kernel)) (post_line.late V 18 (by decide +kernel))
/-- What `main_call20_c_0` holds. -/
theorem post_call20_c_0 : (Post V main_call20_c_0 : Ci32 F S_) = (constantI S_ 32 16384#32) :=
  post_line.eq0 V 19 rfl (by decide +kernel)
/-- What `main_call20_v2` holds. -/
theorem post_call20_v2 : (Post V main_call20_v2 : Ci32 F S4x512x1) = (broadcastInDim S4x512x1 ![] bcast_S_S4x512x1) (Post V main_call20_c_0 : Ci32 F S_) :=
  post_line.eq1 V 20 rfl (by decide +kernel) (post_line.late V 20 (by decide +kernel))
/-- What `main_call20_v3` holds. -/
theorem post_call20_v3 : (Post V main_call20_v3 : Ci32 F S4x512x1) = (addi : Ci32 F S4x512x1 → Ci32 F S4x512x1 → Ci32 F S4x512x1) (Post V main_v114 : Ci32 F S4x512x1) (Post V main_call20_v2 : Ci32 F S4x512x1) :=
  post_line.teq2 V 21 (Ti32 S4x512x1 main_v114) (Ti32 S4x512x1 main_call20_v2) (Ti32 S4x512x1 main_call20_v3) (addi : Ci32 F S4x512x1 → Ci32 F S4x512x1 → Ci32 F S4x512x1) rfl (by decide +kernel) (post_line.late V 21 (by decide +kernel)) (post_line.late V 21 (by decide +kernel))
/-- What `main_call20_v4` holds. -/
theorem post_call20_v4 : (Post V main_call20_v4 : Ci32 F S4x512x1) = (select : Ci1 F S4x512x1 → Ci32 F S4x512x1 → Ci32 F S4x512x1 → Ci32 F S4x512x1) (Post V main_call20_v1 : Ci1 F S4x512x1) (Post V main_call20_v3 : Ci32 F S4x512x1) (Post V main_v114 : Ci32 F S4x512x1) :=
  post_line.teq3 V 22 (Ti1 S4x512x1 main_call20_v1) (Ti32 S4x512x1 main_call20_v3) (Ti32 S4x512x1 main_v114) (Ti32 S4x512x1 main_call20_v4) (select : Ci1 F S4x512x1 → Ci32 F S4x512x1 → Ci32 F S4x512x1 → Ci32 F S4x512x1) rfl (by decide +kernel) (post_line.late V 22 (by decide +kernel)) (post_line.late V 22 (by decide +kernel)) (post_line.late V 22 (by decide +kernel))
/-- What `main_v115` holds. -/
theorem post_v115 : (Post V main_v115 : Cf32 F S4x512x1) = Host.gather gather_S4x16384x1_S4x512x1_S4x512x1_2_1_0_0_1_2_111 (V main_arg0 : Cf32 F S4x16384x1) (Post V main_call20_v4 : Ci32 F S4x512x1) :=
  post_line.teq2 V 23 (Tf32 S4x16384x1 main_arg0) (Ti32 S4x512x1 main_call20_v4) (Tf32 S4x512x1 main_v115) (fun x i => Host.gather gather_S4x16384x1_S4x512x1_S4x512x1_2_1_0_0_1_2_111 x i) rfl (by decide +kernel) (post_line.early V 23 (by decide +kernel)) (post_line.late V 23 (by decide +kernel))
/-- What `main_v116` holds. -/
theorem post_v116 : (Post V main_v116 : Cf32 F S4x512x1) = mulf (Post V main_v115 : Cf32 F S4x512x1) (Post V main_v109 : Cf32 F S4x512x1) :=
  post_line.eq2 V 24 rfl (by decide +kernel) (post_line.late V 24 (by decide +kernel)) (post_line.late V 24 (by decide +kernel))

end Cert.ReferenceIdeal.Value

end
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.RefPreEq
public import proofs.«01_k».proof.Proof.RefTripEq
public import proofs.«01_k».proof.Proof.RefPostEq

@[expose] public section

set_option maxRecDepth 16384

noncomputable section
namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches -/

/-- A stretch before plain ones, where the buffers that its operations allocate are listed and each list is empty. -/
theorem plain_step {ops : List (HloOp τ sig (Elt F))} {rest : List (List (HloOp τ sig (Elt F)))} (hs : ops.Forall fun op => op.bufs ⊆ tcRefs τ sig)
    (hf : ops.map HloOp.fresh = ops.map fun _ => ∅) (h : Plain rest) : Plain (ops :: rest) :=
  .cons hs h (hf := List.forall_iff_forall_mem.mp (StableHlo.forall_fresh_of_map hf))

/-- The condition region's two operations: the bound, and the trip counter compared with it. -/
abbrev condOps : List (HloOp τ sig (Elt F)) :=
  [ StableHlo.nullary main_while0c_c_31 (constantI S_ 32 512#32),
    StableHlo.binary main_v105_6 main_while0c_c_31 main_while0c_v117 (cmpi .slt) ]

/-- The program's stretches before the loop. -/
abbrev preI : List (List (HloOp τ sig (Elt F))) :=
  [hostOps0, hostOps0_1, hostOps0_2, hostOps0_3, hostOps0_4, hostOps0_5, hostOps0_6, hostOps0_7, hostOps0_8, hostOps0_9, hostOps0_10,
  hostOps0_11, hostOps0_12, hostOps0_13, hostOps0_14, hostOps0_15, hostOps0_16]
/-- The stretches of the loop's body. -/
abbrev bodyI : List (List (HloOp τ sig (Elt F))) :=
  [while0Ops0, while0Ops0_1, while0Ops0_2, while0Ops0_3, while0Ops0_4, while0Ops0_5, while0Ops0_6, while0Ops0_7, while0Ops0_8,
  while0Ops0_9, while0Ops0_10, while0Ops0_11, while0Ops0_12, while0Ops0_13, while0Ops0_14, while0Ops0_15, while0Ops0_16,
  while0Ops0_17, while0Ops0_18, while0Ops0_19, while0Ops0_20]
/-- The program's stretches after the loop. -/
abbrev postI : List (List (HloOp τ sig (Elt F))) :=
  [hostOps0_17, hostOps0_18, hostOps0_19, hostOps0_20, hostOps0_21]

/-- The stretches before the loop allocate no buffer and touch the TensorCore's buffers only. -/
theorem hpre : Plain (preI (F := F)) :=
  plain_step hostOps0_sub rfl <| plain_step hostOps0_1_sub rfl <| plain_step hostOps0_2_sub rfl <| plain_step hostOps0_3_sub rfl <|
  plain_step hostOps0_4_sub rfl <| plain_step hostOps0_5_sub rfl <| plain_step hostOps0_6_sub rfl <| plain_step hostOps0_7_sub rfl <|
  plain_step hostOps0_8_sub rfl <| plain_step hostOps0_9_sub rfl <| plain_step hostOps0_10_sub rfl <| plain_step hostOps0_11_sub rfl <|
  plain_step hostOps0_12_sub rfl <| plain_step hostOps0_13_sub rfl <| plain_step hostOps0_14_sub rfl <| plain_step hostOps0_15_sub rfl <|
  plain_step hostOps0_16_sub rfl <| Plain.nil
/-- The stretches of the loop's body allocate no buffer and touch the TensorCore's buffers only. -/
theorem hbodyI : Plain (bodyI (F := F)) :=
  plain_step while0Ops0_sub rfl <| plain_step while0Ops0_1_sub rfl <| plain_step while0Ops0_2_sub rfl <| plain_step while0Ops0_3_sub rfl <|
  plain_step while0Ops0_4_sub rfl <| plain_step while0Ops0_5_sub rfl <| plain_step while0Ops0_6_sub rfl <| plain_step while0Ops0_7_sub rfl <|
  plain_step while0Ops0_8_sub rfl <| plain_step while0Ops0_9_sub rfl <| plain_step while0Ops0_10_sub rfl <| plain_step while0Ops0_11_sub rfl <|
  plain_step while0Ops0_12_sub rfl <| plain_step while0Ops0_13_sub rfl <| plain_step while0Ops0_14_sub rfl <| plain_step while0Ops0_15_sub rfl <|
  plain_step while0Ops0_16_sub rfl <| plain_step while0Ops0_17_sub rfl <| plain_step while0Ops0_18_sub rfl <| plain_step while0Ops0_19_sub rfl <|
  plain_step while0Ops0_20_sub rfl <| Plain.nil
/-- The stretches after the loop allocate no buffer and touch the TensorCore's buffers only. -/
theorem hpost : Plain (postI (F := F)) :=
  plain_step hostOps0_17_sub rfl <| plain_step hostOps0_18_sub rfl <| plain_step hostOps0_19_sub rfl <| plain_step hostOps0_20_sub rfl <|
  plain_step hostOps0_21_sub rfl <| Plain.nil

/-- The stretches before the loop are one line. -/
theorem pre_flat (V : Valuation τ sig (Elt F)) : afterL preI V = Pre V := by
  rw [afterL_eq_after_flatten]; rfl

/-- The stretches of the loop's body are one line. -/
theorem body_flat (V : Valuation τ sig (Elt F)) : afterL bodyI V = Trip V := by
  rw [afterL_eq_after_flatten]; rfl

/-- The stretches after the loop are one line. -/
theorem post_flat (V : Valuation τ sig (Elt F)) : afterL postI V = Post V := by
  rw [afterL_eq_after_flatten]; rfl

/-- The condition writes its own two temporaries only. -/
theorem cond_keep (V : Valuation τ sig (Elt F)) {r : Ref sig .tc} (h : r ∉ [main_while0c_c_31, main_while0c_v117]) :
    after condOps V (Proc.devRef .tc r) = V (Proc.devRef .tc r) :=
  (show Line (condOps : List (HloOp τ sig (Elt F))) [main_while0c_c_31, main_while0c_v117] from .cons rfl (.cons rfl .nil)).keep h V

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The counter is the loop's lower bound at the loop's entry. -/
theorem ctr_entry (c : Dev nD) : entryContents preI m c (Proc.devRef .tc main_v105_6) = fun _ => (0#32 : BitVec 32) :=
  (congrFun (pre_flat (launchContents m c)) _).trans ((pre_v105_6 _).trans (pre_c_21 _))

/-- Before the `k`-th condition the counter is the loop's induction variable at `k`. -/
theorem atK_ctr (c : Dev nD) : ∀ k, atK m k c (Proc.devRef .tc main_v105_6) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, body_flat]
    refine (trip_v105_6 _).trans ((trip_v177 _).trans ?_)
    rw [cond_keep _ (by decide +kernel), atK_ctr c k, trip_c_42, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v105_6 HostLoop.idx0)
        (HloOp.result _ (atK m k c) main_while0c_c_31 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 512 m ρ (cond_spec m)

end Cert.ReferenceIdeal.Value

end
-- ==== Proof.RefFrame.lean ====
module

public import proofs.«01_k».proof.Proof.RefRun

@[expose] public section

set_option maxRecDepth 16384

noncomputable section
/-! # The reference's whole run

The run's final contents as the three stretches' contents one after the other, the arguments kept, and the semaphore
counters at zero: the reference has no semaphore at all. -/

namespace Cert.ReferenceIdeal.Value

open Cert.ReferenceIdeal Cert.ReferenceIdeal.Gen
open Idealize.ShloMosaic Idealize.ShloMosaic.TcCoe
open Idealize.SL.Sem
open Idealize.ShloMosaic.StableHlo

variable {F : FTy → Type} [FloatOps F]

/-- What the buffers hold after `k` trips, the condition's operations run before each. -/
def Loop (V : Valuation τ sig (Elt F)) : ℕ → Valuation τ sig (Elt F)
  | 0 => V
  | k + 1 => Trip (after condOps (Loop V k))

/-- What the buffers hold at the end of the reference. -/
def Final (V : Valuation τ sig (Elt F)) : Valuation τ sig (Elt F) := Post (after condOps (Loop (Pre V) 512))

variable (m : (ℓ : Loc nD τ sig) → Buf (Elt F) ℓ) (ρ : Dev nD → PrngReg)

/-- The contents before the `k`-th condition are those after `k` trips. -/
theorem atK_loop (c : Dev nD) : ∀ k, atK m k c = Loop (Pre (launchContents m c)) k
  | 0 => pre_flat _
  | k + 1 => by
    show afterL bodyI (after condOps (atK m k c)) = Trip (after condOps (Loop _ k))
    rw [atK_loop c k, body_flat]

/-- The run's final contents. -/
theorem final_eq (c : Dev nD) : finalContents condOps preI bodyI postI 512 m c = Final (launchContents m c) := by
  show afterL postI (after condOps (atK m 512 c)) = _
  rw [atK_loop, post_flat]; rfl

/-- A reference that neither the loop's body nor its condition writes is kept by the loop. -/
theorem loop_keep (V : Valuation τ sig (Elt F)) {r : Ref sig .tc} (h : r ∉ [main_while0c_c_31, main_while0c_v117]) (h' : r ∉ tripW) :
    ∀ k, Loop V k (Proc.devRef .tc r) = V (Proc.devRef .tc r)
  | 0 => rfl
  | k + 1 => by
    show Trip (after condOps (Loop V k)) _ = _
    rw [trip_keep _ h', cond_keep _ h, loop_keep V h h' k]

/-- A reference that no operation writes ends as it began. -/
theorem final_keep (V : Valuation τ sig (Elt F)) {r : Ref sig .tc} (h : r ∉ [main_while0c_c_31, main_while0c_v117]) (h₁ : r ∉ preW) (h₂ : r ∉ tripW)
    (h₃ : r ∉ postW) : Final V (Proc.devRef .tc r) = V (Proc.devRef .tc r) := by
  unfold Final
  rw [post_keep _ h₃, cond_keep _ h, loop_keep _ h h₂, pre_keep _ h₁]

/-- The reference's signature has no semaphore. -/
instance : IsEmpty (SemLoc sig) := ⟨fun s => by cases s with | reg s => exact s.elim0 | dma s => exact s.elim0⟩

/-- Every run of the reference ends with its buffers at `Final` of the start's, its arguments as they were and every
    semaphore counter at zero. -/
theorem run_results : θ_run (defs (F := F)) (onTc (τ := τ) (main (F := F))) ⟨m, fun _ => 0, ρ⟩
    (fun r => (∀ c : Dev nD,
      (r.2.mem ((c.tc : Thread nD τ).loc main_v113) = Final (launchContents m c) (Proc.devRef .tc main_v113)
      ∧ r.2.mem ((c.tc : Thread nD τ).loc main_v116) = Final (launchContents m c) (Proc.devRef .tc main_v116))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ ⟨m, fun _ => 0, ρ⟩).mono (fun r h => ⟨fun c => ?_, funext fun g => isEmptyElim g.2⟩) (run_fold m ρ)
  have hk : ∀ b : Ref sig .tc, (Proc.devRef .tc b : DevRef τ sig).isScoped = false →
      r.2.mem ((c.tc : Thread nD τ).loc b) = Final (launchContents m c) (Proc.devRef .tc b) := fun b hb => by
    rw [h c b hb, final_eq]
  have ha : ∀ b : Ref sig .tc, (Proc.devRef .tc b : DevRef τ sig).isScoped = false → b ∉ [main_while0c_c_31, main_while0c_v117] → b ∉ preW →
      b ∉ tripW → b ∉ postW → r.2.mem ((c.tc : Thread nD τ).loc b) = m ((c.tc : Thread nD τ).loc b) := fun b hb h₀ h₁ h₂ h₃ =>
    (hk b hb).trans (final_keep _ h₀ h₁ h₂ h₃)
  exact ⟨⟨hk main_v113 rfl, hk main_v116 rfl⟩,
    ha main_arg0 rfl (by decide +kernel) (by decide +kernel) (by decide +kernel) (by decide +kernel),
    ha main_arg1 rfl (by decide +kernel) (by decide +kernel) (by decide +kernel) (by decide +kernel),
    ha main_arg2 rfl (by decide +kernel) (by decide +kernel) (by decide +kernel) (by decide +kernel)⟩

end Cert.ReferenceIdeal.Value

end
-- ==== Proof.Spec.lean ====
module

public import Idealize.ShloMosaic.PureOps.Ideal
public import Idealize.ShloMosaic.PureOps.Ideal.Laws

@[expose] public section

set_option maxRecDepth 16384

noncomputable section
/-! # What the kernel and the reference both compute

Greedy suppression of a row of boxes over the extended reals, and the box a row of regression channels encodes. Nothing
here mentions a program. -/

namespace Cert.Spec

open Idealize.ShloMosaic
open scoped Classical

/-! ## The first place of the maximum -/

/-- `j` is the first place where `f` takes its greatest value. -/
def FirstMax {N : ℕ} (f : Fin N → EReal) (j : Fin N) : Prop := ∀ n, f n ≤ f j ∧ (n < j → f n < f j)

/-- There is one such place at most. -/
theorem FirstMax.unique {N : ℕ} {f : Fin N → EReal} {i j : Fin N} (hi : FirstMax f i) (hj : FirstMax f j) : i = j := by
  rcases lt_trichotomy i j with h | h | h
  · exact absurd ((hj i).2 h) (not_lt.2 (hi j).1)
  · exact h
  · exact absurd ((hi j).2 h) (not_lt.2 (hj i).1)

/-- A row that is not empty has one. -/
theorem exists_firstMax {N : ℕ} (f : Fin (N + 1) → EReal) : ∃ j, FirstMax f j := by
  obtain ⟨m, -, hm⟩ := Finset.exists_max_image Finset.univ f Finset.univ_nonempty
  have hne : (Finset.univ.filter fun n => f n = f m).Nonempty := ⟨m, by simp⟩
  refine ⟨(Finset.univ.filter fun n => f n = f m).min' hne, fun n => ?_⟩
  have hj : f ((Finset.univ.filter fun n => f n = f m).min' hne) = f m :=
    (Finset.mem_filter.1 (Finset.min'_mem _ hne)).2
  have hle := hm n (Finset.mem_univ n)
  rw [← hj] at hle
  refine ⟨hle, fun hlt => lt_of_le_of_ne hle fun he => ?_⟩
  exact absurd (Finset.min'_le _ n (by rw [Finset.mem_filter]; exact ⟨Finset.mem_univ n, he.trans hj⟩)) (not_le.2 hlt)

/-- The first place of the maximum. -/
def pick {N : ℕ} (f : Fin (N + 1) → EReal) : Fin (N + 1) := (exists_firstMax f).choose

/-- `pick` is the first place of the maximum. -/
theorem pick_spec {N : ℕ} (f : Fin (N + 1) → EReal) : FirstMax f (pick f) := (exists_firstMax f).choose_spec

/-- Whatever has the property is `pick`. -/
theorem pick_eq {N : ℕ} {f : Fin (N + 1) → EReal} {j : Fin (N + 1)} (h : FirstMax f j) : pick f = j := (pick_spec f).unique h

/-! ## Greedy suppression of one row of boxes -/

/-- A row of boxes: the score, the corners and the area of each. -/
structure Row where
  s : Fin 16384 → EReal
  x1 : Fin 16384 → EReal
  y1 : Fin 16384 → EReal
  x2 : Fin 16384 → EReal
  y2 : Fin 16384 → EReal
  ar : Fin 16384 → EReal

namespace Row
variable (B : Row)

/-- The area boxes `j` and `n` share. -/
def inter (j n : Fin 16384) : EReal :=
  max (min (B.x2 j) (B.x2 n) - max (B.x1 j) (B.x1 n)) 0 * max (min (B.y2 j) (B.y2 n) - max (B.y1 j) (B.y1 n)) 0

/-- Their overlap: the shared area over the area of the union, the latter kept above a small constant. -/
def iou (j n : Fin 16384) : EReal :=
  Ideal.div (B.inter j n) (max (B.ar j + B.ar n - B.inter j n) (Ideal.ofBits .f32 0x322BCC77#32))

/-- The scores with the suppressed boxes at minus infinity. -/
def masked (S : Fin 16384 → Prop) (n : Fin 16384) : EReal := if S n then ⊥ else B.s n

/-- The box a round selects. -/
def first (S : Fin 16384 → Prop) : Fin 16384 := pick (N := 16383) (B.masked S)

/-- Whether the round selects a box that counts. -/
def live (S : Fin 16384 → Prop) : Prop := ⊥ < B.masked S (B.first S)

/-- The marks after a round. -/
def next (S : Fin 16384 → Prop) : Fin 16384 → Prop := fun n =>
  if B.live S then S n ∨ Ideal.ofBits .f32 0x3F59999A#32 < B.iou (B.first S) n ∨ n = B.first S else S n

/-- The marks before round `t`. -/
def sup : ℕ → Fin 16384 → Prop
  | 0 => fun _ => False
  | t + 1 => B.next (sup t)

end Row

/-- One where `p` holds and zero elsewhere. -/
def unit (p : Prop) : EReal := if p then 1 else 0

/-- The indicator is one where its condition holds. -/
theorem unit_pos {p : Prop} (h : p) : unit p = 1 := if_pos h
/-- The indicator is zero where its condition fails. -/
theorem unit_neg {p : Prop} (h : ¬p) : unit p = 0 := if_neg h

/-- A sum weighted by the indicator of one place is the value there. -/
theorem sum_onehot {N : ℕ} (j : Fin N) (f : Fin N → EReal) (w : Fin N → EReal) (hw : ∀ n, w n = unit (n = j)) :
    (∑ n, w n * f n) = f j := by
  rw [Finset.sum_eq_single j]
  · rw [hw, unit_pos rfl, one_mul]
  · intro n _ hn; rw [hw, unit_neg hn, zero_mul]
  · intro h; exact absurd (Finset.mem_univ j) h

/-! ## The box a row of regression channels encodes -/

/-- The channel `o + k`. -/
def chan (o : ℕ) (h : o + 12 ≤ 76) (k : Fin 12) : Fin 76 := ⟨o + k.val, by omega⟩

/-- The bin twelve channels from `o` on select. -/
def bin (g : Fin 76 → EReal) (o : ℕ) (h : o + 12 ≤ 76) : Fin 12 := pick (N := 11) fun k => g (chan o h k)

/-- The bin's number as a value. -/
def binv (g : Fin 76 → EReal) (o : ℕ) (h : o + 12 ≤ 76) : EReal := (((bin g o h).val : ℝ) : EReal)

/-- The residual channel the bin at `o` selects among those from `r` on. -/
def resid (g : Fin 76 → EReal) (o r : ℕ) (h : o + 12 ≤ 76) (h' : r + 12 ≤ 76) : EReal := g (chan r h' (bin g o h))

/-- A position along one axis: the bin's centre, the residual and the point. -/
def place (g : Fin 76 → EReal) (o r : ℕ) (h : o + 12 ≤ 76) (h' : r + 12 ≤ 76) (p : EReal) : EReal :=
  binv g o h * Ideal.ofBits .f32 0x3F000000#32 + Ideal.ofBits .f32 0xC0300000#32
    + resid g o r h h' * Ideal.ofBits .f32 0x3F000000#32 + p

/-- The angle before it is brought into one turn. -/
def rawAngle (g : Fin 76 → EReal) : EReal :=
  binv g 49 (by decide) * Ideal.ofBits .f32 0x3F060A92#32 + resid g 49 61 (by decide) (by decide) * Ideal.ofBits .f32 0x3E860A92#32

/-- An angle brought into one turn. -/
def turn (a : EReal) : EReal :=
  a - Ideal.liftRound Int.floor (Ideal.div a (Ideal.ofBits .f32 0x40C90FDB#32)) * Ideal.ofBits .f32 0x40C90FDB#32

/-- An angle between minus half a turn and half a turn. -/
def angle (a : EReal) : EReal :=
  if Ideal.ofBits .f32 0x40490FDB#32 < turn a then turn a - Ideal.ofBits .f32 0x40C90FDB#32 else turn a

/-- A side of the box. -/
def side (g : EReal) (w : BitVec 32) : EReal := g * Ideal.ofBits .f32 w + Ideal.ofBits .f32 w

/-- The seven numbers of the box. -/
def box (g : Fin 76 → EReal) (p : Fin 3 → EReal) : Fin 7 → EReal
  | ⟨0, _⟩ => place g 0 24 (by decide) (by decide) (p 0)
  | ⟨1, _⟩ => p 1 + g 48
  | ⟨2, _⟩ => place g 12 36 (by decide) (by decide) (p 2)
  | ⟨3, _⟩ => side (g 73) 0x3FC347E8#32
  | ⟨4, _⟩ => side (g 74) 0x3FD074E5#32
  | ⟨5, _⟩ => side (g 75) 0x407884FB#32
  | ⟨6, _⟩ => angle (rawAngle g)

/-- The row of boxes that scores and decoded boxes make: corners in the plane of channels 0 and 2, sides channels 3 and 5. -/
def rowOf (s : Fin 16384 → EReal) (P : Fin 7 → Fin 16384 → EReal) : Row where
  s := s
  x1 n := P 0 n - Ideal.div (P 3 n) (Ideal.ofBits .f32 0x40000000#32)
  y1 n := P 2 n - Ideal.div (P 5 n) (Ideal.ofBits .f32 0x40000000#32)
  x2 n := P 0 n + Ideal.div (P 3 n) (Ideal.ofBits .f32 0x40000000#32)
  y2 n := P 2 n + Ideal.div (P 5 n) (Ideal.ofBits .f32 0x40000000#32)
  ar n := max ((P 0 n + Ideal.div (P 3 n) (Ideal.ofBits .f32 0x40000000#32)) - (P 0 n - Ideal.div (P 3 n) (Ideal.ofBits .f32 0x40000000#32))) 0
    * max ((P 2 n + Ideal.div (P 5 n) (Ideal.ofBits .f32 0x40000000#32)) - (P 2 n - Ideal.div (P 5 n) (Ideal.ofBits .f32 0x40000000#32))) 0

/-! ## What both programs return -/

section Answer
variable (s : Fin 4 → Fin 16384 → EReal) (P : Fin 4 → Fin 7 → Fin 16384 → EReal)

/-- The box round `t` selects of row `b`. -/
def sel (b : Fin 4) (t : ℕ) : Fin 16384 := (rowOf (s b) (P b)).first ((rowOf (s b) (P b)).sup t)

/-- Whether it counts. -/
def ok (b : Fin 4) (t : ℕ) : Prop := (rowOf (s b) (P b)).live ((rowOf (s b) (P b)).sup t)

/-- Column `ch` of the selected box, or zero where it does not count. -/
def outBox (b : Fin 4) (t : ℕ) (ch : Fin 7) : EReal := P b ch (sel s P b t) * unit (ok s P b t)

/-- Its score, or zero. -/
def outScore (b : Fin 4) (t : ℕ) : EReal := s b (sel s P b t) * unit (ok s P b t)

end Answer

end Cert.Spec
-- ==== Proof.SpecLemmas.lean ====
module

public import proofs.«01_k».proof.Proof.Spec
public import Idealize.ShloMosaic.Lib.ValueIdxCore
public import Idealize.ShloMosaic.PureOps.Ideal.Laws
public import Idealize.ShloMosaic.Lib.IdealHost

@[expose] public section

set_option maxRecDepth 16384

noncomputable section
/-! # Ways to find the first place of the maximum, and the literals -/

namespace Cert.Spec

open Idealize.ShloMosaic
open scoped Classical

/-! ## Literals -/

/-- The literal of minus infinity. -/
theorem lit_neg_inf : Ideal.ofBits .f32 0xFF800000#32 = ⊥ := by simp [Ideal.ofBits, Ideal.ieee]
/-- The literal 1. -/
theorem lit_one : Ideal.ofBits .f32 0x3F800000#32 = 1 := by
  rw [show (1 : EReal) = ((1 : ℝ) : EReal) by norm_cast]
  simp [Ideal.ofBits, Ideal.ieee, -EReal.coe_mul]; norm_num
/-- The literal 0. -/
theorem lit_zero : Ideal.ofBits .f32 0x00000000#32 = 0 := Ideal.ofBits_zero_f32
/-- The literal 1/2. -/
theorem lit_half : Ideal.ofBits .f32 0x3F000000#32 = ((1 / 2 : ℝ) : EReal) := by
  simp [Ideal.ofBits, Ideal.ieee, -EReal.coe_mul]; norm_num
/-- The literal 1/4. -/
theorem lit_quarter : Ideal.ofBits .f32 0x3E800000#32 = ((1 / 4 : ℝ) : EReal) := by
  simp [Ideal.ofBits, Ideal.ieee, -EReal.coe_mul]; norm_num
/-- The literal 3. -/
theorem lit_three : Ideal.ofBits .f32 0x40400000#32 = ((3 : ℝ) : EReal) := by
  simp [Ideal.ofBits, Ideal.ieee, -EReal.coe_mul]; norm_num
/-- The literal -2.75. -/
theorem lit_offset : Ideal.ofBits .f32 0xC0300000#32 = ((-(11 / 4) : ℝ) : EReal) := by
  simp [Ideal.ofBits, Ideal.ieee, -EReal.coe_mul, -EReal.coe_neg]; norm_num
/-- The literal that stands for a full turn, 2π rounded. -/
theorem lit_turn : Ideal.ofBits .f32 0x40C90FDB#32 = ((13176795 / 2097152 : ℝ) : EReal) := by
  simp [Ideal.ofBits, Ideal.ieee, -EReal.coe_mul]; norm_num

/-! ## The kernel's way: a running maximum over twelve channels -/

/-- `v` and `i` are the maximum of the channels up to `k` and its first place. -/
def Lead (f : Fin 12 → EReal) (k : ℕ) (v i : EReal) : Prop :=
  ∃ j : Fin 12, j.val ≤ k ∧ v = f j ∧ i = ((j.val : ℝ) : EReal) ∧ ∀ n : Fin 12, n.val ≤ k → f n ≤ f j ∧ (n < j → f n < f j)

/-- It starts at channel 0. -/
theorem Lead.zero (f : Fin 12 → EReal) (i : EReal) (hi : i = ((0 : ℝ) : EReal)) : Lead f 0 (f 0) i :=
  ⟨0, le_rfl, rfl, by rw [hi]; norm_num, fun n hn => by
    have : n = 0 := Fin.ext (Nat.le_zero.1 hn)
    subst this
    exact ⟨le_rfl, fun h => absurd h (lt_irrefl _)⟩⟩

/-- A strictly greater channel takes the lead. -/
theorem Lead.step {f : Fin 12 → EReal} {k : ℕ} {v i : EReal} (h : Lead f k v i) (c : Fin 12) (hc : c.val = k + 1) (w : EReal)
    (hw : w = ((c.val : ℝ) : EReal)) : Lead f (k + 1) (if v < f c then f c else v) (if v < f c then w else i) := by
  obtain ⟨j, hj, hv, hi, hall⟩ := h
  have hcase : ∀ n : Fin 12, n.val ≤ k + 1 → n.val ≤ k ∨ n = c := fun n hn => by
    rcases Nat.lt_or_ge k n.val with h | h
    · exact .inr (Fin.ext (by omega))
    · exact .inl h
  by_cases hlt : v < f c
  · rw [if_pos hlt, if_pos hlt]
    refine ⟨c, hc.le, rfl, hw, fun n hn => ?_⟩
    rcases hcase n hn with h | rfl
    · have : f n < f c := lt_of_le_of_lt (hall n h).1 (hv ▸ hlt)
      exact ⟨this.le, fun _ => this⟩
    · exact ⟨le_rfl, fun h => absurd h (lt_irrefl _)⟩
  · rw [if_neg hlt, if_neg hlt]
    refine ⟨j, hj.trans (Nat.le_succ k), hv, hi, fun n hn => ?_⟩
    rcases hcase n hn with h | rfl
    · exact hall n h
    · refine ⟨hv ▸ not_lt.1 hlt, fun h => absurd h (not_lt.2 ?_)⟩
      exact Fin.le_def.2 (by omega)

/-- At the end it is the first place of the maximum. -/
theorem Lead.pick {f : Fin 12 → EReal} {v i : EReal} (h : Lead f 11 v i) : i = (((pick (N := 11) f).val : ℝ) : EReal) := by
  obtain ⟨j, -, -, hi, hall⟩ := h
  rw [hi, pick_eq (N := 11) (j := j) fun n => hall n (by omega)]

/-- The kernel's gather: a sum of twelve selects picks the channel. -/
theorem gather_sum (g : Fin 12 → EReal) (j : Fin 12) :
    (∑ b : Fin 12, if ((j.val : ℝ) : EReal) = ((b.val : ℝ) : EReal) then g b else 0) = g j := by
  rw [Finset.sum_eq_single j]
  · rw [if_pos rfl]
  · intro b _ hb
    rw [if_neg]
    intro h
    exact hb (Fin.ext (Nat.cast_injective (EReal.coe_injective h)).symm)
  · intro h; exact absurd (Finset.mem_univ j) h

/-! ## The reference's way of bringing an angle into one turn -/

/-- The remainder with its sign corrected is the angle less its whole turns. -/
theorem turn_rem (a T : EReal) (hT : T = Ideal.ofBits .f32 0x40C90FDB#32) :
    (if (Ideal.remf a T < 0) ∧ Ideal.remf a T ≠ 0 then Ideal.remf a T + T else Ideal.remf a T) = turn a := by
  rw [lit_turn] at hT
  unfold turn
  rw [lit_turn, hT]
  set y : ℝ := 13176795 / 2097152 with hy
  have hy0 : (0 : ℝ) < y := by rw [hy]; norm_num
  have hdiv : ∀ x : EReal, Ideal.div x (y : EReal) = x * ((y⁻¹ : ℝ) : EReal) := fun x => by
    unfold Ideal.div
    rw [if_neg (by exact_mod_cast hy0.ne'), EReal.coe_inv]
  induction a using EReal.rec with
  | bot =>
    rw [hdiv, EReal.bot_mul_coe_of_pos (by positivity)]
    rw [show Ideal.remf ⊥ (y : EReal) = ⊥ from rfl, Ideal.liftRound_bot, EReal.bot_mul_coe_of_pos hy0]
    split_ifs <;> simp
  | top =>
    rw [hdiv, EReal.top_mul_coe_of_pos (by positivity)]
    rw [show Ideal.remf ⊤ (y : EReal) = ⊥ from rfl, Ideal.liftRound_top, EReal.top_mul_coe_of_pos hy0]
    split_ifs <;> simp
  | coe r =>
    rw [hdiv, ← EReal.coe_mul, Ideal.liftRound_coe, ← EReal.coe_mul, ← EReal.coe_sub]
    have hrem : Ideal.remf (r : EReal) (y : EReal) = ((r - y * (Ideal.truncInt (r / y) : ℝ) : ℝ) : EReal) := by
      change (if y = 0 then ⊥ else _) = _
      rw [if_neg hy0.ne']
    rw [hrem, ← div_eq_mul_inv]
    set q : ℝ := r / y with hq
    have hr : r = q * y := by rw [hq]; field_simp
    have hneg : (((r - y * (Ideal.truncInt q : ℝ) : ℝ) : EReal) < 0) ↔ r - y * (Ideal.truncInt q : ℝ) < 0 := by
      exact_mod_cast Iff.rfl
    have hne : (((r - y * (Ideal.truncInt q : ℝ) : ℝ) : EReal) ≠ 0) ↔ r - y * (Ideal.truncInt q : ℝ) ≠ 0 := by
      exact_mod_cast Iff.rfl
    by_cases h0 : 0 ≤ q
    · have ht : Ideal.truncInt q = ⌊q⌋ := if_pos h0
      rw [ht] at hneg ⊢
      rw [if_neg]
      · congr 1; ring
      · rintro ⟨h, -⟩
        have h := hneg.1 h
        have := Int.floor_le q
        nlinarith
    · have ht : Ideal.truncInt q = ⌈q⌉ := if_neg h0
      rw [ht] at hneg hne ⊢
      by_cases hi : (⌈q⌉ : ℝ) = q
      · have hf : (⌊q⌋ : ℝ) = q := by rw [← hi]; simp
        rw [if_neg, hf]
        · congr 1; rw [hi]; ring
        · rintro ⟨h, -⟩
          have h := hneg.1 h
          rw [hi] at h; nlinarith
      · have hc : q < (⌈q⌉ : ℝ) := lt_of_le_of_ne (Int.le_ceil q) (Ne.symm hi)
        have hfl : ⌊q⌋ = ⌈q⌉ - 1 := by
          rw [Int.floor_eq_iff]
          push_cast
          exact ⟨by have := Int.ceil_lt_add_one q; linarith, by linarith⟩
        have hlt : r - y * (⌈q⌉ : ℝ) < 0 := by nlinarith
        rw [if_pos ⟨hneg.2 hlt, hne.2 hlt.ne⟩, ← EReal.coe_add, hfl]
        congr 1; push_cast; ring

/-- A mark kept, or raised where a round counts: the arithmetic on zeros and ones is the logic. -/
theorem marks_step (a b c l : Prop) :
    unit a + unit l * (max (max (unit a) (unit b)) (unit c) - unit a) = unit (if l then a ∨ b ∨ c else a) := by
  have h11 : (1 : EReal) - 1 = 0 := by rw [← EReal.coe_one, ← EReal.coe_sub]; simp
  have h01 : (0 : EReal) ≤ 1 := zero_le_one
  by_cases ha : a <;> by_cases hb : b <;> by_cases hc : c <;> by_cases hl : l <;> simp [unit, ha, hb, hc, hl, h11, h01]

/-- A select on a greater-than comparison is a choice. -/
theorem sel_gt {α : Type} (x y : EReal) (a b : α) [Decidable (y < x)] :
    Scalar.select (FloatOps.cmpf (F := Ideal) (φ := .f32) .ogt x y) a b = if y < x then a else b := by
  by_cases h : y < x <;> simp [Ideal.cmpf_def, Ideal.cmp, Scalar.select, h]

/-- A select on an equality comparison is a choice. -/
theorem sel_eq {α : Type} (x y : EReal) (a b : α) [Decidable (x = y)] :
    Scalar.select (FloatOps.cmpf (F := Ideal) (φ := .f32) .oeq x y) a b = if x = y then a else b := by
  by_cases h : x = y <;> simp [Ideal.cmpf_def, Ideal.cmp, Scalar.select, h]

/-- A select on an equality of words is a choice. -/
theorem sel_weq {α : Type} {w : ℕ} (x y : BitVec w) (a b : α) [Decidable (x = y)] :
    Scalar.select (IntOp.cmpi .eq x y) a b = if x = y then a else b := by
  by_cases h : x = y
  · simp [IntOp.cmpi, Scalar.select, h]
  · have hb : (x == y) = false := beq_false_of_ne h
    simp [IntOp.cmpi, Scalar.select, h, hb]

/-- A mark is above one half exactly where it is set. -/
theorem half_lt_unit (p : Prop) : (Ideal.ofBits .f32 0x3F000000#32 < unit p) ↔ p := by
  rw [lit_half]
  by_cases h : p
  · rw [unit_pos h, ← EReal.coe_one, EReal.coe_lt_coe_iff]
    exact ⟨fun _ => h, fun _ => by norm_num⟩
  · rw [unit_neg h, ← EReal.coe_zero, EReal.coe_lt_coe_iff]
    exact ⟨fun h' => absurd h' (by norm_num), fun h' => absurd h' h⟩

/-- A choice between one and zero is the indicator. -/
theorem if_unit (p : Prop) [Decidable p] : (if p then (1 : EReal) else 0) = unit p := by
  by_cases h : p
  · rw [if_pos h, unit_pos h]
  · rw [if_neg h, unit_neg h]

end Cert.Spec
-- ==== Proof.Rows.lean ====
module

public import proofs.«01_k».proof.Proof.SpecLemmas
public import proofs.«01_k».proof.ReferenceIdeal
public import Idealize.ShloMosaic.Lib.ValueIdxCore
public import Idealize.ShloMosaic.Lib.Pointwise.Reduce

@[expose] public section

set_option maxRecDepth 16384

noncomputable section
/-! # Reductions along the rows of a matrix -/

namespace Cert.Spec

open Idealize.ShloMosaic hiding ix1 ix2
open Idealize.ShloMosaic.ValueIdx (ix1 ix2)
open scoped Classical

/-- The word of a number below 2³¹, read signed, is the number. -/
theorem toInt_word (n : ℕ) (h : n < 2147483648) : (BitVec.ofNat 32 n).toInt = n := by
  rw [BitVec.toInt_eq_toNat_cond, BitVec.toNat_ofNat, Nat.mod_eq_of_lt (by omega), if_pos (by omega)]

section kernel
variable {R N : ℕ}

/-- A row's sum. -/
theorem row_sum (x : FVec Ideal ⟨2, ![R, N]⟩ .f32) (a : BitVec 32) (h : (⟨2, ![R, N]⟩ : Shape).Reduces [1] ⟨1, ![R]⟩)
    (hφ : FKind.Formats .f32) (ha : a = FKind.add.neutral .f32 hφ) (r : Fin R) :
    multiReduction .add [1] ⟨1, ![R]⟩ x a h hφ ha (ix1 r) = ∑ n : Fin N, x (ix2 r n) :=
  h.sum_fiber_r2_a1 (ix1 r) x

/-- A row's maximum is what stands at its first place. -/
theorem row_max (x : FVec Ideal ⟨2, ![R, N + 1]⟩ .f32) (h : (⟨2, ![R, N + 1]⟩ : Shape).Reduces [1] ⟨1, ![R]⟩)
    (hφ : FKind.Formats .f32) (ha : 0xFF800000#32 = FKind.maximumf.neutral .f32 hφ) (r : Fin R) :
    multiReduction .maximumf [1] ⟨1, ![R]⟩ x 0xFF800000#32 h hφ ha (ix1 r) = x (ix2 r (pick fun n => x (ix2 r n))) := by
  rw [multiReduction_maximumf_eq_fold]
  refine (h.fold_fiber_r2_a1 (ix1 r) _ _ x).trans ?_
  change (Finset.univ : Finset (Fin (N + 1))).fold max (Ideal.ofBits .f32 0xFF800000#32) (fun n => x (ix2 r n)) = _
  rw [lit_neg_inf]
  refine le_antisymm (Finset.fold_max_le _ |>.2 ⟨bot_le, fun n _ => (pick_spec (fun n => x (ix2 r n)) n).1⟩) ?_
  exact Finset.le_fold_max _ |>.2 (.inr ⟨_, Finset.mem_univ _, le_rfl⟩)

/-- The least of a family of words is one of them and not above any. -/
theorem fold_min {ι : Type} (s : Finset ι) (b : BitVec 32) (w : ι → BitVec 32) :
    (s.fold IntOp.minsi b w = b ∨ ∃ i ∈ s, s.fold IntOp.minsi b w = w i)
      ∧ (s.fold IntOp.minsi b w).toInt ≤ b.toInt ∧ ∀ i ∈ s, (s.fold IntOp.minsi b w).toInt ≤ (w i).toInt := by
  induction s using Finset.induction_on with
  | empty => exact ⟨.inl rfl, le_rfl, fun i hi => absurd hi (Finset.notMem_empty i)⟩
  | insert a s ha ih =>
    obtain ⟨h1, h2, h3⟩ := ih
    rw [Finset.fold_insert ha]
    unfold IntOp.minsi
    by_cases hlt : (w a).slt (s.fold IntOp.minsi b w)
    · have hl : (w a).toInt < (s.fold IntOp.minsi b w).toInt := by simpa [BitVec.slt] using hlt
      unfold IntOp.minsi at hlt hl h2 h3
      rw [if_pos hlt]
      refine ⟨.inr ⟨a, Finset.mem_insert_self a s, rfl⟩, (hl.trans_le h2).le, fun i hi => ?_⟩
      rcases Finset.mem_insert.1 hi with rfl | hi
      · exact le_rfl
      · exact (hl.trans_le (h3 i hi)).le
    · have hl : (s.fold IntOp.minsi b w).toInt ≤ (w a).toInt := by simpa [BitVec.slt] using hlt
      unfold IntOp.minsi at hlt hl h1 h2 h3
      rw [if_neg hlt]
      refine ⟨?_, h2, fun i hi => ?_⟩
      · rcases h1 with h | ⟨i, hi, h⟩
        · exact .inl h
        · exact .inr ⟨i, Finset.mem_insert_of_mem hi, h⟩
      · rcases Finset.mem_insert.1 hi with rfl | hi
        · exact hl
        · exact h3 i hi

/-- Of the places that are kept (the others hold a word no place has), a row's least word is the first. -/
theorem row_min (x : IVec ⟨2, ![R, N]⟩ 32) (h : (⟨2, ![R, N]⟩ : Shape).Reduces [1] ⟨1, ![R]⟩)
    (ha : 2147483647#32 = IKind.minsi.neutral) (r : Fin R) (hN : N < 2147483647) (j : Fin N) (p : Fin N → Prop)
    (hx : ∀ n, x (ix2 r n) = if p n then BitVec.ofNat 32 n.val else BitVec.ofNat 32 N) (hp : p j) (hj : ∀ n, p n → j ≤ n) :
    multiReductionI .minsi [1] ⟨1, ![R]⟩ x 2147483647#32 h ha (ix1 r) = BitVec.ofNat 32 j.val := by
  rw [multiReductionI_eq_fold]
  refine (h.fold_fiber_r2_a1 (ix1 r) _ _ x).trans ?_
  change (Finset.univ : Finset (Fin N)).fold IntOp.minsi 2147483647#32 (fun n => x (ix2 r n)) = _
  obtain ⟨h1, h2, h3⟩ := fold_min (Finset.univ : Finset (Fin N)) 2147483647#32 (fun n => x (ix2 r n))
  have hle := h3 j (Finset.mem_univ j)
  simp only [hx j, if_pos hp] at hle
  rw [toInt_word _ (by omega)] at hle
  rcases h1 with h1 | ⟨n, -, h1⟩
  · rw [h1, show (2147483647#32 : BitVec 32) = BitVec.ofNat 32 2147483647 from rfl, toInt_word _ (by omega)] at hle
    omega
  · rw [h1] at hle ⊢
    rw [hx n] at hle ⊢
    by_cases hn : p n
    · rw [if_pos hn, toInt_word _ (by omega)] at hle
      rw [if_pos hn]
      have := Fin.le_def.1 (hj n hn)
      congr 1; omega
    · rw [if_neg hn, toInt_word _ (by omega)] at hle
      omega

end kernel

/-! ## The reference's pair reduction -/

/-- A pair is not behind another: greater, or equal with the lower number. -/
def Ahead (a b : Ideal .f32 × BitVec 32) : Prop := (show EReal from b.1) < a.1 ∨ (show EReal from b.1) = a.1 ∧ a.2.toInt ≤ b.2.toInt

/-- No pair is behind itself. -/
theorem Ahead.refl (a : Ideal .f32 × BitVec 32) : Ahead a a := .inr ⟨rfl, le_rfl⟩

/-- Of three pairs in order, the first is not behind the last. -/
theorem Ahead.trans {a b c : Ideal .f32 × BitVec 32} (h : Ahead a b) (h' : Ahead b c) : Ahead a c := by
  rcases h with h | ⟨h, hi⟩ <;> rcases h' with h' | ⟨h', hi'⟩
  · exact .inl (lt_trans h' h)
  · exact .inl (lt_of_eq_of_lt h' h)
  · exact .inl (lt_of_lt_of_eq h' h)
  · exact .inr ⟨h'.trans h, hi.trans hi'⟩

/-- A step of the reduction keeps one of its two pairs, and one that is not behind either. -/
theorem reducer_spec (a b : Ideal .f32 × BitVec 32) :
    (ReferenceIdeal.reducer_argmax_f32_i32 (F := Ideal) a b = a ∨ ReferenceIdeal.reducer_argmax_f32_i32 (F := Ideal) a b = b)
      ∧ Ahead (ReferenceIdeal.reducer_argmax_f32_i32 (F := Ideal) a b) a ∧ Ahead (ReferenceIdeal.reducer_argmax_f32_i32 (F := Ideal) a b) b := by
  obtain ⟨x, i⟩ := a
  obtain ⟨y, k⟩ := b
  have hun : Ideal.cmp .une x x = 0#1 := by simp [Ideal.cmp]
  have key : ReferenceIdeal.reducer_argmax_f32_i32 (F := Ideal) (x, i) (y, k)
      = if (show EReal from y) < x then (x, i) else if (show EReal from x) = y ∧ i.toInt < k.toInt then (y, i) else (y, k) := by
    change ((Scalar.select (IntOp.ori (Ideal.cmp .ogt x y) (Ideal.cmp .une x x)) x y : Ideal .f32),
      Scalar.select (IntOp.ori (IntOp.ori (Ideal.cmp .ogt x y) (Ideal.cmp .une x x)) (IntOp.andi (Ideal.cmp .oeq x y) (IntOp.cmpi .slt i k))) i k) = _
    rw [hun]
    by_cases h : (show EReal from y) < x
    · have hne : (show EReal from x) ≠ y := fun e => (lt_irrefl _ (lt_of_lt_of_eq h e)).elim
      simp [Ideal.cmp, h, hne, Scalar.select, IntOp.ori, IntOp.andi, IntOp.cmpi]
    · by_cases he : (show EReal from x) = y
      · by_cases hi : i.toInt < k.toInt <;>
        simp [Ideal.cmp, he, hi, Scalar.select, IntOp.ori, IntOp.andi, IntOp.cmpi, BitVec.slt]
      · simp [Ideal.cmp, h, he, Scalar.select, IntOp.ori, IntOp.andi, IntOp.cmpi]
  rw [key]
  by_cases h : (show EReal from y) < x
  · rw [if_pos h]
    exact ⟨.inl rfl, Ahead.refl _, .inl h⟩
  · rw [if_neg h]
    by_cases he : (show EReal from x) = y ∧ i.toInt < k.toInt
    · rw [if_pos he]
      obtain ⟨rfl, hi⟩ := he
      exact ⟨.inl rfl, Ahead.refl _, .inr ⟨rfl, hi.le⟩⟩
    · rw [if_neg he]
      refine ⟨.inr rfl, ?_, Ahead.refl _⟩
      rcases lt_or_eq_of_le (not_lt.1 h) with h' | h'
      · exact .inl h'
      · exact .inr ⟨h', not_lt.1 fun hi => he ⟨h', hi⟩⟩

/-- The whole reduction of a list keeps the start or a member, and one that is not behind any. -/
theorem foldl_reducer (L : List (Ideal .f32 × BitVec 32)) (b : Ideal .f32 × BitVec 32) :
    (L.foldl (ReferenceIdeal.reducer_argmax_f32_i32 (F := Ideal)) b = b ∨ L.foldl (ReferenceIdeal.reducer_argmax_f32_i32 (F := Ideal)) b ∈ L)
      ∧ Ahead (L.foldl (ReferenceIdeal.reducer_argmax_f32_i32 (F := Ideal)) b) b
      ∧ ∀ p ∈ L, Ahead (L.foldl (ReferenceIdeal.reducer_argmax_f32_i32 (F := Ideal)) b) p := by
  induction L generalizing b with
  | nil => exact ⟨.inl rfl, Ahead.refl _, fun p hp => absurd hp List.not_mem_nil⟩
  | cons a L ih =>
    rw [List.foldl_cons]
    obtain ⟨h1, h2, h3⟩ := ih (ReferenceIdeal.reducer_argmax_f32_i32 (F := Ideal) b a)
    obtain ⟨g1, g2, g3⟩ := reducer_spec b a
    refine ⟨?_, h2.trans g2, fun p hp => ?_⟩
    · rcases h1 with h1 | h1
      · rw [h1]
        rcases g1 with g1 | g1
        · exact .inl g1
        · rw [g1]; exact .inr List.mem_cons_self
      · exact .inr (List.mem_cons_of_mem _ h1)
    · rcases List.mem_cons.1 hp with rfl | hp
      · exact h2.trans g3
      · exact h3 p hp

/-- The reference's row reduction returns the first place of the row's maximum. -/
theorem row_argmax {R N : ℕ} (x : FVec Ideal ⟨2, ![R, N + 1]⟩ .f32) (y : IVec ⟨2, ![R, N + 1]⟩ 32) {u : Shape} (ix : FVec Ideal u .f32)
    (iy : IVec u 32) (h : (⟨2, ![R, N + 1]⟩ : Shape).ReducesTo [1] ⟨1, ![R]⟩) (hu : 0 < u.numel) (r : Fin R) (hN : N < 2147483647)
    (hy : ∀ n, y (ix2 r n) = BitVec.ofNat 32 n.val) (hix : ix (Shape.Idx.first hu) = (⊥ : EReal)) (hiy : iy (Shape.Idx.first hu) = 0#32) :
    (Host.argReduce (ReferenceIdeal.reducer_argmax_f32_i32 (F := Ideal)) x y ix iy h hu (ix1 r)).2
      = BitVec.ofNat 32 (pick fun n => x (ix2 r n)).val := by
  rw [Idealize.ShloMosaic.Ideal.argReduce_eq_reduce2, Host.reduce2_eq_foldl_fiber, hix, hiy]
  have hmem : ∀ p, p ∈ Host.argReduceFiber x y h (ix1 r) ↔ ∃ n : Fin (N + 1), p = (x (ix2 r n), BitVec.ofNat 32 n.val) := by
    intro p
    unfold Host.argReduceFiber
    rw [List.mem_map]
    constructor
    · rintro ⟨m, hm, rfl⟩
      obtain ⟨n, hn⟩ := (h.fiber_r2_a1 (ix1 r) _).1 (by simpa using (List.mem_filter.1 hm).2)
      have hn' : (ix2 r n : (⟨2, ![R, N + 1]⟩ : Shape).Idx) = (⟨2, ![R, N + 1]⟩ : Shape).rowMajor.symm m := hn
      exact ⟨n, by rw [← hn', hy]⟩
    · rintro ⟨n, rfl⟩
      refine ⟨(⟨2, ![R, N + 1]⟩ : Shape).rowMajor (ix2 r n), List.mem_filter.2 ⟨List.mem_finRange _, ?_⟩, ?_⟩
      · rw [Equiv.symm_apply_apply]
        exact decide_eq_true ((h.fiber_r2_a1 (ix1 r) _).2 ⟨n, rfl⟩)
      · rw [Equiv.symm_apply_apply, hy]
  obtain ⟨h1, h2, h3⟩ := foldl_reducer (Host.argReduceFiber x y h (ix1 r)) ((⊥ : EReal), 0#32)
  set p := (Host.argReduceFiber x y h (ix1 r)).foldl (ReferenceIdeal.reducer_argmax_f32_i32 (F := Ideal)) ((⊥ : EReal), 0#32) with hp
  have hall : ∀ n : Fin (N + 1), Ahead p (x (ix2 r n), BitVec.ofNat 32 n.val) := fun n => h3 _ ((hmem _).2 ⟨n, rfl⟩)
  rcases h1 with h1 | h1
  · have hbot : ∀ n : Fin (N + 1), (x (ix2 r n) : EReal) = ⊥ := fun n => by
      rcases hall n with h | ⟨h, -⟩
      · rw [h1] at h; exact absurd h not_lt_bot
      · rw [h1] at h; exact h
    rw [h1, pick_eq (j := 0) fun n => ⟨by rw [hbot]; exact bot_le, fun hn => absurd hn (Fin.not_lt_zero n)⟩]
    rfl
  · obtain ⟨j, hj⟩ := (hmem p).1 h1
    have hfm : FirstMax (fun n => (x (ix2 r n) : EReal)) j := fun n => by
      have := hall n
      rw [hj] at this
      rcases this with h | ⟨h, hi⟩
      · exact ⟨le_of_lt h, fun _ => h⟩
      · refine ⟨le_of_eq h, fun hn => ?_⟩
        change (BitVec.ofNat 32 j.val).toInt ≤ (BitVec.ofNat 32 n.val).toInt at hi
        rw [toInt_word _ (by omega), toInt_word _ (by omega)] at hi
        have := Fin.lt_def.1 hn
        omega
    rw [hj, pick_eq hfm]

end Cert.Spec
-- ==== Proof.KVal.lean ====
module

public import proofs.«01_k».proof.Proof.KNms
public import proofs.«01_k».proof.Proof.Rows
public import Idealize.ShloMosaic.Lib.ValueIdxCore
public import Idealize.ShloMosaic.Lib.Pipeline.ValueKit.Tiles
public import Idealize.ShloMosaic.Lib.ValueLayout
public import Idealize.ShloMosaic.Lib.ValueLayoutCasts

@[expose] public section

set_option maxRecDepth 16384

noncomputable section
/-! # What the suppression kernel's rounds compute, over the extended reals -/

namespace Cert.KernelIdeal.Hand

open Cert.KernelIdeal Cert.KernelIdeal.Gen
open Idealize.ShloMosaic hiding ix1 ix2 ix3
open Idealize.ShloMosaic.ValueIdx (ix1 ix2 ix3)
open Cert.Spec
open scoped Classical

/-- A column broadcast along the rows reads the row's entry. -/
theorem row_bcast {α : Type} (w : S4x1.Idx → α) (b : Fin 4) (n : Fin 16384) :
    broadcastTo S4x16384 w broadcasts_S4x1_S4x16384 (ix2 b n) = w (ix2 b 0) :=
  broadcastTo_apply w _ (ix2 b n) (ix2 b 0) fun ax => by
    match ax with
    | ⟨0, _⟩ => rfl
    | ⟨1, _⟩ => rfl

/-- A vector made a column reads the vector. -/
theorem col_apply {α : Type} (v : S4.Idx → α) (b : Fin 4) : shapeCast S4x1 v shapeCasts_S4_S4x1 (ix2 b 0) = v (ix1 b) :=
  ValueIdx.shapeCast_a_a1_apply v _ b 0

/-- A column given one more axis reads the column. -/
theorem cell_apply {α : Type} (v : S4x1.Idx → α) (b : Fin 4) : shapeCast S4x1x1 v shapeCasts_S4x1_S4x1x1 (ix3 b 0 0) = v (ix2 b 0) :=
  shapeCast_apply v _ _ _ (by
    rw [Shape.rowMajor_val_three, Shape.rowMajor_val_two]
    show b.val * 1 + 0 = (b.val * 1 + 0) * 1 + 0
    omega)

section Forms
variable {F : FTy → Type} [FloatOps F]

/-- The masked scores at a place. -/
theorem pay7_form (s acc : FVec F S4x16384 .f32) (a : F .f32) (i : S4x16384.Idx) :
    k1_pay7 s a acc i = Scalar.select (FloatOps.cmpf .ogt (acc i) (FloatOps.ofBits .f32 0x3F000000#32)) a (s i) := rfl

/-- The flag of a row. -/
theorem pay9_form (s acc : FVec F S4x16384 .f32) (a b d : F .f32) (i : S4x1.Idx) :
    k1_pay9 s a b d acc i = Scalar.select (FloatOps.cmpf .ogt (k1_pay8 s a acc i) a) b d := rfl

/-- The candidates of a row: the positions where the masked score is the greatest, elsewhere the row's length. -/
def cand (s acc : FVec F S4x16384 .f32) (v26 : IVec S4x16384 32) (a : F .f32) : IVec S4x16384 32 :=
  select (cmpf .oeq (k1_pay7 s a acc) (broadcastTo S4x16384 (k1_pay8 s a acc) broadcasts_S4x1_S4x16384)) v26 (broadcast S4x16384 16384#32)

/-- The candidates at a place. -/
theorem cand_form (s acc : FVec F S4x16384 .f32) (v26 : IVec S4x16384 32) (a : F .f32) (i : S4x16384.Idx) :
    cand s acc v26 a i = Scalar.select (FloatOps.cmpf .oeq (k1_pay7 s a acc i)
      (broadcastTo S4x16384 (k1_pay8 s a acc) broadcasts_S4x1_S4x16384 i)) (v26 i) 16384#32 := rfl

/-- The picked place's indicator. -/
theorem pay10_form (s acc : FVec F S4x16384 .f32) (v26 : IVec S4x16384 32) (a b d : F .f32) (i : S4x16384.Idx) :
    k1_pay10 s v26 a b d acc i = Scalar.select (IntOp.cmpi .eq (v26 i) (broadcastTo S4x16384 (shapeCast S4x1
      (multiReductionI .minsi [1] S4 (cand s acc v26 a) 2147483647#32 reduces_S4x16384_S4 rfl) shapeCasts_S4_S4x1) broadcasts_S4x1_S4x16384 i)) b d := rfl

/-- The marks handed on, from what the round has computed. -/
theorem pay14_form (v11 acc X Y O : FVec F S4x16384 .f32) (V A : FVec F S4x1 .f32) (b d : F .f32) (i : S4x16384.Idx) :
    k1_pay14 v11 b d acc V O A X Y i =
      FloatOps.addf (acc i) (FloatOps.mulf (broadcastTo S4x16384 V broadcasts_S4x1_S4x16384 i)
        (FloatOps.subf (FloatOps.maximumf (FloatOps.maximumf (acc i) (Scalar.select (FloatOps.cmpf .ogt
          (FloatOps.divf (FloatOps.mulf (X i) (FloatOps.maximumf (Y i) (FloatOps.ofBits .f32 0x00000000#32)))
            (FloatOps.maximumf (FloatOps.subf (FloatOps.addf (broadcastTo S4x16384 A broadcasts_S4x1_S4x16384 i) (v11 i))
              (FloatOps.mulf (X i) (FloatOps.maximumf (Y i) (FloatOps.ofBits .f32 0x00000000#32)))) (FloatOps.ofBits .f32 0x322BCC77#32)))
          (FloatOps.ofBits .f32 0x3F59999A#32)) b d)) (O i)) (acc i))) := rfl

end Forms

/-- The kernel's constants, and its row positions. -/
theorem nNeg_val : (nNeg (F := Ideal) : EReal) = ⊥ := lit_neg_inf
@[inherit_doc nNeg_val] theorem nOne_val : (nOne (F := Ideal) : EReal) = 1 := lit_one
@[inherit_doc nNeg_val] theorem nZero_val : (nZero (F := Ideal) : EReal) = 0 := lit_zero
@[inherit_doc nNeg_val] theorem nI_val (b : Fin 4) (n : Fin 16384) : nI (ix2 b n) = BitVec.ofNat 32 n.val := by
  change BitVec.ofNat 32 ((0 * 16384) + n.val) = _
  rw [Nat.zero_mul, Nat.zero_add]

section Round
variable (s v3 v5 v7 v9 v11 acc : FVec Ideal S4x16384 .f32) (S : Fin 4 → Fin 16384 → Prop)

/-- The row of boxes that the kernel's arrays hold. -/
def kRow (b : Fin 4) : Row where
  s n := s (ix2 b n)
  x1 n := v3 (ix2 b n)
  y1 n := v5 (ix2 b n)
  x2 n := v7 (ix2 b n)
  y2 n := v9 (ix2 b n)
  ar n := v11 (ix2 b n)

local notation "𝓑" => kRow s v3 v5 v7 v9 v11

variable (hacc : ∀ b n, acc (ix2 b n) = unit (S b n))
include hacc

/-- The scores with the marked boxes at minus infinity. -/
theorem pay7_val (b : Fin 4) (n : Fin 16384) : k1_pay7 s (nNeg (F := Ideal)) acc (ix2 b n) = (𝓑 b).masked (S b) n := by
  rw [pay7_form, hacc, nNeg_val]
  refine (sel_gt _ _ _ _).trans ?_
  simp only [Ideal.ofBits_def, half_lt_unit]
  rfl

/-- The greatest of them. -/
theorem pay8_val (b : Fin 4) : k1_pay8 s (nNeg (F := Ideal)) acc (ix2 b 0) = (𝓑 b).masked (S b) ((𝓑 b).first (S b)) := by
  have hp : (fun n => k1_pay7 s (nNeg (F := Ideal)) acc (ix2 b n)) = (𝓑 b).masked (S b) :=
    funext fun n => pay7_val s v3 v5 v7 v9 v11 acc S hacc b n
  unfold k1_pay8
  refine (col_apply _ b).trans ((row_max (R := 4) (N := 16383) _ _ _ _ b).trans ?_)
  rw [pay7_val s v3 v5 v7 v9 v11 acc S hacc b]
  unfold Row.first
  rw [← hp]

/-- Whether a round finds a box. -/
theorem valid_val (b : Fin 4) :
    rValid (nNeg (F := Ideal)) nOne nZero s acc (ix2 b 0) = unit ((𝓑 b).live (S b)) := by
  unfold rValid
  rw [pay9_form, pay8_val s v3 v5 v7 v9 v11 acc S hacc b, nNeg_val, nOne_val, nZero_val]
  exact (sel_gt _ _ _ _).trans (if_unit _)

/-- The box it picks. -/
theorem pick_val (b : Fin 4) (n : Fin 16384) :
    rPick nI (nNeg (F := Ideal)) nOne nZero s acc (ix2 b n) = unit (n = (𝓑 b).first (S b)) := by
  have hmin : multiReductionI .minsi [1] S4 (cand s acc nI (nNeg (F := Ideal))) 2147483647#32 reduces_S4x16384_S4 rfl (ix1 b)
      = BitVec.ofNat 32 ((𝓑 b).first (S b)).val := by
    refine row_min (R := 4) (N := 16384) _ reduces_S4x16384_S4 rfl b (by norm_num) _
      (fun n => (𝓑 b).masked (S b) n = (𝓑 b).masked (S b) ((𝓑 b).first (S b))) (fun n => ?_) rfl (fun n hn => ?_)
    · rw [cand_form, row_bcast, pay8_val s v3 v5 v7 v9 v11 acc S hacc b, pay7_val s v3 v5 v7 v9 v11 acc S hacc b, nI_val]
      exact (sel_eq _ _ _ _).trans (by congr)
    · by_contra hlt
      exact absurd hn (ne_of_lt ((pick_spec (N := 16383) ((𝓑 b).masked (S b)) n).2 (not_le.1 hlt)))
  unfold rPick
  rw [pay10_form, row_bcast, col_apply, hmin, nI_val, nOne_val, nZero_val]
  have hiff : (BitVec.ofNat 32 n.val = BitVec.ofNat 32 ((𝓑 b).first (S b)).val) ↔ n = (𝓑 b).first (S b) := by
    refine ⟨fun h => Fin.ext ?_, fun h => by rw [h]⟩
    have := congrArg BitVec.toNat h
    rw [BitVec.toNat_ofNat, BitVec.toNat_ofNat, Nat.mod_eq_of_lt (by omega), Nat.mod_eq_of_lt (by omega)] at this
    exact this
  refine (sel_weq _ _ _ _).trans ?_
  simp only [hiff]
  exact if_unit _

/-- A channel at the box it picks. -/
theorem picked (v : FVec Ideal S4x16384 .f32) (b : Fin 4) :
    shapeCast S4x1 (multiReduction .add [1] S4 (mulf (rPick nI (nNeg (F := Ideal)) nOne nZero s acc) v) 0x00000000#32 reduces_S4x16384_S4 (.inl rfl) rfl)
      shapeCasts_S4_S4x1 (ix2 b 0) = v (ix2 b ((𝓑 b).first (S b))) := by
  refine (col_apply _ b).trans ((row_sum (R := 4) (N := 16384) _ _ _ _ _ b).trans ?_)
  exact sum_onehot _ (fun n => v (ix2 b n)) (fun n => rPick nI (nNeg (F := Ideal)) nOne nZero s acc (ix2 b n))
    fun n => pick_val s v3 v5 v7 v9 v11 acc S hacc b n

/-- The marks it hands on. -/
theorem next_val (b : Fin 4) (n : Fin 16384) :
    rNext nI (nNeg (F := Ideal)) nOne nZero s v3 v5 v7 v9 v11 acc (ix2 b n) = unit ((𝓑 b).next (S b) n) := by
  have hp := fun v => picked s v3 v5 v7 v9 v11 acc S hacc v b
  have h12 : k1_pay12 s v3 v7 nI (nNeg (F := Ideal)) nOne nZero acc (ix2 b n)
      = max (min ((𝓑 b).x2 ((𝓑 b).first (S b))) ((𝓑 b).x2 n) - max ((𝓑 b).x1 ((𝓑 b).first (S b))) ((𝓑 b).x1 n)) 0 := by
    change max (min (broadcastTo S4x16384 (shapeCast S4x1 (multiReduction .add [1] S4 (mulf (rPick nI (nNeg (F := Ideal)) nOne nZero s acc) v7) 0x00000000#32 reduces_S4x16384_S4 (.inl rfl) rfl)
      shapeCasts_S4_S4x1) broadcasts_S4x1_S4x16384 (ix2 b n)) (v7 (ix2 b n)) - max (broadcastTo S4x16384 (shapeCast S4x1 (multiReduction .add [1] S4 (mulf (rPick nI (nNeg (F := Ideal)) nOne nZero s acc) v3) 0x00000000#32 reduces_S4x16384_S4 (.inl rfl) rfl)
      shapeCasts_S4_S4x1) broadcasts_S4x1_S4x16384 (ix2 b n)) (v3 (ix2 b n))) (Ideal.ofBits .f32 0x00000000#32) = _
    rw [row_bcast, row_bcast, hp, hp, lit_zero]; rfl
  have h13 : k1_pay13 s v5 v9 nI (nNeg (F := Ideal)) nOne nZero acc (ix2 b n)
      = min ((𝓑 b).y2 ((𝓑 b).first (S b))) ((𝓑 b).y2 n) - max ((𝓑 b).y1 ((𝓑 b).first (S b))) ((𝓑 b).y1 n) := by
    change min (broadcastTo S4x16384 (shapeCast S4x1 (multiReduction .add [1] S4 (mulf (rPick nI (nNeg (F := Ideal)) nOne nZero s acc) v9) 0x00000000#32 reduces_S4x16384_S4 (.inl rfl) rfl)
      shapeCasts_S4_S4x1) broadcasts_S4x1_S4x16384 (ix2 b n)) (v9 (ix2 b n)) - max (broadcastTo S4x16384 (shapeCast S4x1 (multiReduction .add [1] S4 (mulf (rPick nI (nNeg (F := Ideal)) nOne nZero s acc) v5) 0x00000000#32 reduces_S4x16384_S4 (.inl rfl) rfl)
      shapeCasts_S4_S4x1) broadcasts_S4x1_S4x16384 (ix2 b n)) (v5 (ix2 b n)) = _
    rw [row_bcast, row_bcast, hp, hp]; rfl
  have h11 : broadcastTo S4x16384 (k1_pay11 s v11 nI (nNeg (F := Ideal)) nOne nZero acc) broadcasts_S4x1_S4x16384 (ix2 b n)
      = (𝓑 b).ar ((𝓑 b).first (S b)) := by
    rw [row_bcast]; exact hp v11
  have hv : broadcastTo S4x16384 (rValid (nNeg (F := Ideal)) nOne nZero s acc) broadcasts_S4x1_S4x16384 (ix2 b n) = unit ((𝓑 b).live (S b)) := by
    rw [row_bcast]; exact valid_val s v3 v5 v7 v9 v11 acc S hacc b
  unfold rNext
  rw [pay14_form, hv, h11, h12, h13, hacc, pick_val s v3 v5 v7 v9 v11 acc S hacc b n, nOne_val, nZero_val,
    show (FloatOps.ofBits .f32 0x00000000#32 : Ideal .f32) = (0 : EReal) from lit_zero]
  have hsel : Scalar.select (FloatOps.cmpf (F := Ideal) (φ := .f32) .ogt ((𝓑 b).iou ((𝓑 b).first (S b)) n) (Ideal.ofBits .f32 0x3F59999A#32)) (1 : EReal) 0
      = unit (Ideal.ofBits .f32 0x3F59999A#32 < (𝓑 b).iou ((𝓑 b).first (S b)) n) := (sel_gt _ _ _ _).trans (if_unit _)
  have hm := marks_step (S b n) (Ideal.ofBits .f32 0x3F59999A#32 < (𝓑 b).iou ((𝓑 b).first (S b)) n) (n = (𝓑 b).first (S b)) ((𝓑 b).live (S b))
  rw [← hsel] at hm
  exact hm

end Round

/-! ## All rounds -/

section All
variable (x0 : Vec Ideal S12x4x16384 .f32) (x1 : Vec Ideal S4x16384 .f32)

/-- A channel of the decoded boxes, loaded and flattened. -/
theorem chan_ld (ch : ℕ) (hch : ch < 12) (inb : ∀ a, (![ch, 0, 0] : Fin 3 → ℕ) a + S1x4x16384.size a ≤ S12x4x16384.size a) (b : Fin 4) (n : Fin 16384) :
    shapeCast S4x16384 (View.ld x0 (Rect.unit (s := S12x4x16384) ![ch, 0, 0] S1x4x16384.size inb)) shapeCasts_S1x4x16384_S4x16384 (ix2 b n)
      = x0 (ix3 ⟨ch, hch⟩ b n) := by
  refine (ValueIdx.shapeCast_1ab_ab_apply _ _ b n).trans ?_
  refine View.ld_unit_apply_of x0 _ _ inb _ (ix3 ⟨ch, hch⟩ b n) fun a => ?_
  match a with
  | ⟨0, _⟩ => rfl
  | ⟨1, _⟩ => exact (Nat.zero_add _).symm
  | ⟨2, _⟩ => exact (Nat.zero_add _).symm

/-- The scores the kernel reads. -/
theorem nS_val (b : Fin 4) (n : Fin 16384) : nS x1 (ix2 b n) = x1 (ix2 b n) := by
  unfold nS k1_pay19
  refine (shapeCast_apply _ shapeCasts_S4x16384_S4x16384 (ix2 b n) (ix2 b n) rfl).trans ?_
  refine View.ld_unit_apply_of x1 _ _ inb_S4x16384_S4x16384_0_0 _ (ix2 b n) fun a => ?_
  match a with
  | ⟨0, _⟩ => exact (Nat.zero_add _).symm
  | ⟨1, _⟩ => exact (Nat.zero_add _).symm

/-- The scores, by row. -/
def kS (b : Fin 4) (n : Fin 16384) : EReal := x1 (ix2 b n)

/-- The first seven channels, by row. -/
def kP (b : Fin 4) (ch : Fin 7) (n : Fin 16384) : EReal := x0 (ix3 (ch.castLE (by decide)) b n)

/-- The remaining channels hold the corners and the areas. -/
def Corners : Prop := ∀ b n,
  x0 (ix3 7 b n) = (rowOf (kS x1 b) (kP x0 b)).x1 n ∧ x0 (ix3 8 b n) = (rowOf (kS x1 b) (kP x0 b)).y1 n
    ∧ x0 (ix3 9 b n) = (rowOf (kS x1 b) (kP x0 b)).x2 n ∧ x0 (ix3 10 b n) = (rowOf (kS x1 b) (kP x0 b)).y2 n
    ∧ x0 (ix3 11 b n) = (rowOf (kS x1 b) (kP x0 b)).ar n

variable (hc : Corners x0 x1)
include hc

/-- The rows of boxes that the kernel reads. -/
theorem kRow_eq (b : Fin 4) : kRow (nS x1) (nA7 x0) (nA8 x0) (nA9 x0) (nA10 x0) (nA11 x0) b = rowOf (kS x1 b) (kP x0 b) := by
  unfold kRow
  have h7 : (fun n => nA7 x0 (ix2 b n)) = (rowOf (kS x1 b) (kP x0 b)).x1 := funext fun n => (chan_ld x0 7 (by decide) _ b n).trans (hc b n).1
  have h8 : (fun n => nA8 x0 (ix2 b n)) = (rowOf (kS x1 b) (kP x0 b)).y1 := funext fun n => (chan_ld x0 8 (by decide) _ b n).trans (hc b n).2.1
  have h9 : (fun n => nA9 x0 (ix2 b n)) = (rowOf (kS x1 b) (kP x0 b)).x2 := funext fun n => (chan_ld x0 9 (by decide) _ b n).trans (hc b n).2.2.1
  have h10 : (fun n => nA10 x0 (ix2 b n)) = (rowOf (kS x1 b) (kP x0 b)).y2 := funext fun n => (chan_ld x0 10 (by decide) _ b n).trans (hc b n).2.2.2.1
  have h11 : (fun n => nA11 x0 (ix2 b n)) = (rowOf (kS x1 b) (kP x0 b)).ar := funext fun n => (chan_ld x0 11 (by decide) _ b n).trans (hc b n).2.2.2.2
  have hs : (fun n => nS x1 (ix2 b n)) = kS x1 b := funext fun n => nS_val x1 b n
  rw [h7, h8, h9, h10, h11, hs]
  rfl

/-- The marks before every round. -/
theorem nSup_val : ∀ (t : ℕ) (b : Fin 4) (n : Fin 16384), nSup x0 x1 t (ix2 b n) = unit ((rowOf (kS x1 b) (kP x0 b)).sup t n)
  | 0, b, n => by
    refine Eq.trans (b := (0 : EReal)) lit_zero ?_
    exact (unit_neg (show ¬ (rowOf (kS x1 b) (kP x0 b)).sup 0 n from fun h => h)).symm
  | t + 1, b, n => by
    have := next_val (nS x1) (nA7 x0) (nA8 x0) (nA9 x0) (nA10 x0) (nA11 x0) (nSup x0 x1 t) (fun b => (rowOf (kS x1 b) (kP x0 b)).sup t)
      (fun b n => nSup_val t b n) b n
    rw [kRow_eq x0 x1 hc b] at this
    exact this

/-- Every round's flag. -/
theorem nValid_val (t : ℕ) (b : Fin 4) : nValid x0 x1 t (ix2 b 0) = unit (ok (kS x1) (kP x0) b t) := by
  have := valid_val (nS x1) (nA7 x0) (nA8 x0) (nA9 x0) (nA10 x0) (nA11 x0) (nSup x0 x1 t) (fun b => (rowOf (kS x1 b) (kP x0 b)).sup t)
    (nSup_val x0 x1 hc t) b
  rw [kRow_eq x0 x1 hc b] at this
  exact this

/-- A channel at the box a round picks. -/
theorem nPicked (t : ℕ) (b : Fin 4) (v : FVec Ideal S4x16384 .f32) :
    shapeCast S4x1 (multiReduction .add [1] S4 (mulf (nPick x0 x1 t) v) 0x00000000#32 reduces_S4x16384_S4 (.inl rfl) rfl) shapeCasts_S4_S4x1 (ix2 b 0)
      = v (ix2 b (sel (kS x1) (kP x0) b t)) := by
  have := picked (nS x1) (nA7 x0) (nA8 x0) (nA9 x0) (nA10 x0) (nA11 x0) (nSup x0 x1 t) (fun b => (rowOf (kS x1 b) (kP x0 b)).sup t)
    (nSup_val x0 x1 hc t) v b
  rw [kRow_eq x0 x1 hc b] at this
  exact this

/-- A channel at the box a round picks, times the round's flag, as a cell. -/
theorem nCell (t : ℕ) (b : Fin 4) (v : FVec Ideal S4x16384 .f32) :
    shapeCast S4x1x1 (mulf (shapeCast S4x1 (multiReduction .add [1] S4 (mulf (nPick x0 x1 t) v) 0x00000000#32 reduces_S4x16384_S4 (.inl rfl) rfl)
      shapeCasts_S4_S4x1) (nValid x0 x1 t)) shapeCasts_S4x1_S4x1x1 (ix3 b 0 0)
      = v (ix2 b (sel (kS x1) (kP x0) b t)) * unit (ok (kS x1) (kP x0) b t) := by
  refine (cell_apply _ b).trans ?_
  rw [← nPicked x0 x1 hc t b v, ← nValid_val x0 x1 hc t b]
  rfl

/-- What the kernel writes of the boxes. -/
theorem nBox_val (t : ℕ) (b : Fin 4) (ch : Fin 7) : nBox x0 x1 t ch (ix3 b 0 0) = outBox (kS x1) (kP x0) b t ch := by
  unfold outBox kP
  match ch with
  | ⟨0, _⟩ => exact (nCell x0 x1 hc t b (nA0 x0)).trans (congrArg (· * _) (chan_ld x0 0 (by decide) _ b _))
  | ⟨1, _⟩ => exact (nCell x0 x1 hc t b (nA1 x0)).trans (congrArg (· * _) (chan_ld x0 1 (by decide) _ b _))
  | ⟨2, _⟩ => exact (nCell x0 x1 hc t b (nA2 x0)).trans (congrArg (· * _) (chan_ld x0 2 (by decide) _ b _))
  | ⟨3, _⟩ => exact (nCell x0 x1 hc t b (nA3 x0)).trans (congrArg (· * _) (chan_ld x0 3 (by decide) _ b _))
  | ⟨4, _⟩ => exact (nCell x0 x1 hc t b (nA4 x0)).trans (congrArg (· * _) (chan_ld x0 4 (by decide) _ b _))
  | ⟨5, _⟩ => exact (nCell x0 x1 hc t b (nA5 x0)).trans (congrArg (· * _) (chan_ld x0 5 (by decide) _ b _))
  | ⟨6, _⟩ => exact (nCell x0 x1 hc t b (shapeCast S4x16384 (nA6 x0) shapeCasts_S1x4x16384_S4x16384)).trans (congrArg (· * _) (chan_ld x0 6 (by decide) _ b _))

/-- What it writes of the scores. -/
theorem nScore_val (t : ℕ) (b : Fin 4) : nScore x0 x1 t (ix3 b 0 0) = outScore (kS x1) (kP x0) b t :=
  (nCell x0 x1 hc t b (nS x1)).trans (congrArg (· * _) (nS_val x1 b _))

end All

end Cert.KernelIdeal.Hand
-- ==== Proof.KDecVal.lean ====
module

public import proofs.«01_k».proof.Proof.KDec
public import proofs.«01_k».proof.Proof.SpecLemmas
public import Idealize.ShloMosaic.Lib.ValueIdxCore
public import Idealize.ShloMosaic.Lib.Pointwise.Reduce
public import Idealize.ShloMosaic.Lib.ValueLayout
public import Idealize.ShloMosaic.Lib.Pipeline.ValueKit.Tiles

@[expose] public section

set_option maxRecDepth 16384

noncomputable section
/-! # What the decode kernel computes, over the extended reals -/

namespace Cert.KernelIdeal.Hand

open Cert.KernelIdeal Cert.KernelIdeal.Gen
open Idealize.ShloMosaic hiding ix1 ix2 ix3
open Idealize.ShloMosaic.ValueIdx (ix1 ix2 ix3)
open Cert.Spec
open scoped Classical

section Forms
variable {F : FTy → Type} [FloatOps F]

/-- The bin numbers as the kernel writes them. -/
def binWord : Fin 12 → BitVec 32 :=
  ![0x00000000#32, 0x3F800000#32, 0x40000000#32, 0x40400000#32, 0x40800000#32, 0x40A00000#32, 0x40C00000#32, 0x40E00000#32,
    0x41000000#32, 0x41100000#32, 0x41200000#32, 0x41300000#32]

/-- One comparison of the running maximum: the value and the number of the leading channel. -/
def leadStep (s : F .f32 × F .f32) (c w : F .f32) : F .f32 × F .f32 :=
  (Scalar.select (FloatOps.cmpf .ogt c s.1) c s.1, Scalar.select (FloatOps.cmpf .ogt c s.1) w s.2)

/-- The number of the leading channel of twelve. -/
def lead (g : Fin 12 → F .f32) : F .f32 × F .f32 :=
  leadStep (leadStep (leadStep (leadStep (leadStep (leadStep (leadStep (leadStep (leadStep (leadStep (leadStep
    (g 0, FloatOps.ofBits .f32 0x00000000#32)
    (g 1) (FloatOps.ofBits .f32 0x3F800000#32)) (g 2) (FloatOps.ofBits .f32 0x40000000#32)) (g 3) (FloatOps.ofBits .f32 0x40400000#32))
    (g 4) (FloatOps.ofBits .f32 0x40800000#32)) (g 5) (FloatOps.ofBits .f32 0x40A00000#32)) (g 6) (FloatOps.ofBits .f32 0x40C00000#32))
    (g 7) (FloatOps.ofBits .f32 0x40E00000#32)) (g 8) (FloatOps.ofBits .f32 0x41000000#32)) (g 9) (FloatOps.ofBits .f32 0x41100000#32))
    (g 10) (FloatOps.ofBits .f32 0x41200000#32)) (g 11) (FloatOps.ofBits .f32 0x41300000#32)

/-- One term of the kernel's gather. -/
def gatherStep (b acc c : F .f32) (w : BitVec 32) : F .f32 :=
  FloatOps.addf acc (Scalar.select (FloatOps.cmpf .oeq b (FloatOps.ofBits .f32 w)) c (FloatOps.ofBits .f32 0x00000000#32))

/-- The kernel's gather: of twelve channels the one whose number is `b`. -/
def gather (b : F .f32) (g : Fin 12 → F .f32) : F .f32 :=
  gatherStep b (gatherStep b (gatherStep b (gatherStep b (gatherStep b (gatherStep b (gatherStep b (gatherStep b (gatherStep b (gatherStep b
    (gatherStep b (gatherStep b (FloatOps.ofBits .f32 0x00000000#32)
    (g 0) 0x00000000#32) (g 1) 0x3F800000#32) (g 2) 0x40000000#32) (g 3) 0x40400000#32) (g 4) 0x40800000#32) (g 5) 0x40A00000#32)
    (g 6) 0x40C00000#32) (g 7) 0x40E00000#32) (g 8) 0x41000000#32) (g 9) 0x41100000#32) (g 10) 0x41200000#32) (g 11) 0x41300000#32

variable (x0 : Vec F S76x8x2048 .f32) (x1 : Vec F S3x8x2048 .f32) (i : S8x2048.Idx)

/-- The slab of one channel stays inside the block. -/
theorem slab_inb (n : ℕ) (h : n < 76) : ∀ a, (![n, 0, 0] : Fin 3 → ℕ) a + S1x8x2048.size a ≤ S76x8x2048.size a := by
  intro a
  match a with
  | ⟨0, _⟩ => show n + 1 ≤ 76; omega
  | ⟨1, _⟩ => show 0 + 8 ≤ 8; omega
  | ⟨2, _⟩ => show 0 + 2048 ≤ 2048; omega

/-- A channel's slab, flattened, at a place. -/
def slab (n : Fin 76) : F .f32 :=
  shapeCast S8x2048 (View.ld x0 (Rect.unit (s := S76x8x2048) ![n.val, 0, 0] S1x8x2048.size (slab_inb n.val n.isLt))) shapeCasts_S1x8x2048_S8x2048 i

/-- The bin of the first axis. -/
theorem dv117_form : dv117 x0 x1 i = (lead fun k => slab x0 i (chan 0 (by decide) k)).2 := rfl

/-- The bin of the second axis. -/
theorem dv118_form : dv118 x0 x1 i = (lead fun k => slab x0 i (chan 12 (by decide) k)).2 := rfl

/-- The bin of the angle. -/
theorem dv126_form : dv126 x0 x1 i = (lead fun k => slab x0 i (chan 49 (by decide) k)).2 := rfl

/-- The position along the first axis. -/
theorem dv119_form : dv119 x0 x1 i = FloatOps.addf (FloatOps.addf (FloatOps.addf
    (FloatOps.mulf (dv117 x0 x1 i) (FloatOps.ofBits .f32 0x3F000000#32)) (FloatOps.ofBits .f32 0xC0300000#32))
    (FloatOps.mulf (gather (dv117 x0 x1 i) fun k => slab x0 i (chan 24 (by decide) k)) (FloatOps.ofBits .f32 0x3F000000#32)))
    (shapeCast S8x2048 (View.ld x1 r0_48) shapeCasts_S1x8x2048_S8x2048 i) := rfl

/-- The position along the second axis. -/
theorem dv120_form : dv120 x0 x1 i = FloatOps.addf (FloatOps.addf (FloatOps.addf
    (FloatOps.mulf (dv118 x0 x1 i) (FloatOps.ofBits .f32 0x3F000000#32)) (FloatOps.ofBits .f32 0xC0300000#32))
    (FloatOps.mulf (gather (dv118 x0 x1 i) fun k => slab x0 i (chan 36 (by decide) k)) (FloatOps.ofBits .f32 0x3F000000#32)))
    (shapeCast S8x2048 (View.ld x1 r0_49) shapeCasts_S1x8x2048_S8x2048 i) := rfl

/-- The twelve channels of the decoded block, before they are written. -/
def dec : Fin 12 → FVec F S8x2048 .f32
  | ⟨0, _⟩ => dv119 x0 x1
  | ⟨1, _⟩ => k0_pay60 (View.ld x1 r0_50) (View.ld x0 r0_51)
  | ⟨2, _⟩ => dv120 x0 x1
  | ⟨3, _⟩ => k0_pay101 (View.ld x0 r0_76)
  | ⟨4, _⟩ => k0_pay102 (View.ld x0 r0_77)
  | ⟨5, _⟩ => k0_pay103 (View.ld x0 r0_78)
  | ⟨6, _⟩ => k0_pay100
      (k0_pay98 (dv126 x0 x1) (dv127 x0 x1) (dv128 x0 x1) (dv129 x0 x1) (dv130 x0 x1) (View.ld x0 r0_72) (View.ld x0 r0_73) (View.ld x0 r0_74) (View.ld x0 r0_75))
      (k0_pay99 (dv126 x0 x1) (dv127 x0 x1) (dv128 x0 x1) (dv129 x0 x1) (dv130 x0 x1) (View.ld x0 r0_72) (View.ld x0 r0_73) (View.ld x0 r0_74) (View.ld x0 r0_75))
  | ⟨7, _⟩ => dv131 x0 x1
  | ⟨8, _⟩ => dv132 x0 x1
  | ⟨9, _⟩ => dv133 x0 x1
  | ⟨10, _⟩ => k0_pay108 (dv120 x0 x1) (dv134 x0 x1)
  | ⟨11, _⟩ => k0_pay109 (dv120 x0 x1) (dv131 x0 x1) (dv132 x0 x1) (dv133 x0 x1) (dv134 x0 x1)

/-- The angle before it is brought into one turn. -/
theorem raw_form : k0_pay98 (dv126 x0 x1) (dv127 x0 x1) (dv128 x0 x1) (dv129 x0 x1) (dv130 x0 x1) (View.ld x0 r0_72) (View.ld x0 r0_73) (View.ld x0 r0_74) (View.ld x0 r0_75) i
    = FloatOps.addf (FloatOps.mulf (dv126 x0 x1 i) (FloatOps.ofBits .f32 0x3F060A92#32))
        (FloatOps.mulf (gather (dv126 x0 x1 i) fun k => slab x0 i (chan 61 (by decide) k)) (FloatOps.ofBits .f32 0x3E860A92#32)) := rfl

/-- The angle. -/
theorem turn_form (A : FVec F S8x2048 .f32) :
    k0_pay100 A (divf A (broadcast S8x2048 (FloatOps.ofBits .f32 0x40C90FDB#32))) i
    = Scalar.select (FloatOps.cmpf .ogt
        (FloatOps.subf (A i) (FloatOps.mulf (FloatOps.floor (FloatOps.divf (A i) (FloatOps.ofBits .f32 0x40C90FDB#32))) (FloatOps.ofBits .f32 0x40C90FDB#32)))
        (FloatOps.ofBits .f32 0x40490FDB#32))
      (FloatOps.subf (FloatOps.subf (A i) (FloatOps.mulf (FloatOps.floor (FloatOps.divf (A i) (FloatOps.ofBits .f32 0x40C90FDB#32))) (FloatOps.ofBits .f32 0x40C90FDB#32)))
        (FloatOps.ofBits .f32 0x40C90FDB#32))
      (FloatOps.subf (A i) (FloatOps.mulf (FloatOps.floor (FloatOps.divf (A i) (FloatOps.ofBits .f32 0x40C90FDB#32))) (FloatOps.ofBits .f32 0x40C90FDB#32))) := rfl

/-- One slab of the written block: where it holds a place, it has there the channel's value. -/
theorem slab_at (D : Fin 12 → FVec F S8x2048 .f32) (k : ℕ) (hk : k < 12) (y : S12x8x2048.Idx) :
    View.TileAt (e := .f32) (Val := Elt F) y ![k, 0, 0] S1x8x2048.size (shapeCast S1x8x2048 (D ⟨k, hk⟩) shapeCasts_S8x2048_S1x8x2048) (D (y 0) (ix2 (y 1) (y 2))) := by
  intro x hx
  have h0 : (y 0).val = k + (x 0).val := hx 0
  have h1 : (y 1).val = 0 + (x 1).val := hx 1
  have h2 : (y 2).val = 0 + (x 2).val := hx 2
  have hx0 : (x 0).val < 1 := (x 0).isLt
  have e0 : (⟨k, hk⟩ : Fin 12) = y 0 := Fin.ext (by show k = _; omega)
  rw [e0]
  refine shapeCast_apply _ _ x (ix2 (y 1) (y 2)) ?_
  rw [Shape.rowMajor_val_two, Shape.rowMajor_val_three]
  show (y 1).val * 2048 + (y 2).val = ((x 0).val * 8 + (x 1).val) * 2048 + (x 2).val
  rw [h1, h2]
  omega

/-- The block the decode kernel leaves, at a place. -/
theorem decOut_form (y : S12x8x2048.Idx) : decOut x0 x1 y = dec x0 x1 (y 0) (ix2 (y 1) (y 2)) := by
  unfold decOut
  refine View.canon_eq_of_allAt _ y _ (decCover _ _ _ _ _ _ _ _ _ _ _ _ y) ?_
  exact View.allAt_cons_unit _ _ _ _ _ (slab_at (dec x0 x1) 11 (by decide) y)
    (View.allAt_cons_unit _ _ _ _ _ (slab_at (dec x0 x1) 10 (by decide) y)
    (View.allAt_cons_unit _ _ _ _ _ (slab_at (dec x0 x1) 9 (by decide) y)
    (View.allAt_cons_unit _ _ _ _ _ (slab_at (dec x0 x1) 8 (by decide) y)
    (View.allAt_cons_unit _ _ _ _ _ (slab_at (dec x0 x1) 7 (by decide) y)
    (View.allAt_cons_unit _ _ _ _ _ (slab_at (dec x0 x1) 6 (by decide) y)
    (View.allAt_cons_unit _ _ _ _ _ (slab_at (dec x0 x1) 5 (by decide) y)
    (View.allAt_cons_unit _ _ _ _ _ (slab_at (dec x0 x1) 4 (by decide) y)
    (View.allAt_cons_unit _ _ _ _ _ (slab_at (dec x0 x1) 3 (by decide) y)
    (View.allAt_cons_unit _ _ _ _ _ (slab_at (dec x0 x1) 2 (by decide) y)
    (View.allAt_cons_unit _ _ _ _ _ (slab_at (dec x0 x1) 1 (by decide) y)
    (View.allAt_cons_unit _ _ _ _ _ (slab_at (dec x0 x1) 0 (by decide) y) (View.allAt_nil y _))))))))))))

end Forms

/-! ## The values -/

section Values
variable (x0 : Vec Ideal S76x8x2048 .f32) (x1 : Vec Ideal S3x8x2048 .f32) (p : Fin 8) (q : Fin 2048)

/-- A channel's slab reads the block. -/
theorem slab_val (n : Fin 76) : slab x0 (ix2 p q) n = x0 (ix3 n p q) := by
  unfold slab
  refine (ValueIdx.shapeCast_1ab_ab_apply _ _ p q).trans ?_
  refine View.ld_unit_apply_of x0 _ _ (slab_inb n.val n.isLt) _ (ix3 n p q) fun a => ?_
  match a with
  | ⟨0, _⟩ => rfl
  | ⟨1, _⟩ => exact (Nat.zero_add _).symm
  | ⟨2, _⟩ => exact (Nat.zero_add _).symm

/-- A coordinate's slab reads the block. -/
theorem point_val (n : Fin 3) (inb : ∀ a, (![n.val, 0, 0] : Fin 3 → ℕ) a + S1x8x2048.size a ≤ S3x8x2048.size a) :
    shapeCast S8x2048 (View.ld x1 (Rect.unit (s := S3x8x2048) ![n.val, 0, 0] S1x8x2048.size inb)) shapeCasts_S1x8x2048_S8x2048 (ix2 p q) = x1 (ix3 n p q) := by
  refine (ValueIdx.shapeCast_1ab_ab_apply _ _ p q).trans ?_
  refine View.ld_unit_apply_of x1 _ _ inb _ (ix3 n p q) fun a => ?_
  match a with
  | ⟨0, _⟩ => rfl
  | ⟨1, _⟩ => exact (Nat.zero_add _).symm
  | ⟨2, _⟩ => exact (Nat.zero_add _).symm

/-- The bin numbers are the numbers 0 to 11. -/
theorem binWord_val (k : Fin 12) : Ideal.ofBits .f32 (binWord k) = ((k.val : ℝ) : EReal) := by
  fin_cases k <;> simp [binWord, Ideal.ofBits, Ideal.ieee, -EReal.coe_mul] <;> norm_num

/-- One comparison moves the lead. -/
theorem leadStep_val {f : Fin 12 → EReal} {k : ℕ} {s : Ideal .f32 × Ideal .f32} (h : Lead f k s.1 s.2) (c : Fin 12) (hc : c.val = k + 1) :
    Lead f (k + 1) (leadStep (F := Ideal) s (f c) (FloatOps.ofBits .f32 (binWord c))).1 (leadStep (F := Ideal) s (f c) (FloatOps.ofBits .f32 (binWord c))).2 := by
  have := h.step c hc (Ideal.ofBits .f32 (binWord c)) (binWord_val c)
  unfold leadStep
  rw [Ideal.ofBits_def]
  refine (congrArg₂ (Lead f (k + 1)) ((sel_gt _ _ _ _)) ((sel_gt _ _ _ _))).mpr this

/-- The kernel's bin is the first place of the maximum. -/
theorem lead_val (f : Fin 12 → EReal) : (lead (F := Ideal) f).2 = (((pick (N := 11) f).val : ℝ) : EReal) := by
  refine Lead.pick (v := (lead (F := Ideal) f).1) ?_
  have h0 : Lead f 0 (f 0) (FloatOps.ofBits (F := Ideal) .f32 0x00000000#32) := Lead.zero f _ (by rw [Ideal.ofBits_def, lit_zero]; rfl)
  exact leadStep_val (leadStep_val (leadStep_val (leadStep_val (leadStep_val (leadStep_val (leadStep_val (leadStep_val (leadStep_val
    (leadStep_val (leadStep_val (s := (f 0, FloatOps.ofBits (F := Ideal) .f32 0x00000000#32)) h0 1 rfl) 2 rfl) 3 rfl) 4 rfl) 5 rfl) 6 rfl) 7 rfl) 8 rfl) 9 rfl) 10 rfl) 11 rfl

/-- One term of the gather. -/
theorem gatherStep_val (b acc : EReal) (g : Fin 12 → EReal) (k : Fin 12) :
    gatherStep (F := Ideal) b acc (g k) (binWord k) = acc + (if b = ((k.val : ℝ) : EReal) then g k else 0) := by
  unfold gatherStep
  rw [Ideal.ofBits_def, Ideal.ofBits_def, binWord_val, lit_zero]
  exact congrArg (acc + ·) (sel_eq _ _ _ _)

/-- The kernel's gather picks the bin's channel. -/
theorem gather_val (g : Fin 12 → EReal) (j : Fin 12) : gather (F := Ideal) ((j.val : ℝ) : EReal) g = g j := by
  refine Eq.trans ?_ (gather_sum g j)
  have h := fun acc k => gatherStep_val ((j.val : ℝ) : EReal) acc g k
  generalize hs : (fun k : Fin 12 => if ((j.val : ℝ) : EReal) = ((k.val : ℝ) : EReal) then g k else (0 : EReal)) = s
  have h : ∀ acc k, gatherStep (F := Ideal) ((j.val : ℝ) : EReal) acc (g k) (binWord k) = acc + s k := fun acc k => by rw [← hs]; exact h acc k
  have e : gather (F := Ideal) ((j.val : ℝ) : EReal) g
      = (0 : EReal) + s 0 + s 1 + s 2 + s 3 + s 4 + s 5 + s 6 + s 7 + s 8 + s 9 + s 10 + s 11 :=
    ((h _ 11).trans (congrArg (· + s 11) ((h _ 10).trans (congrArg (· + s 10) ((h _ 9).trans (congrArg (· + s 9) ((h _ 8).trans (congrArg (· + s 8) ((h _ 7).trans (congrArg (· + s 7) ((h _ 6).trans (congrArg (· + s 6) ((h _ 5).trans (congrArg (· + s 5) ((h _ 4).trans (congrArg (· + s 4) ((h _ 3).trans (congrArg (· + s 3) ((h _ 2).trans (congrArg (· + s 2) ((h _ 1).trans (congrArg (· + s 1) ((h _ 0).trans (congrArg (· + s 0) (lit_zero)))))))))))))))))))))))))
  rw [e]
  simp only [Fin.sum_univ_castSucc, Fin.sum_univ_zero]
  rfl

/-- The bin at channel `o`. -/
theorem bin_val (o : ℕ) (h : o + 12 ≤ 76) : (lead (F := Ideal) fun k => slab x0 (ix2 p q) (chan o h k)).2 = binv (fun n => x0 (ix3 n p q)) o h := by
  rw [lead_val]
  unfold binv bin
  rw [show (fun k => slab x0 (ix2 p q) (chan o h k)) = (fun k => x0 (ix3 (chan o h k) p q)) from funext fun k => slab_val x0 p q _]

/-- The residual at the bin. -/
theorem resid_val (o r : ℕ) (h : o + 12 ≤ 76) (h' : r + 12 ≤ 76) :
    gather (F := Ideal) (binv (fun n => x0 (ix3 n p q)) o h) (fun k => slab x0 (ix2 p q) (chan r h' k)) = resid (fun n => x0 (ix3 n p q)) o r h h' := by
  unfold binv
  rw [gather_val, slab_val]
  rfl

/-- The box that a place of the block encodes. -/
def kBox : Fin 7 → EReal := box (fun n => x0 (ix3 n p q)) (fun a => x1 (ix3 a p q))

/-- Channel 0 is the position along the first axis. -/
theorem dec0_val : dv119 x0 x1 (ix2 p q) = kBox x0 x1 p q 0 := by
  rw [dv119_form, dv117_form, bin_val, resid_val, show shapeCast S8x2048 (View.ld x1 r0_48) shapeCasts_S1x8x2048_S8x2048 (ix2 p q) = x1 (ix3 0 p q) from point_val x1 p q 0 _]
  rfl

/-- Channel 2 is the position along the second axis. -/
theorem dec2_val : dv120 x0 x1 (ix2 p q) = kBox x0 x1 p q 2 := by
  rw [dv120_form, dv118_form, bin_val, resid_val, show shapeCast S8x2048 (View.ld x1 r0_49) shapeCasts_S1x8x2048_S8x2048 (ix2 p q) = x1 (ix3 2 p q) from point_val x1 p q 2 _]
  rfl

/-- Channel 6 is the angle. -/
theorem dec6_val : dec x0 x1 6 (ix2 p q) = kBox x0 x1 p q 6 := by
  have hr := raw_form x0 x1 (ix2 p q)
  rw [dv126_form, bin_val, resid_val] at hr
  refine (turn_form (ix2 p q) _).trans ?_
  rw [hr]
  exact sel_gt _ _ _ _

/-- A side. -/
theorem side_val (n : Fin 76) (w : BitVec 32) :
    FloatOps.addf (F := Ideal) (φ := .f32) (FloatOps.mulf (slab x0 (ix2 p q) n) (FloatOps.ofBits .f32 w)) (FloatOps.ofBits .f32 w) = side (x0 (ix3 n p q)) w := by
  rw [slab_val]; rfl

/-- The first seven channels are the box. -/
theorem dec_box (ch : Fin 7) : dec x0 x1 (ch.castLE (by decide)) (ix2 p q) = kBox x0 x1 p q ch := by
  match ch with
  | ⟨0, _⟩ => exact dec0_val x0 x1 p q
  | ⟨1, _⟩ => exact congrArg₂ (fun a b : EReal => a + b) (point_val x1 p q 1 _) (slab_val x0 p q 48)
  | ⟨2, _⟩ => exact dec2_val x0 x1 p q
  | ⟨3, _⟩ => exact side_val x0 p q 73 0x3FC347E8#32
  | ⟨4, _⟩ => exact side_val x0 p q 74 0x3FD074E5#32
  | ⟨5, _⟩ => exact side_val x0 p q 75 0x407884FB#32
  | ⟨6, _⟩ => exact dec6_val x0 x1 p q

/-- Half a side, as the kernel takes it. -/
def half (a : EReal) : EReal := Ideal.div a (Ideal.ofBits .f32 0x40000000#32)

/-- The remaining channels are the corners and the area. -/
theorem dec_corners :
    dec x0 x1 7 (ix2 p q) = kBox x0 x1 p q 0 - half (kBox x0 x1 p q 3) ∧ dec x0 x1 8 (ix2 p q) = kBox x0 x1 p q 2 - half (kBox x0 x1 p q 5)
    ∧ dec x0 x1 9 (ix2 p q) = kBox x0 x1 p q 0 + half (kBox x0 x1 p q 3) ∧ dec x0 x1 10 (ix2 p q) = kBox x0 x1 p q 2 + half (kBox x0 x1 p q 5)
    ∧ dec x0 x1 11 (ix2 p q) = max ((kBox x0 x1 p q 0 + half (kBox x0 x1 p q 3)) - (kBox x0 x1 p q 0 - half (kBox x0 x1 p q 3))) 0
      * max ((kBox x0 x1 p q 2 + half (kBox x0 x1 p q 5)) - (kBox x0 x1 p q 2 - half (kBox x0 x1 p q 5))) 0 := by
  have h0 := dec0_val x0 x1 p q
  have h2 := dec2_val x0 x1 p q
  have h3 : k0_pay101 (View.ld x0 r0_76) (ix2 p q) = kBox x0 x1 p q 3 := side_val x0 p q 73 0x3FC347E8#32
  have h5 : k0_pay103 (View.ld x0 r0_78) (ix2 p q) = kBox x0 x1 p q 5 := side_val x0 p q 75 0x407884FB#32
  have h7 : dec x0 x1 7 (ix2 p q) = kBox x0 x1 p q 0 - half (kBox x0 x1 p q 3) := by rw [← h0, ← h3]; rfl
  have h8 : dec x0 x1 8 (ix2 p q) = kBox x0 x1 p q 2 - half (kBox x0 x1 p q 5) := by rw [← h2, ← h5]; rfl
  have h9 : dec x0 x1 9 (ix2 p q) = kBox x0 x1 p q 0 + half (kBox x0 x1 p q 3) := by rw [← h0, ← h3]; rfl
  have h10 : dec x0 x1 10 (ix2 p q) = kBox x0 x1 p q 2 + half (kBox x0 x1 p q 5) := by rw [← h2, ← h5]; rfl
  refine ⟨h7, h8, h9, h10, ?_⟩
  rw [← h7, ← h8, ← h9, ← h10, ← lit_zero]
  rfl

end Values

end Cert.KernelIdeal.Hand
-- ==== Proof.KHost.lean ====
module

public import proofs.«01_k».proof.Proof.KVal
public import proofs.«01_k».proof.Proof.KDecVal
public import proofs.«01_k».proof.Proof.KLaunch
public import proofs.«01_k».proof.Proof.RefLine
public import Idealize.ShloMosaic.Lib.Pointwise.Reduce
public import Idealize.ShloMosaic.Lib.Pipeline.ValueKit.Geometry

@[expose] public section

set_option maxRecDepth 16384

noncomputable section
/-! # The kernel's results as values of its arguments

The host lines lay the arguments out in eight rows and channels first; the decode launch turns every place into a box
with its corners and area; the host line after it gives every batch its own rows; the suppression launch leaves the
selected rows, and the last host line cuts the padding off. -/

namespace Cert.KernelIdeal.Hand

open Cert.KernelIdeal.Gen Cert.Spec
open Idealize.ShloMosaic hiding ix1 ix2 ix3
open Idealize.ShloMosaic.ValueIdx (ix1 ix2 ix3)
open Idealize.ShloMosaic.TcCoe Idealize.ShloMosaic.Pipeline
open Cert.ReferenceIdeal.Value (Line)

/-- The twelve channels of a place: the box, its corners, its area. -/
def decPoint (g : Fin 76 → EReal) (p : Fin 3 → EReal) : Fin 12 → EReal
  | ⟨7, _⟩ => box g p 0 - half (box g p 3)
  | ⟨8, _⟩ => box g p 2 - half (box g p 5)
  | ⟨9, _⟩ => box g p 0 + half (box g p 3)
  | ⟨10, _⟩ => box g p 2 + half (box g p 5)
  | ⟨11, _⟩ => max ((box g p 0 + half (box g p 3)) - (box g p 0 - half (box g p 3))) 0
      * max ((box g p 2 + half (box g p 5)) - (box g p 2 - half (box g p 5))) 0
  | ⟨0, _⟩ => box g p 0
  | ⟨1, _⟩ => box g p 1
  | ⟨2, _⟩ => box g p 2
  | ⟨3, _⟩ => box g p 3
  | ⟨4, _⟩ => box g p 4
  | ⟨5, _⟩ => box g p 5
  | ⟨6, _⟩ => box g p 6

/-- What the decode kernel leaves at a place, from what its block holds there. -/
theorem dec_val (x0 : Vec Ideal S76x8x2048 .f32) (x1 : Vec Ideal S3x8x2048 .f32) (ch : Fin 12) (p : Fin 8) (q : Fin 2048) :
    dec x0 x1 ch (ix2 p q) = decPoint (fun n => x0 (ix3 n p q)) (fun a => x1 (ix3 a p q)) ch := by
  have h := dec_corners x0 x1 p q
  match ch with
  | ⟨0, _⟩ => exact dec_box x0 x1 p q 0
  | ⟨1, _⟩ => exact dec_box x0 x1 p q 1
  | ⟨2, _⟩ => exact dec_box x0 x1 p q 2
  | ⟨3, _⟩ => exact dec_box x0 x1 p q 3
  | ⟨4, _⟩ => exact dec_box x0 x1 p q 4
  | ⟨5, _⟩ => exact dec_box x0 x1 p q 5
  | ⟨6, _⟩ => exact dec_box x0 x1 p q 6
  | ⟨7, _⟩ => exact h.1
  | ⟨8, _⟩ => exact h.2.1
  | ⟨9, _⟩ => exact h.2.2.1
  | ⟨10, _⟩ => exact h.2.2.2.1
  | ⟨11, _⟩ => exact h.2.2.2.2

/-! ## The host lines -/

section Host
variable {F : FTy → Type} [FloatOps F]

/-- The first host operations are a line. -/
theorem line0 : Line (hostOps0 : List (HloOp τ sig (Elt F))) [main_v0, main_v1, main_v2, main_v3, main_v4, main_v5] := by
  unfold Line
  repeat (first | exact List.Forall₂.nil | refine List.Forall₂.cons rfl ?_)

/-- The host operations between the launches are a line. -/
theorem line1 : Line (hostOps1 : List (HloOp τ sig (Elt F))) [main_v7, main_v8] := by
  unfold Line
  repeat (first | exact List.Forall₂.nil | refine List.Forall₂.cons rfl ?_)

/-- The last host operations are a line. -/
theorem line2 : Line (hostOps2 : List (HloOp τ sig (Elt F))) [main_v10, main_v11] := by
  unfold Line
  repeat (first | exact List.Forall₂.nil | refine List.Forall₂.cons rfl ?_)

/-- A channel's flat place in eight rows. -/
theorem flat_split (k s L : ℕ) : k * 65536 + (s * 8192 + L) = (k * 8 + s) * 8192 + L := by omega

/-- The same flat place in eight rows and in four. -/
theorem flat_same (k s L b n : ℕ) (h : s * 8192 + L = b * 16384 + n) : (k * 8 + s) * 8192 + L = (k * 4 + b) * 16384 + n := by linarith

variable (V : Valuation τ sig (Elt F))

/-- The predictions, channels first, in eight rows. -/
theorem host_v2 (b : Fin 4) (n : Fin 16384) (k : Fin 76) (s : Fin 8) (L : Fin 8192) (h : s.val * 8192 + L.val = b.val * 16384 + n.val) :
    (StableHlo.after hostOps0 V main_v2 : (⟨S76x8x8192, .f32⟩ : BufTy).Contents (Elt F)) (ix3 k s L)
      = (V main_arg1 : (⟨S4x16384x76, .f32⟩ : BufTy).Contents (Elt F)) (ix3 b n k) := by
  have e0 : (StableHlo.after hostOps0 V main_v0 : (⟨S65536x76, .f32⟩ : BufTy).Contents (Elt F)) = shapeCast S65536x76 (V main_arg1 : (⟨S4x16384x76, .f32⟩ : BufTy).Contents (Elt F)) shapeCasts_S4x16384x76_S65536x76 :=
    line0.eqR V 0 rfl (by decide +kernel) (line0.early V 0 (by decide +kernel))
  have e1 : (StableHlo.after hostOps0 V main_v1 : (⟨S76x65536, .f32⟩ : BufTy).Contents (Elt F)) = transpose S76x65536 [1, 0] (StableHlo.after hostOps0 V main_v0 : (⟨S65536x76, .f32⟩ : BufTy).Contents (Elt F)) transposes_S65536x76_S76x65536_1_0 :=
    line0.eq1 V 1 rfl (by decide +kernel) (line0.late V 1 (by decide +kernel))
  have e2 : (StableHlo.after hostOps0 V main_v2 : (⟨S76x8x8192, .f32⟩ : BufTy).Contents (Elt F)) = shapeCast S76x8x8192 (StableHlo.after hostOps0 V main_v1 : (⟨S76x65536, .f32⟩ : BufTy).Contents (Elt F)) shapeCasts_S76x65536_S76x8x8192 :=
    line0.eqR V 2 rfl (by decide +kernel) (line0.late V 2 (by decide +kernel))
  have hf : s.val * 8192 + L.val < 65536 := by omega
  rw [e2]
  refine (shapeCast_apply _ _ _ (ix2 k ⟨s.val * 8192 + L.val, hf⟩) ?_).trans ?_
  · rw [Shape.rowMajor_val_two, Shape.rowMajor_val_three]
    show k.val * 65536 + (s.val * 8192 + L.val) = (k.val * 8 + s.val) * 8192 + L.val
    exact flat_split _ _ _
  rw [e1]
  refine (ValueIdx.transpose_ix2_apply _ _ _ _).trans ?_
  rw [e0]
  refine shapeCast_apply _ _ _ (ix3 b n k) ?_
  rw [Shape.rowMajor_val_two, Shape.rowMajor_val_three]
  show (b.val * 16384 + n.val) * 76 + k.val = (s.val * 8192 + L.val) * 76 + k.val
  omega

/-- The points, coordinates first, in eight rows. -/
theorem host_v5 (b : Fin 4) (n : Fin 16384) (k : Fin 3) (s : Fin 8) (L : Fin 8192) (h : s.val * 8192 + L.val = b.val * 16384 + n.val) :
    (StableHlo.after hostOps0 V main_v5 : (⟨S3x8x8192, .f32⟩ : BufTy).Contents (Elt F)) (ix3 k s L)
      = (V main_arg2 : (⟨S4x16384x3, .f32⟩ : BufTy).Contents (Elt F)) (ix3 b n k) := by
  have e0 : (StableHlo.after hostOps0 V main_v3 : (⟨S65536x3, .f32⟩ : BufTy).Contents (Elt F)) = shapeCast S65536x3 (V main_arg2 : (⟨S4x16384x3, .f32⟩ : BufTy).Contents (Elt F)) shapeCasts_S4x16384x3_S65536x3 :=
    line0.eqR V 3 rfl (by decide +kernel) (line0.early V 3 (by decide +kernel))
  have e1 : (StableHlo.after hostOps0 V main_v4 : (⟨S3x65536, .f32⟩ : BufTy).Contents (Elt F)) = transpose S3x65536 [1, 0] (StableHlo.after hostOps0 V main_v3 : (⟨S65536x3, .f32⟩ : BufTy).Contents (Elt F)) transposes_S65536x3_S3x65536_1_0 :=
    line0.eq1 V 4 rfl (by decide +kernel) (line0.late V 4 (by decide +kernel))
  have e2 : (StableHlo.after hostOps0 V main_v5 : (⟨S3x8x8192, .f32⟩ : BufTy).Contents (Elt F)) = shapeCast S3x8x8192 (StableHlo.after hostOps0 V main_v4 : (⟨S3x65536, .f32⟩ : BufTy).Contents (Elt F)) shapeCasts_S3x65536_S3x8x8192 :=
    line0.eqR V 5 rfl (by decide +kernel) (line0.late V 5 (by decide +kernel))
  have hf : s.val * 8192 + L.val < 65536 := by omega
  rw [e2]
  refine (shapeCast_apply _ _ _ (ix2 k ⟨s.val * 8192 + L.val, hf⟩) ?_).trans ?_
  · rw [Shape.rowMajor_val_two, Shape.rowMajor_val_three]
    show k.val * 65536 + (s.val * 8192 + L.val) = (k.val * 8 + s.val) * 8192 + L.val
    exact flat_split _ _ _
  rw [e1]
  refine (ValueIdx.transpose_ix2_apply _ _ _ _).trans ?_
  rw [e0]
  refine shapeCast_apply _ _ _ (ix3 b n k) ?_
  rw [Shape.rowMajor_val_two, Shape.rowMajor_val_three]
  show (b.val * 16384 + n.val) * 3 + k.val = (s.val * 8192 + L.val) * 3 + k.val
  omega

/-- The decoded channels, a row for every batch. -/
theorem host_v7 (b : Fin 4) (n : Fin 16384) (k : Fin 12) (s : Fin 8) (L : Fin 8192) (h : s.val * 8192 + L.val = b.val * 16384 + n.val) :
    (StableHlo.after hostOps1 V main_v7 : (⟨S12x4x16384, .f32⟩ : BufTy).Contents (Elt F)) (ix3 k b n)
      = (V main_v6 : (⟨S12x8x8192, .f32⟩ : BufTy).Contents (Elt F)) (ix3 k s L) := by
  have e0 : (StableHlo.after hostOps1 V main_v7 : (⟨S12x4x16384, .f32⟩ : BufTy).Contents (Elt F)) = shapeCast S12x4x16384 (V main_v6 : (⟨S12x8x8192, .f32⟩ : BufTy).Contents (Elt F)) shapeCasts_S12x8x8192_S12x4x16384 :=
    line1.eqR V 0 rfl (by decide +kernel) (line1.early V 0 (by decide +kernel))
  rw [e0]
  refine shapeCast_apply _ _ _ (ix3 k s L) ?_
  rw [Shape.rowMajor_val_three, Shape.rowMajor_val_three]
  show (k.val * 8 + s.val) * 8192 + L.val = (k.val * 4 + b.val) * 16384 + n.val
  exact flat_same _ _ _ _ _ h

/-- The scores without their unit axis. -/
theorem host_v8 (b : Fin 4) (n : Fin 16384) :
    (StableHlo.after hostOps1 V main_v8 : (⟨S4x16384, .f32⟩ : BufTy).Contents (Elt F)) (ix2 b n)
      = (V main_arg0 : (⟨S4x16384x1, .f32⟩ : BufTy).Contents (Elt F)) (ix3 b n 0) := by
  have e0 : (StableHlo.after hostOps1 V main_v8 : (⟨S4x16384, .f32⟩ : BufTy).Contents (Elt F)) = shapeCast S4x16384 (V main_arg0 : (⟨S4x16384x1, .f32⟩ : BufTy).Contents (Elt F)) shapeCasts_S4x16384x1_S4x16384 :=
    line1.eqR V 1 rfl (by decide +kernel) (line1.early V 1 (by decide +kernel))
  rw [e0]
  refine shapeCast_apply _ _ _ (ix3 b n 0) ?_
  rw [Shape.rowMajor_val_two, Shape.rowMajor_val_three]
  show (b.val * 16384 + n.val) * 1 + 0 = b.val * 16384 + n.val
  omega

/-- The boxes without the padding. -/
theorem host_v10 (b : Fin 4) (t : Fin 512) (ch : Fin 7) :
    (StableHlo.after hostOps2 V main_v10 : (⟨S4x512x7, .f32⟩ : BufTy).Contents (Elt F)) (ix3 b t ch)
      = (V main_v9_0 : (⟨S4x512x8, .f32⟩ : BufTy).Contents (Elt F)) (ix3 b t (ch.castLE (by decide))) := by
  have e0 : (StableHlo.after hostOps2 V main_v10 : (⟨S4x512x7, .f32⟩ : BufTy).Contents (Elt F)) = extractStridedSlice S4x512x7 ![0, 0, 0] (V main_v9_0 : (⟨S4x512x8, .f32⟩ : BufTy).Contents (Elt F)) slices_S4x512x8_S4x512x7_0_0_0 :=
    line2.eq1 V 0 rfl (by decide +kernel) (line2.early V 0 (by decide +kernel))
  rw [e0]
  refine extractStridedSlice_apply _ _ _ _ (ix3 b t (ch.castLE (by decide))) fun a => ?_
  match a with
  | ⟨0, _⟩ => exact (Nat.zero_add _).symm
  | ⟨1, _⟩ => exact (Nat.zero_add _).symm
  | ⟨2, _⟩ => exact (Nat.zero_add _).symm

/-- The scores without the padding. -/
theorem host_v11 (b : Fin 4) (t : Fin 512) :
    (StableHlo.after hostOps2 V main_v11 : (⟨S4x512x1, .f32⟩ : BufTy).Contents (Elt F)) (ix3 b t 0)
      = (V main_v9_1 : (⟨S4x512x8, .f32⟩ : BufTy).Contents (Elt F)) (ix3 b t 0) := by
  have e0 : (StableHlo.after hostOps2 V main_v11 : (⟨S4x512x1, .f32⟩ : BufTy).Contents (Elt F)) = extractStridedSlice S4x512x1 ![0, 0, 0] (V main_v9_1 : (⟨S4x512x8, .f32⟩ : BufTy).Contents (Elt F)) slices_S4x512x8_S4x512x1_0_0_0 :=
    line2.eq1 V 1 rfl (by decide +kernel) (line2.early V 1 (by decide +kernel))
  rw [e0]
  refine extractStridedSlice_apply _ _ _ _ (ix3 b t 0) fun a => ?_
  match a with
  | ⟨0, _⟩ => exact (Nat.zero_add _).symm
  | ⟨1, _⟩ => exact (Nat.zero_add _).symm
  | ⟨2, _⟩ => rfl

end Host

/-! ## The decode launch -/

variable (m : (ℓ : Loc nD τ sig) → Buf (Elt Ideal) ℓ)

/-- The predictions as the decode launch is entered with them. -/
abbrev pred (c : Dev nD) : (⟨S76x8x8192, .f32⟩ : BufTy).Contents (Elt Ideal) := V1 m c main_v2
/-- The points as the decode launch is entered with them. -/
abbrev pts (c : Dev nD) : (⟨S3x8x8192, .f32⟩ : BufTy).Contents (Elt Ideal) := V1 m c main_v5

/-- The whole decoded array. -/
def decoded (c : Dev nD) : (⟨S12x8x8192, .f32⟩ : BufTy).Contents (Elt Ideal) := fun i =>
  decPoint (fun n => pred m c (ix3 n (i 1) (i 2))) (fun a => pts m c (ix3 a (i 1) (i 2))) (i 0)

/-- Which block a grid point has of the output. -/
theorem index0_2 : ∀ t : Fin cfg0.N, win0_2.index t = ![0, 0, t.val] := (by decide +kernel : ∀ t : Fin grid0.N, win0_2.index t = ![0, 0, t.val])
/-- Which block a grid point has of the predictions. -/
theorem index0_0 : ∀ t : Fin cfg0.N, win0_0.index t = ![0, 0, t.val] := (by decide +kernel : ∀ t : Fin grid0.N, win0_0.index t = ![0, 0, t.val])
/-- Which block a grid point has of the points. -/
theorem index0_1 : ∀ t : Fin cfg0.N, win0_1.index t = ![0, 0, t.val] := (by decide +kernel : ∀ t : Fin grid0.N, win0_1.index t = ![0, 0, t.val])

/-- A place of a block, in the array. -/
def spot (t : Fin cfg0.N) (q : Fin 2048) : Fin 8192 := ⟨t.val * 2048 + q.val, by have h : t.val < 4 := t.isLt; omega⟩

/-- The predictions' block at a place. -/
theorem iblk0_0 (c : Dev nD) (t : Fin cfg0.N) (n : Fin 76) (p : Fin 8) (q : Fin 2048) :
    (iblk0 m c 0 t : Vec Ideal S76x8x2048 .f32) (ix3 n p q) = pred m c (ix3 n p (spot t q)) := by
  blk_simp [iblk0]
  refine congrArg (V1 m c main_v2) ?_
  blk_ext [index0_0]
  rfl

/-- The points' block at a place. -/
theorem iblk0_1 (c : Dev nD) (t : Fin cfg0.N) (n : Fin 3) (p : Fin 8) (q : Fin 2048) :
    (iblk0 m c 1 t : Vec Ideal S3x8x2048 .f32) (ix3 n p q) = pts m c (ix3 n p (spot t q)) := by
  blk_simp [iblk0]
  refine congrArg (V1 m c main_v5) ?_
  blk_ext [index0_1]
  rfl

/-- Where the output's block lies. -/
theorem emb0_2 (t : Fin cfg0.N) (y : S12x8x2048.Idx) :
    (win0_2.blk t).view.emb y = (ix3 (y 0) (y 1) (spot t (y 2)) : S12x8x8192.Idx) := by
  blk_ext [index0_2]
  rfl

set_option backward.isDefEq.respectTransparency.types false in
/-- The decode launch leaves the decoded array. -/
theorem decoded_val (c : Dev nD) : (dat0 m c).arrAt 2 cfg0.N = decoded m c := by
  refine (dat0 m c).arrAt_eq_of_covers 2 _ (by decide +kernel) fun t hf y => ?_
  blk_simp
  rw [dat0_after2]
  refine (decOut_form (iblk0 m c 0 t) (iblk0 m c 1 t) y).trans ((dec_val _ _ _ _ _).trans ?_)
  refine Eq.trans ?_ (congrArg (decoded m c) (emb0_2 t y)).symm
  exact congrArg₂ (fun g p => decPoint g p (y 0)) (funext fun n => iblk0_0 m c t n (y 1) (y 2)) (funext fun a => iblk0_1 m c t a (y 1) (y 2))

/-! ## The suppression launch's blocks -/

/-- The scores, batch by batch. -/
def argS (c : Dev nD) : Fin 4 → Fin 16384 → EReal := fun b n =>
  (m ((c : Thread nD τ).loc main_arg0) : (⟨S4x16384x1, .f32⟩ : BufTy).Contents (Elt Ideal)) (ix3 b n 0)

/-- The boxes that the predictions and points encode, batch by batch. -/
def argP (c : Dev nD) : Fin 4 → Fin 7 → Fin 16384 → EReal := fun b ch n =>
  box (fun k => (m ((c : Thread nD τ).loc main_arg1) : (⟨S4x16384x76, .f32⟩ : BufTy).Contents (Elt Ideal)) (ix3 b n k))
    (fun a => (m ((c : Thread nD τ).loc main_arg2) : (⟨S4x16384x3, .f32⟩ : BufTy).Contents (Elt Ideal)) (ix3 b n a)) ch

/-- The channels that the suppression launch is entered with. -/
theorem v7_val (c : Dev nD) (ch : Fin 12) (b : Fin 4) (n : Fin 16384) :
    (V3 m (o0 m) c main_v7 : (⟨S12x4x16384, .f32⟩ : BufTy).Contents (Elt Ideal)) (ix3 ch b n)
      = decPoint (fun k => (m ((c : Thread nD τ).loc main_arg1) : (⟨S4x16384x76, .f32⟩ : BufTy).Contents (Elt Ideal)) (ix3 b n k))
          (fun a => (m ((c : Thread nD τ).loc main_arg2) : (⟨S4x16384x3, .f32⟩ : BufTy).Contents (Elt Ideal)) (ix3 b n a)) ch := by
  have hs : (b.val * 16384 + n.val) / 8192 < 8 := by omega
  have hL : (b.val * 16384 + n.val) % 8192 < 8192 := by omega
  have hf : (b.val * 16384 + n.val) / 8192 * 8192 + (b.val * 16384 + n.val) % 8192 = b.val * 16384 + n.val := by omega
  refine (host_v7 (V2 m (o0 m) c) b n ch ⟨_, hs⟩ ⟨_, hL⟩ hf).trans ?_
  have e : V2 m (o0 m) c main_v6 = decoded m c := (Function.update_self (f := V1 m c) (Proc.devRef .tc main_v6) _).trans ((o0_at m c 2).trans (decoded_val m c))
  refine (congrFun e _).trans ?_
  exact congrArg₂ (fun g p => decPoint g p ch) (funext fun k => host_v2 (V0 m c) b n k ⟨_, hs⟩ ⟨_, hL⟩ hf) (funext fun a => host_v5 (V0 m c) b n a ⟨_, hs⟩ ⟨_, hL⟩ hf)

/-- The scores that the suppression launch is entered with. -/
theorem v8_val (c : Dev nD) (b : Fin 4) (n : Fin 16384) :
    (V3 m (o0 m) c main_v8 : (⟨S4x16384, .f32⟩ : BufTy).Contents (Elt Ideal)) (ix2 b n) = argS m c b n := by
  refine (host_v8 (V2 m (o0 m) c) b n).trans ?_
  exact congrFun ((V2_of m (o0 m) c main_arg0 (by decide)).trans (V1_of m c main_arg0 (by decide))) _

/-- The launch's block of channels. -/
theorem iblk1_0 (c : Dev nD) (ch : Fin 12) (b : Fin 4) (n : Fin 16384) :
    (iblk1 m c 0 t1_0 : Vec Ideal S12x4x16384 .f32) (ix3 ch b n) = (V3 m (o0 m) c main_v7 : (⟨S12x4x16384, .f32⟩ : BufTy).Contents (Elt Ideal)) (ix3 ch b n) := by
  blk_simp [iblk1]
  refine congrArg (V3 m (o0 m) c main_v7) ?_
  blk_ext [show win1_0.index t1_0 = ![0, 0, 0] from by decide +kernel]

/-- The launch's block of scores. -/
theorem iblk1_1 (c : Dev nD) (b : Fin 4) (n : Fin 16384) :
    (iblk1 m c 1 t1_0 : Vec Ideal S4x16384 .f32) (ix2 b n) = (V3 m (o0 m) c main_v8 : (⟨S4x16384, .f32⟩ : BufTy).Contents (Elt Ideal)) (ix2 b n) := by
  blk_simp [iblk1]
  refine congrArg (V3 m (o0 m) c main_v8) ?_
  blk_ext [show win1_1.index t1_0 = ![0, 0] from by decide +kernel]

/-- The scores as the rounds see them. -/
theorem kS_val (c : Dev nD) : kS (iblk1 m c 1 t1_0) = argS m c := funext fun b => funext fun n => (iblk1_1 m c b n).trans (v8_val m c b n)

/-- The boxes as the rounds see them. -/
theorem kP_val (c : Dev nD) : kP (iblk1 m c 0 t1_0) = argP m c := funext fun b => funext fun ch => funext fun n => by
  refine (iblk1_0 m c (ch.castLE (by decide)) b n).trans ((v7_val m c _ b n).trans ?_)
  match ch with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The launch finds the boxes' corners and areas in the last channels. -/
theorem corners (c : Dev nD) : Corners (iblk1 m c 0 t1_0) (iblk1 m c 1 t1_0) := by
  have h := fun ch b n => (iblk1_0 m c ch b n).trans (v7_val m c ch b n)
  unfold Corners
  rw [kP_val, kS_val]
  refine fun b n => ⟨?_, ?_, ?_, ?_, ?_⟩
  · exact h 7 b n
  · exact h 8 b n
  · exact h 9 b n
  · exact h 10 b n
  · exact h 11 b n

/-! ## The results -/

/-- The kernel's boxes. -/
theorem result_boxes (c : Dev nD) (γ : Γ m c) (b : Fin 4) (t : Fin 512) (ch : Fin 7) :
    (W5 m c γ main_v10 : (⟨S4x512x7, .f32⟩ : BufTy).Contents (Elt Ideal)) (ix3 b t ch) = outBox (argS m c) (argP m c) b t.val ch := by
  refine (host_v10 (W4 m c γ) b t ch).trans ?_
  have e : W4 m c γ main_v9_0 = γ.1.1 := by
    unfold W4
    rw [Function.update_of_ne (StableHlo.devRef_ne_of_ne (by decide) : (Proc.devRef .tc main_v9_0 : DevRef τ sig) ≠ Proc.devRef .tc main_v9_1), Function.update_self]
  have h := γ.2.1 b t ch
  rw [nBox_val _ _ (corners m c), kS_val, kP_val] at h
  refine (congrFun e _).trans (Eq.trans ?_ h)
  blk_simp
  refine congrArg γ.1.1 ?_
  blk_ext [show win1_2.index t1_0 = ![0, 0, 0] from by decide +kernel]

/-- The kernel's scores. -/
theorem result_scores (c : Dev nD) (γ : Γ m c) (b : Fin 4) (t : Fin 512) :
    (W5 m c γ main_v11 : (⟨S4x512x1, .f32⟩ : BufTy).Contents (Elt Ideal)) (ix3 b t 0) = outScore (argS m c) (argP m c) b t.val := by
  refine (host_v11 (W4 m c γ) b t).trans ?_
  have e : W4 m c γ main_v9_1 = γ.1.2 := by
    unfold W4
    rw [Function.update_self]
  have h := γ.2.2 b t
  rw [nScore_val _ _ (corners m c), kS_val, kP_val] at h
  refine (congrFun e _).trans (Eq.trans ?_ h)
  blk_simp
  refine congrArg γ.1.2 ?_
  blk_ext [show win1_3.index t1_0 = ![0, 0, 0] from by decide +kernel]

end Cert.KernelIdeal.Hand
-- ==== Proof.RefKit.lean ====
module

public import proofs.«01_k».proof.Proof.Rows
public import proofs.«01_k».proof.Proof.SpecLemmas
public import proofs.«01_k».proof.Proof.Gen.ReferenceIdeal
public import proofs.«01_k».proof.Proof.RefLine
public import Idealize.ShloMosaic.Lib.Pointwise.Reduce
public import Idealize.ShloMosaic.Lib.Routing.OpsSet
public import Idealize.ShloMosaic.Lib.ValueLayout
public import Idealize.ShloMosaic.Lib.ValueLayoutCasts
public import Idealize.ShloMosaic.Lib.IdealHost

@[expose] public section

set_option maxRecDepth 16384

noncomputable section
/-! # The reference's indexed reads and writes, at a place

The reference finds a place (an argmax over a row), reads other rows there (a gather along the row) and writes there (a
scatter). Each of these is stated here at one place, for the words that name the places of a row. -/

namespace Cert.ReferenceIdeal.Value

open Cert.ReferenceIdeal Cert.ReferenceIdeal.Gen Cert.Spec
open Idealize.ShloMosaic hiding ix1 ix2 ix3
open Idealize.ShloMosaic.ValueIdx (ix1 ix2 ix3)

/-- A concatenation of columns reads the piece that holds the column. -/
theorem columns_at {α : Type} {R C n : ℕ} (xs : List ((s : Shape) × (s.Idx → α))) (h : Shape.Concatenates (xs.map (·.1)) ⟨2, ![R, C]⟩ 1) (r : Fin R) (c : Fin C)
    (k : ℕ) (hk : k < xs.length) (x : (⟨2, ![R, n]⟩ : Shape).Idx → α) (hxk : xs[k] = ⟨⟨2, ![R, n]⟩, x⟩) (pre : ℕ)
    (hpre : (((xs.take k).map (·.1)).map fun s => if h : s.rank = 2 then s.size ((1 : Fin 2).cast h.symm) else 0).sum = pre)
    (d : Fin n) (hd : pre + d.val = c.val) : concatenate ⟨2, ![R, C]⟩ 1 xs h (ix2 r c) = x (ix2 r d) :=
  concatenate_apply_piece (t := ⟨2, ![R, C]⟩) 1 xs h (ix2 r c) k hk ⟨2, ![R, n]⟩ x hxk rfl pre hpre (ix2 r d)
    (fun b hb => by
      match b with
      | ⟨0, _⟩ => rfl
      | ⟨1, _⟩ => exact absurd rfl hb)
    hd

/-- A gather reads the place its three coordinates add up to. -/
theorem gather_at {α : Type} {s si t : Shape} {w : ℕ} (d : GatherDims s si t) (x : s.Idx → α) (idx : IVec si w) (j : t.Idx) (i : s.Idx)
    (h : ∀ a, d.start j idx a + d.batchCoord j a + d.offCoord j a = (i a).val) : Host.gather d x idx j = x i :=
  congrArg x (funext fun a => Fin.ext (h a))

/-- The word of a place, read signed and clamped, is the place. -/
theorem clamp_word (k n : ℕ) (hk : k < n) (hn : n < 2147483648) : min (BitVec.ofNat 32 k).toInt.toNat (n - 1) = k := by
  rw [toInt_word k (by omega)]
  simp only [Int.toNat_natCast]
  omega

/-- A gather along the rows of sixteen thousand places reads the place the index names. -/
theorem gather_long {α : Type} (x : S4x16384.Idx → α) (idx : IVec S4x1x1 32) (r : Fin 4) (k : Fin 16384)
    (h : idx (ix3 r 0 0) = BitVec.ofNat 32 k.val) :
    Host.gather gather_S4x16384_S4x1x1_S4x1_n_1_0_0_1_2_11 x idx (ix2 r 0) = x (ix2 r k) := by
  refine gather_at _ x idx _ _ fun a => ?_
  match a with
  | ⟨0, _⟩ => exact (Nat.zero_add _)
  | ⟨1, _⟩ =>
    have e : gather_S4x16384_S4x1x1_S4x1_n_1_0_0_1_2_11.siIdx (ix2 r 0) ⟨0, by decide⟩ = ix3 r 0 0 := by
      funext b
      match b with
      | ⟨0, _⟩ => rfl
      | ⟨1, _⟩ => rfl
      | ⟨2, _⟩ => rfl
    have := clamp_word k.val 16384 k.isLt (by decide)
    rw [← h, ← e] at this
    exact this

/-- A gather along the rows of twelve places reads the place the index names. -/
theorem gather_short {α : Type} (x : S65536x12.Idx → α) (idx : IVec S65536x1x1 32) (r : Fin 65536) (k : Fin 12)
    (h : idx (ix3 r 0 0) = BitVec.ofNat 32 k.val) :
    Host.gather gather_S65536x12_S65536x1x1_S65536x1_n_1_0_0_1_2_11 x idx (ix2 r 0) = x (ix2 r k) := by
  refine gather_at _ x idx _ _ fun a => ?_
  match a with
  | ⟨0, _⟩ => exact (Nat.zero_add _)
  | ⟨1, _⟩ =>
    have e : gather_S65536x12_S65536x1x1_S65536x1_n_1_0_0_1_2_11.siIdx (ix2 r 0) ⟨0, by decide⟩ = ix3 r 0 0 := by
      funext b
      match b with
      | ⟨0, _⟩ => rfl
      | ⟨1, _⟩ => rfl
      | ⟨2, _⟩ => rfl
    have := clamp_word k.val 12 k.isLt (by decide)
    rw [← h, ← e] at this
    exact this

/-- A gather of whole boxes reads the box the index names. -/
theorem gather_boxes {α : Type} (x : S4x16384x7.Idx → α) (idx : IVec S4x512x1 32) (r : Fin 4) (t : Fin 512) (ch : Fin 7) (k : Fin 16384)
    (h : idx (ix3 r t 0) = BitVec.ofNat 32 k.val) :
    Host.gather gather_S4x16384x7_S4x512x1_S4x512x7_2_1_0_0_1_2_117 x idx (ix3 r t ch) = x (ix3 r k ch) := by
  refine gather_at _ x idx _ _ fun a => ?_
  match a with
  | ⟨0, _⟩ => exact (Nat.zero_add _)
  | ⟨1, _⟩ =>
    have e : gather_S4x16384x7_S4x512x1_S4x512x7_2_1_0_0_1_2_117.siIdx (ix3 r t ch) ⟨0, by decide⟩ = ix3 r t 0 := by
      funext b
      match b with
      | ⟨0, _⟩ => rfl
      | ⟨1, _⟩ => rfl
      | ⟨2, _⟩ => rfl
    have := clamp_word k.val 16384 k.isLt (by decide)
    rw [← h, ← e] at this
    exact this
  | ⟨2, _⟩ => exact (Nat.zero_add _)

/-- A gather of scores reads the score the index names. -/
theorem gather_scores {α : Type} (x : S4x16384x1.Idx → α) (idx : IVec S4x512x1 32) (r : Fin 4) (t : Fin 512) (k : Fin 16384)
    (h : idx (ix3 r t 0) = BitVec.ofNat 32 k.val) :
    Host.gather gather_S4x16384x1_S4x512x1_S4x512x1_2_1_0_0_1_2_111 x idx (ix3 r t 0) = x (ix3 r k 0) := by
  refine gather_at _ x idx _ _ fun a => ?_
  match a with
  | ⟨0, _⟩ => exact (Nat.zero_add _)
  | ⟨1, _⟩ =>
    have e : gather_S4x16384x1_S4x512x1_S4x512x1_2_1_0_0_1_2_111.siIdx (ix3 r t 0) ⟨0, by decide⟩ = ix3 r t 0 := by
      funext b
      match b with
      | ⟨0, _⟩ => rfl
      | ⟨1, _⟩ => rfl
      | ⟨2, _⟩ => rfl
    have := clamp_word k.val 16384 k.isLt (by decide)
    rw [← h, ← e] at this
    exact this
  | ⟨2, _⟩ => exact (Nat.zero_add _)

/-- Bringing a place's word into range leaves it: it is not negative. -/
theorem wrap_word (k : ℕ) (hk : k < 2147483648) (y : BitVec 32) :
    Scalar.select (IntOp.cmpi .slt (BitVec.ofNat 32 k) 0#32) y (BitVec.ofNat 32 k) = BitVec.ofNat 32 k := by
  have h : (BitVec.ofNat 32 k).slt 0#32 = false := by
    simp only [BitVec.slt, toInt_word k hk]
    simp
  simp [IntOp.cmpi, Scalar.select, h]

/-- The reference's reads along a row of twelve: the place's word brought into range, then a gather. -/
theorem take_short {α : Type} (x : S65536x12.Idx → α) (j : IVec S65536 32) (r : Fin 65536) (k : Fin 12) (h : j (ix1 r) = BitVec.ofNat 32 k.val) :
    Host.gather gather_S65536x12_S65536x1x1_S65536x1_n_1_0_0_1_2_11 x
      (shapeCast S65536x1x1 (select (cmpi .slt (broadcastInDim S65536x1 ![0] bcast_S65536_S65536x1_0 j)
          (broadcastInDim S65536x1 ![] bcast_S_S65536x1 (constantI S_ 32 0#32)))
        (addi (broadcastInDim S65536x1 ![0] bcast_S65536_S65536x1_0 j) (broadcastInDim S65536x1 ![] bcast_S_S65536x1 (constantI S_ 32 12#32)))
        (broadcastInDim S65536x1 ![0] bcast_S65536_S65536x1_0 j)) shapeCasts_S65536x1_S65536x1x1) (ix2 r 0) = x (ix2 r k) := by
  refine gather_short x _ r k ?_
  refine (shapeCast_apply _ _ _ (ix2 r 0) ?_).trans ?_
  · rw [Shape.rowMajor_val_two, Shape.rowMajor_val_three]
    show r.val * 1 + 0 = (r.val * 1 + 0) * 1 + 0
    omega
  have hb : broadcastInDim S65536x1 ![0] bcast_S65536_S65536x1_0 j (ix2 r 0) = BitVec.ofNat 32 k.val :=
    (broadcastInDim_apply _ _ _ _ (ix1 r) fun a => by match a with | ⟨0, _⟩ => rfl).trans h
  have hs := wrap_word k.val (by omega) (IntOp.addi (BitVec.ofNat 32 k.val) 12#32)
  rw [← hb] at hs
  exact hs.trans hb

/-- The reference's reads along a row of sixteen thousand. -/
theorem take_long {α : Type} (x : S4x16384.Idx → α) (j : IVec S4 32) (r : Fin 4) (k : Fin 16384) (h : j (ix1 r) = BitVec.ofNat 32 k.val) :
    Host.gather gather_S4x16384_S4x1x1_S4x1_n_1_0_0_1_2_11 x
      (shapeCast S4x1x1 (select (cmpi .slt (broadcastInDim S4x1 ![0] bcast_S4_S4x1_0 j)
          (broadcastInDim S4x1 ![] bcast_S_S4x1 (constantI S_ 32 0#32)))
        (addi (broadcastInDim S4x1 ![0] bcast_S4_S4x1_0 j) (broadcastInDim S4x1 ![] bcast_S_S4x1 (constantI S_ 32 16384#32)))
        (broadcastInDim S4x1 ![0] bcast_S4_S4x1_0 j)) shapeCasts_S4x1_S4x1x1) (ix2 r 0) = x (ix2 r k) := by
  refine gather_long x _ r k ?_
  refine (shapeCast_apply _ _ _ (ix2 r 0) ?_).trans ?_
  · rw [Shape.rowMajor_val_two, Shape.rowMajor_val_three]
    show r.val * 1 + 0 = (r.val * 1 + 0) * 1 + 0
    omega
  have hb : broadcastInDim S4x1 ![0] bcast_S4_S4x1_0 j (ix2 r 0) = BitVec.ofNat 32 k.val :=
    (broadcastInDim_apply _ _ _ _ (ix1 r) fun a => by match a with | ⟨0, _⟩ => rfl).trans h
  have hs := wrap_word k.val (by omega) (IntOp.addi (BitVec.ofNat 32 k.val) 16384#32)
  rw [← hb] at hs
  exact hs.trans hb

/-- The first place of the maximum of a row of twelve. -/
theorem argmax_short (x : FVec Ideal S65536x12 .f32) (r : Fin 65536) :
    (Host.argReduce (reducer_argmax_f32_i32 (F := Ideal)) x (iotaInDim S65536x12 32 1) (constant S_ .f32 0xFF800000#32) (constantI S_ 32 0#32)
      reducesTo_S65536x12_S65536_d1 h_S_ (ix1 r)).2 = BitVec.ofNat 32 (pick (N := 11) fun n => x (ix2 r n)).val :=
  row_argmax (R := 65536) (N := 11) x _ _ _ _ _ r (by decide) (fun n => rfl) (by exact lit_neg_inf) rfl

/-- The first place of the maximum of a row of sixteen thousand. -/
theorem argmax_long (x : FVec Ideal S4x16384 .f32) (r : Fin 4) :
    (Host.argReduce (reducer_argmax_f32_i32 (F := Ideal)) x (iotaInDim S4x16384 32 1) (constant S_ .f32 0xFF800000#32) (constantI S_ 32 0#32)
      reducesTo_S4x16384_S4_d1 h_S_ (ix1 r)).2 = BitVec.ofNat 32 (pick (N := 16383) fun n => x (ix2 r n)).val :=
  row_argmax (R := 4) (N := 16383) x _ _ _ _ _ r (by decide) (fun n => rfl) (by exact lit_neg_inf) rfl

end Cert.ReferenceIdeal.Value
-- ==== Proof.RefPreVal.lean ====
module

public import proofs.«01_k».proof.Proof.RefKit
public import proofs.«01_k».proof.Proof.RefPreEq

@[expose] public section

set_option maxRecDepth 16384

noncomputable section
/-! # What the reference's first stretch computes

The decoded boxes, their corners and areas, at a place, as the values of `Spec`. -/

namespace Cert.ReferenceIdeal.Value

open Cert.ReferenceIdeal Cert.ReferenceIdeal.Gen Cert.Spec
open Idealize.ShloMosaic hiding ix1 ix2 ix3
open Idealize.ShloMosaic.ValueIdx (ix1 ix2 ix3)
open Idealize.ShloMosaic.TcCoe Idealize.ShloMosaic.StableHlo

/-! ## The arithmetic at a place, as printed -/

section Forms
variable {F : FTy → Type} [FloatOps F] (V : Valuation τ sig (Elt F))

/-- The position along the first axis, before the point is added. -/
theorem form_v30 (i : S65536.Idx) : (Pre V main_v30 : Cf32 F S65536) i
    = FloatOps.addf (FloatOps.subf (FloatOps.addf (FloatOps.mulf (FloatOps.sitofp .f32 ((Pre V main_v3 : Ci32 F S65536) i)) (FloatOps.ofBits .f32 0x3F000000#32))
        (FloatOps.ofBits .f32 0x3E800000#32)) (FloatOps.ofBits .f32 0x40400000#32))
      (FloatOps.mulf ((Pre V main_v23 : Cf32 F S65536) i) (FloatOps.ofBits .f32 0x3F000000#32)) := by
  rw [pre_v30, pre_v12, pre_v10, pre_v8, pre_v6, pre_v7, pre_cst_0, pre_v9, pre_cst_1, pre_v11, pre_cst_2, pre_v29, pre_v28, pre_cst_6]
  rfl

/-- The position along the second axis, before the point is added. -/
theorem form_v33 (i : S65536.Idx) : (Pre V main_v33 : Cf32 F S65536) i
    = FloatOps.addf (FloatOps.subf (FloatOps.addf (FloatOps.mulf (FloatOps.sitofp .f32 ((Pre V main_v5 : Ci32 F S65536) i)) (FloatOps.ofBits .f32 0x3F000000#32))
        (FloatOps.ofBits .f32 0x3E800000#32)) (FloatOps.ofBits .f32 0x40400000#32))
      (FloatOps.mulf ((Pre V main_v27 : Cf32 F S65536) i) (FloatOps.ofBits .f32 0x3F000000#32)) := by
  rw [pre_v33, pre_v19, pre_v17, pre_v15, pre_v13, pre_v14, pre_cst_3, pre_v16, pre_cst_4, pre_v18, pre_cst_5, pre_v32, pre_v31, pre_cst_7]
  rfl

/-- The angle before it is brought into one turn. -/
theorem form_v50 (i : S65536.Idx) : (Pre V main_v50 : Cf32 F S65536) i
    = FloatOps.addf (FloatOps.mulf (FloatOps.sitofp .f32 ((Pre V main_v40 : Ci32 F S65536) i)) (FloatOps.ofBits .f32 0x3F060A92#32))
      (FloatOps.mulf ((Pre V main_v44 : Cf32 F S65536) i) (FloatOps.ofBits .f32 0x3E860A92#32)) := by
  rw [pre_v50, pre_v49, pre_v47, pre_v48, pre_cst_9, pre_v46, pre_v45, pre_cst_8]
  rfl

/-- The remainder as the reference takes it: with the divisor's sign. -/
def remForm (a T : F .f32) : F .f32 :=
  Scalar.select (IntOp.andi (IntOp.cmpi .ne (FloatOps.cmpf .olt (FloatOps.hostRemf a T) (FloatOps.ofBits .f32 0x00000000#32))
      (FloatOps.cmpf .olt T (FloatOps.ofBits .f32 0x00000000#32)))
    (FloatOps.cmpf .une (FloatOps.hostRemf a T) (FloatOps.ofBits .f32 0x00000000#32)))
    (FloatOps.addf (FloatOps.hostRemf a T) T) (FloatOps.hostRemf a T)

/-- The angle brought into one turn. -/
theorem form_v51 (i : S65536.Idx) : (Pre V main_v51 : Cf32 F S65536) i = remForm ((Pre V main_v50 : Cf32 F S65536) i) (FloatOps.ofBits .f32 0x40C90FDB#32) := by
  rw [pre_v51, pre_call6_v12, pre_call6_v11, pre_call6_v10, pre_call6_v9, pre_call6_v8, pre_call6_v7, pre_call6_v6, pre_call6_v5, pre_call6_v4, pre_call6_v3, pre_call6_v2, pre_call6_v1, pre_call6_v0,
    pre_cst_10, pre_call6_cst, pre_call6_cst_0, pre_call6_cst_1]
  rfl

/-- The angle. -/
theorem form_v56 (i : S65536.Idx) : (Pre V main_v56 : Cf32 F S65536) i
    = Scalar.select (FloatOps.cmpf .ogt ((Pre V main_v51 : Cf32 F S65536) i) (FloatOps.ofBits .f32 0x40490FDB#32))
        (FloatOps.subf ((Pre V main_v51 : Cf32 F S65536) i) (FloatOps.ofBits .f32 0x40C90FDB#32)) ((Pre V main_v51 : Cf32 F S65536) i) := by
  rw [pre_v56, pre_v53, pre_v52, pre_cst_11, pre_v55, pre_v54, pre_cst_12]
  rfl

/-- The corners and areas, in the order in which the rounds are handed them. -/
theorem form_corners (i : S4x16384.Idx) :
    (Pre V main_v105_1 : Cf32 F S4x16384) i = FloatOps.subf ((Pre V main_v75 : Cf32 F S4x16384) i) (FloatOps.hostDivf ((Pre V main_v79 : Cf32 F S4x16384) i) (FloatOps.ofBits .f32 0x40000000#32))
    ∧ (Pre V main_v105_2 : Cf32 F S4x16384) i = FloatOps.subf ((Pre V main_v77 : Cf32 F S4x16384) i) (FloatOps.hostDivf ((Pre V main_v81 : Cf32 F S4x16384) i) (FloatOps.ofBits .f32 0x40000000#32))
    ∧ (Pre V main_v105_3 : Cf32 F S4x16384) i = FloatOps.addf ((Pre V main_v75 : Cf32 F S4x16384) i) (FloatOps.hostDivf ((Pre V main_v79 : Cf32 F S4x16384) i) (FloatOps.ofBits .f32 0x40000000#32))
    ∧ (Pre V main_v105_4 : Cf32 F S4x16384) i = FloatOps.addf ((Pre V main_v77 : Cf32 F S4x16384) i) (FloatOps.hostDivf ((Pre V main_v81 : Cf32 F S4x16384) i) (FloatOps.ofBits .f32 0x40000000#32)) := by
  rw [pre_v105_1, pre_v105_2, pre_v105_3, pre_v105_4, pre_v84, pre_v83, pre_v82, pre_cst_13, pre_v87, pre_v86, pre_v85, pre_cst_14, pre_v90, pre_v89, pre_v88, pre_cst_15, pre_v93, pre_v92, pre_v91, pre_cst_16]
  exact ⟨rfl, rfl, rfl, rfl⟩

/-- The areas from the corners. -/
theorem form_area (i : S4x16384.Idx) : (Pre V main_v105_5 : Cf32 F S4x16384) i
    = FloatOps.mulf (FloatOps.maximumf (FloatOps.subf ((Pre V main_v105_3 : Cf32 F S4x16384) i) ((Pre V main_v105_1 : Cf32 F S4x16384) i)) (FloatOps.ofBits .f32 0x00000000#32))
      (FloatOps.maximumf (FloatOps.subf ((Pre V main_v105_4 : Cf32 F S4x16384) i) ((Pre V main_v105_2 : Cf32 F S4x16384) i)) (FloatOps.ofBits .f32 0x00000000#32)) := by
  rw [pre_v105_5, pre_v101, pre_v97, pre_v96, pre_cst_17, pre_v95, pre_v100, pre_v99, pre_cst_18, pre_v98, pre_v105_1, pre_v105_2, pre_v105_3, pre_v105_4]
  rfl

/-- What the rounds start from: no box suppressed, nothing selected, round zero. -/
theorem form_start : (∀ i, (Pre V main_v105_7 : Ci1 F S4x16384) i = 0#1) ∧ (∀ i, (Pre V main_v105_8 : Ci32 F S512x4) i = 0#32)
    ∧ (∀ i, (Pre V main_v105_9 : Ci1 F S512x4) i = 0#1) ∧ (Pre V main_v105_6 : Ci32 F S_) = constantI S_ 32 0#32 := by
  rw [pre_v105_7, pre_v105_8, pre_v105_9, pre_v105_6, pre_v102, pre_c, pre_v103, pre_c_19, pre_v104, pre_c_20, pre_c_21]
  exact ⟨fun _ => rfl, fun _ => rfl, fun _ => rfl, rfl⟩

/-- The sides, at a place. -/
theorem form_v63 (i : S65536x3.Idx) : (Pre V main_v63 : Cf32 F S65536x3) i
    = FloatOps.addf (FloatOps.mulf ((Pre V main_v57 : Cf32 F S65536x3) i) (FloatOps.ofBits .f32 (lit0 (S3.rowMajor (ix1 (i 1))))))
        (FloatOps.ofBits .f32 (lit0 (S3.rowMajor (ix1 (i 1))))) := by
  have e : ∀ x : Cf32 F S3, broadcastInDim S65536x3 ![0, 1] bcast_S1x3_S65536x3_0_1 (broadcastInDim S1x3 ![1] bcast_S3_S1x3_1 x) i = x (ix1 (i 1)) := fun x => by
    refine (broadcastInDim_apply _ _ _ _ (ix2 0 (i 1)) fun a => ?_).trans (broadcastInDim_apply _ _ _ _ (ix1 (i 1)) fun a => ?_)
    · match a with
      | ⟨0, _⟩ => rfl
      | ⟨1, _⟩ => rfl
    · match a with
      | ⟨0, _⟩ => rfl
  rw [pre_v63, pre_v62, pre_v61, pre_v60, pre_v59, pre_v58]
  have h := e (Pre V main_cst)
  have hc := congrFun (pre_cst V) (ix1 (i 1))
  rw [hc] at h
  exact congrArg₂ FloatOps.addf (congrArg (FloatOps.mulf _) h) h

/-- Seven columns put together of five pieces. -/
theorem cat_box {α : Type} (x y z u : S65536x1.Idx → α) (w : S65536x3.Idx → α)
    (h : Shape.Concatenates (([⟨S65536x1, x⟩, ⟨S65536x1, y⟩, ⟨S65536x1, z⟩, ⟨S65536x3, w⟩, ⟨S65536x1, u⟩] : List ((s : Shape) × (s.Idx → α))).map (·.1)) S65536x7 1)
    (r : Fin 65536) (c : Fin 7) : concatenate S65536x7 1 [⟨S65536x1, x⟩, ⟨S65536x1, y⟩, ⟨S65536x1, z⟩, ⟨S65536x3, w⟩, ⟨S65536x1, u⟩] h (ix2 r c)
    = (match c with
      | ⟨0, _⟩ => x (ix2 r 0)
      | ⟨1, _⟩ => y (ix2 r 0)
      | ⟨2, _⟩ => z (ix2 r 0)
      | ⟨3, _⟩ => w (ix2 r 0)
      | ⟨4, _⟩ => w (ix2 r 1)
      | ⟨5, _⟩ => w (ix2 r 2)
      | ⟨6, _⟩ => u (ix2 r 0)) := by
  match c with
  | ⟨0, hc⟩ => exact columns_at (R := 65536) (C := 7) [⟨S65536x1, x⟩, ⟨S65536x1, y⟩, ⟨S65536x1, z⟩, ⟨S65536x3, w⟩, ⟨S65536x1, u⟩] h r ⟨0, hc⟩ 0 (by decide : 0 < 5) x rfl 0 rfl 0 rfl
  | ⟨1, hc⟩ => exact columns_at (R := 65536) (C := 7) [⟨S65536x1, x⟩, ⟨S65536x1, y⟩, ⟨S65536x1, z⟩, ⟨S65536x3, w⟩, ⟨S65536x1, u⟩] h r ⟨1, hc⟩ 1 (by decide : 1 < 5) y rfl 1 rfl 0 rfl
  | ⟨2, hc⟩ => exact columns_at (R := 65536) (C := 7) [⟨S65536x1, x⟩, ⟨S65536x1, y⟩, ⟨S65536x1, z⟩, ⟨S65536x3, w⟩, ⟨S65536x1, u⟩] h r ⟨2, hc⟩ 2 (by decide : 2 < 5) z rfl 2 rfl 0 rfl
  | ⟨3, hc⟩ => exact columns_at (R := 65536) (C := 7) [⟨S65536x1, x⟩, ⟨S65536x1, y⟩, ⟨S65536x1, z⟩, ⟨S65536x3, w⟩, ⟨S65536x1, u⟩] h r ⟨3, hc⟩ 3 (by decide : 3 < 5) w rfl 3 rfl 0 rfl
  | ⟨4, hc⟩ => exact columns_at (R := 65536) (C := 7) [⟨S65536x1, x⟩, ⟨S65536x1, y⟩, ⟨S65536x1, z⟩, ⟨S65536x3, w⟩, ⟨S65536x1, u⟩] h r ⟨4, hc⟩ 3 (by decide : 3 < 5) w rfl 3 rfl 1 rfl
  | ⟨5, hc⟩ => exact columns_at (R := 65536) (C := 7) [⟨S65536x1, x⟩, ⟨S65536x1, y⟩, ⟨S65536x1, z⟩, ⟨S65536x3, w⟩, ⟨S65536x1, u⟩] h r ⟨5, hc⟩ 3 (by decide : 3 < 5) w rfl 3 rfl 2 rfl
  | ⟨6, hc⟩ => exact columns_at (R := 65536) (C := 7) [⟨S65536x1, x⟩, ⟨S65536x1, y⟩, ⟨S65536x1, z⟩, ⟨S65536x3, w⟩, ⟨S65536x1, u⟩] h r ⟨6, hc⟩ 4 (by decide : 4 < 5) u rfl 6 rfl 0 rfl

/-- The seven columns of a box. -/
theorem form_v72 (r : Fin 65536) (c : Fin 7) : (Pre V main_v72 : Cf32 F S65536x7) (ix2 r c)
    = match c with
      | ⟨0, _⟩ => (Pre V main_v66 : Cf32 F S65536x1) (ix2 r 0)
      | ⟨1, _⟩ => (Pre V main_v67 : Cf32 F S65536x1) (ix2 r 0)
      | ⟨2, _⟩ => (Pre V main_v70 : Cf32 F S65536x1) (ix2 r 0)
      | ⟨3, _⟩ => (Pre V main_v63 : Cf32 F S65536x3) (ix2 r 0)
      | ⟨4, _⟩ => (Pre V main_v63 : Cf32 F S65536x3) (ix2 r 1)
      | ⟨5, _⟩ => (Pre V main_v63 : Cf32 F S65536x3) (ix2 r 2)
      | ⟨6, _⟩ => (Pre V main_v71 : Cf32 F S65536x1) (ix2 r 0) := by
  rw [pre_v72]
  exact (cat_box _ _ _ _ _ _ r c).trans (by
    match c with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)

end Forms

/-! ## The values -/

section Values
variable (V : Valuation τ sig (Elt Ideal))

/-- A row of twelve channels cut out of the seventy-six. -/
theorem cut12 {α : Type} (o : ℕ) (ho : o + 12 ≤ 76) (x : S65536x76.Idx → α) (h : S65536x76.Slices ![0, o] S65536x12) (r : Fin 65536) (k : Fin 12) :
    extractStridedSlice S65536x12 ![0, o] x h (ix2 r k) = x (ix2 r (chan o ho k)) :=
  extractStridedSlice_apply _ _ _ _ (ix2 r (chan o ho k)) fun a => by
    match a with
    | ⟨0, _⟩ => exact (Nat.zero_add _).symm
    | ⟨1, _⟩ => rfl

/-- The channels of a row. -/
def gR (r : Fin 65536) : Fin 76 → EReal := fun k => (Pre V main_v1 : Cf32 Ideal S65536x76) (ix2 r k)
/-- The point of a row. -/
def pR (r : Fin 65536) : Fin 3 → EReal := fun a => (Pre V main_v0 : Cf32 Ideal S65536x3) (ix2 r a)

/-- The bin along the first axis. -/
theorem bin_v3 (r : Fin 65536) : (Pre V main_v3 : Ci32 Ideal S65536) (ix1 r) = BitVec.ofNat 32 (bin (gR V r) 0 (by decide)).val := by
  rw [pre_v3, pre_call0_v0, pre_call0_cst, pre_call0_c]
  refine (argmax_short _ r).trans ?_
  rw [pre_v2]
  exact congrArg (fun f => BitVec.ofNat 32 (pick (N := 11) f).val) (funext fun k => cut12 0 (by decide) _ _ r k)

/-- The bin along the second axis. -/
theorem bin_v5 (r : Fin 65536) : (Pre V main_v5 : Ci32 Ideal S65536) (ix1 r) = BitVec.ofNat 32 (bin (gR V r) 12 (by decide)).val := by
  rw [pre_v5, pre_call1_v0, pre_call1_cst, pre_call1_c]
  refine (argmax_short _ r).trans ?_
  rw [pre_v4]
  exact congrArg (fun f => BitVec.ofNat 32 (pick (N := 11) f).val) (funext fun k => cut12 12 (by decide) _ _ r k)

/-- The bin of the angle. -/
theorem bin_v40 (r : Fin 65536) : (Pre V main_v40 : Ci32 Ideal S65536) (ix1 r) = BitVec.ofNat 32 (bin (gR V r) 49 (by decide)).val := by
  rw [pre_v40, pre_call4_v0, pre_call4_cst, pre_call4_c]
  refine (argmax_short _ r).trans ?_
  rw [pre_v39]
  exact congrArg (fun f => BitVec.ofNat 32 (pick (N := 11) f).val) (funext fun k => cut12 49 (by decide) _ _ r k)

/-- A column without its unit axis. -/
theorem uncol {α : Type} (x : S65536x1.Idx → α) (h : S65536x1.ShapeCasts S65536) (r : Fin 65536) : shapeCast S65536 x h (ix1 r) = x (ix2 r 0) :=
  shapeCast_apply _ _ _ (ix2 r 0) (by
    rw [Shape.rowMajor_val_one, Shape.rowMajor_val_two]
    show r.val * 1 + 0 = r.val
    omega)

/-- The residual along the first axis. -/
theorem resid_v23 (r : Fin 65536) : (Pre V main_v23 : Cf32 Ideal S65536) (ix1 r) = resid (gR V r) 0 24 (by decide) (by decide) := by
  rw [pre_v23, uncol, pre_v22, pre_call2_v5, pre_call2_v4, pre_call2_v3, pre_call2_v2, pre_call2_v1, pre_call2_v0, pre_call2_c, pre_call2_c_0, pre_v21, pre_v20]
  exact (take_short _ _ r _ (bin_v3 V r)).trans (cut12 24 (by decide) _ _ r _)

/-- The residual along the second axis. -/
theorem resid_v27 (r : Fin 65536) : (Pre V main_v27 : Cf32 Ideal S65536) (ix1 r) = resid (gR V r) 12 36 (by decide) (by decide) := by
  rw [pre_v27, uncol, pre_v26, pre_call3_v5, pre_call3_v4, pre_call3_v3, pre_call3_v2, pre_call3_v1, pre_call3_v0, pre_call3_c, pre_call3_c_0, pre_v25, pre_v24]
  exact (take_short _ _ r _ (bin_v5 V r)).trans (cut12 36 (by decide) _ _ r _)

/-- The residual of the angle. -/
theorem resid_v44 (r : Fin 65536) : (Pre V main_v44 : Cf32 Ideal S65536) (ix1 r) = resid (gR V r) 49 61 (by decide) (by decide) := by
  rw [pre_v44, uncol, pre_v43, pre_call5_v5, pre_call5_v4, pre_call5_v3, pre_call5_v2, pre_call5_v1, pre_call5_v0, pre_call5_c, pre_call5_c_0, pre_v42, pre_v41]
  exact (take_short _ _ r _ (bin_v40 V r)).trans (cut12 61 (by decide) _ _ r _)

/-- A place's word as a value is the place's number. -/
theorem word_val (k : ℕ) (hk : k < 2147483648) : FloatOps.sitofp (F := Ideal) .f32 (BitVec.ofNat 32 k) = ((k : ℝ) : EReal) := by
  show (((BitVec.ofNat 32 k).toInt : ℝ) : EReal) = _
  rw [toInt_word k hk]
  simp

/-- The bin's centre, with the two offsets of the reference. -/
theorem centre_val (k : ℕ) : ((((k : ℝ) : EReal) * Ideal.ofBits .f32 0x3F000000#32 + Ideal.ofBits .f32 0x3E800000#32) - Ideal.ofBits .f32 0x40400000#32)
    = ((k : ℝ) : EReal) * Ideal.ofBits .f32 0x3F000000#32 + Ideal.ofBits .f32 0xC0300000#32 := by
  rw [lit_half, lit_quarter, lit_three, lit_offset, ← EReal.coe_mul, ← EReal.coe_add, ← EReal.coe_sub, ← EReal.coe_add]
  exact congrArg (fun x : ℝ => (x : EReal)) (by ring)

/-- The reference's remainder is the angle within one turn. -/
theorem rem_val (a : EReal) : remForm (F := Ideal) a (FloatOps.ofBits .f32 0x40C90FDB#32) = turn a := by
  rw [Ideal.ofBits_def]
  rw [← turn_rem a _ rfl]
  have hT : ¬ Ideal.ofBits .f32 0x40C90FDB#32 < 0 := by
    rw [lit_turn, ← EReal.coe_zero, EReal.coe_lt_coe_iff]; norm_num
  have key : remForm (F := Ideal) a (Ideal.ofBits .f32 0x40C90FDB#32)
      = Scalar.select (IntOp.andi (IntOp.cmpi .ne (Ideal.cmp .olt (Ideal.remf a (Ideal.ofBits .f32 0x40C90FDB#32)) (Ideal.ofBits .f32 0x00000000#32))
          (Ideal.cmp .olt (Ideal.ofBits .f32 0x40C90FDB#32) (Ideal.ofBits .f32 0x00000000#32)))
        (Ideal.cmp .une (Ideal.remf a (Ideal.ofBits .f32 0x40C90FDB#32)) (Ideal.ofBits .f32 0x00000000#32)))
        (Ideal.remf a (Ideal.ofBits .f32 0x40C90FDB#32) + Ideal.ofBits .f32 0x40C90FDB#32) (Ideal.remf a (Ideal.ofBits .f32 0x40C90FDB#32)) := rfl
  rw [key, lit_zero]
  generalize Ideal.remf a (Ideal.ofBits .f32 0x40C90FDB#32) = x
  generalize Ideal.ofBits .f32 0x40C90FDB#32 = T at hT ⊢
  by_cases h1 : x < 0 <;> by_cases h2 : x = 0 <;> simp [Ideal.cmp, IntOp.cmpi, IntOp.andi, Scalar.select, hT, h1, h2]

/-- A vector as a column. -/
theorem col_val {α : Type} (x : S65536.Idx → α) (r : Fin 65536) : broadcastInDim S65536x1 ![0] bcast_S65536_S65536x1_0 x (ix2 r 0) = x (ix1 r) :=
  broadcastInDim_apply _ _ _ _ (ix1 r) fun a => by match a with | ⟨0, _⟩ => rfl

/-- Some columns cut out of a table. -/
theorem cut_cols {α : Type} {C n : ℕ} (o : ℕ) (x : (⟨2, ![65536, C]⟩ : Shape).Idx → α) (h : (⟨2, ![65536, C]⟩ : Shape).Slices ![0, o] ⟨2, ![65536, n]⟩) (r : Fin 65536) (d : Fin n)
    (c : Fin C) (hc : c.val = o + d.val) : extractStridedSlice ⟨2, ![65536, n]⟩ ![0, o] x h (ix2 r d) = x (ix2 r c) :=
  extractStridedSlice_apply _ _ _ _ (ix2 r c) fun a => by
    match a with
    | ⟨0, _⟩ => exact (Nat.zero_add _).symm
    | ⟨1, _⟩ => exact hc

/-- The bin's number as the reference converts it. -/
theorem binv_word (r : Fin 65536) (o : ℕ) (h : o + 12 ≤ 76) : FloatOps.sitofp (F := Ideal) .f32 (BitVec.ofNat 32 (bin (gR V r) o h).val) = binv (gR V r) o h :=
  word_val _ (by have := (bin (gR V r) o h).isLt; omega)

/-- Column 0. -/
theorem val_v66 (r : Fin 65536) : (Pre V main_v66 : Cf32 Ideal S65536x1) (ix2 r 0) = box (gR V r) (pR V r) 0 := by
  have e : (Pre V main_v30 : Cf32 Ideal S65536) (ix1 r) = binv (gR V r) 0 (by decide) * Ideal.ofBits .f32 0x3F000000#32 + Ideal.ofBits .f32 0xC0300000#32
      + resid (gR V r) 0 24 (by decide) (by decide) * Ideal.ofBits .f32 0x3F000000#32 := by
    rw [form_v30, bin_v3, resid_v23, binv_word]
    exact congrArg (fun x : EReal => x + resid (gR V r) 0 24 (by decide) (by decide) * Ideal.ofBits .f32 0x3F000000#32) (centre_val (bin (gR V r) 0 (by decide)).val)
  rw [pre_v66, pre_v64, pre_v65]
  exact congrArg₂ (fun a b : EReal => a + b) ((col_val _ r).trans e) (cut_cols 0 _ _ r 0 0 rfl)

/-- Column 2. -/
theorem val_v70 (r : Fin 65536) : (Pre V main_v70 : Cf32 Ideal S65536x1) (ix2 r 0) = box (gR V r) (pR V r) 2 := by
  have e : (Pre V main_v33 : Cf32 Ideal S65536) (ix1 r) = binv (gR V r) 12 (by decide) * Ideal.ofBits .f32 0x3F000000#32 + Ideal.ofBits .f32 0xC0300000#32
      + resid (gR V r) 12 36 (by decide) (by decide) * Ideal.ofBits .f32 0x3F000000#32 := by
    rw [form_v33, bin_v5, resid_v27, binv_word]
    exact congrArg (fun x : EReal => x + resid (gR V r) 12 36 (by decide) (by decide) * Ideal.ofBits .f32 0x3F000000#32) (centre_val (bin (gR V r) 12 (by decide)).val)
  rw [pre_v70, pre_v68, pre_v69]
  exact congrArg₂ (fun a b : EReal => a + b) ((col_val _ r).trans e) (cut_cols 2 _ _ r 0 2 rfl)

/-- Column 1. -/
theorem val_v67 (r : Fin 65536) : (Pre V main_v67 : Cf32 Ideal S65536x1) (ix2 r 0) = box (gR V r) (pR V r) 1 := by
  rw [pre_v67, pre_v38, pre_v35, pre_v34, pre_v37, pre_v36]
  refine (col_val _ r).trans ?_
  exact congrArg₂ (fun a b : EReal => a + b) ((uncol _ _ r).trans (cut_cols 1 _ _ r 0 1 rfl)) ((uncol _ _ r).trans (cut_cols 48 _ _ r 0 48 rfl))

/-- Column 6. -/
theorem val_v71 (r : Fin 65536) : (Pre V main_v71 : Cf32 Ideal S65536x1) (ix2 r 0) = box (gR V r) (pR V r) 6 := by
  have e : (Pre V main_v50 : Cf32 Ideal S65536) (ix1 r) = rawAngle (gR V r) := by
    rw [form_v50, bin_v40, resid_v44, binv_word]
    rfl
  have e' : (Pre V main_v51 : Cf32 Ideal S65536) (ix1 r) = turn (rawAngle (gR V r)) := by
    rw [form_v51, e]
    exact rem_val _
  rw [pre_v71]
  refine (col_val _ r).trans ?_
  rw [form_v56, e']
  exact sel_gt _ _ _ _

/-- Columns 3 to 5. -/
theorem val_v63 (r : Fin 65536) (k : Fin 3) : (Pre V main_v63 : Cf32 Ideal S65536x3) (ix2 r k) = box (gR V r) (pR V r) ⟨3 + k.val, by omega⟩ := by
  rw [form_v63, pre_v57]
  have h (k : Fin 3) := cut_cols (C := 76) (n := 3) 73 (Pre V main_v1 : Cf32 Ideal S65536x76) slices_S65536x76_S65536x3_0_73 r k ⟨73 + k.val, by omega⟩ rfl
  match k with
  | ⟨0, _⟩ => exact congrArg (fun a : EReal => side a 0x3FC347E8#32) (h 0)
  | ⟨1, _⟩ => exact congrArg (fun a : EReal => side a 0x3FD074E5#32) (h 1)
  | ⟨2, _⟩ => exact congrArg (fun a : EReal => side a 0x407884FB#32) (h 2)

/-- A row of the decoded table is the box its channels and point encode. -/
theorem val_v72 (r : Fin 65536) (c : Fin 7) : (Pre V main_v72 : Cf32 Ideal S65536x7) (ix2 r c) = box (gR V r) (pR V r) c := by
  refine (form_v72 V r c).trans ?_
  match c with
  | ⟨0, _⟩ => exact val_v66 V r
  | ⟨1, _⟩ => exact val_v67 V r
  | ⟨2, _⟩ => exact val_v70 V r
  | ⟨3, _⟩ => exact val_v63 V r 0
  | ⟨4, _⟩ => exact val_v63 V r 1
  | ⟨5, _⟩ => exact val_v63 V r 2
  | ⟨6, _⟩ => exact val_v71 V r

/-- The scores, batch by batch. -/
def refS : Fin 4 → Fin 16384 → EReal := fun b n => (V main_arg0 : Cf32 Ideal S4x16384x1) (ix3 b n 0)

/-- The boxes that the predictions and points encode, batch by batch. -/
def refP : Fin 4 → Fin 7 → Fin 16384 → EReal := fun b ch n =>
  box (fun k => (V main_arg1 : Cf32 Ideal S4x16384x76) (ix3 b n k)) (fun a => (V main_arg2 : Cf32 Ideal S4x16384x3) (ix3 b n a)) ch

/-- The row of a batch's place in the decoded table. -/
def flat (b : Fin 4) (n : Fin 16384) : Fin 65536 := ⟨b.val * 16384 + n.val, by omega⟩

/-- A stack of tables as one table. -/
theorem stack_val {α : Type} {C : ℕ} (x : (⟨3, ![4, 16384, C]⟩ : Shape).Idx → α) (h : (⟨3, ![4, 16384, C]⟩ : Shape).ShapeCasts ⟨2, ![65536, C]⟩) (b : Fin 4) (n : Fin 16384) (c : Fin C) :
    shapeCast ⟨2, ![65536, C]⟩ x h (ix2 (flat b n) c) = x (ix3 b n c) :=
  shapeCast_apply _ _ _ (ix3 b n c) (by rw [Shape.rowMajor_val_two, Shape.rowMajor_val_three]; rfl)

/-- The decoded boxes, batch by batch. -/
theorem val_v73 (b : Fin 4) (n : Fin 16384) (c : Fin 7) : (Pre V main_v73 : Cf32 Ideal S4x16384x7) (ix3 b n c) = refP V b c n := by
  rw [pre_v73]
  refine (shapeCast_apply _ _ _ (ix2 (flat b n) c) (by rw [Shape.rowMajor_val_two, Shape.rowMajor_val_three]; rfl)).trans ?_
  rw [val_v72]
  refine congrArg₂ (fun g p => box g p c) (funext fun k => ?_) (funext fun a => ?_)
  · unfold gR
    rw [pre_v1]
    exact stack_val _ _ b n k
  · unfold pR
    rw [pre_v0]
    exact stack_val _ _ b n a

/-- A stack of columns without the unit axis. -/
theorem unstack {α : Type} (x : S4x16384x1.Idx → α) (h : S4x16384x1.ShapeCasts S4x16384) (b : Fin 4) (n : Fin 16384) :
    shapeCast S4x16384 x h (ix2 b n) = x (ix3 b n 0) :=
  shapeCast_apply _ _ _ (ix3 b n 0) (by
    rw [Shape.rowMajor_val_two, Shape.rowMajor_val_three]
    show (b.val * 16384 + n.val) * 1 + 0 = b.val * 16384 + n.val
    omega)

/-- One column of every box. -/
theorem cut_box {α : Type} (o : ℕ) (ho : o < 7) (x : S4x16384x7.Idx → α) (h : S4x16384x7.Slices ![0, 0, o] S4x16384x1) (b : Fin 4) (n : Fin 16384) :
    extractStridedSlice S4x16384x1 ![0, 0, o] x h (ix3 b n 0) = x (ix3 b n ⟨o, ho⟩) :=
  extractStridedSlice_apply _ _ _ _ (ix3 b n ⟨o, ho⟩) fun a => by
    match a with
    | ⟨0, _⟩ => exact (Nat.zero_add _).symm
    | ⟨1, _⟩ => exact (Nat.zero_add _).symm
    | ⟨2, _⟩ => rfl

/-- The columns the corners are made of. -/
theorem val_cols (b : Fin 4) (n : Fin 16384) :
    (Pre V main_v75 : Cf32 Ideal S4x16384) (ix2 b n) = refP V b 0 n ∧ (Pre V main_v77 : Cf32 Ideal S4x16384) (ix2 b n) = refP V b 2 n
    ∧ (Pre V main_v79 : Cf32 Ideal S4x16384) (ix2 b n) = refP V b 3 n ∧ (Pre V main_v81 : Cf32 Ideal S4x16384) (ix2 b n) = refP V b 5 n := by
  rw [pre_v75, pre_v74, pre_v77, pre_v76, pre_v79, pre_v78, pre_v81, pre_v80]
  exact ⟨((unstack _ _ b n).trans (cut_box 0 (by decide) _ _ b n)).trans (val_v73 V b n 0), ((unstack _ _ b n).trans (cut_box 2 (by decide) _ _ b n)).trans (val_v73 V b n 2),
    ((unstack _ _ b n).trans (cut_box 3 (by decide) _ _ b n)).trans (val_v73 V b n 3), ((unstack _ _ b n).trans (cut_box 5 (by decide) _ _ b n)).trans (val_v73 V b n 5)⟩

/-- The row of boxes of a batch. -/
abbrev refRow (b : Fin 4) : Row := rowOf (refS V b) (refP V b)

/-- The rounds are handed the batch's row of boxes. -/
theorem val_rows (b : Fin 4) (n : Fin 16384) :
    (Pre V main_v105_0 : Cf32 Ideal S4x16384) (ix2 b n) = (refRow V b).s n ∧ (Pre V main_v105_1 : Cf32 Ideal S4x16384) (ix2 b n) = (refRow V b).x1 n
    ∧ (Pre V main_v105_2 : Cf32 Ideal S4x16384) (ix2 b n) = (refRow V b).y1 n ∧ (Pre V main_v105_3 : Cf32 Ideal S4x16384) (ix2 b n) = (refRow V b).x2 n
    ∧ (Pre V main_v105_4 : Cf32 Ideal S4x16384) (ix2 b n) = (refRow V b).y2 n ∧ (Pre V main_v105_5 : Cf32 Ideal S4x16384) (ix2 b n) = (refRow V b).ar n := by
  obtain ⟨h0, h2, h3, h5⟩ := val_cols V b n
  obtain ⟨e1, e2, e3, e4⟩ := form_corners V (ix2 b n)
  rw [h0, h3] at e1 e3
  rw [h2, h5] at e2 e4
  have e5 := form_area V (ix2 b n)
  rw [e1, e2, e3, e4, Ideal.ofBits_def, Ideal.ofBits_def, lit_zero] at e5
  refine ⟨?_, e1, e2, e3, e4, e5⟩
  rw [pre_v105_0, pre_v94]
  exact unstack _ _ b n

end Values

end Cert.ReferenceIdeal.Value
-- ==== Proof.RefMarks.lean ====
module

public import proofs.«01_k».proof.Proof.RefKit
public import Idealize.ShloMosaic.Lib.Routing.OpsPair
public import Idealize.ShloMosaic.Lib.Pointwise.ShapeOpsCore
public import Idealize.ShloMosaic.Lib.Routing.OpsSet

@[expose] public section

set_option maxRecDepth 16384

noncomputable section
/-! # Marks and stores of a round

One-bit marks as propositions, the scatter that raises one mark of each row, and the store of one row of a table. -/

namespace Cert.ReferenceIdeal.Value

open Cert.ReferenceIdeal Cert.ReferenceIdeal.Gen Cert.Spec
open Idealize.ShloMosaic hiding ix1 ix2 ix3
open Idealize.ShloMosaic.ValueIdx (ix1 ix2 ix3)
open scoped Classical

/-- The one-bit word that says whether `p` holds. -/
def bit (p : Prop) : BitVec 1 := if p then 1#1 else 0#1

/-- The bit of what holds. -/
theorem bit_pos {p : Prop} (h : p) : bit p = 1#1 := if_pos h

/-- The bit of what does not hold. -/
theorem bit_neg {p : Prop} (h : ¬p) : bit p = 0#1 := if_neg h

/-- Equivalent propositions have one bit. -/
theorem bit_congr {p q : Prop} (h : p ↔ q) : bit p = bit q := congrArg bit (propext h)

/-- A greater-than comparison is the bit of the order. -/
theorem bit_gt (x y : EReal) : FloatOps.cmpf (F := Ideal) (φ := .f32) .ogt x y = bit (y < x) := by
  by_cases h : y < x
  · rw [bit_pos h, Ideal.cmpf_def]
    simp [Ideal.cmp, h]
  · rw [bit_neg h, Ideal.cmpf_def]
    simp [Ideal.cmp, h]

/-- A select on a bit is a choice. -/
theorem sel_bit {α : Type} (p : Prop) (a b : α) : Scalar.select (bit p) a b = if p then a else b := by
  by_cases h : p
  · rw [bit_pos h, if_pos h]; rfl
  · rw [bit_neg h, if_neg h]; rfl

/-- The bit of a disjunction. -/
theorem or_bit (p q : Prop) : IntOp.ori (bit p) (bit q) = bit (p ∨ q) := by
  by_cases h : p <;> by_cases h' : q <;> simp [bit, h, h', IntOp.ori]

/-- The value of a bit, read unsigned. -/
theorem bit_val (p : Prop) : FloatOps.uitofp (F := Ideal) .f32 (bit p) = unit p := by
  by_cases h : p
  · rw [bit_pos h, unit_pos h]
    show (((1#1 : BitVec 1).toNat : ℝ) : EReal) = 1
    simp
  · rw [bit_neg h, unit_neg h]
    show (((0#1 : BitVec 1).toNat : ℝ) : EReal) = 0
    simp

/-- The scatter that raises one mark in each row. -/
theorem mark_set (x : S4x16384.Idx → BitVec 1) (idx : IVec S4x2 32) (j : Fin 4 → Fin 16384) (h0 : ∀ r : Fin 4, idx (ix2 r 0) = BitVec.ofNat 32 r.val)
    (h1 : ∀ r, idx (ix2 r 1) = BitVec.ofNat 32 (j r).val) (r : Fin 4) (n : Fin 16384) :
    Host.scatter scatter_S4x16384_S4x2_S4_n_01_01_1 (fun _ b => b) x idx (broadcastInDim S4 ![] bcast_S_S4 (constantI S_ 1 1#1)) (ix2 r n)
      = if n = j r then 1#1 else x (ix2 r n) := by
  have hs0 (k : Fin 4) : scatter_S4x16384_S4x2_S4_n_01_01_1.start (ix1 k) idx 0 = (k.val : ℤ) := by
    have e : scatter_S4x16384_S4x2_S4_n_01_01_1.siIdx (ix1 k) ⟨0, by decide⟩ = ix2 k 0 := by
      funext b
      match b with
      | ⟨0, _⟩ => rfl
      | ⟨1, _⟩ => rfl
    refine (congrArg (fun i => (idx i).toInt) e).trans ?_
    rw [h0]
    exact toInt_word _ (by omega)
  have hs1 (k : Fin 4) : scatter_S4x16384_S4x2_S4_n_01_01_1.start (ix1 k) idx 1 = ((j k).val : ℤ) := by
    have e : scatter_S4x16384_S4x2_S4_n_01_01_1.siIdx (ix1 k) ⟨1, by decide⟩ = ix2 k 1 := by
      funext b
      match b with
      | ⟨0, _⟩ => rfl
      | ⟨1, _⟩ => rfl
    refine (congrArg (fun i => (idx i).toInt) e).trans ?_
    rw [h1]
    exact toInt_word _ (by omega)
  have hw (k : S4.Idx) (a : Fin 2) : scatter_S4x16384_S4x2_S4_n_01_01_1.window k a = 0 := by
    match a with
    | ⟨0, _⟩ => rfl
    | ⟨1, _⟩ => rfl
  have lands (k : Fin 4) : scatter_S4x16384_S4x2_S4_n_01_01_1.resultIdx? (ix1 k) idx = some (ix2 r n) ↔ k = r ∧ n = j k := by
    refine (Routing.resultIdx?_ix2 (R := 4) (C := 16384) _ (ix1 k) idx r n).trans ?_
    rw [hs0, hs1, hw, hw]
    constructor
    · rintro ⟨a, b⟩
      exact ⟨Fin.ext (by simpa using a), Fin.ext (by simpa using b.symm)⟩
    · rintro ⟨a, b⟩
      rw [← a, b]
      exact ⟨by simp, by simp⟩
  by_cases h : n = j r
  · rw [if_pos h]
    exact Routing.scatter_set_hit _ x idx _ _ 1#1 (fun _ _ => rfl) (ix1 r) ((lands r).2 ⟨rfl, h⟩)
  · rw [if_neg h]
    refine Routing.scatter_set_miss _ x idx _ _ fun k hk => ?_
    obtain ⟨q, rfl⟩ : ∃ q : Fin 4, k = ix1 q := ⟨k 0, funext fun a => by match a with | ⟨0, _⟩ => rfl⟩
    obtain ⟨a, b⟩ := (lands q).1 hk
    rw [a] at b
    exact h b

/-- The store of one row of a table. -/
theorem row_set {α : Type} (x : S512x4.Idx → α) (u : S1x4.Idx → α) (start : Fin 2 → ℤ) (t : ℕ) (ht : t < 512) (h0 : start 0 = t) (h1 : start 1 = 0)
    (a : Fin 512) (b : Fin 4) : Host.dynamicUpdateSlice x u start updateFits_S512x4_S1x4 (ix2 a b) = if a.val = t then u (ix2 0 b) else x (ix2 a b) := by
  have c0 : Host.clampedStart S512x4 S1x4 updateFits_S512x4_S1x4.1 start 0 = t := Host.clampedStart_of_le _ _ _ _ h0 (by show t + 1 ≤ 512; omega)
  have c1 : Host.clampedStart S512x4 S1x4 updateFits_S512x4_S1x4.1 start 1 = 0 := Host.clampedStart_of_le _ _ _ _ h1 (by show 0 + 4 ≤ 4; omega)
  rw [Host.dynamicUpdateSlice_apply]
  by_cases h : a.val = t
  · rw [if_pos h, dif_pos]
    · refine congrArg u (funext fun k => ?_)
      match k with
      | ⟨0, _⟩ => exact Subsingleton.elim (α := Fin 1) _ _
      | ⟨1, _⟩ => exact Fin.ext (by
          show b.val - Host.clampedStart S512x4 S1x4 updateFits_S512x4_S1x4.1 start 1 = b.val
          rw [c1]; rfl)
    · intro k
      match k with
      | ⟨0, _⟩ =>
        show Host.clampedStart S512x4 S1x4 updateFits_S512x4_S1x4.1 start 0 ≤ a.val ∧ a.val < Host.clampedStart S512x4 S1x4 updateFits_S512x4_S1x4.1 start 0 + 1
        rw [c0]; omega
      | ⟨1, _⟩ =>
        show Host.clampedStart S512x4 S1x4 updateFits_S512x4_S1x4.1 start 1 ≤ b.val ∧ b.val < Host.clampedStart S512x4 S1x4 updateFits_S512x4_S1x4.1 start 1 + 4
        rw [c1]; omega
  · rw [if_neg h, dif_neg]
    intro hk
    have := hk 0
    change Host.clampedStart S512x4 S1x4 updateFits_S512x4_S1x4.1 start 0 ≤ a.val ∧ a.val < Host.clampedStart S512x4 S1x4 updateFits_S512x4_S1x4.1 start 0 + 1 at this
    rw [c0] at this
    omega

end Cert.ReferenceIdeal.Value
-- ==== Proof.RefTripVal.lean ====
module

public import proofs.«01_k».proof.Proof.RefMarks
public import proofs.«01_k».proof.Proof.RefTripEq

@[expose] public section

set_option maxRecDepth 16384

noncomputable section
/-! # What one round of the reference computes

Handed rows of boxes and their marks, a round picks the first best unmarked box, marks what it overlaps, and stores the pick. -/

namespace Cert.ReferenceIdeal.Value

open Cert.ReferenceIdeal Cert.ReferenceIdeal.Gen Cert.Spec
open Idealize.ShloMosaic hiding ix1 ix2 ix3
open Idealize.ShloMosaic.ValueIdx (ix1 ix2 ix3)
open Idealize.ShloMosaic.TcCoe Idealize.ShloMosaic.StableHlo
open scoped Classical

/-! ## The arithmetic at a place, as printed -/

section Forms
variable {F : FTy → Type} [FloatOps F] (V : Valuation τ sig (Elt F))

/-- The scores with the marked ones at minus infinity. -/
theorem form_v117 (i : S4x16384.Idx) : (Trip V main_while0b_v117 : Cf32 F S4x16384) i
    = Scalar.select ((V main_v105_7 : Ci1 F S4x16384) i) (FloatOps.ofBits .f32 0xFF800000#32) ((V main_v105_0 : Cf32 F S4x16384) i) := by
  rw [trip_v117, trip_call8_v1, trip_call8_v0, trip_cst_31]
  rfl

/-- Whether the pick's score is above minus infinity. -/
theorem form_v122 (i : S4x1.Idx) : (Trip V main_while0b_v122 : Ci1 F S4x1) i
    = FloatOps.cmpf .ogt ((Trip V main_while0b_v120 : Cf32 F S4x1) i) (FloatOps.ofBits .f32 0xFF800000#32) := by
  rw [trip_v122, trip_v121, trip_cst_32]
  rfl

/-- The area shared with the pick. -/
theorem form_v145 (i : S4x16384.Idx) : (Trip V main_while0b_v145 : Cf32 F S4x16384) i
    = FloatOps.mulf
      (FloatOps.maximumf (FloatOps.subf (FloatOps.minimumf ((Trip V main_while0b_v133 : Cf32 F S4x16384) i) ((V main_v105_3 : Cf32 F S4x16384) i))
        (FloatOps.maximumf ((Trip V main_while0b_v125 : Cf32 F S4x16384) i) ((V main_v105_1 : Cf32 F S4x16384) i))) (FloatOps.ofBits .f32 0x00000000#32))
      (FloatOps.maximumf (FloatOps.subf (FloatOps.minimumf ((Trip V main_while0b_v137 : Cf32 F S4x16384) i) ((V main_v105_4 : Cf32 F S4x16384) i))
        (FloatOps.maximumf ((Trip V main_while0b_v129 : Cf32 F S4x16384) i) ((V main_v105_2 : Cf32 F S4x16384) i))) (FloatOps.ofBits .f32 0x00000000#32)) := by
  rw [trip_v145, trip_v141, trip_v139, trip_v134, trip_v126, trip_v140, trip_cst_33, trip_v144, trip_v142, trip_v138, trip_v130, trip_v143, trip_cst_34]
  rfl

/-- The overlap with the pick. -/
theorem form_v153 (i : S4x16384.Idx) : (Trip V main_while0b_v153 : Cf32 F S4x16384) i
    = FloatOps.hostDivf ((Trip V main_while0b_v145 : Cf32 F S4x16384) i)
      (FloatOps.maximumf (FloatOps.subf (FloatOps.addf ((Trip V main_while0b_v148 : Cf32 F S4x16384) i) ((V main_v105_5 : Cf32 F S4x16384) i))
        ((Trip V main_while0b_v145 : Cf32 F S4x16384) i)) (FloatOps.ofBits .f32 0x322BCC77#32)) := by
  rw [trip_v153, trip_v152, trip_v150, trip_v149, trip_v151, trip_cst_35]
  rfl

/-- The marks, those the pick overlaps added. -/
theorem form_v156 (i : S4x16384.Idx) : (Trip V main_while0b_v156 : Ci1 F S4x16384) i
    = IntOp.ori ((V main_v105_7 : Ci1 F S4x16384) i) (FloatOps.cmpf .ogt ((Trip V main_while0b_v153 : Cf32 F S4x16384) i) (FloatOps.ofBits .f32 0x3F59999A#32)) := by
  rw [trip_v156, trip_v155, trip_v154, trip_cst_36]
  rfl

/-- A column laid along every place. -/
theorem along {α : Type} (x : S4x1.Idx → α) (b : Fin 4) (n : Fin 16384) :
    broadcastInDim S4x16384 ![0, 1] bcast_S4x1_S4x16384_0_1 x (ix2 b n) = x (ix2 b 0) :=
  broadcastInDim_apply _ _ _ _ (ix2 b 0) fun a => by
    match a with
    | ⟨0, _⟩ => rfl
    | ⟨1, _⟩ => rfl

/-- A vector of four as a column. -/
theorem upright {α : Type} (x : S4.Idx → α) (b : Fin 4) : broadcastInDim S4x1 ![0] bcast_S4_S4x1_0 x (ix2 b 0) = x (ix1 b) :=
  broadcastInDim_apply _ _ _ _ (ix1 b) fun a => by match a with | ⟨0, _⟩ => rfl

/-- A vector of four as a row. -/
theorem lying {α : Type} (x : S4.Idx → α) (b : Fin 4) : broadcastInDim S1x4 ![1] bcast_S4_S1x4_1 x (ix2 0 b) = x (ix1 b) :=
  broadcastInDim_apply _ _ _ _ (ix1 b) fun a => by match a with | ⟨0, _⟩ => rfl

/-- A row's number, brought into range. -/
theorem form_v168 (b : Fin 4) : (Trip V main_while0b_v168 : Ci32 F S4x1) (ix2 b 0) = BitVec.ofNat 32 b.val := by
  rw [trip_v168]
  refine (upright _ b).trans ?_
  rw [trip_v162, trip_v159, trip_v157, trip_v158, trip_c_37]
  exact wrap_word b.val (by omega) _

/-- The pick's place, brought into range. -/
theorem form_v169 (b : Fin 4) (k : Fin 16384) (h : (Trip V main_while0b_v118 : Ci32 F S4) (ix1 b) = BitVec.ofNat 32 k.val) :
    (Trip V main_while0b_v169 : Ci32 F S4x1) (ix2 b 0) = BitVec.ofNat 32 k.val := by
  rw [trip_v169]
  refine (upright _ b).trans ?_
  rw [trip_v167, trip_v164, trip_v163, trip_c_39]
  have e := wrap_word k.val (by omega) ((Trip V main_while0b_v166 : Ci32 F S4) (ix1 b))
  rw [← h] at e
  exact e.trans h

/-- The two columns of the marks' places. -/
theorem form_v170 (b : Fin 4) : (Trip V main_while0b_v170 : Ci32 F S4x2) (ix2 b 0) = (Trip V main_while0b_v168 : Ci32 F S4x1) (ix2 b 0)
    ∧ (Trip V main_while0b_v170 : Ci32 F S4x2) (ix2 b 1) = (Trip V main_while0b_v169 : Ci32 F S4x1) (ix2 b 0) := by
  rw [trip_v170]
  generalize (Trip V main_while0b_v168 : Ci32 F S4x1) = x, (Trip V main_while0b_v169 : Ci32 F S4x1) = y
  exact ⟨columns_at (R := 4) (C := 2) (n := 1) [⟨S4x1, x⟩, ⟨S4x1, y⟩] concatenates_S4x1_S4x1_S4x2_d1 b 0 0 (by decide : 0 < 2) x rfl 0 rfl 0 rfl,
    columns_at (R := 4) (C := 2) (n := 1) [⟨S4x1, x⟩, ⟨S4x1, y⟩] concatenates_S4x1_S4x1_S4x2_d1 b 1 1 (by decide : 1 < 2) y rfl 1 rfl 0 rfl⟩

/-- The counter goes up by one. -/
theorem form_count (t : ℕ) (h : (V main_v105_6 : Ci32 F S_) = fun _ => BitVec.ofNat 32 t) : (Trip V main_v105_6 : Ci32 F S_) = fun _ => BitVec.ofNat 32 (t + 1) := by
  rw [trip_v105_6, trip_v177, trip_c_42, h]
  funext i
  show BitVec.ofNat 32 t + 1#32 = BitVec.ofNat 32 (t + 1)
  exact (BitVec.ofNat_add t 1).symm

/-- The picks' table after the round. -/
theorem form_v175 (t : ℕ) (ht : t < 512) (h : (V main_v105_6 : Ci32 F S_) = fun _ => BitVec.ofNat 32 t) (a : Fin 512) (b : Fin 4) :
    (Trip V main_v105_8 : Ci32 F S512x4) (ix2 a b)
      = if a.val = t then (Trip V main_while0b_v118 : Ci32 F S4) (ix1 b) else (V main_v105_8 : Ci32 F S512x4) (ix2 a b) := by
  rw [trip_v105_8, trip_v175, trip_call17_v0, trip_call17_c, h]
  refine (row_set _ _ _ t ht (toInt_word t (by omega)) rfl a b).trans ?_
  rw [lying]

/-- The flags' table after the round. -/
theorem form_v176 (t : ℕ) (ht : t < 512) (h : (V main_v105_6 : Ci32 F S_) = fun _ => BitVec.ofNat 32 t) (a : Fin 512) (b : Fin 4) :
    (Trip V main_v105_9 : Ci1 F S512x4) (ix2 a b)
      = if a.val = t then (Trip V main_while0b_v122 : Ci1 F S4x1) (ix2 b 0) else (V main_v105_9 : Ci1 F S512x4) (ix2 a b) := by
  rw [trip_v105_9, trip_v176, trip_call18_v0, trip_call18_c, trip_v174, h]
  refine (row_set _ _ _ t ht (toInt_word t (by omega)) rfl a b).trans ?_
  rw [lying]
  rw [shapeCast_apply _ _ _ (ix2 b 0) (by
    rw [Shape.rowMajor_val_two, Shape.rowMajor_val_one]
    show b.val * 1 + 0 = b.val
    omega)]

/-- The marks after the round. -/
theorem form_v173 (i : S4x16384.Idx) : (Trip V main_v105_7 : Ci1 F S4x16384) i
    = Scalar.select ((broadcastInDim S4x16384 ![0, 1] bcast_S4x1_S4x16384_0_1 (Trip V main_while0b_v122 : Ci1 F S4x1)) i)
      ((Trip V main_while0b_v172 : Ci1 F S4x16384) i) ((V main_v105_7 : Ci1 F S4x16384) i) := by
  rw [trip_v105_7, trip_v173, trip_call16_v0]
  rfl

end Forms

/-! ## The values -/

/-- Between rounds: the rows of boxes, the round's number and the marks. -/
structure At (V : Valuation τ sig (Elt Ideal)) (B : Fin 4 → Row) (S : Fin 4 → Fin 16384 → Prop) (t : ℕ) : Prop where
  score : ∀ b n, (V main_v105_0 : Cf32 Ideal S4x16384) (ix2 b n) = (B b).s n
  left : ∀ b n, (V main_v105_1 : Cf32 Ideal S4x16384) (ix2 b n) = (B b).x1 n
  low : ∀ b n, (V main_v105_2 : Cf32 Ideal S4x16384) (ix2 b n) = (B b).y1 n
  right : ∀ b n, (V main_v105_3 : Cf32 Ideal S4x16384) (ix2 b n) = (B b).x2 n
  high : ∀ b n, (V main_v105_4 : Cf32 Ideal S4x16384) (ix2 b n) = (B b).y2 n
  area : ∀ b n, (V main_v105_5 : Cf32 Ideal S4x16384) (ix2 b n) = (B b).ar n
  count : (V main_v105_6 : Ci32 Ideal S_) = fun _ => BitVec.ofNat 32 t
  mark : ∀ b n, (V main_v105_7 : Ci1 Ideal S4x16384) (ix2 b n) = bit (S b n)

section Values
variable {V : Valuation τ sig (Elt Ideal)} {B : Fin 4 → Row} {S : Fin 4 → Fin 16384 → Prop} {t : ℕ} (st : At V B S t)
include st

/-- The scores, the marked ones at minus infinity. -/
theorem masked_v117 (b : Fin 4) (n : Fin 16384) : (Trip V main_while0b_v117 : Cf32 Ideal S4x16384) (ix2 b n) = (B b).masked (S b) n := by
  rw [form_v117, st.mark, st.score, sel_bit, Ideal.ofBits_def, lit_neg_inf]
  rfl

/-- The pick. -/
theorem pick_v118 (b : Fin 4) : (Trip V main_while0b_v118 : Ci32 Ideal S4) (ix1 b) = BitVec.ofNat 32 ((B b).first (S b)).val := by
  rw [trip_v118, trip_call9_v0, trip_call9_cst, trip_call9_c]
  refine (argmax_long _ b).trans ?_
  rw [funext fun n => masked_v117 st b n]
  rfl

/-- The pick's score. -/
theorem take_v120 (b : Fin 4) : (Trip V main_while0b_v120 : Cf32 Ideal S4x1) (ix2 b 0) = (B b).masked (S b) ((B b).first (S b)) := by
  rw [trip_v120, trip_call10_v5, trip_call10_v4, trip_call10_v1, trip_call10_v0, trip_call10_c, trip_call10_v3, trip_call10_v2, trip_call10_c_0, trip_v119]
  exact (take_long _ _ b _ (pick_v118 st b)).trans (masked_v117 st b _)

/-- Whether the pick counts. -/
theorem live_v122 (b : Fin 4) : (Trip V main_while0b_v122 : Ci1 Ideal S4x1) (ix2 b 0) = bit ((B b).live (S b)) := by
  rw [form_v122, take_v120 st, Ideal.ofBits_def, lit_neg_inf]
  exact bit_gt _ _

/-- The pick's left end, along every place. -/
theorem along_v125 (b : Fin 4) (n : Fin 16384) : (Trip V main_while0b_v125 : Cf32 Ideal S4x16384) (ix2 b n) = (B b).x1 ((B b).first (S b)) := by
  rw [trip_v125, trip_v124, trip_call11_v5, trip_call11_v4, trip_call11_v1, trip_call11_v0, trip_call11_c, trip_call11_v3, trip_call11_v2, trip_call11_c_0, trip_v123]
  exact ((along _ b n).trans (take_long _ _ b _ (pick_v118 st b))).trans (st.left b _)

/-- The pick's lower end, along every place. -/
theorem along_v129 (b : Fin 4) (n : Fin 16384) : (Trip V main_while0b_v129 : Cf32 Ideal S4x16384) (ix2 b n) = (B b).y1 ((B b).first (S b)) := by
  rw [trip_v129, trip_v128, trip_call12_v5, trip_call12_v4, trip_call12_v1, trip_call12_v0, trip_call12_c, trip_call12_v3, trip_call12_v2, trip_call12_c_0, trip_v127]
  exact ((along _ b n).trans (take_long _ _ b _ (pick_v118 st b))).trans (st.low b _)

/-- The pick's right end, along every place. -/
theorem along_v133 (b : Fin 4) (n : Fin 16384) : (Trip V main_while0b_v133 : Cf32 Ideal S4x16384) (ix2 b n) = (B b).x2 ((B b).first (S b)) := by
  rw [trip_v133, trip_v132, trip_call13_v5, trip_call13_v4, trip_call13_v1, trip_call13_v0, trip_call13_c, trip_call13_v3, trip_call13_v2, trip_call13_c_0, trip_v131]
  exact ((along _ b n).trans (take_long _ _ b _ (pick_v118 st b))).trans (st.right b _)

/-- The pick's upper end, along every place. -/
theorem along_v137 (b : Fin 4) (n : Fin 16384) : (Trip V main_while0b_v137 : Cf32 Ideal S4x16384) (ix2 b n) = (B b).y2 ((B b).first (S b)) := by
  rw [trip_v137, trip_v136, trip_call14_v5, trip_call14_v4, trip_call14_v1, trip_call14_v0, trip_call14_c, trip_call14_v3, trip_call14_v2, trip_call14_c_0, trip_v135]
  exact ((along _ b n).trans (take_long _ _ b _ (pick_v118 st b))).trans (st.high b _)

/-- The pick's area, along every place. -/
theorem along_v148 (b : Fin 4) (n : Fin 16384) : (Trip V main_while0b_v148 : Cf32 Ideal S4x16384) (ix2 b n) = (B b).ar ((B b).first (S b)) := by
  rw [trip_v148, trip_v147, trip_call15_v5, trip_call15_v4, trip_call15_v1, trip_call15_v0, trip_call15_c, trip_call15_v3, trip_call15_v2, trip_call15_c_0, trip_v146]
  exact ((along _ b n).trans (take_long _ _ b _ (pick_v118 st b))).trans (st.area b _)

/-- The area shared with the pick. -/
theorem inter_v145 (b : Fin 4) (n : Fin 16384) : (Trip V main_while0b_v145 : Cf32 Ideal S4x16384) (ix2 b n) = (B b).inter ((B b).first (S b)) n := by
  rw [form_v145, along_v125 st, along_v129 st, along_v133 st, along_v137 st, st.left, st.low, st.right, st.high, Ideal.ofBits_def, lit_zero]
  rfl

/-- The overlap with the pick. -/
theorem iou_v153 (b : Fin 4) (n : Fin 16384) : (Trip V main_while0b_v153 : Cf32 Ideal S4x16384) (ix2 b n) = (B b).iou ((B b).first (S b)) n := by
  rw [form_v153, inter_v145 st, along_v148 st, st.area]
  rfl

/-- The marks, those the pick overlaps added. -/
theorem over_v156 (b : Fin 4) (n : Fin 16384) : (Trip V main_while0b_v156 : Ci1 Ideal S4x16384) (ix2 b n)
    = bit (S b n ∨ Ideal.ofBits .f32 0x3F59999A#32 < (B b).iou ((B b).first (S b)) n) := by
  rw [form_v156, iou_v153 st, st.mark, bit_gt, or_bit]
  rfl

/-- The pick itself marked too. -/
theorem mark_v172 (b : Fin 4) (n : Fin 16384) : (Trip V main_while0b_v172 : Ci1 Ideal S4x16384) (ix2 b n)
    = bit (S b n ∨ Ideal.ofBits .f32 0x3F59999A#32 < (B b).iou ((B b).first (S b)) n ∨ n = (B b).first (S b)) := by
  rw [trip_v172, trip_v171, trip_c_41]
  refine (mark_set _ _ (fun r => (B r).first (S r)) (fun r => ((form_v170 V r).1).trans (form_v168 V r))
    (fun r => ((form_v170 V r).2).trans (form_v169 V r _ (pick_v118 st r))) b n).trans ?_
  by_cases h : n = (B b).first (S b)
  · rw [if_pos h, bit_pos (.inr (.inr h))]
  · rw [if_neg h, over_v156 st]
    exact bit_congr ⟨fun q => q.elim .inl fun q => .inr (.inl q), fun q => q.elim .inl fun q => q.elim .inr fun q => absurd q h⟩

/-- The marks after the round. -/
theorem next_v173 (b : Fin 4) (n : Fin 16384) : (Trip V main_v105_7 : Ci1 Ideal S4x16384) (ix2 b n) = bit ((B b).next (S b) n) := by
  rw [form_v173, along, live_v122 st, mark_v172 st, st.mark, sel_bit]
  unfold Row.next
  by_cases h : (B b).live (S b)
  · rw [if_pos h, if_pos h]
  · rw [if_neg h, if_neg h]

/-- A round leads from one state to the next. -/
theorem At.step : At (Trip V) B (fun b => (B b).next (S b)) (t + 1) where
  score b n := (congrFun (trip_keep V (r := main_v105_0) (by decide +kernel)) _).trans (st.score b n)
  left b n := (congrFun (trip_keep V (r := main_v105_1) (by decide +kernel)) _).trans (st.left b n)
  low b n := (congrFun (trip_keep V (r := main_v105_2) (by decide +kernel)) _).trans (st.low b n)
  right b n := (congrFun (trip_keep V (r := main_v105_3) (by decide +kernel)) _).trans (st.right b n)
  high b n := (congrFun (trip_keep V (r := main_v105_4) (by decide +kernel)) _).trans (st.high b n)
  area b n := (congrFun (trip_keep V (r := main_v105_5) (by decide +kernel)) _).trans (st.area b n)
  count := form_count V t st.count
  mark b n := next_v173 st b n

end Values

end Cert.ReferenceIdeal.Value
-- ==== Proof.RefPostVal.lean ====
module

public import proofs.«01_k».proof.Proof.RefPreVal
public import proofs.«01_k».proof.Proof.RefTripVal
public import proofs.«01_k».proof.Proof.RefFrame

@[expose] public section

set_option maxRecDepth 16384

noncomputable section
/-! # What the reference returns

The rounds one after another, and the boxes and scores read at their picks. -/

namespace Cert.ReferenceIdeal.Value

open Cert.ReferenceIdeal Cert.ReferenceIdeal.Gen Cert.Spec
open Idealize.ShloMosaic hiding ix1 ix2 ix3
open Idealize.ShloMosaic.ValueIdx (ix1 ix2 ix3)
open Idealize.ShloMosaic.TcCoe Idealize.ShloMosaic.StableHlo
open scoped Classical

/-! ## The rounds -/

section Rounds
variable (V : Valuation τ sig (Elt Ideal))

/-- The condition changes nothing a round reads. -/
theorem At.cond {V : Valuation τ sig (Elt Ideal)} {B : Fin 4 → Row} {S : Fin 4 → Fin 16384 → Prop} {t : ℕ} (st : At V B S t) :
    At (after condOps V) B S t where
  score b n := (congrFun (cond_keep V (r := main_v105_0) (by decide +kernel)) _).trans (st.score b n)
  left b n := (congrFun (cond_keep V (r := main_v105_1) (by decide +kernel)) _).trans (st.left b n)
  low b n := (congrFun (cond_keep V (r := main_v105_2) (by decide +kernel)) _).trans (st.low b n)
  right b n := (congrFun (cond_keep V (r := main_v105_3) (by decide +kernel)) _).trans (st.right b n)
  high b n := (congrFun (cond_keep V (r := main_v105_4) (by decide +kernel)) _).trans (st.high b n)
  area b n := (congrFun (cond_keep V (r := main_v105_5) (by decide +kernel)) _).trans (st.area b n)
  count := (cond_keep V (r := main_v105_6) (by decide +kernel)).trans st.count
  mark b n := (congrFun (cond_keep V (r := main_v105_7) (by decide +kernel)) _).trans (st.mark b n)

/-- The first round starts with no mark. -/
theorem start_state : At (Pre V) (refRow V) (fun b => (refRow V b).sup 0) 0 where
  score b n := (val_rows V b n).1
  left b n := (val_rows V b n).2.1
  low b n := (val_rows V b n).2.2.1
  right b n := (val_rows V b n).2.2.2.1
  high b n := (val_rows V b n).2.2.2.2.1
  area b n := (val_rows V b n).2.2.2.2.2
  count := (form_start V).2.2.2
  mark b n := ((form_start V).1 _).trans (bit_neg id).symm

/-- After `k` rounds: the marks are those of `k` rounds, and the tables hold the picks and flags of each round so far. -/
theorem loop_state : ∀ k : ℕ, k ≤ 512 → At (Loop (Pre V) k) (refRow V) (fun b => (refRow V b).sup k) k
    ∧ ∀ (a : Fin 512) (b : Fin 4), a.val < k →
      (Loop (Pre V) k main_v105_8 : Ci32 Ideal S512x4) (ix2 a b) = BitVec.ofNat 32 (sel (refS V) (refP V) b a.val).val
      ∧ (Loop (Pre V) k main_v105_9 : Ci1 Ideal S512x4) (ix2 a b) = bit (ok (refS V) (refP V) b a.val)
  | 0, _ => ⟨start_state V, fun _ _ h => absurd h (Nat.not_lt_zero _)⟩
  | k + 1, hk => by
    obtain ⟨st, old⟩ := loop_state k (by omega)
    have st' := st.cond
    refine ⟨st'.step, fun a b ha => ?_⟩
    have e8 := form_v175 (after condOps (Loop (Pre V) k)) k (by omega) st'.count a b
    have e9 := form_v176 (after condOps (Loop (Pre V) k)) k (by omega) st'.count a b
    by_cases h : a.val = k
    · rw [if_pos h] at e8 e9
      rw [h]
      exact ⟨e8.trans (pick_v118 st' b), e9.trans (live_v122 st' b)⟩
    · rw [if_neg h] at e8 e9
      have o := old a b (by omega)
      exact ⟨e8.trans ((congrFun (cond_keep (Loop (Pre V) k) (r := main_v105_8) (by decide +kernel)) _).trans o.1),
        e9.trans ((congrFun (cond_keep (Loop (Pre V) k) (r := main_v105_9) (by decide +kernel)) _).trans o.2)⟩

end Rounds

/-! ## The reads at the picks -/

section Reads
variable (U : Valuation τ sig (Elt Ideal)) (j : Fin 4 → Fin 512 → Fin 16384) (p : Fin 4 → Fin 512 → Prop)

/-- A table of words as a stack of columns. -/
theorem deep {α : Type} (x : S4x512.Idx → α) (b : Fin 4) (t : Fin 512) :
    broadcastInDim S4x512x1 ![0, 1] bcast_S4x512_S4x512x1_0_1 x (ix3 b t 0) = x (ix2 b t) :=
  broadcastInDim_apply _ _ _ _ (ix2 b t) fun a => by
    match a with
    | ⟨0, _⟩ => rfl
    | ⟨1, _⟩ => rfl

/-- A table turned over. -/
theorem over {α : Type} (x : S512x4.Idx → α) (b : Fin 4) (t : Fin 512) : transpose S4x512 [1, 0] x transposes_S512x4_S4x512_1_0 (ix2 b t) = x (ix2 t b) :=
  transpose_apply _ _ _ _ (ix2 t b) fun a => by
    match a with
    | ⟨0, _⟩ => rfl
    | ⟨1, _⟩ => rfl

/-- The flags as factors. -/
theorem flag_v109 (hp : ∀ t b, (U main_v105_9 : Ci1 Ideal S512x4) (ix2 t b) = bit (p b t)) (b : Fin 4) (t : Fin 512) :
    (Post U main_v109 : Cf32 Ideal S4x512x1) (ix3 b t 0) = unit (p b t) := by
  rw [post_v109]
  refine (deep _ b t).trans ?_
  rw [post_v108, post_v107]
  have e := (over (U main_v105_9 : Ci1 Ideal S512x4) b t).trans (hp t b)
  exact (congrArg (FloatOps.uitofp (F := Ideal) .f32) e).trans (bit_val _)

/-- The picks, brought into range. -/
theorem wrapped (x y : S4x512x1.Idx → BitVec 32) (b : Fin 4) (t : Fin 512) (k : Fin 16384) (h : x (ix3 b t 0) = BitVec.ofNat 32 k.val) :
    select (cmpi .slt x (broadcastInDim S4x512x1 ![] bcast_S_S4x512x1 (constantI S_ 32 0#32))) y x (ix3 b t 0) = BitVec.ofNat 32 k.val := by
  have e := wrap_word k.val (by omega) (y (ix3 b t 0))
  rw [← h] at e
  exact e.trans h

/-- A column along the seven numbers of a box. -/
theorem seven {α : Type} (x : S4x512x1.Idx → α) (b : Fin 4) (t : Fin 512) (c : Fin 7) :
    broadcastInDim S4x512x7 ![0, 1, 2] bcast_S4x512x1_S4x512x7_0_1_2 x (ix3 b t c) = x (ix3 b t 0) :=
  broadcastInDim_apply _ _ _ _ (ix3 b t 0) fun a => by
    match a with
    | ⟨0, _⟩ => rfl
    | ⟨1, _⟩ => rfl
    | ⟨2, _⟩ => rfl

/-- The boxes at the picks. -/
theorem boxes_v113 (hj : ∀ t b, (U main_v105_8 : Ci32 Ideal S512x4) (ix2 t b) = BitVec.ofNat 32 (j b t).val)
    (hp : ∀ t b, (U main_v105_9 : Ci1 Ideal S512x4) (ix2 t b) = bit (p b t)) (b : Fin 4) (t : Fin 512) (c : Fin 7)
    (v : EReal) (hv : (U main_v73 : Cf32 Ideal S4x16384x7) (ix3 b (j b t) c) = v) :
    (Post U main_v113 : Cf32 Ideal S4x512x7) (ix3 b t c) = v * unit (p b t) := by
  have hx : (Post U main_v110 : Ci32 Ideal S4x512x1) (ix3 b t 0) = BitVec.ofNat 32 (j b t).val := by
    rw [post_v110, post_v106]
    exact ((deep _ b t).trans (over _ b t)).trans (hj t b)
  rw [post_v113, post_v112, post_v111, post_call19_v4, post_call19_v1, post_call19_v0, post_call19_c]
  exact congrArg₂ (fun a b : EReal => a * b) ((gather_boxes _ _ b t c (j b t) (wrapped _ _ b t _ hx)).trans hv) ((seven _ b t c).trans (flag_v109 U p hp b t))

/-- The scores at the picks. -/
theorem scores_v116 (hj : ∀ t b, (U main_v105_8 : Ci32 Ideal S512x4) (ix2 t b) = BitVec.ofNat 32 (j b t).val)
    (hp : ∀ t b, (U main_v105_9 : Ci1 Ideal S512x4) (ix2 t b) = bit (p b t)) (b : Fin 4) (t : Fin 512)
    (v : EReal) (hv : (U main_arg0 : Cf32 Ideal S4x16384x1) (ix3 b (j b t) 0) = v) :
    (Post U main_v116 : Cf32 Ideal S4x512x1) (ix3 b t 0) = v * unit (p b t) := by
  have hx : (Post U main_v114 : Ci32 Ideal S4x512x1) (ix3 b t 0) = BitVec.ofNat 32 (j b t).val := by
    rw [post_v114, post_v106]
    exact ((deep _ b t).trans (over _ b t)).trans (hj t b)
  rw [post_v116, post_v115, post_call20_v4, post_call20_v1, post_call20_v0, post_call20_c]
  exact congrArg₂ (fun a b : EReal => a * b) ((gather_scores _ _ b t (j b t) (wrapped _ _ b t _ hx)).trans hv) (flag_v109 U p hp b t)

end Reads

section Whole
variable (V : Valuation τ sig (Elt Ideal))

/-- The picks and flags the reads are handed. -/
theorem handed (t : Fin 512) (b : Fin 4) :
    (after condOps (Loop (Pre V) 512) main_v105_8 : Ci32 Ideal S512x4) (ix2 t b) = BitVec.ofNat 32 (sel (refS V) (refP V) b t.val).val
    ∧ (after condOps (Loop (Pre V) 512) main_v105_9 : Ci1 Ideal S512x4) (ix2 t b) = bit (ok (refS V) (refP V) b t.val) := by
  have o := (loop_state V 512 le_rfl).2 t b t.isLt
  exact ⟨(congrFun (cond_keep (Loop (Pre V) 512) (r := main_v105_8) (by decide +kernel)) _).trans o.1,
    (congrFun (cond_keep (Loop (Pre V) 512) (r := main_v105_9) (by decide +kernel)) _).trans o.2⟩

/-- The reference's boxes. -/
theorem final_boxes (b : Fin 4) (t : Fin 512) (c : Fin 7) :
    (Final V main_v113 : Cf32 Ideal S4x512x7) (ix3 b t c) = outBox (refS V) (refP V) b t.val c := by
  refine (boxes_v113 (after condOps (Loop (Pre V) 512)) (fun b t => sel (refS V) (refP V) b t.val) (fun b t => ok (refS V) (refP V) b t.val)
    (fun t b => (handed V t b).1) (fun t b => (handed V t b).2) b t c (refP V b c (sel (refS V) (refP V) b t.val)) ?_).trans rfl
  refine (congrFun ((cond_keep (Loop (Pre V) 512) (r := main_v73) (by decide +kernel)).trans
    (loop_keep (Pre V) (r := main_v73) (by decide +kernel) (by decide +kernel) 512)) _).trans ?_
  exact val_v73 V b _ c

/-- The reference's scores. -/
theorem final_scores (b : Fin 4) (t : Fin 512) :
    (Final V main_v116 : Cf32 Ideal S4x512x1) (ix3 b t 0) = outScore (refS V) (refP V) b t.val := by
  refine (scores_v116 (after condOps (Loop (Pre V) 512)) (fun b t => sel (refS V) (refP V) b t.val) (fun b t => ok (refS V) (refP V) b t.val)
    (fun t b => (handed V t b).1) (fun t b => (handed V t b).2) b t (refS V b (sel (refS V) (refP V) b t.val)) ?_).trans rfl
  exact congrFun (((cond_keep (Loop (Pre V) 512) (r := main_arg0) (by decide +kernel)).trans
    (loop_keep (Pre V) (r := main_arg0) (by decide +kernel) (by decide +kernel) 512)).trans (pre_keep V (r := main_arg0) (by decide +kernel))) _

end Whole

end Cert.ReferenceIdeal.Value
-- ==== Proof.Algebra.lean ====
module

public import proofs.«01_k».proof.Defs
public import proofs.«01_k».proof.Proof.KHost
public import proofs.«01_k».proof.Proof.RefPostVal

@[expose] public section

set_option maxRecDepth 16384

noncomputable section
/-! # The kernel and the reference compute the same

Both programs' results are the tables of `Spec`, at the same arguments. -/

namespace Cert.Proof

open Cert.Spec
open Idealize.ShloMosaic hiding ix1 ix2 ix3
open Idealize.SL.Sem
open Idealize.ShloMosaic.ValueIdx (ix1 ix2 ix3)

/-- The selected boxes, as a table. -/
def boxTable (s : Fin 4 → Fin 16384 → EReal) (P : Fin 4 → Fin 7 → Fin 16384 → EReal) : (⟨3, ![4, 512, 7]⟩ : Shape).Idx → EReal :=
  fun i => outBox s P (i 0) (i 1).val (i 2)

/-- Their scores, as a table. -/
def scoreTable (s : Fin 4 → Fin 16384 → EReal) (P : Fin 4 → Fin 7 → Fin 16384 → EReal) : (⟨3, ![4, 512, 1]⟩ : Shape).Idx → EReal :=
  fun i => outScore s P (i 0) (i 1).val

/-- What holds the selected boxes entry by entry is the table. -/
theorem boxTable_of (s : Fin 4 → Fin 16384 → EReal) (P : Fin 4 → Fin 7 → Fin 16384 → EReal) (x : (⟨3, ![4, 512, 7]⟩ : Shape).Idx → EReal)
    (h : ∀ (b : Fin 4) (t : Fin 512) (c : Fin 7), x (ix3 b t c) = outBox s P b t.val c) : x = boxTable s P := by
  funext i
  exact (congrArg x (ValueIdx.eq_ix3 i)).trans (h (i 0) (i 1) (i 2))

/-- What holds their scores entry by entry is the table. -/
theorem scoreTable_of (s : Fin 4 → Fin 16384 → EReal) (P : Fin 4 → Fin 7 → Fin 16384 → EReal) (x : (⟨3, ![4, 512, 1]⟩ : Shape).Idx → EReal)
    (h : ∀ (b : Fin 4) (t : Fin 512), x (ix3 b t 0) = outScore s P b t.val) : x = scoreTable s P := by
  funext i
  have e : @Eq (Fin 1) (i 2) 0 := Subsingleton.elim (α := Fin 1) _ _
  exact ((congrArg x (ValueIdx.eq_ix3 i)).trans (congrArg (fun k : Fin 1 => x (ix3 (n0 := 4) (n1 := 512) (i 0) (i 1) k)) e)).trans (h (i 0) (i 1))

/-- From arguments that agree, the kernel and the reference end with equal results. -/
theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (agree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ∃ (v0 : (c : Dev Cert.KernelIdeal.nD) → Buf (Elt Ideal) ((c.tc : Thread Cert.KernelIdeal.nD Cert.KernelIdeal.τ).loc Cert.KernelIdeal.main_v10))
      (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  have hS (c : Dev Cert.KernelIdeal.nD) : Cert.ReferenceIdeal.Value.refS (StableHlo.launchContents m' c) = Cert.KernelIdeal.Hand.argS m c :=
    funext fun b => funext fun n => congrFun (agree c).1 (ix3 b n 0)
  have hP (c : Dev Cert.KernelIdeal.nD) : Cert.ReferenceIdeal.Value.refP (StableHlo.launchContents m' c) = Cert.KernelIdeal.Hand.argP m c :=
    funext fun b => funext fun ch => funext fun n => congrArg₂ (fun x y => box x y ch)
      (funext fun k => congrFun (agree c).2.1 (ix3 b n k)) (funext fun a => congrFun (agree c).2.2 (ix3 b n a))
  refine ⟨fun c => boxTable (Cert.KernelIdeal.Hand.argS m c) (Cert.KernelIdeal.Hand.argP m c),
    fun c => scoreTable (Cert.KernelIdeal.Hand.argS m c) (Cert.KernelIdeal.Hand.argP m c), ?_, ?_⟩
  · refine (θ_run _ _ _).mono (fun r h c => ?_) (Cert.KernelIdeal.Hand.run_results m g)
    obtain ⟨⟨γ, h0, h1⟩, ha⟩ := h.1 c
    exact ⟨h0.trans (boxTable_of _ _ _ fun b t ch => Cert.KernelIdeal.Hand.result_boxes m c γ b t ch),
      h1.trans (scoreTable_of _ _ _ fun b t => Cert.KernelIdeal.Hand.result_scores m c γ b t), ha⟩
  · refine (θ_run _ _ _).mono (fun r h c => ?_) (Cert.ReferenceIdeal.Value.run_results m' g')
    obtain ⟨⟨h0, h1⟩, ha⟩ := h.1 c
    have e0 := boxTable_of _ _ _ (Cert.ReferenceIdeal.Value.final_boxes (StableHlo.launchContents m' c))
    have e1 := scoreTable_of _ _ _ (Cert.ReferenceIdeal.Value.final_scores (StableHlo.launchContents m' c))
    rw [hS c, hP c] at e0 e1
    exact ⟨h0.trans e0, h1.trans e1, ha⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.BKLaunch
public import proofs.«01_k».proof.Proof.KLaunch
public import proofs.«01_k».proof.Proof.RefFrame
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The certificate: the three programs' frames, the idealization, and what both programs compute. -/
theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.Hand.run_results m g),
  fun m g _ => (θ_run _ _ _).mono (fun _ h => ⟨fun c => (h.1 c).2, h.2⟩) (Cert.KernelIdeal.Hand.run_results m g),
  fun m g _ => (θ_run _ _ _).mono (fun _ h => ⟨fun c => (h.1 c).2, h.2⟩) (Cert.ReferenceIdeal.Value.run_results m g),
  trivial,
  fun m g m' g' _ h => Cert.Proof.algebraic m g m' g' h⟩

end Cert.Proof

end
